-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_UpX0 (m : (ℓ : Loc Cert.UpX0.nD Cert.UpX0.τ Cert.UpX0.sig) → Buf (Elt Bits) ℓ) : Prop :=
  True

def Pre_UpX0Ideal (m : (ℓ : Loc Cert.UpX0Ideal.nD Cert.UpX0Ideal.τ Cert.UpX0Ideal.sig) → Buf (Elt Ideal) ℓ) : Prop :=
  True

def Pre_UpX0RefIdeal (m : (ℓ : Loc Cert.UpX0RefIdeal.nD Cert.UpX0RefIdeal.τ Cert.UpX0RefIdeal.sig) → Buf (Elt Ideal) ℓ) : Prop :=
  True

def Pre_UpX1 (m : (ℓ : Loc Cert.UpX1.nD Cert.UpX1.τ Cert.UpX1.sig) → Buf (Elt Bits) ℓ) : Prop :=
  True

def Pre_UpX1Ideal (m : (ℓ : Loc Cert.UpX1Ideal.nD Cert.UpX1Ideal.τ Cert.UpX1Ideal.sig) → Buf (Elt Ideal) ℓ) : Prop :=
  True

def Pre_UpX1RefIdeal (m : (ℓ : Loc Cert.UpX1RefIdeal.nD Cert.UpX1RefIdeal.τ Cert.UpX1RefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_KvX (m : (ℓ : Loc Cert.KvX.nD Cert.KvX.τ Cert.KvX.sig) → Buf (Elt Bits) ℓ) : Prop :=
  True

def Pre_KvXIdeal (m : (ℓ : Loc Cert.KvXIdeal.nD Cert.KvXIdeal.τ Cert.KvXIdeal.sig) → Buf (Elt Ideal) ℓ) : Prop :=
  True

def Pre_KvXRefIdeal (m : (ℓ : Loc Cert.KvXRefIdeal.nD Cert.KvXRefIdeal.τ Cert.KvXRefIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWRefIdeal (m : (ℓ : Loc Cert.KvWRefIdeal.nD Cert.KvWRefIdeal.τ Cert.KvWRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_QF (m : (ℓ : Loc Cert.QF.nD Cert.QF.τ Cert.QF.sig) → Buf (Elt Bits) ℓ) : Prop :=
  True

def Pre_QFIdeal (m : (ℓ : Loc Cert.QFIdeal.nD Cert.QFIdeal.τ Cert.QFIdeal.sig) → Buf (Elt Ideal) ℓ) : Prop :=
  True

def Pre_QFRefIdeal (m : (ℓ : Loc Cert.QFRefIdeal.nD Cert.QFRefIdeal.τ Cert.QFRefIdeal.sig) → Buf (Elt Ideal) ℓ) : Prop :=
  True

def Pre_KvF (m : (ℓ : Loc Cert.KvF.nD Cert.KvF.τ Cert.KvF.sig) → Buf (Elt Bits) ℓ) : Prop :=
  True

def Pre_KvFIdeal (m : (ℓ : Loc Cert.KvFIdeal.nD Cert.KvFIdeal.τ Cert.KvFIdeal.sig) → Buf (Elt Ideal) ℓ) : Prop :=
  True

def Pre_KvFRefIdeal (m : (ℓ : Loc Cert.KvFRefIdeal.nD Cert.KvFRefIdeal.τ Cert.KvFRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFRefIdeal (m : (ℓ : Loc Cert.AttnFRefIdeal.nD Cert.AttnFRefIdeal.τ Cert.AttnFRefIdeal.sig) → Buf (Elt Ideal) ℓ) : Prop :=
  True

def Pre_SyX (m : (ℓ : Loc Cert.SyX.nD Cert.SyX.τ Cert.SyX.sig) → Buf (Elt Bits) ℓ) : Prop :=
  True

def Pre_SyXIdeal (m : (ℓ : Loc Cert.SyXIdeal.nD Cert.SyXIdeal.τ Cert.SyXIdeal.sig) → Buf (Elt Ideal) ℓ) : Prop :=
  True

def Pre_SyXRefIdeal (m : (ℓ : Loc Cert.SyXRefIdeal.nD Cert.SyXRefIdeal.τ Cert.SyXRefIdeal.sig) → Buf (Elt Ideal) ℓ) : Prop :=
  True

def Pre_SBu (m : (ℓ : Loc Cert.SBu.nD Cert.SBu.τ Cert.SBu.sig) → Buf (Elt Bits) ℓ) : Prop :=
  True

def Pre_SBuIdeal (m : (ℓ : Loc Cert.SBuIdeal.nD Cert.SBuIdeal.τ Cert.SBuIdeal.sig) → Buf (Elt Ideal) ℓ) : Prop :=
  True

def Pre_SBuRefIdeal (m : (ℓ : Loc Cert.SBuRefIdeal.nD Cert.SBuRefIdeal.τ Cert.SBuRefIdeal.sig) → Buf (Elt Ideal) ℓ) : Prop :=
  True

def Pre_SyRe (m : (ℓ : Loc Cert.SyRe.nD Cert.SyRe.τ Cert.SyRe.sig) → Buf (Elt Bits) ℓ) : Prop :=
  True

def Pre_SyReIdeal (m : (ℓ : Loc Cert.SyReIdeal.nD Cert.SyReIdeal.τ Cert.SyReIdeal.sig) → Buf (Elt Ideal) ℓ) : Prop :=
  True

def Pre_SyReRefIdeal (m : (ℓ : Loc Cert.SyReRefIdeal.nD Cert.SyReRefIdeal.τ Cert.SyReRefIdeal.sig) → Buf (Elt Ideal) ℓ) : Prop :=
  True

def Pre_SyIm (m : (ℓ : Loc Cert.SyIm.nD Cert.SyIm.τ Cert.SyIm.sig) → Buf (Elt Bits) ℓ) : Prop :=
  True

def Pre_SyImIdeal (m : (ℓ : Loc Cert.SyImIdeal.nD Cert.SyImIdeal.τ Cert.SyImIdeal.sig) → Buf (Elt Ideal) ℓ) : Prop :=
  True

def Pre_SyImRefIdeal (m : (ℓ : Loc Cert.SyImRefIdeal.nD Cert.SyImRefIdeal.τ Cert.SyImRefIdeal.sig) → Buf (Elt Ideal) ℓ) : Prop :=
  True

def Pre_SBuX0 (m : (ℓ : Loc Cert.SBuX0.nD Cert.SBuX0.τ Cert.SBuX0.sig) → Buf (Elt Bits) ℓ) : Prop :=
  True

def Pre_SBuX0Ideal (m : (ℓ : Loc Cert.SBuX0Ideal.nD Cert.SBuX0Ideal.τ Cert.SBuX0Ideal.sig) → Buf (Elt Ideal) ℓ) : Prop :=
  True

def Pre_SBuX0RefIdeal (m : (ℓ : Loc Cert.SBuX0RefIdeal.nD Cert.SBuX0RefIdeal.τ Cert.SBuX0RefIdeal.sig) → Buf (Elt Ideal) ℓ) : Prop :=
  True

def Pre_SBuX1 (m : (ℓ : Loc Cert.SBuX1.nD Cert.SBuX1.τ Cert.SBuX1.sig) → Buf (Elt Bits) ℓ) : Prop :=
  True

def Pre_SBuX1Ideal (m : (ℓ : Loc Cert.SBuX1Ideal.nD Cert.SBuX1Ideal.τ Cert.SBuX1Ideal.sig) → Buf (Elt Ideal) ℓ) : Prop :=
  True

def Pre_SBuX1RefIdeal (m : (ℓ : Loc Cert.SBuX1RefIdeal.nD Cert.SBuX1RefIdeal.τ Cert.SBuX1RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1))
      ∧ r.2.sem = fun _ => 0)

def quiescent_UpX0 [hUpX0 : Cert.UpX0.Facts] : Prop :=
  ∀ (m : (ℓ : Loc Cert.UpX0.nD Cert.UpX0.τ Cert.UpX0.sig) → Buf (Elt Bits) ℓ) (g : Dev Cert.UpX0.nD → PrngReg), Pre_UpX0 m →
    θ_run (Cert.UpX0.defs (F := Bits)) (onTc (τ := Cert.UpX0.τ) (Cert.UpX0.main (F := Bits))) ⟨m, fun _ => 0, g⟩ (fun r => (∀ c : Dev Cert.UpX0.nD,
      r.2.mem ((c.tc : Thread Cert.UpX0.nD Cert.UpX0.τ).loc Cert.UpX0.main_arg0) = m ((c.tc : Thread Cert.UpX0.nD Cert.UpX0.τ).loc Cert.UpX0.main_arg0)
      ∧ r.2.mem ((c.tc : Thread Cert.UpX0.nD Cert.UpX0.τ).loc Cert.UpX0.main_arg1) = m ((c.tc : Thread Cert.UpX0.nD Cert.UpX0.τ).loc Cert.UpX0.main_arg1))
      ∧ r.2.sem = fun _ => 0)

def quiescent_UpX0Ideal [hUpX0Ideal : Cert.UpX0Ideal.Facts] : Prop :=
  ∀ (m : (ℓ : Loc Cert.UpX0Ideal.nD Cert.UpX0Ideal.τ Cert.UpX0Ideal.sig) → Buf (Elt Ideal) ℓ) (g : Dev Cert.UpX0Ideal.nD → PrngReg), Pre_UpX0Ideal m →
    θ_run (Cert.UpX0Ideal.defs (F := Ideal)) (onTc (τ := Cert.UpX0Ideal.τ) (Cert.UpX0Ideal.main (F := Ideal))) ⟨m, fun _ => 0, g⟩ (fun r => (∀ c : Dev Cert.UpX0Ideal.nD,
      r.2.mem ((c.tc : Thread Cert.UpX0Ideal.nD Cert.UpX0Ideal.τ).loc Cert.UpX0Ideal.main_arg0) = m ((c.tc : Thread Cert.UpX0Ideal.nD Cert.UpX0Ideal.τ).loc Cert.UpX0Ideal.main_arg0)
      ∧ r.2.mem ((c.tc : Thread Cert.UpX0Ideal.nD Cert.UpX0Ideal.τ).loc Cert.UpX0Ideal.main_arg1) = m ((c.tc : Thread Cert.UpX0Ideal.nD Cert.UpX0Ideal.τ).loc Cert.UpX0Ideal.main_arg1))
      ∧ r.2.sem = fun _ => 0)

def quiescent_UpX0RefIdeal [hUpX0RefIdeal : Cert.UpX0RefIdeal.Facts] : Prop :=
  ∀ (m : (ℓ : Loc Cert.UpX0RefIdeal.nD Cert.UpX0RefIdeal.τ Cert.UpX0RefIdeal.sig) → Buf (Elt Ideal) ℓ) (g : Dev Cert.UpX0RefIdeal.nD → PrngReg), Pre_UpX0RefIdeal m →
    θ_run (Cert.UpX0RefIdeal.defs (F := Ideal)) (onTc (τ := Cert.UpX0RefIdeal.τ) (Cert.UpX0RefIdeal.main (F := Ideal))) ⟨m, fun _ => 0, g⟩ (fun r => (∀ c : Dev Cert.UpX0RefIdeal.nD,
      r.2.mem ((c.tc : Thread Cert.UpX0RefIdeal.nD Cert.UpX0RefIdeal.τ).loc Cert.UpX0RefIdeal.main_arg0) = m ((c.tc : Thread Cert.UpX0RefIdeal.nD Cert.UpX0RefIdeal.τ).loc Cert.UpX0RefIdeal.main_arg0)
      ∧ r.2.mem ((c.tc : Thread Cert.UpX0RefIdeal.nD Cert.UpX0RefIdeal.τ).loc Cert.UpX0RefIdeal.main_arg1) = m ((c.tc : Thread Cert.UpX0RefIdeal.nD Cert.UpX0RefIdeal.τ).loc Cert.UpX0RefIdeal.main_arg1))
      ∧ r.2.sem = fun _ => 0)

def quiescent_UpX1 [hUpX1 : Cert.UpX1.Facts] : Prop :=
  ∀ (m : (ℓ : Loc Cert.UpX1.nD Cert.UpX1.τ Cert.UpX1.sig) → Buf (Elt Bits) ℓ) (g : Dev Cert.UpX1.nD → PrngReg), Pre_UpX1 m →
    θ_run (Cert.UpX1.defs (F := Bits)) (onTc (τ := Cert.UpX1.τ) (Cert.UpX1.main (F := Bits))) ⟨m, fun _ => 0, g⟩ (fun r => (∀ c : Dev Cert.UpX1.nD,
      r.2.mem ((c.tc : Thread Cert.UpX1.nD Cert.UpX1.τ).loc Cert.UpX1.main_arg0) = m ((c.tc : Thread Cert.UpX1.nD Cert.UpX1.τ).loc Cert.UpX1.main_arg0)
      ∧ r.2.mem ((c.tc : Thread Cert.UpX1.nD Cert.UpX1.τ).loc Cert.UpX1.main_arg1) = m ((c.tc : Thread Cert.UpX1.nD Cert.UpX1.τ).loc Cert.UpX1.main_arg1)
      ∧ r.2.mem ((c.tc : Thread Cert.UpX1.nD Cert.UpX1.τ).loc Cert.UpX1.main_arg2) = m ((c.tc : Thread Cert.UpX1.nD Cert.UpX1.τ).loc Cert.UpX1.main_arg2))
      ∧ r.2.sem = fun _ => 0)

def quiescent_UpX1Ideal [hUpX1Ideal : Cert.UpX1Ideal.Facts] : Prop :=
  ∀ (m : (ℓ : Loc Cert.UpX1Ideal.nD Cert.UpX1Ideal.τ Cert.UpX1Ideal.sig) → Buf (Elt Ideal) ℓ) (g : Dev Cert.UpX1Ideal.nD → PrngReg), Pre_UpX1Ideal m →
    θ_run (Cert.UpX1Ideal.defs (F := Ideal)) (onTc (τ := Cert.UpX1Ideal.τ) (Cert.UpX1Ideal.main (F := Ideal))) ⟨m, fun _ => 0, g⟩ (fun r => (∀ c : Dev Cert.UpX1Ideal.nD,
      r.2.mem ((c.tc : Thread Cert.UpX1Ideal.nD Cert.UpX1Ideal.τ).loc Cert.UpX1Ideal.main_arg0) = m ((c.tc : Thread Cert.UpX1Ideal.nD Cert.UpX1Ideal.τ).loc Cert.UpX1Ideal.main_arg0)
      ∧ r.2.mem ((c.tc : Thread Cert.UpX1Ideal.nD Cert.UpX1Ideal.τ).loc Cert.UpX1Ideal.main_arg1) = m ((c.tc : Thread Cert.UpX1Ideal.nD Cert.UpX1Ideal.τ).loc Cert.UpX1Ideal.main_arg1)
      ∧ r.2.mem ((c.tc : Thread Cert.UpX1Ideal.nD Cert.UpX1Ideal.τ).loc Cert.UpX1Ideal.main_arg2) = m ((c.tc : Thread Cert.UpX1Ideal.nD Cert.UpX1Ideal.τ).loc Cert.UpX1Ideal.main_arg2))
      ∧ r.2.sem = fun _ => 0)

def quiescent_UpX1RefIdeal [hUpX1RefIdeal : Cert.UpX1RefIdeal.Facts] : Prop :=
  ∀ (m : (ℓ : Loc Cert.UpX1RefIdeal.nD Cert.UpX1RefIdeal.τ Cert.UpX1RefIdeal.sig) → Buf (Elt Ideal) ℓ) (g : Dev Cert.UpX1RefIdeal.nD → PrngReg), Pre_UpX1RefIdeal m →
    θ_run (Cert.UpX1RefIdeal.defs (F := Ideal)) (onTc (τ := Cert.UpX1RefIdeal.τ) (Cert.UpX1RefIdeal.main (F := Ideal))) ⟨m, fun _ => 0, g⟩ (fun r => (∀ c : Dev Cert.UpX1RefIdeal.nD,
      r.2.mem ((c.tc : Thread Cert.UpX1RefIdeal.nD Cert.UpX1RefIdeal.τ).loc Cert.UpX1RefIdeal.main_arg0) = m ((c.tc : Thread Cert.UpX1RefIdeal.nD Cert.UpX1RefIdeal.τ).loc Cert.UpX1RefIdeal.main_arg0)
      ∧ r.2.mem ((c.tc : Thread Cert.UpX1RefIdeal.nD Cert.UpX1RefIdeal.τ).loc Cert.UpX1RefIdeal.main_arg1) = m ((c.tc : Thread Cert.UpX1RefIdeal.nD Cert.UpX1RefIdeal.τ).loc Cert.UpX1RefIdeal.main_arg1)
      ∧ r.2.mem ((c.tc : Thread Cert.UpX1RefIdeal.nD Cert.UpX1RefIdeal.τ).loc Cert.UpX1RefIdeal.main_arg2) = m ((c.tc : Thread Cert.UpX1RefIdeal.nD Cert.UpX1RefIdeal.τ).loc Cert.UpX1RefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_KvX [hKvX : Cert.KvX.Facts] : Prop :=
  ∀ (m : (ℓ : Loc Cert.KvX.nD Cert.KvX.τ Cert.KvX.sig) → Buf (Elt Bits) ℓ) (g : Dev Cert.KvX.nD → PrngReg), Pre_KvX m →
    θ_run (Cert.KvX.defs (F := Bits)) (onTc (τ := Cert.KvX.τ) (Cert.KvX.main (F := Bits))) ⟨m, fun _ => 0, g⟩ (fun r => (∀ c : Dev Cert.KvX.nD,
      r.2.mem ((c.tc : Thread Cert.KvX.nD Cert.KvX.τ).loc Cert.KvX.main_arg0) = m ((c.tc : Thread Cert.KvX.nD Cert.KvX.τ).loc Cert.KvX.main_arg0)
      ∧ r.2.mem ((c.tc : Thread Cert.KvX.nD Cert.KvX.τ).loc Cert.KvX.main_arg1) = m ((c.tc : Thread Cert.KvX.nD Cert.KvX.τ).loc Cert.KvX.main_arg1))
      ∧ r.2.sem = fun _ => 0)

def quiescent_KvXIdeal [hKvXIdeal : Cert.KvXIdeal.Facts] : Prop :=
  ∀ (m : (ℓ : Loc Cert.KvXIdeal.nD Cert.KvXIdeal.τ Cert.KvXIdeal.sig) → Buf (Elt Ideal) ℓ) (g : Dev Cert.KvXIdeal.nD → PrngReg), Pre_KvXIdeal m →
    θ_run (Cert.KvXIdeal.defs (F := Ideal)) (onTc (τ := Cert.KvXIdeal.τ) (Cert.KvXIdeal.main (F := Ideal))) ⟨m, fun _ => 0, g⟩ (fun r => (∀ c : Dev Cert.KvXIdeal.nD,
      r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
      ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ r.2.sem = fun _ => 0)

def quiescent_KvXRefIdeal [hKvXRefIdeal : Cert.KvXRefIdeal.Facts] : Prop :=
  ∀ (m : (ℓ : Loc Cert.KvXRefIdeal.nD Cert.KvXRefIdeal.τ Cert.KvXRefIdeal.sig) → Buf (Elt Ideal) ℓ) (g : Dev Cert.KvXRefIdeal.nD → PrngReg), Pre_KvXRefIdeal m →
    θ_run (Cert.KvXRefIdeal.defs (F := Ideal)) (onTc (τ := Cert.KvXRefIdeal.τ) (Cert.KvXRefIdeal.main (F := Ideal))) ⟨m, fun _ => 0, g⟩ (fun r => (∀ c : Dev Cert.KvXRefIdeal.nD,
      r.2.mem ((c.tc : Thread Cert.KvXRefIdeal.nD Cert.KvXRefIdeal.τ).loc Cert.KvXRefIdeal.main_arg0) = m ((c.tc : Thread Cert.KvXRefIdeal.nD Cert.KvXRefIdeal.τ).loc Cert.KvXRefIdeal.main_arg0)
      ∧ r.2.mem ((c.tc : Thread Cert.KvXRefIdeal.nD Cert.KvXRefIdeal.τ).loc Cert.KvXRefIdeal.main_arg1) = m ((c.tc : Thread Cert.KvXRefIdeal.nD Cert.KvXRefIdeal.τ).loc Cert.KvXRefIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWRefIdeal [hKvWRefIdeal : Cert.KvWRefIdeal.Facts] : Prop :=
  ∀ (m : (ℓ : Loc Cert.KvWRefIdeal.nD Cert.KvWRefIdeal.τ Cert.KvWRefIdeal.sig) → Buf (Elt Ideal) ℓ) (g : Dev Cert.KvWRefIdeal.nD → PrngReg), Pre_KvWRefIdeal m →
    θ_run (Cert.KvWRefIdeal.defs (F := Ideal)) (onTc (τ := Cert.KvWRefIdeal.τ) (Cert.KvWRefIdeal.main (F := Ideal))) ⟨m, fun _ => 0, g⟩ (fun r => (∀ c : Dev Cert.KvWRefIdeal.nD,
      r.2.mem ((c.tc : Thread Cert.KvWRefIdeal.nD Cert.KvWRefIdeal.τ).loc Cert.KvWRefIdeal.main_arg0) = m ((c.tc : Thread Cert.KvWRefIdeal.nD Cert.KvWRefIdeal.τ).loc Cert.KvWRefIdeal.main_arg0)
      ∧ r.2.mem ((c.tc : Thread Cert.KvWRefIdeal.nD Cert.KvWRefIdeal.τ).loc Cert.KvWRefIdeal.main_arg1) = m ((c.tc : Thread Cert.KvWRefIdeal.nD Cert.KvWRefIdeal.τ).loc Cert.KvWRefIdeal.main_arg1))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2))
      ∧ r.2.sem = fun _ => 0)

def quiescent_QF [hQF : Cert.QF.Facts] : Prop :=
  ∀ (m : (ℓ : Loc Cert.QF.nD Cert.QF.τ Cert.QF.sig) → Buf (Elt Bits) ℓ) (g : Dev Cert.QF.nD → PrngReg), Pre_QF m →
    θ_run (Cert.QF.defs (F := Bits)) (onTc (τ := Cert.QF.τ) (Cert.QF.main (F := Bits))) ⟨m, fun _ => 0, g⟩ (fun r => (∀ c : Dev Cert.QF.nD,
      r.2.mem ((c.tc : Thread Cert.QF.nD Cert.QF.τ).loc Cert.QF.main_arg0) = m ((c.tc : Thread Cert.QF.nD Cert.QF.τ).loc Cert.QF.main_arg0)
      ∧ r.2.mem ((c.tc : Thread Cert.QF.nD Cert.QF.τ).loc Cert.QF.main_arg1) = m ((c.tc : Thread Cert.QF.nD Cert.QF.τ).loc Cert.QF.main_arg1))
      ∧ r.2.sem = fun _ => 0)

def quiescent_QFIdeal [hQFIdeal : Cert.QFIdeal.Facts] : Prop :=
  ∀ (m : (ℓ : Loc Cert.QFIdeal.nD Cert.QFIdeal.τ Cert.QFIdeal.sig) → Buf (Elt Ideal) ℓ) (g : Dev Cert.QFIdeal.nD → PrngReg), Pre_QFIdeal m →
    θ_run (Cert.QFIdeal.defs (F := Ideal)) (onTc (τ := Cert.QFIdeal.τ) (Cert.QFIdeal.main (F := Ideal))) ⟨m, fun _ => 0, g⟩ (fun r => (∀ c : Dev Cert.QFIdeal.nD,
      r.2.mem ((c.tc : Thread Cert.QFIdeal.nD Cert.QFIdeal.τ).loc Cert.QFIdeal.main_arg0) = m ((c.tc : Thread Cert.QFIdeal.nD Cert.QFIdeal.τ).loc Cert.QFIdeal.main_arg0)
      ∧ r.2.mem ((c.tc : Thread Cert.QFIdeal.nD Cert.QFIdeal.τ).loc Cert.QFIdeal.main_arg1) = m ((c.tc : Thread Cert.QFIdeal.nD Cert.QFIdeal.τ).loc Cert.QFIdeal.main_arg1))
      ∧ r.2.sem = fun _ => 0)

def quiescent_QFRefIdeal [hQFRefIdeal : Cert.QFRefIdeal.Facts] : Prop :=
  ∀ (m : (ℓ : Loc Cert.QFRefIdeal.nD Cert.QFRefIdeal.τ Cert.QFRefIdeal.sig) → Buf (Elt Ideal) ℓ) (g : Dev Cert.QFRefIdeal.nD → PrngReg), Pre_QFRefIdeal m →
    θ_run (Cert.QFRefIdeal.defs (F := Ideal)) (onTc (τ := Cert.QFRefIdeal.τ) (Cert.QFRefIdeal.main (F := Ideal))) ⟨m, fun _ => 0, g⟩ (fun r => (∀ c : Dev Cert.QFRefIdeal.nD,
      r.2.mem ((c.tc : Thread Cert.QFRefIdeal.nD Cert.QFRefIdeal.τ).loc Cert.QFRefIdeal.main_arg0) = m ((c.tc : Thread Cert.QFRefIdeal.nD Cert.QFRefIdeal.τ).loc Cert.QFRefIdeal.main_arg0)
      ∧ r.2.mem ((c.tc : Thread Cert.QFRefIdeal.nD Cert.QFRefIdeal.τ).loc Cert.QFRefIdeal.main_arg1) = m ((c.tc : Thread Cert.QFRefIdeal.nD Cert.QFRefIdeal.τ).loc Cert.QFRefIdeal.main_arg1))
      ∧ r.2.sem = fun _ => 0)

def quiescent_KvF [hKvF : Cert.KvF.Facts] : Prop :=
  ∀ (m : (ℓ : Loc Cert.KvF.nD Cert.KvF.τ Cert.KvF.sig) → Buf (Elt Bits) ℓ) (g : Dev Cert.KvF.nD → PrngReg), Pre_KvF m →
    θ_run (Cert.KvF.defs (F := Bits)) (onTc (τ := Cert.KvF.τ) (Cert.KvF.main (F := Bits))) ⟨m, fun _ => 0, g⟩ (fun r => (∀ c : Dev Cert.KvF.nD,
      r.2.mem ((c.tc : Thread Cert.KvF.nD Cert.KvF.τ).loc Cert.KvF.main_arg0) = m ((c.tc : Thread Cert.KvF.nD Cert.KvF.τ).loc Cert.KvF.main_arg0)
      ∧ r.2.mem ((c.tc : Thread Cert.KvF.nD Cert.KvF.τ).loc Cert.KvF.main_arg1) = m ((c.tc : Thread Cert.KvF.nD Cert.KvF.τ).loc Cert.KvF.main_arg1))
      ∧ r.2.sem = fun _ => 0)

def quiescent_KvFIdeal [hKvFIdeal : Cert.KvFIdeal.Facts] : Prop :=
  ∀ (m : (ℓ : Loc Cert.KvFIdeal.nD Cert.KvFIdeal.τ Cert.KvFIdeal.sig) → Buf (Elt Ideal) ℓ) (g : Dev Cert.KvFIdeal.nD → PrngReg), Pre_KvFIdeal m →
    θ_run (Cert.KvFIdeal.defs (F := Ideal)) (onTc (τ := Cert.KvFIdeal.τ) (Cert.KvFIdeal.main (F := Ideal))) ⟨m, fun _ => 0, g⟩ (fun r => (∀ c : Dev Cert.KvFIdeal.nD,
      r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
      ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1))
      ∧ r.2.sem = fun _ => 0)

def quiescent_KvFRefIdeal [hKvFRefIdeal : Cert.KvFRefIdeal.Facts] : Prop :=
  ∀ (m : (ℓ : Loc Cert.KvFRefIdeal.nD Cert.KvFRefIdeal.τ Cert.KvFRefIdeal.sig) → Buf (Elt Ideal) ℓ) (g : Dev Cert.KvFRefIdeal.nD → PrngReg), Pre_KvFRefIdeal m →
    θ_run (Cert.KvFRefIdeal.defs (F := Ideal)) (onTc (τ := Cert.KvFRefIdeal.τ) (Cert.KvFRefIdeal.main (F := Ideal))) ⟨m, fun _ => 0, g⟩ (fun r => (∀ c : Dev Cert.KvFRefIdeal.nD,
      r.2.mem ((c.tc : Thread Cert.KvFRefIdeal.nD Cert.KvFRefIdeal.τ).loc Cert.KvFRefIdeal.main_arg0) = m ((c.tc : Thread Cert.KvFRefIdeal.nD Cert.KvFRefIdeal.τ).loc Cert.KvFRefIdeal.main_arg0)
      ∧ r.2.mem ((c.tc : Thread Cert.KvFRefIdeal.nD Cert.KvFRefIdeal.τ).loc Cert.KvFRefIdeal.main_arg1) = m ((c.tc : Thread Cert.KvFRefIdeal.nD Cert.KvFRefIdeal.τ).loc Cert.KvFRefIdeal.main_arg1))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3)
      ∧ r.2.mem ((c.tc : Thread Cert.MergeF.nD Cert.MergeF.τ).loc Cert.MergeF.main_arg4) = m ((c.tc : Thread Cert.MergeF.nD Cert.MergeF.τ).loc Cert.MergeF.main_arg4)
      ∧ r.2.mem ((c.tc : Thread Cert.MergeF.nD Cert.MergeF.τ).loc Cert.MergeF.main_arg5) = m ((c.tc : Thread Cert.MergeF.nD Cert.MergeF.τ).loc Cert.MergeF.main_arg5)
      ∧ r.2.mem ((c.tc : Thread Cert.MergeF.nD Cert.MergeF.τ).loc Cert.MergeF.main_arg6) = m ((c.tc : Thread Cert.MergeF.nD Cert.MergeF.τ).loc Cert.MergeF.main_arg6)
      ∧ r.2.mem ((c.tc : Thread Cert.MergeF.nD Cert.MergeF.τ).loc Cert.MergeF.main_arg7) = m ((c.tc : Thread Cert.MergeF.nD Cert.MergeF.τ).loc Cert.MergeF.main_arg7)
      ∧ r.2.mem ((c.tc : Thread Cert.MergeF.nD Cert.MergeF.τ).loc Cert.MergeF.main_arg8) = m ((c.tc : Thread Cert.MergeF.nD Cert.MergeF.τ).loc Cert.MergeF.main_arg8)
      ∧ r.2.mem ((c.tc : Thread Cert.MergeF.nD Cert.MergeF.τ).loc Cert.MergeF.main_arg9) = m ((c.tc : Thread Cert.MergeF.nD Cert.MergeF.τ).loc Cert.MergeF.main_arg9))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
      ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
      ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5)
      ∧ r.2.mem ((c.tc : Thread Cert.MergeFIdeal.nD Cert.MergeFIdeal.τ).loc Cert.MergeFIdeal.main_arg6) = m ((c.tc : Thread Cert.MergeFIdeal.nD Cert.MergeFIdeal.τ).loc Cert.MergeFIdeal.main_arg6)
      ∧ r.2.mem ((c.tc : Thread Cert.MergeFIdeal.nD Cert.MergeFIdeal.τ).loc Cert.MergeFIdeal.main_arg7) = m ((c.tc : Thread Cert.MergeFIdeal.nD Cert.MergeFIdeal.τ).loc Cert.MergeFIdeal.main_arg7)
      ∧ r.2.mem ((c.tc : Thread Cert.MergeFIdeal.nD Cert.MergeFIdeal.τ).loc Cert.MergeFIdeal.main_arg8) = m ((c.tc : Thread Cert.MergeFIdeal.nD Cert.MergeFIdeal.τ).loc Cert.MergeFIdeal.main_arg8)
      ∧ r.2.mem ((c.tc : Thread Cert.MergeFIdeal.nD Cert.MergeFIdeal.τ).loc Cert.MergeFIdeal.main_arg9) = m ((c.tc : Thread Cert.MergeFIdeal.nD Cert.MergeFIdeal.τ).loc Cert.MergeFIdeal.main_arg9))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2)
      ∧ r.2.mem ((c.tc : Thread Cert.MergeFRefIdeal.nD Cert.MergeFRefIdeal.τ).loc Cert.MergeFRefIdeal.main_arg3) = m ((c.tc : Thread Cert.MergeFRefIdeal.nD Cert.MergeFRefIdeal.τ).loc Cert.MergeFRefIdeal.main_arg3)
      ∧ r.2.mem ((c.tc : Thread Cert.MergeFRefIdeal.nD Cert.MergeFRefIdeal.τ).loc Cert.MergeFRefIdeal.main_arg4) = m ((c.tc : Thread Cert.MergeFRefIdeal.nD Cert.MergeFRefIdeal.τ).loc Cert.MergeFRefIdeal.main_arg4)
      ∧ r.2.mem ((c.tc : Thread Cert.MergeFRefIdeal.nD Cert.MergeFRefIdeal.τ).loc Cert.MergeFRefIdeal.main_arg5) = m ((c.tc : Thread Cert.MergeFRefIdeal.nD Cert.MergeFRefIdeal.τ).loc Cert.MergeFRefIdeal.main_arg5)
      ∧ r.2.mem ((c.tc : Thread Cert.MergeFRefIdeal.nD Cert.MergeFRefIdeal.τ).loc Cert.MergeFRefIdeal.main_arg6) = m ((c.tc : Thread Cert.MergeFRefIdeal.nD Cert.MergeFRefIdeal.τ).loc Cert.MergeFRefIdeal.main_arg6)
      ∧ r.2.mem ((c.tc : Thread Cert.MergeFRefIdeal.nD Cert.MergeFRefIdeal.τ).loc Cert.MergeFRefIdeal.main_arg7) = m ((c.tc : Thread Cert.MergeFRefIdeal.nD Cert.MergeFRefIdeal.τ).loc Cert.MergeFRefIdeal.main_arg7)
      ∧ r.2.mem ((c.tc : Thread Cert.MergeFRefIdeal.nD Cert.MergeFRefIdeal.τ).loc Cert.MergeFRefIdeal.main_arg8) = m ((c.tc : Thread Cert.MergeFRefIdeal.nD Cert.MergeFRefIdeal.τ).loc Cert.MergeFRefIdeal.main_arg8)
      ∧ r.2.mem ((c.tc : Thread Cert.MergeFRefIdeal.nD Cert.MergeFRefIdeal.τ).loc Cert.MergeFRefIdeal.main_arg9) = m ((c.tc : Thread Cert.MergeFRefIdeal.nD Cert.MergeFRefIdeal.τ).loc Cert.MergeFRefIdeal.main_arg9))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3)
      ∧ r.2.mem ((c.tc : Thread Cert.MergeB.nD Cert.MergeB.τ).loc Cert.MergeB.main_arg4) = m ((c.tc : Thread Cert.MergeB.nD Cert.MergeB.τ).loc Cert.MergeB.main_arg4)
      ∧ r.2.mem ((c.tc : Thread Cert.MergeB.nD Cert.MergeB.τ).loc Cert.MergeB.main_arg5) = m ((c.tc : Thread Cert.MergeB.nD Cert.MergeB.τ).loc Cert.MergeB.main_arg5)
      ∧ r.2.mem ((c.tc : Thread Cert.MergeB.nD Cert.MergeB.τ).loc Cert.MergeB.main_arg6) = m ((c.tc : Thread Cert.MergeB.nD Cert.MergeB.τ).loc Cert.MergeB.main_arg6)
      ∧ r.2.mem ((c.tc : Thread Cert.MergeB.nD Cert.MergeB.τ).loc Cert.MergeB.main_arg7) = m ((c.tc : Thread Cert.MergeB.nD Cert.MergeB.τ).loc Cert.MergeB.main_arg7)
      ∧ r.2.mem ((c.tc : Thread Cert.MergeB.nD Cert.MergeB.τ).loc Cert.MergeB.main_arg8) = m ((c.tc : Thread Cert.MergeB.nD Cert.MergeB.τ).loc Cert.MergeB.main_arg8)
      ∧ r.2.mem ((c.tc : Thread Cert.MergeB.nD Cert.MergeB.τ).loc Cert.MergeB.main_arg9) = m ((c.tc : Thread Cert.MergeB.nD Cert.MergeB.τ).loc Cert.MergeB.main_arg9)
      ∧ r.2.mem ((c.tc : Thread Cert.MergeB.nD Cert.MergeB.τ).loc Cert.MergeB.main_arg10) = m ((c.tc : Thread Cert.MergeB.nD Cert.MergeB.τ).loc Cert.MergeB.main_arg10))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
      ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
      ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
      ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6)
      ∧ r.2.mem ((c.tc : Thread Cert.MergeBIdeal.nD Cert.MergeBIdeal.τ).loc Cert.MergeBIdeal.main_arg7) = m ((c.tc : Thread Cert.MergeBIdeal.nD Cert.MergeBIdeal.τ).loc Cert.MergeBIdeal.main_arg7)
      ∧ r.2.mem ((c.tc : Thread Cert.MergeBIdeal.nD Cert.MergeBIdeal.τ).loc Cert.MergeBIdeal.main_arg8) = m ((c.tc : Thread Cert.MergeBIdeal.nD Cert.MergeBIdeal.τ).loc Cert.MergeBIdeal.main_arg8)
      ∧ r.2.mem ((c.tc : Thread Cert.MergeBIdeal.nD Cert.MergeBIdeal.τ).loc Cert.MergeBIdeal.main_arg9) = m ((c.tc : Thread Cert.MergeBIdeal.nD Cert.MergeBIdeal.τ).loc Cert.MergeBIdeal.main_arg9)
      ∧ r.2.mem ((c.tc : Thread Cert.MergeBIdeal.nD Cert.MergeBIdeal.τ).loc Cert.MergeBIdeal.main_arg10) = m ((c.tc : Thread Cert.MergeBIdeal.nD Cert.MergeBIdeal.τ).loc Cert.MergeBIdeal.main_arg10))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3)
      ∧ r.2.mem ((c.tc : Thread Cert.MergeBRefIdeal.nD Cert.MergeBRefIdeal.τ).loc Cert.MergeBRefIdeal.main_arg4) = m ((c.tc : Thread Cert.MergeBRefIdeal.nD Cert.MergeBRefIdeal.τ).loc Cert.MergeBRefIdeal.main_arg4)
      ∧ r.2.mem ((c.tc : Thread Cert.MergeBRefIdeal.nD Cert.MergeBRefIdeal.τ).loc Cert.MergeBRefIdeal.main_arg5) = m ((c.tc : Thread Cert.MergeBRefIdeal.nD Cert.MergeBRefIdeal.τ).loc Cert.MergeBRefIdeal.main_arg5)
      ∧ r.2.mem ((c.tc : Thread Cert.MergeBRefIdeal.nD Cert.MergeBRefIdeal.τ).loc Cert.MergeBRefIdeal.main_arg6) = m ((c.tc : Thread Cert.MergeBRefIdeal.nD Cert.MergeBRefIdeal.τ).loc Cert.MergeBRefIdeal.main_arg6)
      ∧ r.2.mem ((c.tc : Thread Cert.MergeBRefIdeal.nD Cert.MergeBRefIdeal.τ).loc Cert.MergeBRefIdeal.main_arg7) = m ((c.tc : Thread Cert.MergeBRefIdeal.nD Cert.MergeBRefIdeal.τ).loc Cert.MergeBRefIdeal.main_arg7)
      ∧ r.2.mem ((c.tc : Thread Cert.MergeBRefIdeal.nD Cert.MergeBRefIdeal.τ).loc Cert.MergeBRefIdeal.main_arg8) = m ((c.tc : Thread Cert.MergeBRefIdeal.nD Cert.MergeBRefIdeal.τ).loc Cert.MergeBRefIdeal.main_arg8)
      ∧ r.2.mem ((c.tc : Thread Cert.MergeBRefIdeal.nD Cert.MergeBRefIdeal.τ).loc Cert.MergeBRefIdeal.main_arg9) = m ((c.tc : Thread Cert.MergeBRefIdeal.nD Cert.MergeBRefIdeal.τ).loc Cert.MergeBRefIdeal.main_arg9)
      ∧ r.2.mem ((c.tc : Thread Cert.MergeBRefIdeal.nD Cert.MergeBRefIdeal.τ).loc Cert.MergeBRefIdeal.main_arg10) = m ((c.tc : Thread Cert.MergeBRefIdeal.nD Cert.MergeBRefIdeal.τ).loc Cert.MergeBRefIdeal.main_arg10))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1))
      ∧ r.2.sem = fun _ => 0)

def quiescent_SyX [hSyX : Cert.SyX.Facts] : Prop :=
  ∀ (m : (ℓ : Loc Cert.SyX.nD Cert.SyX.τ Cert.SyX.sig) → Buf (Elt Bits) ℓ) (g : Dev Cert.SyX.nD → PrngReg), Pre_SyX m →
    θ_run (Cert.SyX.defs (F := Bits)) (onTc (τ := Cert.SyX.τ) (Cert.SyX.main (F := Bits))) ⟨m, fun _ => 0, g⟩ (fun r => (∀ c : Dev Cert.SyX.nD,
      r.2.mem ((c.tc : Thread Cert.SyX.nD Cert.SyX.τ).loc Cert.SyX.main_arg0) = m ((c.tc : Thread Cert.SyX.nD Cert.SyX.τ).loc Cert.SyX.main_arg0)
      ∧ r.2.mem ((c.tc : Thread Cert.SyX.nD Cert.SyX.τ).loc Cert.SyX.main_arg1) = m ((c.tc : Thread Cert.SyX.nD Cert.SyX.τ).loc Cert.SyX.main_arg1)
      ∧ r.2.mem ((c.tc : Thread Cert.SyX.nD Cert.SyX.τ).loc Cert.SyX.main_arg2) = m ((c.tc : Thread Cert.SyX.nD Cert.SyX.τ).loc Cert.SyX.main_arg2))
      ∧ r.2.sem = fun _ => 0)

def quiescent_SyXIdeal [hSyXIdeal : Cert.SyXIdeal.Facts] : Prop :=
  ∀ (m : (ℓ : Loc Cert.SyXIdeal.nD Cert.SyXIdeal.τ Cert.SyXIdeal.sig) → Buf (Elt Ideal) ℓ) (g : Dev Cert.SyXIdeal.nD → PrngReg), Pre_SyXIdeal m →
    θ_run (Cert.SyXIdeal.defs (F := Ideal)) (onTc (τ := Cert.SyXIdeal.τ) (Cert.SyXIdeal.main (F := Ideal))) ⟨m, fun _ => 0, g⟩ (fun r => (∀ c : Dev Cert.SyXIdeal.nD,
      r.2.mem ((c.tc : Thread Cert.SyXIdeal.nD Cert.SyXIdeal.τ).loc Cert.SyXIdeal.main_arg0) = m ((c.tc : Thread Cert.SyXIdeal.nD Cert.SyXIdeal.τ).loc Cert.SyXIdeal.main_arg0)
      ∧ r.2.mem ((c.tc : Thread Cert.SyXIdeal.nD Cert.SyXIdeal.τ).loc Cert.SyXIdeal.main_arg1) = m ((c.tc : Thread Cert.SyXIdeal.nD Cert.SyXIdeal.τ).loc Cert.SyXIdeal.main_arg1)
      ∧ r.2.mem ((c.tc : Thread Cert.SyXIdeal.nD Cert.SyXIdeal.τ).loc Cert.SyXIdeal.main_arg2) = m ((c.tc : Thread Cert.SyXIdeal.nD Cert.SyXIdeal.τ).loc Cert.SyXIdeal.main_arg2))
      ∧ r.2.sem = fun _ => 0)

def quiescent_SyXRefIdeal [hSyXRefIdeal : Cert.SyXRefIdeal.Facts] : Prop :=
  ∀ (m : (ℓ : Loc Cert.SyXRefIdeal.nD Cert.SyXRefIdeal.τ Cert.SyXRefIdeal.sig) → Buf (Elt Ideal) ℓ) (g : Dev Cert.SyXRefIdeal.nD → PrngReg), Pre_SyXRefIdeal m →
    θ_run (Cert.SyXRefIdeal.defs (F := Ideal)) (onTc (τ := Cert.SyXRefIdeal.τ) (Cert.SyXRefIdeal.main (F := Ideal))) ⟨m, fun _ => 0, g⟩ (fun r => (∀ c : Dev Cert.SyXRefIdeal.nD,
      r.2.mem ((c.tc : Thread Cert.SyXRefIdeal.nD Cert.SyXRefIdeal.τ).loc Cert.SyXRefIdeal.main_arg0) = m ((c.tc : Thread Cert.SyXRefIdeal.nD Cert.SyXRefIdeal.τ).loc Cert.SyXRefIdeal.main_arg0)
      ∧ r.2.mem ((c.tc : Thread Cert.SyXRefIdeal.nD Cert.SyXRefIdeal.τ).loc Cert.SyXRefIdeal.main_arg1) = m ((c.tc : Thread Cert.SyXRefIdeal.nD Cert.SyXRefIdeal.τ).loc Cert.SyXRefIdeal.main_arg1)
      ∧ r.2.mem ((c.tc : Thread Cert.SyXRefIdeal.nD Cert.SyXRefIdeal.τ).loc Cert.SyXRefIdeal.main_arg2) = m ((c.tc : Thread Cert.SyXRefIdeal.nD Cert.SyXRefIdeal.τ).loc Cert.SyXRefIdeal.main_arg2))
      ∧ r.2.sem = fun _ => 0)

def quiescent_SBu [hSBu : Cert.SBu.Facts] : Prop :=
  ∀ (m : (ℓ : Loc Cert.SBu.nD Cert.SBu.τ Cert.SBu.sig) → Buf (Elt Bits) ℓ) (g : Dev Cert.SBu.nD → PrngReg), Pre_SBu m →
    θ_run (Cert.SBu.defs (F := Bits)) (onTc (τ := Cert.SBu.τ) (Cert.SBu.main (F := Bits))) ⟨m, fun _ => 0, g⟩ (fun r => (∀ c : Dev Cert.SBu.nD,
      r.2.mem ((c.tc : Thread Cert.SBu.nD Cert.SBu.τ).loc Cert.SBu.main_arg0) = m ((c.tc : Thread Cert.SBu.nD Cert.SBu.τ).loc Cert.SBu.main_arg0)
      ∧ r.2.mem ((c.tc : Thread Cert.SBu.nD Cert.SBu.τ).loc Cert.SBu.main_arg1) = m ((c.tc : Thread Cert.SBu.nD Cert.SBu.τ).loc Cert.SBu.main_arg1)
      ∧ r.2.mem ((c.tc : Thread Cert.SBu.nD Cert.SBu.τ).loc Cert.SBu.main_arg2) = m ((c.tc : Thread Cert.SBu.nD Cert.SBu.τ).loc Cert.SBu.main_arg2))
      ∧ r.2.sem = fun _ => 0)

def quiescent_SBuIdeal [hSBuIdeal : Cert.SBuIdeal.Facts] : Prop :=
  ∀ (m : (ℓ : Loc Cert.SBuIdeal.nD Cert.SBuIdeal.τ Cert.SBuIdeal.sig) → Buf (Elt Ideal) ℓ) (g : Dev Cert.SBuIdeal.nD → PrngReg), Pre_SBuIdeal m →
    θ_run (Cert.SBuIdeal.defs (F := Ideal)) (onTc (τ := Cert.SBuIdeal.τ) (Cert.SBuIdeal.main (F := Ideal))) ⟨m, fun _ => 0, g⟩ (fun r => (∀ c : Dev Cert.SBuIdeal.nD,
      r.2.mem ((c.tc : Thread Cert.SBuIdeal.nD Cert.SBuIdeal.τ).loc Cert.SBuIdeal.main_arg0) = m ((c.tc : Thread Cert.SBuIdeal.nD Cert.SBuIdeal.τ).loc Cert.SBuIdeal.main_arg0)
      ∧ r.2.mem ((c.tc : Thread Cert.SBuIdeal.nD Cert.SBuIdeal.τ).loc Cert.SBuIdeal.main_arg1) = m ((c.tc : Thread Cert.SBuIdeal.nD Cert.SBuIdeal.τ).loc Cert.SBuIdeal.main_arg1)
      ∧ r.2.mem ((c.tc : Thread Cert.SBuIdeal.nD Cert.SBuIdeal.τ).loc Cert.SBuIdeal.main_arg2) = m ((c.tc : Thread Cert.SBuIdeal.nD Cert.SBuIdeal.τ).loc Cert.SBuIdeal.main_arg2))
      ∧ r.2.sem = fun _ => 0)

def quiescent_SBuRefIdeal [hSBuRefIdeal : Cert.SBuRefIdeal.Facts] : Prop :=
  ∀ (m : (ℓ : Loc Cert.SBuRefIdeal.nD Cert.SBuRefIdeal.τ Cert.SBuRefIdeal.sig) → Buf (Elt Ideal) ℓ) (g : Dev Cert.SBuRefIdeal.nD → PrngReg), Pre_SBuRefIdeal m →
    θ_run (Cert.SBuRefIdeal.defs (F := Ideal)) (onTc (τ := Cert.SBuRefIdeal.τ) (Cert.SBuRefIdeal.main (F := Ideal))) ⟨m, fun _ => 0, g⟩ (fun r => (∀ c : Dev Cert.SBuRefIdeal.nD,
      r.2.mem ((c.tc : Thread Cert.SBuRefIdeal.nD Cert.SBuRefIdeal.τ).loc Cert.SBuRefIdeal.main_arg0) = m ((c.tc : Thread Cert.SBuRefIdeal.nD Cert.SBuRefIdeal.τ).loc Cert.SBuRefIdeal.main_arg0)
      ∧ r.2.mem ((c.tc : Thread Cert.SBuRefIdeal.nD Cert.SBuRefIdeal.τ).loc Cert.SBuRefIdeal.main_arg1) = m ((c.tc : Thread Cert.SBuRefIdeal.nD Cert.SBuRefIdeal.τ).loc Cert.SBuRefIdeal.main_arg1)
      ∧ r.2.mem ((c.tc : Thread Cert.SBuRefIdeal.nD Cert.SBuRefIdeal.τ).loc Cert.SBuRefIdeal.main_arg2) = m ((c.tc : Thread Cert.SBuRefIdeal.nD Cert.SBuRefIdeal.τ).loc Cert.SBuRefIdeal.main_arg2))
      ∧ r.2.sem = fun _ => 0)

def quiescent_SyRe [hSyRe : Cert.SyRe.Facts] : Prop :=
  ∀ (m : (ℓ : Loc Cert.SyRe.nD Cert.SyRe.τ Cert.SyRe.sig) → Buf (Elt Bits) ℓ) (g : Dev Cert.SyRe.nD → PrngReg), Pre_SyRe m →
    θ_run (Cert.SyRe.defs (F := Bits)) (onTc (τ := Cert.SyRe.τ) (Cert.SyRe.main (F := Bits))) ⟨m, fun _ => 0, g⟩ (fun r => (∀ c : Dev Cert.SyRe.nD,
      r.2.mem ((c.tc : Thread Cert.SyRe.nD Cert.SyRe.τ).loc Cert.SyRe.main_arg0) = m ((c.tc : Thread Cert.SyRe.nD Cert.SyRe.τ).loc Cert.SyRe.main_arg0)
      ∧ r.2.mem ((c.tc : Thread Cert.SyRe.nD Cert.SyRe.τ).loc Cert.SyRe.main_arg1) = m ((c.tc : Thread Cert.SyRe.nD Cert.SyRe.τ).loc Cert.SyRe.main_arg1))
      ∧ r.2.sem = fun _ => 0)

def quiescent_SyReIdeal [hSyReIdeal : Cert.SyReIdeal.Facts] : Prop :=
  ∀ (m : (ℓ : Loc Cert.SyReIdeal.nD Cert.SyReIdeal.τ Cert.SyReIdeal.sig) → Buf (Elt Ideal) ℓ) (g : Dev Cert.SyReIdeal.nD → PrngReg), Pre_SyReIdeal m →
    θ_run (Cert.SyReIdeal.defs (F := Ideal)) (onTc (τ := Cert.SyReIdeal.τ) (Cert.SyReIdeal.main (F := Ideal))) ⟨m, fun _ => 0, g⟩ (fun r => (∀ c : Dev Cert.SyReIdeal.nD,
      r.2.mem ((c.tc : Thread Cert.SyReIdeal.nD Cert.SyReIdeal.τ).loc Cert.SyReIdeal.main_arg0) = m ((c.tc : Thread Cert.SyReIdeal.nD Cert.SyReIdeal.τ).loc Cert.SyReIdeal.main_arg0)
      ∧ r.2.mem ((c.tc : Thread Cert.SyReIdeal.nD Cert.SyReIdeal.τ).loc Cert.SyReIdeal.main_arg1) = m ((c.tc : Thread Cert.SyReIdeal.nD Cert.SyReIdeal.τ).loc Cert.SyReIdeal.main_arg1))
      ∧ r.2.sem = fun _ => 0)

def quiescent_SyReRefIdeal [hSyReRefIdeal : Cert.SyReRefIdeal.Facts] : Prop :=
  ∀ (m : (ℓ : Loc Cert.SyReRefIdeal.nD Cert.SyReRefIdeal.τ Cert.SyReRefIdeal.sig) → Buf (Elt Ideal) ℓ) (g : Dev Cert.SyReRefIdeal.nD → PrngReg), Pre_SyReRefIdeal m →
    θ_run (Cert.SyReRefIdeal.defs (F := Ideal)) (onTc (τ := Cert.SyReRefIdeal.τ) (Cert.SyReRefIdeal.main (F := Ideal))) ⟨m, fun _ => 0, g⟩ (fun r => (∀ c : Dev Cert.SyReRefIdeal.nD,
      r.2.mem ((c.tc : Thread Cert.SyReRefIdeal.nD Cert.SyReRefIdeal.τ).loc Cert.SyReRefIdeal.main_arg0) = m ((c.tc : Thread Cert.SyReRefIdeal.nD Cert.SyReRefIdeal.τ).loc Cert.SyReRefIdeal.main_arg0)
      ∧ r.2.mem ((c.tc : Thread Cert.SyReRefIdeal.nD Cert.SyReRefIdeal.τ).loc Cert.SyReRefIdeal.main_arg1) = m ((c.tc : Thread Cert.SyReRefIdeal.nD Cert.SyReRefIdeal.τ).loc Cert.SyReRefIdeal.main_arg1))
      ∧ r.2.sem = fun _ => 0)

def quiescent_SyIm [hSyIm : Cert.SyIm.Facts] : Prop :=
  ∀ (m : (ℓ : Loc Cert.SyIm.nD Cert.SyIm.τ Cert.SyIm.sig) → Buf (Elt Bits) ℓ) (g : Dev Cert.SyIm.nD → PrngReg), Pre_SyIm m →
    θ_run (Cert.SyIm.defs (F := Bits)) (onTc (τ := Cert.SyIm.τ) (Cert.SyIm.main (F := Bits))) ⟨m, fun _ => 0, g⟩ (fun r => (∀ c : Dev Cert.SyIm.nD,
      r.2.mem ((c.tc : Thread Cert.SyIm.nD Cert.SyIm.τ).loc Cert.SyIm.main_arg0) = m ((c.tc : Thread Cert.SyIm.nD Cert.SyIm.τ).loc Cert.SyIm.main_arg0)
      ∧ r.2.mem ((c.tc : Thread Cert.SyIm.nD Cert.SyIm.τ).loc Cert.SyIm.main_arg1) = m ((c.tc : Thread Cert.SyIm.nD Cert.SyIm.τ).loc Cert.SyIm.main_arg1)
      ∧ r.2.mem ((c.tc : Thread Cert.SyIm.nD Cert.SyIm.τ).loc Cert.SyIm.main_arg2) = m ((c.tc : Thread Cert.SyIm.nD Cert.SyIm.τ).loc Cert.SyIm.main_arg2))
      ∧ r.2.sem = fun _ => 0)

def quiescent_SyImIdeal [hSyImIdeal : Cert.SyImIdeal.Facts] : Prop :=
  ∀ (m : (ℓ : Loc Cert.SyImIdeal.nD Cert.SyImIdeal.τ Cert.SyImIdeal.sig) → Buf (Elt Ideal) ℓ) (g : Dev Cert.SyImIdeal.nD → PrngReg), Pre_SyImIdeal m →
    θ_run (Cert.SyImIdeal.defs (F := Ideal)) (onTc (τ := Cert.SyImIdeal.τ) (Cert.SyImIdeal.main (F := Ideal))) ⟨m, fun _ => 0, g⟩ (fun r => (∀ c : Dev Cert.SyImIdeal.nD,
      r.2.mem ((c.tc : Thread Cert.SyImIdeal.nD Cert.SyImIdeal.τ).loc Cert.SyImIdeal.main_arg0) = m ((c.tc : Thread Cert.SyImIdeal.nD Cert.SyImIdeal.τ).loc Cert.SyImIdeal.main_arg0)
      ∧ r.2.mem ((c.tc : Thread Cert.SyImIdeal.nD Cert.SyImIdeal.τ).loc Cert.SyImIdeal.main_arg1) = m ((c.tc : Thread Cert.SyImIdeal.nD Cert.SyImIdeal.τ).loc Cert.SyImIdeal.main_arg1)
      ∧ r.2.mem ((c.tc : Thread Cert.SyImIdeal.nD Cert.SyImIdeal.τ).loc Cert.SyImIdeal.main_arg2) = m ((c.tc : Thread Cert.SyImIdeal.nD Cert.SyImIdeal.τ).loc Cert.SyImIdeal.main_arg2))
      ∧ r.2.sem = fun _ => 0)

def quiescent_SyImRefIdeal [hSyImRefIdeal : Cert.SyImRefIdeal.Facts] : Prop :=
  ∀ (m : (ℓ : Loc Cert.SyImRefIdeal.nD Cert.SyImRefIdeal.τ Cert.SyImRefIdeal.sig) → Buf (Elt Ideal) ℓ) (g : Dev Cert.SyImRefIdeal.nD → PrngReg), Pre_SyImRefIdeal m →
    θ_run (Cert.SyImRefIdeal.defs (F := Ideal)) (onTc (τ := Cert.SyImRefIdeal.τ) (Cert.SyImRefIdeal.main (F := Ideal))) ⟨m, fun _ => 0, g⟩ (fun r => (∀ c : Dev Cert.SyImRefIdeal.nD,
      r.2.mem ((c.tc : Thread Cert.SyImRefIdeal.nD Cert.SyImRefIdeal.τ).loc Cert.SyImRefIdeal.main_arg0) = m ((c.tc : Thread Cert.SyImRefIdeal.nD Cert.SyImRefIdeal.τ).loc Cert.SyImRefIdeal.main_arg0)
      ∧ r.2.mem ((c.tc : Thread Cert.SyImRefIdeal.nD Cert.SyImRefIdeal.τ).loc Cert.SyImRefIdeal.main_arg1) = m ((c.tc : Thread Cert.SyImRefIdeal.nD Cert.SyImRefIdeal.τ).loc Cert.SyImRefIdeal.main_arg1)
      ∧ r.2.mem ((c.tc : Thread Cert.SyImRefIdeal.nD Cert.SyImRefIdeal.τ).loc Cert.SyImRefIdeal.main_arg2) = m ((c.tc : Thread Cert.SyImRefIdeal.nD Cert.SyImRefIdeal.τ).loc Cert.SyImRefIdeal.main_arg2))
      ∧ r.2.sem = fun _ => 0)

def quiescent_SBuX0 [hSBuX0 : Cert.SBuX0.Facts] : Prop :=
  ∀ (m : (ℓ : Loc Cert.SBuX0.nD Cert.SBuX0.τ Cert.SBuX0.sig) → Buf (Elt Bits) ℓ) (g : Dev Cert.SBuX0.nD → PrngReg), Pre_SBuX0 m →
    θ_run (Cert.SBuX0.defs (F := Bits)) (onTc (τ := Cert.SBuX0.τ) (Cert.SBuX0.main (F := Bits))) ⟨m, fun _ => 0, g⟩ (fun r => (∀ c : Dev Cert.SBuX0.nD,
      r.2.mem ((c.tc : Thread Cert.SBuX0.nD Cert.SBuX0.τ).loc Cert.SBuX0.main_arg0) = m ((c.tc : Thread Cert.SBuX0.nD Cert.SBuX0.τ).loc Cert.SBuX0.main_arg0)
      ∧ r.2.mem ((c.tc : Thread Cert.SBuX0.nD Cert.SBuX0.τ).loc Cert.SBuX0.main_arg1) = m ((c.tc : Thread Cert.SBuX0.nD Cert.SBuX0.τ).loc Cert.SBuX0.main_arg1)
      ∧ r.2.mem ((c.tc : Thread Cert.SBuX0.nD Cert.SBuX0.τ).loc Cert.SBuX0.main_arg2) = m ((c.tc : Thread Cert.SBuX0.nD Cert.SBuX0.τ).loc Cert.SBuX0.main_arg2)
      ∧ r.2.mem ((c.tc : Thread Cert.SBuX0.nD Cert.SBuX0.τ).loc Cert.SBuX0.main_arg3) = m ((c.tc : Thread Cert.SBuX0.nD Cert.SBuX0.τ).loc Cert.SBuX0.main_arg3))
      ∧ r.2.sem = fun _ => 0)

def quiescent_SBuX0Ideal [hSBuX0Ideal : Cert.SBuX0Ideal.Facts] : Prop :=
  ∀ (m : (ℓ : Loc Cert.SBuX0Ideal.nD Cert.SBuX0Ideal.τ Cert.SBuX0Ideal.sig) → Buf (Elt Ideal) ℓ) (g : Dev Cert.SBuX0Ideal.nD → PrngReg), Pre_SBuX0Ideal m →
    θ_run (Cert.SBuX0Ideal.defs (F := Ideal)) (onTc (τ := Cert.SBuX0Ideal.τ) (Cert.SBuX0Ideal.main (F := Ideal))) ⟨m, fun _ => 0, g⟩ (fun r => (∀ c : Dev Cert.SBuX0Ideal.nD,
      r.2.mem ((c.tc : Thread Cert.SBuX0Ideal.nD Cert.SBuX0Ideal.τ).loc Cert.SBuX0Ideal.main_arg0) = m ((c.tc : Thread Cert.SBuX0Ideal.nD Cert.SBuX0Ideal.τ).loc Cert.SBuX0Ideal.main_arg0)
      ∧ r.2.mem ((c.tc : Thread Cert.SBuX0Ideal.nD Cert.SBuX0Ideal.τ).loc Cert.SBuX0Ideal.main_arg1) = m ((c.tc : Thread Cert.SBuX0Ideal.nD Cert.SBuX0Ideal.τ).loc Cert.SBuX0Ideal.main_arg1)
      ∧ r.2.mem ((c.tc : Thread Cert.SBuX0Ideal.nD Cert.SBuX0Ideal.τ).loc Cert.SBuX0Ideal.main_arg2) = m ((c.tc : Thread Cert.SBuX0Ideal.nD Cert.SBuX0Ideal.τ).loc Cert.SBuX0Ideal.main_arg2)
      ∧ r.2.mem ((c.tc : Thread Cert.SBuX0Ideal.nD Cert.SBuX0Ideal.τ).loc Cert.SBuX0Ideal.main_arg3) = m ((c.tc : Thread Cert.SBuX0Ideal.nD Cert.SBuX0Ideal.τ).loc Cert.SBuX0Ideal.main_arg3))
      ∧ r.2.sem = fun _ => 0)

def quiescent_SBuX0RefIdeal [hSBuX0RefIdeal : Cert.SBuX0RefIdeal.Facts] : Prop :=
  ∀ (m : (ℓ : Loc Cert.SBuX0RefIdeal.nD Cert.SBuX0RefIdeal.τ Cert.SBuX0RefIdeal.sig) → Buf (Elt Ideal) ℓ) (g : Dev Cert.SBuX0RefIdeal.nD → PrngReg), Pre_SBuX0RefIdeal m →
    θ_run (Cert.SBuX0RefIdeal.defs (F := Ideal)) (onTc (τ := Cert.SBuX0RefIdeal.τ) (Cert.SBuX0RefIdeal.main (F := Ideal))) ⟨m, fun _ => 0, g⟩ (fun r => (∀ c : Dev Cert.SBuX0RefIdeal.nD,
      r.2.mem ((c.tc : Thread Cert.SBuX0RefIdeal.nD Cert.SBuX0RefIdeal.τ).loc Cert.SBuX0RefIdeal.main_arg0) = m ((c.tc : Thread Cert.SBuX0RefIdeal.nD Cert.SBuX0RefIdeal.τ).loc Cert.SBuX0RefIdeal.main_arg0)
      ∧ r.2.mem ((c.tc : Thread Cert.SBuX0RefIdeal.nD Cert.SBuX0RefIdeal.τ).loc Cert.SBuX0RefIdeal.main_arg1) = m ((c.tc : Thread Cert.SBuX0RefIdeal.nD Cert.SBuX0RefIdeal.τ).loc Cert.SBuX0RefIdeal.main_arg1)
      ∧ r.2.mem ((c.tc : Thread Cert.SBuX0RefIdeal.nD Cert.SBuX0RefIdeal.τ).loc Cert.SBuX0RefIdeal.main_arg2) = m ((c.tc : Thread Cert.SBuX0RefIdeal.nD Cert.SBuX0RefIdeal.τ).loc Cert.SBuX0RefIdeal.main_arg2)
      ∧ r.2.mem ((c.tc : Thread Cert.SBuX0RefIdeal.nD Cert.SBuX0RefIdeal.τ).loc Cert.SBuX0RefIdeal.main_arg3) = m ((c.tc : Thread Cert.SBuX0RefIdeal.nD Cert.SBuX0RefIdeal.τ).loc Cert.SBuX0RefIdeal.main_arg3))
      ∧ r.2.sem = fun _ => 0)

def quiescent_SBuX1 [hSBuX1 : Cert.SBuX1.Facts] : Prop :=
  ∀ (m : (ℓ : Loc Cert.SBuX1.nD Cert.SBuX1.τ Cert.SBuX1.sig) → Buf (Elt Bits) ℓ) (g : Dev Cert.SBuX1.nD → PrngReg), Pre_SBuX1 m →
    θ_run (Cert.SBuX1.defs (F := Bits)) (onTc (τ := Cert.SBuX1.τ) (Cert.SBuX1.main (F := Bits))) ⟨m, fun _ => 0, g⟩ (fun r => (∀ c : Dev Cert.SBuX1.nD,
      r.2.mem ((c.tc : Thread Cert.SBuX1.nD Cert.SBuX1.τ).loc Cert.SBuX1.main_arg0) = m ((c.tc : Thread Cert.SBuX1.nD Cert.SBuX1.τ).loc Cert.SBuX1.main_arg0)
      ∧ r.2.mem ((c.tc : Thread Cert.SBuX1.nD Cert.SBuX1.τ).loc Cert.SBuX1.main_arg1) = m ((c.tc : Thread Cert.SBuX1.nD Cert.SBuX1.τ).loc Cert.SBuX1.main_arg1)
      ∧ r.2.mem ((c.tc : Thread Cert.SBuX1.nD Cert.SBuX1.τ).loc Cert.SBuX1.main_arg2) = m ((c.tc : Thread Cert.SBuX1.nD Cert.SBuX1.τ).loc Cert.SBuX1.main_arg2)
      ∧ r.2.mem ((c.tc : Thread Cert.SBuX1.nD Cert.SBuX1.τ).loc Cert.SBuX1.main_arg3) = m ((c.tc : Thread Cert.SBuX1.nD Cert.SBuX1.τ).loc Cert.SBuX1.main_arg3))
      ∧ r.2.sem = fun _ => 0)

def quiescent_SBuX1Ideal [hSBuX1Ideal : Cert.SBuX1Ideal.Facts] : Prop :=
  ∀ (m : (ℓ : Loc Cert.SBuX1Ideal.nD Cert.SBuX1Ideal.τ Cert.SBuX1Ideal.sig) → Buf (Elt Ideal) ℓ) (g : Dev Cert.SBuX1Ideal.nD → PrngReg), Pre_SBuX1Ideal m →
    θ_run (Cert.SBuX1Ideal.defs (F := Ideal)) (onTc (τ := Cert.SBuX1Ideal.τ) (Cert.SBuX1Ideal.main (F := Ideal))) ⟨m, fun _ => 0, g⟩ (fun r => (∀ c : Dev Cert.SBuX1Ideal.nD,
      r.2.mem ((c.tc : Thread Cert.SBuX1Ideal.nD Cert.SBuX1Ideal.τ).loc Cert.SBuX1Ideal.main_arg0) = m ((c.tc : Thread Cert.SBuX1Ideal.nD Cert.SBuX1Ideal.τ).loc Cert.SBuX1Ideal.main_arg0)
      ∧ r.2.mem ((c.tc : Thread Cert.SBuX1Ideal.nD Cert.SBuX1Ideal.τ).loc Cert.SBuX1Ideal.main_arg1) = m ((c.tc : Thread Cert.SBuX1Ideal.nD Cert.SBuX1Ideal.τ).loc Cert.SBuX1Ideal.main_arg1)
      ∧ r.2.mem ((c.tc : Thread Cert.SBuX1Ideal.nD Cert.SBuX1Ideal.τ).loc Cert.SBuX1Ideal.main_arg2) = m ((c.tc : Thread Cert.SBuX1Ideal.nD Cert.SBuX1Ideal.τ).loc Cert.SBuX1Ideal.main_arg2)
      ∧ r.2.mem ((c.tc : Thread Cert.SBuX1Ideal.nD Cert.SBuX1Ideal.τ).loc Cert.SBuX1Ideal.main_arg3) = m ((c.tc : Thread Cert.SBuX1Ideal.nD Cert.SBuX1Ideal.τ).loc Cert.SBuX1Ideal.main_arg3))
      ∧ r.2.sem = fun _ => 0)

def quiescent_SBuX1RefIdeal [hSBuX1RefIdeal : Cert.SBuX1RefIdeal.Facts] : Prop :=
  ∀ (m : (ℓ : Loc Cert.SBuX1RefIdeal.nD Cert.SBuX1RefIdeal.τ Cert.SBuX1RefIdeal.sig) → Buf (Elt Ideal) ℓ) (g : Dev Cert.SBuX1RefIdeal.nD → PrngReg), Pre_SBuX1RefIdeal m →
    θ_run (Cert.SBuX1RefIdeal.defs (F := Ideal)) (onTc (τ := Cert.SBuX1RefIdeal.τ) (Cert.SBuX1RefIdeal.main (F := Ideal))) ⟨m, fun _ => 0, g⟩ (fun r => (∀ c : Dev Cert.SBuX1RefIdeal.nD,
      r.2.mem ((c.tc : Thread Cert.SBuX1RefIdeal.nD Cert.SBuX1RefIdeal.τ).loc Cert.SBuX1RefIdeal.main_arg0) = m ((c.tc : Thread Cert.SBuX1RefIdeal.nD Cert.SBuX1RefIdeal.τ).loc Cert.SBuX1RefIdeal.main_arg0)
      ∧ r.2.mem ((c.tc : Thread Cert.SBuX1RefIdeal.nD Cert.SBuX1RefIdeal.τ).loc Cert.SBuX1RefIdeal.main_arg1) = m ((c.tc : Thread Cert.SBuX1RefIdeal.nD Cert.SBuX1RefIdeal.τ).loc Cert.SBuX1RefIdeal.main_arg1)
      ∧ r.2.mem ((c.tc : Thread Cert.SBuX1RefIdeal.nD Cert.SBuX1RefIdeal.τ).loc Cert.SBuX1RefIdeal.main_arg2) = m ((c.tc : Thread Cert.SBuX1RefIdeal.nD Cert.SBuX1RefIdeal.τ).loc Cert.SBuX1RefIdeal.main_arg2)
      ∧ r.2.mem ((c.tc : Thread Cert.SBuX1RefIdeal.nD Cert.SBuX1RefIdeal.τ).loc Cert.SBuX1RefIdeal.main_arg3) = m ((c.tc : Thread Cert.SBuX1RefIdeal.nD Cert.SBuX1RefIdeal.τ).loc Cert.SBuX1RefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v4) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v5) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1))

def preserves_UpX0_UpX0Ideal : Prop :=
  True

def algebraic_UpX0Ideal_UpX0RefIdeal [hUpX0Ideal : Cert.UpX0Ideal.Facts] [hUpX0RefIdeal : Cert.UpX0RefIdeal.Facts] : Prop :=
  ∀ (m : (ℓ : Loc Cert.UpX0Ideal.nD Cert.UpX0Ideal.τ Cert.UpX0Ideal.sig) → Buf (Elt Ideal) ℓ) (g : Dev Cert.UpX0Ideal.nD → PrngReg)
    (m' : (ℓ : Loc Cert.UpX0RefIdeal.nD Cert.UpX0RefIdeal.τ Cert.UpX0RefIdeal.sig) → Buf (Elt Ideal) ℓ) (g' : Dev Cert.UpX0RefIdeal.nD → PrngReg), Pre_UpX0Ideal m →
    (∀ c : Dev Cert.UpX0Ideal.nD,
      m' ((c.tc : Thread Cert.UpX0RefIdeal.nD Cert.UpX0RefIdeal.τ).loc Cert.UpX0RefIdeal.main_arg0) = m ((c.tc : Thread Cert.UpX0Ideal.nD Cert.UpX0Ideal.τ).loc Cert.UpX0Ideal.main_arg0)
      ∧ m' ((c.tc : Thread Cert.UpX0RefIdeal.nD Cert.UpX0RefIdeal.τ).loc Cert.UpX0RefIdeal.main_arg1) = m ((c.tc : Thread Cert.UpX0Ideal.nD Cert.UpX0Ideal.τ).loc Cert.UpX0Ideal.main_arg1)) →
    ∃ (v0 : (c : Dev Cert.UpX0Ideal.nD) → Buf (Elt Ideal) ((c.tc : Thread Cert.UpX0Ideal.nD Cert.UpX0Ideal.τ).loc Cert.UpX0Ideal.main_v0)),
      θ_run (Cert.UpX0Ideal.defs (F := Ideal)) (onTc (τ := Cert.UpX0Ideal.τ) (Cert.UpX0Ideal.main (F := Ideal))) ⟨m, fun _ => 0, g⟩ (fun r => ∀ c : Dev Cert.UpX0Ideal.nD,
          r.2.mem ((c.tc : Thread Cert.UpX0Ideal.nD Cert.UpX0Ideal.τ).loc Cert.UpX0Ideal.main_v0) = v0 c
          ∧ r.2.mem ((c.tc : Thread Cert.UpX0Ideal.nD Cert.UpX0Ideal.τ).loc Cert.UpX0Ideal.main_arg0) = m ((c.tc : Thread Cert.UpX0Ideal.nD Cert.UpX0Ideal.τ).loc Cert.UpX0Ideal.main_arg0)
          ∧ r.2.mem ((c.tc : Thread Cert.UpX0Ideal.nD Cert.UpX0Ideal.τ).loc Cert.UpX0Ideal.main_arg1) = m ((c.tc : Thread Cert.UpX0Ideal.nD Cert.UpX0Ideal.τ).loc Cert.UpX0Ideal.main_arg1))
      ∧ θ_run (Cert.UpX0RefIdeal.defs (F := Ideal)) (onTc (τ := Cert.UpX0RefIdeal.τ) (Cert.UpX0RefIdeal.main (F := Ideal))) ⟨m', fun _ => 0, g'⟩ (fun r => ∀ c : Dev Cert.UpX0RefIdeal.nD,
          r.2.mem ((c.tc : Thread Cert.UpX0RefIdeal.nD Cert.UpX0RefIdeal.τ).loc Cert.UpX0RefIdeal.main_v4) = v0 c
          ∧ r.2.mem ((c.tc : Thread Cert.UpX0RefIdeal.nD Cert.UpX0RefIdeal.τ).loc Cert.UpX0RefIdeal.main_arg0) = m' ((c.tc : Thread Cert.UpX0RefIdeal.nD Cert.UpX0RefIdeal.τ).loc Cert.UpX0RefIdeal.main_arg0)
          ∧ r.2.mem ((c.tc : Thread Cert.UpX0RefIdeal.nD Cert.UpX0RefIdeal.τ).loc Cert.UpX0RefIdeal.main_arg1) = m' ((c.tc : Thread Cert.UpX0RefIdeal.nD Cert.UpX0RefIdeal.τ).loc Cert.UpX0RefIdeal.main_arg1))

def preserves_UpX1_UpX1Ideal : Prop :=
  True

def algebraic_UpX1Ideal_UpX1RefIdeal [hUpX1Ideal : Cert.UpX1Ideal.Facts] [hUpX1RefIdeal : Cert.UpX1RefIdeal.Facts] : Prop :=
  ∀ (m : (ℓ : Loc Cert.UpX1Ideal.nD Cert.UpX1Ideal.τ Cert.UpX1Ideal.sig) → Buf (Elt Ideal) ℓ) (g : Dev Cert.UpX1Ideal.nD → PrngReg)
    (m' : (ℓ : Loc Cert.UpX1RefIdeal.nD Cert.UpX1RefIdeal.τ Cert.UpX1RefIdeal.sig) → Buf (Elt Ideal) ℓ) (g' : Dev Cert.UpX1RefIdeal.nD → PrngReg), Pre_UpX1Ideal m →
    (∀ c : Dev Cert.UpX1Ideal.nD,
      m' ((c.tc : Thread Cert.UpX1RefIdeal.nD Cert.UpX1RefIdeal.τ).loc Cert.UpX1RefIdeal.main_arg0) = m ((c.tc : Thread Cert.UpX1Ideal.nD Cert.UpX1Ideal.τ).loc Cert.UpX1Ideal.main_arg0)
      ∧ m' ((c.tc : Thread Cert.UpX1RefIdeal.nD Cert.UpX1RefIdeal.τ).loc Cert.UpX1RefIdeal.main_arg1) = m ((c.tc : Thread Cert.UpX1Ideal.nD Cert.UpX1Ideal.τ).loc Cert.UpX1Ideal.main_arg1)
      ∧ m' ((c.tc : Thread Cert.UpX1RefIdeal.nD Cert.UpX1RefIdeal.τ).loc Cert.UpX1RefIdeal.main_arg2) = m ((c.tc : Thread Cert.UpX1Ideal.nD Cert.UpX1Ideal.τ).loc Cert.UpX1Ideal.main_arg2)) →
    ∃ (v0 : (c : Dev Cert.UpX1Ideal.nD) → Buf (Elt Ideal) ((c.tc : Thread Cert.UpX1Ideal.nD Cert.UpX1Ideal.τ).loc Cert.UpX1Ideal.main_v0)),
      θ_run (Cert.UpX1Ideal.defs (F := Ideal)) (onTc (τ := Cert.UpX1Ideal.τ) (Cert.UpX1Ideal.main (F := Ideal))) ⟨m, fun _ => 0, g⟩ (fun r => ∀ c : Dev Cert.UpX1Ideal.nD,
          r.2.mem ((c.tc : Thread Cert.UpX1Ideal.nD Cert.UpX1Ideal.τ).loc Cert.UpX1Ideal.main_v0) = v0 c
          ∧ r.2.mem ((c.tc : Thread Cert.UpX1Ideal.nD Cert.UpX1Ideal.τ).loc Cert.UpX1Ideal.main_arg0) = m ((c.tc : Thread Cert.UpX1Ideal.nD Cert.UpX1Ideal.τ).loc Cert.UpX1Ideal.main_arg0)
          ∧ r.2.mem ((c.tc : Thread Cert.UpX1Ideal.nD Cert.UpX1Ideal.τ).loc Cert.UpX1Ideal.main_arg1) = m ((c.tc : Thread Cert.UpX1Ideal.nD Cert.UpX1Ideal.τ).loc Cert.UpX1Ideal.main_arg1)
          ∧ r.2.mem ((c.tc : Thread Cert.UpX1Ideal.nD Cert.UpX1Ideal.τ).loc Cert.UpX1Ideal.main_arg2) = m ((c.tc : Thread Cert.UpX1Ideal.nD Cert.UpX1Ideal.τ).loc Cert.UpX1Ideal.main_arg2))
      ∧ θ_run (Cert.UpX1RefIdeal.defs (F := Ideal)) (onTc (τ := Cert.UpX1RefIdeal.τ) (Cert.UpX1RefIdeal.main (F := Ideal))) ⟨m', fun _ => 0, g'⟩ (fun r => ∀ c : Dev Cert.UpX1RefIdeal.nD,
          r.2.mem ((c.tc : Thread Cert.UpX1RefIdeal.nD Cert.UpX1RefIdeal.τ).loc Cert.UpX1RefIdeal.main_v5) = v0 c
          ∧ r.2.mem ((c.tc : Thread Cert.UpX1RefIdeal.nD Cert.UpX1RefIdeal.τ).loc Cert.UpX1RefIdeal.main_arg0) = m' ((c.tc : Thread Cert.UpX1RefIdeal.nD Cert.UpX1RefIdeal.τ).loc Cert.UpX1RefIdeal.main_arg0)
          ∧ r.2.mem ((c.tc : Thread Cert.UpX1RefIdeal.nD Cert.UpX1RefIdeal.τ).loc Cert.UpX1RefIdeal.main_arg1) = m' ((c.tc : Thread Cert.UpX1RefIdeal.nD Cert.UpX1RefIdeal.τ).loc Cert.UpX1RefIdeal.main_arg1)
          ∧ r.2.mem ((c.tc : Thread Cert.UpX1RefIdeal.nD Cert.UpX1RefIdeal.τ).loc Cert.UpX1RefIdeal.main_arg2) = m' ((c.tc : Thread Cert.UpX1RefIdeal.nD Cert.UpX1RefIdeal.τ).loc Cert.UpX1RefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v4) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v3) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v4) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v3) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v4) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_KvX_KvXIdeal : Prop :=
  True

def algebraic_KvXIdeal_KvXRefIdeal [hKvXIdeal : Cert.KvXIdeal.Facts] [hKvXRefIdeal : Cert.KvXRefIdeal.Facts] : Prop :=
  ∀ (m : (ℓ : Loc Cert.KvXIdeal.nD Cert.KvXIdeal.τ Cert.KvXIdeal.sig) → Buf (Elt Ideal) ℓ) (g : Dev Cert.KvXIdeal.nD → PrngReg)
    (m' : (ℓ : Loc Cert.KvXRefIdeal.nD Cert.KvXRefIdeal.τ Cert.KvXRefIdeal.sig) → Buf (Elt Ideal) ℓ) (g' : Dev Cert.KvXRefIdeal.nD → PrngReg), Pre_KvXIdeal m →
    (∀ c : Dev Cert.KvXIdeal.nD,
      m' ((c.tc : Thread Cert.KvXRefIdeal.nD Cert.KvXRefIdeal.τ).loc Cert.KvXRefIdeal.main_arg0) = m ((c.tc : Thread Cert.KvXIdeal.nD Cert.KvXIdeal.τ).loc Cert.KvXIdeal.main_arg0)
      ∧ m' ((c.tc : Thread Cert.KvXRefIdeal.nD Cert.KvXRefIdeal.τ).loc Cert.KvXRefIdeal.main_arg1) = m ((c.tc : Thread Cert.KvXIdeal.nD Cert.KvXIdeal.τ).loc Cert.KvXIdeal.main_arg1)) →
    ∃ (v0 : (c : Dev Cert.KvXIdeal.nD) → Buf (Elt Ideal) ((c.tc : Thread Cert.KvXIdeal.nD Cert.KvXIdeal.τ).loc Cert.KvXIdeal.main_v0)),
      θ_run (Cert.KvXIdeal.defs (F := Ideal)) (onTc (τ := Cert.KvXIdeal.τ) (Cert.KvXIdeal.main (F := Ideal))) ⟨m, fun _ => 0, g⟩ (fun r => ∀ c : Dev Cert.KvXIdeal.nD,
          r.2.mem ((c.tc : Thread Cert.KvXIdeal.nD Cert.KvXIdeal.τ).loc Cert.KvXIdeal.main_v0) = v0 c
          ∧ r.2.mem ((c.tc : Thread Cert.KvXIdeal.nD Cert.KvXIdeal.τ).loc Cert.KvXIdeal.main_arg0) = m ((c.tc : Thread Cert.KvXIdeal.nD Cert.KvXIdeal.τ).loc Cert.KvXIdeal.main_arg0)
          ∧ r.2.mem ((c.tc : Thread Cert.KvXIdeal.nD Cert.KvXIdeal.τ).loc Cert.KvXIdeal.main_arg1) = m ((c.tc : Thread Cert.KvXIdeal.nD Cert.KvXIdeal.τ).loc Cert.KvXIdeal.main_arg1))
      ∧ θ_run (Cert.KvXRefIdeal.defs (F := Ideal)) (onTc (τ := Cert.KvXRefIdeal.τ) (Cert.KvXRefIdeal.main (F := Ideal))) ⟨m', fun _ => 0, g'⟩ (fun r => ∀ c : Dev Cert.KvXRefIdeal.nD,
          r.2.mem ((c.tc : Thread Cert.KvXRefIdeal.nD Cert.KvXRefIdeal.τ).loc Cert.KvXRefIdeal.main_v3) = v0 c
          ∧ r.2.mem ((c.tc : Thread Cert.KvXRefIdeal.nD Cert.KvXRefIdeal.τ).loc Cert.KvXRefIdeal.main_arg0) = m' ((c.tc : Thread Cert.KvXRefIdeal.nD Cert.KvXRefIdeal.τ).loc Cert.KvXRefIdeal.main_arg0)
          ∧ r.2.mem ((c.tc : Thread Cert.KvXRefIdeal.nD Cert.KvXRefIdeal.τ).loc Cert.KvXRefIdeal.main_arg1) = m' ((c.tc : Thread Cert.KvXRefIdeal.nD Cert.KvXRefIdeal.τ).loc Cert.KvXRefIdeal.main_arg1))

def preserves_KvW_KvWIdeal : Prop :=
  True

def algebraic_KvWIdeal_KvWRefIdeal [hKvWIdeal : Cert.KvWIdeal.Facts] [hKvWRefIdeal : Cert.KvWRefIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWRefIdeal.nD Cert.KvWRefIdeal.τ Cert.KvWRefIdeal.sig) → Buf (Elt Ideal) ℓ) (g' : Dev Cert.KvWRefIdeal.nD → PrngReg), Pre_KvWIdeal m →
    (∀ c : Dev Cert.KvWIdeal.nD,
      m' ((c.tc : Thread Cert.KvWRefIdeal.nD Cert.KvWRefIdeal.τ).loc Cert.KvWRefIdeal.main_arg0) = m ((c.tc : Thread Cert.KvWIdeal.nD Cert.KvWIdeal.τ).loc Cert.KvWIdeal.main_arg0)
      ∧ m' ((c.tc : Thread Cert.KvWRefIdeal.nD Cert.KvWRefIdeal.τ).loc Cert.KvWRefIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v0)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v0) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWRefIdeal.defs (F := Ideal)) (onTc (τ := Cert.KvWRefIdeal.τ) (Cert.KvWRefIdeal.main (F := Ideal))) ⟨m', fun _ => 0, g'⟩ (fun r => ∀ c : Dev Cert.KvWRefIdeal.nD,
          r.2.mem ((c.tc : Thread Cert.KvWRefIdeal.nD Cert.KvWRefIdeal.τ).loc Cert.KvWRefIdeal.main_v4) = v0 c
          ∧ r.2.mem ((c.tc : Thread Cert.KvWRefIdeal.nD Cert.KvWRefIdeal.τ).loc Cert.KvWRefIdeal.main_arg0) = m' ((c.tc : Thread Cert.KvWRefIdeal.nD Cert.KvWRefIdeal.τ).loc Cert.KvWRefIdeal.main_arg0)
          ∧ r.2.mem ((c.tc : Thread Cert.KvWRefIdeal.nD Cert.KvWRefIdeal.τ).loc Cert.KvWRefIdeal.main_arg1) = m' ((c.tc : Thread Cert.KvWRefIdeal.nD Cert.KvWRefIdeal.τ).loc Cert.KvWRefIdeal.main_arg1))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)) →
    ∃ (v0 : (c : Dev Cert.InFIdeal.nD) → Buf (Elt Ideal) ((c.tc : Thread Cert.InFIdeal.nD Cert.InFIdeal.τ).loc Cert.InFIdeal.main_v0)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v0) = v0 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v2) = v0 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v0)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v0) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v2) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)) →
    ∃ (v0 : (c : Dev Cert.DownFIdeal.nD) → Buf (Elt Ideal) ((c.tc : Thread Cert.DownFIdeal.nD Cert.DownFIdeal.τ).loc Cert.DownFIdeal.main_v0)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v0) = v0 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v3) = v0 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)) →
    ∃ (v0 : (c : Dev Cert.OutFIdeal.nD) → Buf (Elt Ideal) ((c.tc : Thread Cert.OutFIdeal.nD Cert.OutFIdeal.τ).loc Cert.OutFIdeal.main_v0)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v0) = v0 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v3) = v0 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2))

def preserves_QF_QFIdeal : Prop :=
  True

def algebraic_QFIdeal_QFRefIdeal [hQFIdeal : Cert.QFIdeal.Facts] [hQFRefIdeal : Cert.QFRefIdeal.Facts] : Prop :=
  ∀ (m : (ℓ : Loc Cert.QFIdeal.nD Cert.QFIdeal.τ Cert.QFIdeal.sig) → Buf (Elt Ideal) ℓ) (g : Dev Cert.QFIdeal.nD → PrngReg)
    (m' : (ℓ : Loc Cert.QFRefIdeal.nD Cert.QFRefIdeal.τ Cert.QFRefIdeal.sig) → Buf (Elt Ideal) ℓ) (g' : Dev Cert.QFRefIdeal.nD → PrngReg), Pre_QFIdeal m →
    (∀ c : Dev Cert.QFIdeal.nD,
      m' ((c.tc : Thread Cert.QFRefIdeal.nD Cert.QFRefIdeal.τ).loc Cert.QFRefIdeal.main_arg0) = m ((c.tc : Thread Cert.QFIdeal.nD Cert.QFIdeal.τ).loc Cert.QFIdeal.main_arg0)
      ∧ m' ((c.tc : Thread Cert.QFRefIdeal.nD Cert.QFRefIdeal.τ).loc Cert.QFRefIdeal.main_arg1) = m ((c.tc : Thread Cert.QFIdeal.nD Cert.QFIdeal.τ).loc Cert.QFIdeal.main_arg1)) →
    ∃ (v0 : (c : Dev Cert.QFIdeal.nD) → Buf (Elt Ideal) ((c.tc : Thread Cert.QFIdeal.nD Cert.QFIdeal.τ).loc Cert.QFIdeal.main_v0)),
      θ_run (Cert.QFIdeal.defs (F := Ideal)) (onTc (τ := Cert.QFIdeal.τ) (Cert.QFIdeal.main (F := Ideal))) ⟨m, fun _ => 0, g⟩ (fun r => ∀ c : Dev Cert.QFIdeal.nD,
          r.2.mem ((c.tc : Thread Cert.QFIdeal.nD Cert.QFIdeal.τ).loc Cert.QFIdeal.main_v0) = v0 c
          ∧ r.2.mem ((c.tc : Thread Cert.QFIdeal.nD Cert.QFIdeal.τ).loc Cert.QFIdeal.main_arg0) = m ((c.tc : Thread Cert.QFIdeal.nD Cert.QFIdeal.τ).loc Cert.QFIdeal.main_arg0)
          ∧ r.2.mem ((c.tc : Thread Cert.QFIdeal.nD Cert.QFIdeal.τ).loc Cert.QFIdeal.main_arg1) = m ((c.tc : Thread Cert.QFIdeal.nD Cert.QFIdeal.τ).loc Cert.QFIdeal.main_arg1))
      ∧ θ_run (Cert.QFRefIdeal.defs (F := Ideal)) (onTc (τ := Cert.QFRefIdeal.τ) (Cert.QFRefIdeal.main (F := Ideal))) ⟨m', fun _ => 0, g'⟩ (fun r => ∀ c : Dev Cert.QFRefIdeal.nD,
          r.2.mem ((c.tc : Thread Cert.QFRefIdeal.nD Cert.QFRefIdeal.τ).loc Cert.QFRefIdeal.main_v3) = v0 c
          ∧ r.2.mem ((c.tc : Thread Cert.QFRefIdeal.nD Cert.QFRefIdeal.τ).loc Cert.QFRefIdeal.main_arg0) = m' ((c.tc : Thread Cert.QFRefIdeal.nD Cert.QFRefIdeal.τ).loc Cert.QFRefIdeal.main_arg0)
          ∧ r.2.mem ((c.tc : Thread Cert.QFRefIdeal.nD Cert.QFRefIdeal.τ).loc Cert.QFRefIdeal.main_arg1) = m' ((c.tc : Thread Cert.QFRefIdeal.nD Cert.QFRefIdeal.τ).loc Cert.QFRefIdeal.main_arg1))

def preserves_KvF_KvFIdeal : Prop :=
  True

def algebraic_KvFIdeal_KvFRefIdeal [hKvFIdeal : Cert.KvFIdeal.Facts] [hKvFRefIdeal : Cert.KvFRefIdeal.Facts] : Prop :=
  ∀ (m : (ℓ : Loc Cert.KvFIdeal.nD Cert.KvFIdeal.τ Cert.KvFIdeal.sig) → Buf (Elt Ideal) ℓ) (g : Dev Cert.KvFIdeal.nD → PrngReg)
    (m' : (ℓ : Loc Cert.KvFRefIdeal.nD Cert.KvFRefIdeal.τ Cert.KvFRefIdeal.sig) → Buf (Elt Ideal) ℓ) (g' : Dev Cert.KvFRefIdeal.nD → PrngReg), Pre_KvFIdeal m →
    (∀ c : Dev Cert.KvFIdeal.nD,
      m' ((c.tc : Thread Cert.KvFRefIdeal.nD Cert.KvFRefIdeal.τ).loc Cert.KvFRefIdeal.main_arg0) = m ((c.tc : Thread Cert.KvFIdeal.nD Cert.KvFIdeal.τ).loc Cert.KvFIdeal.main_arg0)
      ∧ m' ((c.tc : Thread Cert.KvFRefIdeal.nD Cert.KvFRefIdeal.τ).loc Cert.KvFRefIdeal.main_arg1) = m ((c.tc : Thread Cert.KvFIdeal.nD Cert.KvFIdeal.τ).loc Cert.KvFIdeal.main_arg1)) →
    ∃ (v0 : (c : Dev Cert.KvFIdeal.nD) → Buf (Elt Ideal) ((c.tc : Thread Cert.KvFIdeal.nD Cert.KvFIdeal.τ).loc Cert.KvFIdeal.main_v0)),
      θ_run (Cert.KvFIdeal.defs (F := Ideal)) (onTc (τ := Cert.KvFIdeal.τ) (Cert.KvFIdeal.main (F := Ideal))) ⟨m, fun _ => 0, g⟩ (fun r => ∀ c : Dev Cert.KvFIdeal.nD,
          r.2.mem ((c.tc : Thread Cert.KvFIdeal.nD Cert.KvFIdeal.τ).loc Cert.KvFIdeal.main_v0) = v0 c
          ∧ r.2.mem ((c.tc : Thread Cert.KvFIdeal.nD Cert.KvFIdeal.τ).loc Cert.KvFIdeal.main_arg0) = m ((c.tc : Thread Cert.KvFIdeal.nD Cert.KvFIdeal.τ).loc Cert.KvFIdeal.main_arg0)
          ∧ r.2.mem ((c.tc : Thread Cert.KvFIdeal.nD Cert.KvFIdeal.τ).loc Cert.KvFIdeal.main_arg1) = m ((c.tc : Thread Cert.KvFIdeal.nD Cert.KvFIdeal.τ).loc Cert.KvFIdeal.main_arg1))
      ∧ θ_run (Cert.KvFRefIdeal.defs (F := Ideal)) (onTc (τ := Cert.KvFRefIdeal.τ) (Cert.KvFRefIdeal.main (F := Ideal))) ⟨m', fun _ => 0, g'⟩ (fun r => ∀ c : Dev Cert.KvFRefIdeal.nD,
          r.2.mem ((c.tc : Thread Cert.KvFRefIdeal.nD Cert.KvFRefIdeal.τ).loc Cert.KvFRefIdeal.main_v2) = v0 c
          ∧ r.2.mem ((c.tc : Thread Cert.KvFRefIdeal.nD Cert.KvFRefIdeal.τ).loc Cert.KvFRefIdeal.main_arg0) = m' ((c.tc : Thread Cert.KvFRefIdeal.nD Cert.KvFRefIdeal.τ).loc Cert.KvFRefIdeal.main_arg0)
          ∧ r.2.mem ((c.tc : Thread Cert.KvFRefIdeal.nD Cert.KvFRefIdeal.τ).loc Cert.KvFRefIdeal.main_arg1) = m' ((c.tc : Thread Cert.KvFRefIdeal.nD Cert.KvFRefIdeal.τ).loc Cert.KvFRefIdeal.main_arg1))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)
      ∧ m' ((c.tc : Thread Cert.MergeFRefIdeal.nD Cert.MergeFRefIdeal.τ).loc Cert.MergeFRefIdeal.main_arg3) = m ((c.tc : Thread Cert.MergeFIdeal.nD Cert.MergeFIdeal.τ).loc Cert.MergeFIdeal.main_arg3)
      ∧ m' ((c.tc : Thread Cert.MergeFRefIdeal.nD Cert.MergeFRefIdeal.τ).loc Cert.MergeFRefIdeal.main_arg4) = m ((c.tc : Thread Cert.MergeFIdeal.nD Cert.MergeFIdeal.τ).loc Cert.MergeFIdeal.main_arg4)
      ∧ m' ((c.tc : Thread Cert.MergeFRefIdeal.nD Cert.MergeFRefIdeal.τ).loc Cert.MergeFRefIdeal.main_arg5) = m ((c.tc : Thread Cert.MergeFIdeal.nD Cert.MergeFIdeal.τ).loc Cert.MergeFIdeal.main_arg5)
      ∧ m' ((c.tc : Thread Cert.MergeFRefIdeal.nD Cert.MergeFRefIdeal.τ).loc Cert.MergeFRefIdeal.main_arg6) = m ((c.tc : Thread Cert.MergeFIdeal.nD Cert.MergeFIdeal.τ).loc Cert.MergeFIdeal.main_arg6)
      ∧ m' ((c.tc : Thread Cert.MergeFRefIdeal.nD Cert.MergeFRefIdeal.τ).loc Cert.MergeFRefIdeal.main_arg7) = m ((c.tc : Thread Cert.MergeFIdeal.nD Cert.MergeFIdeal.τ).loc Cert.MergeFIdeal.main_arg7)
      ∧ m' ((c.tc : Thread Cert.MergeFRefIdeal.nD Cert.MergeFRefIdeal.τ).loc Cert.MergeFRefIdeal.main_arg8) = m ((c.tc : Thread Cert.MergeFIdeal.nD Cert.MergeFIdeal.τ).loc Cert.MergeFIdeal.main_arg8)
      ∧ m' ((c.tc : Thread Cert.MergeFRefIdeal.nD Cert.MergeFRefIdeal.τ).loc Cert.MergeFRefIdeal.main_arg9) = m ((c.tc : Thread Cert.MergeFIdeal.nD Cert.MergeFIdeal.τ).loc Cert.MergeFIdeal.main_arg9)) →
    ∃ (v0 : (c : Dev Cert.MergeFIdeal.nD) → Buf (Elt Ideal) ((c.tc : Thread Cert.MergeFIdeal.nD Cert.MergeFIdeal.τ).loc Cert.MergeFIdeal.main_v0)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v0) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
          ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
          ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5)
          ∧ r.2.mem ((c.tc : Thread Cert.MergeFIdeal.nD Cert.MergeFIdeal.τ).loc Cert.MergeFIdeal.main_arg6) = m ((c.tc : Thread Cert.MergeFIdeal.nD Cert.MergeFIdeal.τ).loc Cert.MergeFIdeal.main_arg6)
          ∧ r.2.mem ((c.tc : Thread Cert.MergeFIdeal.nD Cert.MergeFIdeal.τ).loc Cert.MergeFIdeal.main_arg7) = m ((c.tc : Thread Cert.MergeFIdeal.nD Cert.MergeFIdeal.τ).loc Cert.MergeFIdeal.main_arg7)
          ∧ r.2.mem ((c.tc : Thread Cert.MergeFIdeal.nD Cert.MergeFIdeal.τ).loc Cert.MergeFIdeal.main_arg8) = m ((c.tc : Thread Cert.MergeFIdeal.nD Cert.MergeFIdeal.τ).loc Cert.MergeFIdeal.main_arg8)
          ∧ r.2.mem ((c.tc : Thread Cert.MergeFIdeal.nD Cert.MergeFIdeal.τ).loc Cert.MergeFIdeal.main_arg9) = m ((c.tc : Thread Cert.MergeFIdeal.nD Cert.MergeFIdeal.τ).loc Cert.MergeFIdeal.main_arg9))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v50) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2)
          ∧ r.2.mem ((c.tc : Thread Cert.MergeFRefIdeal.nD Cert.MergeFRefIdeal.τ).loc Cert.MergeFRefIdeal.main_arg3) = m' ((c.tc : Thread Cert.MergeFRefIdeal.nD Cert.MergeFRefIdeal.τ).loc Cert.MergeFRefIdeal.main_arg3)
          ∧ r.2.mem ((c.tc : Thread Cert.MergeFRefIdeal.nD Cert.MergeFRefIdeal.τ).loc Cert.MergeFRefIdeal.main_arg4) = m' ((c.tc : Thread Cert.MergeFRefIdeal.nD Cert.MergeFRefIdeal.τ).loc Cert.MergeFRefIdeal.main_arg4)
          ∧ r.2.mem ((c.tc : Thread Cert.MergeFRefIdeal.nD Cert.MergeFRefIdeal.τ).loc Cert.MergeFRefIdeal.main_arg5) = m' ((c.tc : Thread Cert.MergeFRefIdeal.nD Cert.MergeFRefIdeal.τ).loc Cert.MergeFRefIdeal.main_arg5)
          ∧ r.2.mem ((c.tc : Thread Cert.MergeFRefIdeal.nD Cert.MergeFRefIdeal.τ).loc Cert.MergeFRefIdeal.main_arg6) = m' ((c.tc : Thread Cert.MergeFRefIdeal.nD Cert.MergeFRefIdeal.τ).loc Cert.MergeFRefIdeal.main_arg6)
          ∧ r.2.mem ((c.tc : Thread Cert.MergeFRefIdeal.nD Cert.MergeFRefIdeal.τ).loc Cert.MergeFRefIdeal.main_arg7) = m' ((c.tc : Thread Cert.MergeFRefIdeal.nD Cert.MergeFRefIdeal.τ).loc Cert.MergeFRefIdeal.main_arg7)
          ∧ r.2.mem ((c.tc : Thread Cert.MergeFRefIdeal.nD Cert.MergeFRefIdeal.τ).loc Cert.MergeFRefIdeal.main_arg8) = m' ((c.tc : Thread Cert.MergeFRefIdeal.nD Cert.MergeFRefIdeal.τ).loc Cert.MergeFRefIdeal.main_arg8)
          ∧ r.2.mem ((c.tc : Thread Cert.MergeFRefIdeal.nD Cert.MergeFRefIdeal.τ).loc Cert.MergeFRefIdeal.main_arg9) = m' ((c.tc : Thread Cert.MergeFRefIdeal.nD Cert.MergeFRefIdeal.τ).loc Cert.MergeFRefIdeal.main_arg9))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)
      ∧ m' ((c.tc : Thread Cert.MergeBRefIdeal.nD Cert.MergeBRefIdeal.τ).loc Cert.MergeBRefIdeal.main_arg4) = m ((c.tc : Thread Cert.MergeBIdeal.nD Cert.MergeBIdeal.τ).loc Cert.MergeBIdeal.main_arg4)
      ∧ m' ((c.tc : Thread Cert.MergeBRefIdeal.nD Cert.MergeBRefIdeal.τ).loc Cert.MergeBRefIdeal.main_arg5) = m ((c.tc : Thread Cert.MergeBIdeal.nD Cert.MergeBIdeal.τ).loc Cert.MergeBIdeal.main_arg5)
      ∧ m' ((c.tc : Thread Cert.MergeBRefIdeal.nD Cert.MergeBRefIdeal.τ).loc Cert.MergeBRefIdeal.main_arg6) = m ((c.tc : Thread Cert.MergeBIdeal.nD Cert.MergeBIdeal.τ).loc Cert.MergeBIdeal.main_arg6)
      ∧ m' ((c.tc : Thread Cert.MergeBRefIdeal.nD Cert.MergeBRefIdeal.τ).loc Cert.MergeBRefIdeal.main_arg7) = m ((c.tc : Thread Cert.MergeBIdeal.nD Cert.MergeBIdeal.τ).loc Cert.MergeBIdeal.main_arg7)
      ∧ m' ((c.tc : Thread Cert.MergeBRefIdeal.nD Cert.MergeBRefIdeal.τ).loc Cert.MergeBRefIdeal.main_arg8) = m ((c.tc : Thread Cert.MergeBIdeal.nD Cert.MergeBIdeal.τ).loc Cert.MergeBIdeal.main_arg8)
      ∧ m' ((c.tc : Thread Cert.MergeBRefIdeal.nD Cert.MergeBRefIdeal.τ).loc Cert.MergeBRefIdeal.main_arg9) = m ((c.tc : Thread Cert.MergeBIdeal.nD Cert.MergeBIdeal.τ).loc Cert.MergeBIdeal.main_arg9)
      ∧ m' ((c.tc : Thread Cert.MergeBRefIdeal.nD Cert.MergeBRefIdeal.τ).loc Cert.MergeBRefIdeal.main_arg10) = m ((c.tc : Thread Cert.MergeBIdeal.nD Cert.MergeBIdeal.τ).loc Cert.MergeBIdeal.main_arg10)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)) (v3 : (c : Dev Cert.MergeBIdeal.nD) → Buf (Elt Ideal) ((c.tc : Thread Cert.MergeBIdeal.nD Cert.MergeBIdeal.τ).loc Cert.MergeBIdeal.main_v0_3)) (v4 : (c : Dev Cert.MergeBIdeal.nD) → Buf (Elt Ideal) ((c.tc : Thread Cert.MergeBIdeal.nD Cert.MergeBIdeal.τ).loc Cert.MergeBIdeal.main_v0_4)) (v5 : (c : Dev Cert.MergeBIdeal.nD) → Buf (Elt Ideal) ((c.tc : Thread Cert.MergeBIdeal.nD Cert.MergeBIdeal.τ).loc Cert.MergeBIdeal.main_v0_5)) (v6 : (c : Dev Cert.MergeBIdeal.nD) → Buf (Elt Ideal) ((c.tc : Thread Cert.MergeBIdeal.nD Cert.MergeBIdeal.τ).loc Cert.MergeBIdeal.main_v0_6)) (v7 : (c : Dev Cert.MergeBIdeal.nD) → Buf (Elt Ideal) ((c.tc : Thread Cert.MergeBIdeal.nD Cert.MergeBIdeal.τ).loc Cert.MergeBIdeal.main_v0_7)) (v8 : (c : Dev Cert.MergeBIdeal.nD) → Buf (Elt Ideal) ((c.tc : Thread Cert.MergeBIdeal.nD Cert.MergeBIdeal.τ).loc Cert.MergeBIdeal.main_v0_8)) (v9 : (c : Dev Cert.MergeBIdeal.nD) → Buf (Elt Ideal) ((c.tc : Thread Cert.MergeBIdeal.nD Cert.MergeBIdeal.τ).loc Cert.MergeBIdeal.main_v0_9)) (v10 : (c : Dev Cert.MergeBIdeal.nD) → Buf (Elt Ideal) ((c.tc : Thread Cert.MergeBIdeal.nD Cert.MergeBIdeal.τ).loc Cert.MergeBIdeal.main_v0_10)) (v11 : (c : Dev Cert.MergeBIdeal.nD) → Buf (Elt Ideal) ((c.tc : Thread Cert.MergeBIdeal.nD Cert.MergeBIdeal.τ).loc Cert.MergeBIdeal.main_v0_11)) (v12 : (c : Dev Cert.MergeBIdeal.nD) → Buf (Elt Ideal) ((c.tc : Thread Cert.MergeBIdeal.nD Cert.MergeBIdeal.τ).loc Cert.MergeBIdeal.main_v0_12)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_v0_3) = v3 c
          ∧ r.2.mem ((c.tc : Thread Cert.MergeBIdeal.nD Cert.MergeBIdeal.τ).loc Cert.MergeBIdeal.main_v0_4) = v4 c
          ∧ r.2.mem ((c.tc : Thread Cert.MergeBIdeal.nD Cert.MergeBIdeal.τ).loc Cert.MergeBIdeal.main_v0_5) = v5 c
          ∧ r.2.mem ((c.tc : Thread Cert.MergeBIdeal.nD Cert.MergeBIdeal.τ).loc Cert.MergeBIdeal.main_v0_6) = v6 c
          ∧ r.2.mem ((c.tc : Thread Cert.MergeBIdeal.nD Cert.MergeBIdeal.τ).loc Cert.MergeBIdeal.main_v0_7) = v7 c
          ∧ r.2.mem ((c.tc : Thread Cert.MergeBIdeal.nD Cert.MergeBIdeal.τ).loc Cert.MergeBIdeal.main_v0_8) = v8 c
          ∧ r.2.mem ((c.tc : Thread Cert.MergeBIdeal.nD Cert.MergeBIdeal.τ).loc Cert.MergeBIdeal.main_v0_9) = v9 c
          ∧ r.2.mem ((c.tc : Thread Cert.MergeBIdeal.nD Cert.MergeBIdeal.τ).loc Cert.MergeBIdeal.main_v0_10) = v10 c
          ∧ r.2.mem ((c.tc : Thread Cert.MergeBIdeal.nD Cert.MergeBIdeal.τ).loc Cert.MergeBIdeal.main_v0_11) = v11 c
          ∧ r.2.mem ((c.tc : Thread Cert.MergeBIdeal.nD Cert.MergeBIdeal.τ).loc Cert.MergeBIdeal.main_v0_12) = v12 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
          ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
          ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
          ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6)
          ∧ r.2.mem ((c.tc : Thread Cert.MergeBIdeal.nD Cert.MergeBIdeal.τ).loc Cert.MergeBIdeal.main_arg7) = m ((c.tc : Thread Cert.MergeBIdeal.nD Cert.MergeBIdeal.τ).loc Cert.MergeBIdeal.main_arg7)
          ∧ r.2.mem ((c.tc : Thread Cert.MergeBIdeal.nD Cert.MergeBIdeal.τ).loc Cert.MergeBIdeal.main_arg8) = m ((c.tc : Thread Cert.MergeBIdeal.nD Cert.MergeBIdeal.τ).loc Cert.MergeBIdeal.main_arg8)
          ∧ r.2.mem ((c.tc : Thread Cert.MergeBIdeal.nD Cert.MergeBIdeal.τ).loc Cert.MergeBIdeal.main_arg9) = m ((c.tc : Thread Cert.MergeBIdeal.nD Cert.MergeBIdeal.τ).loc Cert.MergeBIdeal.main_arg9)
          ∧ r.2.mem ((c.tc : Thread Cert.MergeBIdeal.nD Cert.MergeBIdeal.τ).loc Cert.MergeBIdeal.main_arg10) = m ((c.tc : Thread Cert.MergeBIdeal.nD Cert.MergeBIdeal.τ).loc Cert.MergeBIdeal.main_arg10))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v91) = v0 c
          ∧ r.2.mem ((c.tc : Thread Cert.MergeBRefIdeal.nD Cert.MergeBRefIdeal.τ).loc Cert.MergeBRefIdeal.main_v108) = v1 c
          ∧ r.2.mem ((c.tc : Thread Cert.MergeBRefIdeal.nD Cert.MergeBRefIdeal.τ).loc Cert.MergeBRefIdeal.main_v78) = v2 c
          ∧ r.2.mem ((c.tc : Thread Cert.MergeBRefIdeal.nD Cert.MergeBRefIdeal.τ).loc Cert.MergeBRefIdeal.main_v70) = v3 c
          ∧ r.2.mem ((c.tc : Thread Cert.MergeBRefIdeal.nD Cert.MergeBRefIdeal.τ).loc Cert.MergeBRefIdeal.main_v87) = v4 c
          ∧ r.2.mem ((c.tc : Thread Cert.MergeBRefIdeal.nD Cert.MergeBRefIdeal.τ).loc Cert.MergeBRefIdeal.main_v79) = v5 c
          ∧ r.2.mem ((c.tc : Thread Cert.MergeBRefIdeal.nD Cert.MergeBRefIdeal.τ).loc Cert.MergeBRefIdeal.main_v71) = v6 c
          ∧ r.2.mem ((c.tc : Thread Cert.MergeBRefIdeal.nD Cert.MergeBRefIdeal.τ).loc Cert.MergeBRefIdeal.main_v85) = v7 c
          ∧ r.2.mem ((c.tc : Thread Cert.MergeBRefIdeal.nD Cert.MergeBRefIdeal.τ).loc Cert.MergeBRefIdeal.main_v77) = v8 c
          ∧ r.2.mem ((c.tc : Thread Cert.MergeBRefIdeal.nD Cert.MergeBRefIdeal.τ).loc Cert.MergeBRefIdeal.main_v69) = v9 c
          ∧ r.2.mem ((c.tc : Thread Cert.MergeBRefIdeal.nD Cert.MergeBRefIdeal.τ).loc Cert.MergeBRefIdeal.main_v89) = v10 c
          ∧ r.2.mem ((c.tc : Thread Cert.MergeBRefIdeal.nD Cert.MergeBRefIdeal.τ).loc Cert.MergeBRefIdeal.main_v81) = v11 c
          ∧ r.2.mem ((c.tc : Thread Cert.MergeBRefIdeal.nD Cert.MergeBRefIdeal.τ).loc Cert.MergeBRefIdeal.main_v73) = v12 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3)
          ∧ r.2.mem ((c.tc : Thread Cert.MergeBRefIdeal.nD Cert.MergeBRefIdeal.τ).loc Cert.MergeBRefIdeal.main_arg4) = m' ((c.tc : Thread Cert.MergeBRefIdeal.nD Cert.MergeBRefIdeal.τ).loc Cert.MergeBRefIdeal.main_arg4)
          ∧ r.2.mem ((c.tc : Thread Cert.MergeBRefIdeal.nD Cert.MergeBRefIdeal.τ).loc Cert.MergeBRefIdeal.main_arg5) = m' ((c.tc : Thread Cert.MergeBRefIdeal.nD Cert.MergeBRefIdeal.τ).loc Cert.MergeBRefIdeal.main_arg5)
          ∧ r.2.mem ((c.tc : Thread Cert.MergeBRefIdeal.nD Cert.MergeBRefIdeal.τ).loc Cert.MergeBRefIdeal.main_arg6) = m' ((c.tc : Thread Cert.MergeBRefIdeal.nD Cert.MergeBRefIdeal.τ).loc Cert.MergeBRefIdeal.main_arg6)
          ∧ r.2.mem ((c.tc : Thread Cert.MergeBRefIdeal.nD Cert.MergeBRefIdeal.τ).loc Cert.MergeBRefIdeal.main_arg7) = m' ((c.tc : Thread Cert.MergeBRefIdeal.nD Cert.MergeBRefIdeal.τ).loc Cert.MergeBRefIdeal.main_arg7)
          ∧ r.2.mem ((c.tc : Thread Cert.MergeBRefIdeal.nD Cert.MergeBRefIdeal.τ).loc Cert.MergeBRefIdeal.main_arg8) = m' ((c.tc : Thread Cert.MergeBRefIdeal.nD Cert.MergeBRefIdeal.τ).loc Cert.MergeBRefIdeal.main_arg8)
          ∧ r.2.mem ((c.tc : Thread Cert.MergeBRefIdeal.nD Cert.MergeBRefIdeal.τ).loc Cert.MergeBRefIdeal.main_arg9) = m' ((c.tc : Thread Cert.MergeBRefIdeal.nD Cert.MergeBRefIdeal.τ).loc Cert.MergeBRefIdeal.main_arg9)
          ∧ r.2.mem ((c.tc : Thread Cert.MergeBRefIdeal.nD Cert.MergeBRefIdeal.τ).loc Cert.MergeBRefIdeal.main_arg10) = m' ((c.tc : Thread Cert.MergeBRefIdeal.nD Cert.MergeBRefIdeal.τ).loc Cert.MergeBRefIdeal.main_arg10))

def preserves_AttnF_AttnFIdeal : Prop :=
  True

def algebraic_AttnFIdeal_AttnFRefIdeal [hAttnFIdeal : Cert.AttnFIdeal.Facts] [hAttnFRefIdeal : Cert.AttnFRefIdeal.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)) →
    ∃ (v0 : (c : Dev Cert.AttnFIdeal.nD) → Buf (Elt Ideal) ((c.tc : Thread Cert.AttnFIdeal.nD Cert.AttnFIdeal.τ).loc Cert.AttnFIdeal.main_v0)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v0) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v21) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1))

def preserves_SyX_SyXIdeal : Prop :=
  True

def algebraic_SyXIdeal_SyXRefIdeal [hSyXIdeal : Cert.SyXIdeal.Facts] [hSyXRefIdeal : Cert.SyXRefIdeal.Facts] : Prop :=
  ∀ (m : (ℓ : Loc Cert.SyXIdeal.nD Cert.SyXIdeal.τ Cert.SyXIdeal.sig) → Buf (Elt Ideal) ℓ) (g : Dev Cert.SyXIdeal.nD → PrngReg)
    (m' : (ℓ : Loc Cert.SyXRefIdeal.nD Cert.SyXRefIdeal.τ Cert.SyXRefIdeal.sig) → Buf (Elt Ideal) ℓ) (g' : Dev Cert.SyXRefIdeal.nD → PrngReg), Pre_SyXIdeal m →
    (∀ c : Dev Cert.SyXIdeal.nD,
      m' ((c.tc : Thread Cert.SyXRefIdeal.nD Cert.SyXRefIdeal.τ).loc Cert.SyXRefIdeal.main_arg0) = m ((c.tc : Thread Cert.SyXIdeal.nD Cert.SyXIdeal.τ).loc Cert.SyXIdeal.main_arg0)
      ∧ m' ((c.tc : Thread Cert.SyXRefIdeal.nD Cert.SyXRefIdeal.τ).loc Cert.SyXRefIdeal.main_arg1) = m ((c.tc : Thread Cert.SyXIdeal.nD Cert.SyXIdeal.τ).loc Cert.SyXIdeal.main_arg1)
      ∧ m' ((c.tc : Thread Cert.SyXRefIdeal.nD Cert.SyXRefIdeal.τ).loc Cert.SyXRefIdeal.main_arg2) = m ((c.tc : Thread Cert.SyXIdeal.nD Cert.SyXIdeal.τ).loc Cert.SyXIdeal.main_arg2)) →
    ∃ (v0 : (c : Dev Cert.SyXIdeal.nD) → Buf (Elt Ideal) ((c.tc : Thread Cert.SyXIdeal.nD Cert.SyXIdeal.τ).loc Cert.SyXIdeal.main_v28)),
      θ_run (Cert.SyXIdeal.defs (F := Ideal)) (onTc (τ := Cert.SyXIdeal.τ) (Cert.SyXIdeal.main (F := Ideal))) ⟨m, fun _ => 0, g⟩ (fun r => ∀ c : Dev Cert.SyXIdeal.nD,
          r.2.mem ((c.tc : Thread Cert.SyXIdeal.nD Cert.SyXIdeal.τ).loc Cert.SyXIdeal.main_v28) = v0 c
          ∧ r.2.mem ((c.tc : Thread Cert.SyXIdeal.nD Cert.SyXIdeal.τ).loc Cert.SyXIdeal.main_arg0) = m ((c.tc : Thread Cert.SyXIdeal.nD Cert.SyXIdeal.τ).loc Cert.SyXIdeal.main_arg0)
          ∧ r.2.mem ((c.tc : Thread Cert.SyXIdeal.nD Cert.SyXIdeal.τ).loc Cert.SyXIdeal.main_arg1) = m ((c.tc : Thread Cert.SyXIdeal.nD Cert.SyXIdeal.τ).loc Cert.SyXIdeal.main_arg1)
          ∧ r.2.mem ((c.tc : Thread Cert.SyXIdeal.nD Cert.SyXIdeal.τ).loc Cert.SyXIdeal.main_arg2) = m ((c.tc : Thread Cert.SyXIdeal.nD Cert.SyXIdeal.τ).loc Cert.SyXIdeal.main_arg2))
      ∧ θ_run (Cert.SyXRefIdeal.defs (F := Ideal)) (onTc (τ := Cert.SyXRefIdeal.τ) (Cert.SyXRefIdeal.main (F := Ideal))) ⟨m', fun _ => 0, g'⟩ (fun r => ∀ c : Dev Cert.SyXRefIdeal.nD,
          r.2.mem ((c.tc : Thread Cert.SyXRefIdeal.nD Cert.SyXRefIdeal.τ).loc Cert.SyXRefIdeal.main_v16) = v0 c
          ∧ r.2.mem ((c.tc : Thread Cert.SyXRefIdeal.nD Cert.SyXRefIdeal.τ).loc Cert.SyXRefIdeal.main_arg0) = m' ((c.tc : Thread Cert.SyXRefIdeal.nD Cert.SyXRefIdeal.τ).loc Cert.SyXRefIdeal.main_arg0)
          ∧ r.2.mem ((c.tc : Thread Cert.SyXRefIdeal.nD Cert.SyXRefIdeal.τ).loc Cert.SyXRefIdeal.main_arg1) = m' ((c.tc : Thread Cert.SyXRefIdeal.nD Cert.SyXRefIdeal.τ).loc Cert.SyXRefIdeal.main_arg1)
          ∧ r.2.mem ((c.tc : Thread Cert.SyXRefIdeal.nD Cert.SyXRefIdeal.τ).loc Cert.SyXRefIdeal.main_arg2) = m' ((c.tc : Thread Cert.SyXRefIdeal.nD Cert.SyXRefIdeal.τ).loc Cert.SyXRefIdeal.main_arg2))

def preserves_SBu_SBuIdeal : Prop :=
  True

def algebraic_SBuIdeal_SBuRefIdeal [hSBuIdeal : Cert.SBuIdeal.Facts] [hSBuRefIdeal : Cert.SBuRefIdeal.Facts] : Prop :=
  ∀ (m : (ℓ : Loc Cert.SBuIdeal.nD Cert.SBuIdeal.τ Cert.SBuIdeal.sig) → Buf (Elt Ideal) ℓ) (g : Dev Cert.SBuIdeal.nD → PrngReg)
    (m' : (ℓ : Loc Cert.SBuRefIdeal.nD Cert.SBuRefIdeal.τ Cert.SBuRefIdeal.sig) → Buf (Elt Ideal) ℓ) (g' : Dev Cert.SBuRefIdeal.nD → PrngReg), Pre_SBuIdeal m →
    (∀ c : Dev Cert.SBuIdeal.nD,
      m' ((c.tc : Thread Cert.SBuRefIdeal.nD Cert.SBuRefIdeal.τ).loc Cert.SBuRefIdeal.main_arg0) = m ((c.tc : Thread Cert.SBuIdeal.nD Cert.SBuIdeal.τ).loc Cert.SBuIdeal.main_arg0)
      ∧ m' ((c.tc : Thread Cert.SBuRefIdeal.nD Cert.SBuRefIdeal.τ).loc Cert.SBuRefIdeal.main_arg1) = m ((c.tc : Thread Cert.SBuIdeal.nD Cert.SBuIdeal.τ).loc Cert.SBuIdeal.main_arg1)
      ∧ m' ((c.tc : Thread Cert.SBuRefIdeal.nD Cert.SBuRefIdeal.τ).loc Cert.SBuRefIdeal.main_arg2) = m ((c.tc : Thread Cert.SBuIdeal.nD Cert.SBuIdeal.τ).loc Cert.SBuIdeal.main_arg2)) →
    ∃ (v0 : (c : Dev Cert.SBuIdeal.nD) → Buf (Elt Ideal) ((c.tc : Thread Cert.SBuIdeal.nD Cert.SBuIdeal.τ).loc Cert.SBuIdeal.main_v25)),
      θ_run (Cert.SBuIdeal.defs (F := Ideal)) (onTc (τ := Cert.SBuIdeal.τ) (Cert.SBuIdeal.main (F := Ideal))) ⟨m, fun _ => 0, g⟩ (fun r => ∀ c : Dev Cert.SBuIdeal.nD,
          r.2.mem ((c.tc : Thread Cert.SBuIdeal.nD Cert.SBuIdeal.τ).loc Cert.SBuIdeal.main_v25) = v0 c
          ∧ r.2.mem ((c.tc : Thread Cert.SBuIdeal.nD Cert.SBuIdeal.τ).loc Cert.SBuIdeal.main_arg0) = m ((c.tc : Thread Cert.SBuIdeal.nD Cert.SBuIdeal.τ).loc Cert.SBuIdeal.main_arg0)
          ∧ r.2.mem ((c.tc : Thread Cert.SBuIdeal.nD Cert.SBuIdeal.τ).loc Cert.SBuIdeal.main_arg1) = m ((c.tc : Thread Cert.SBuIdeal.nD Cert.SBuIdeal.τ).loc Cert.SBuIdeal.main_arg1)
          ∧ r.2.mem ((c.tc : Thread Cert.SBuIdeal.nD Cert.SBuIdeal.τ).loc Cert.SBuIdeal.main_arg2) = m ((c.tc : Thread Cert.SBuIdeal.nD Cert.SBuIdeal.τ).loc Cert.SBuIdeal.main_arg2))
      ∧ θ_run (Cert.SBuRefIdeal.defs (F := Ideal)) (onTc (τ := Cert.SBuRefIdeal.τ) (Cert.SBuRefIdeal.main (F := Ideal))) ⟨m', fun _ => 0, g'⟩ (fun r => ∀ c : Dev Cert.SBuRefIdeal.nD,
          r.2.mem ((c.tc : Thread Cert.SBuRefIdeal.nD Cert.SBuRefIdeal.τ).loc Cert.SBuRefIdeal.main_v8) = v0 c
          ∧ r.2.mem ((c.tc : Thread Cert.SBuRefIdeal.nD Cert.SBuRefIdeal.τ).loc Cert.SBuRefIdeal.main_arg0) = m' ((c.tc : Thread Cert.SBuRefIdeal.nD Cert.SBuRefIdeal.τ).loc Cert.SBuRefIdeal.main_arg0)
          ∧ r.2.mem ((c.tc : Thread Cert.SBuRefIdeal.nD Cert.SBuRefIdeal.τ).loc Cert.SBuRefIdeal.main_arg1) = m' ((c.tc : Thread Cert.SBuRefIdeal.nD Cert.SBuRefIdeal.τ).loc Cert.SBuRefIdeal.main_arg1)
          ∧ r.2.mem ((c.tc : Thread Cert.SBuRefIdeal.nD Cert.SBuRefIdeal.τ).loc Cert.SBuRefIdeal.main_arg2) = m' ((c.tc : Thread Cert.SBuRefIdeal.nD Cert.SBuRefIdeal.τ).loc Cert.SBuRefIdeal.main_arg2))

def preserves_SyRe_SyReIdeal : Prop :=
  True

def algebraic_SyReIdeal_SyReRefIdeal [hSyReIdeal : Cert.SyReIdeal.Facts] [hSyReRefIdeal : Cert.SyReRefIdeal.Facts] : Prop :=
  ∀ (m : (ℓ : Loc Cert.SyReIdeal.nD Cert.SyReIdeal.τ Cert.SyReIdeal.sig) → Buf (Elt Ideal) ℓ) (g : Dev Cert.SyReIdeal.nD → PrngReg)
    (m' : (ℓ : Loc Cert.SyReRefIdeal.nD Cert.SyReRefIdeal.τ Cert.SyReRefIdeal.sig) → Buf (Elt Ideal) ℓ) (g' : Dev Cert.SyReRefIdeal.nD → PrngReg), Pre_SyReIdeal m →
    (∀ c : Dev Cert.SyReIdeal.nD,
      m' ((c.tc : Thread Cert.SyReRefIdeal.nD Cert.SyReRefIdeal.τ).loc Cert.SyReRefIdeal.main_arg0) = m ((c.tc : Thread Cert.SyReIdeal.nD Cert.SyReIdeal.τ).loc Cert.SyReIdeal.main_arg0)
      ∧ m' ((c.tc : Thread Cert.SyReRefIdeal.nD Cert.SyReRefIdeal.τ).loc Cert.SyReRefIdeal.main_arg1) = m ((c.tc : Thread Cert.SyReIdeal.nD Cert.SyReIdeal.τ).loc Cert.SyReIdeal.main_arg1)) →
    ∃ (v0 : (c : Dev Cert.SyReIdeal.nD) → Buf (Elt Ideal) ((c.tc : Thread Cert.SyReIdeal.nD Cert.SyReIdeal.τ).loc Cert.SyReIdeal.main_v13)),
      θ_run (Cert.SyReIdeal.defs (F := Ideal)) (onTc (τ := Cert.SyReIdeal.τ) (Cert.SyReIdeal.main (F := Ideal))) ⟨m, fun _ => 0, g⟩ (fun r => ∀ c : Dev Cert.SyReIdeal.nD,
          r.2.mem ((c.tc : Thread Cert.SyReIdeal.nD Cert.SyReIdeal.τ).loc Cert.SyReIdeal.main_v13) = v0 c
          ∧ r.2.mem ((c.tc : Thread Cert.SyReIdeal.nD Cert.SyReIdeal.τ).loc Cert.SyReIdeal.main_arg0) = m ((c.tc : Thread Cert.SyReIdeal.nD Cert.SyReIdeal.τ).loc Cert.SyReIdeal.main_arg0)
          ∧ r.2.mem ((c.tc : Thread Cert.SyReIdeal.nD Cert.SyReIdeal.τ).loc Cert.SyReIdeal.main_arg1) = m ((c.tc : Thread Cert.SyReIdeal.nD Cert.SyReIdeal.τ).loc Cert.SyReIdeal.main_arg1))
      ∧ θ_run (Cert.SyReRefIdeal.defs (F := Ideal)) (onTc (τ := Cert.SyReRefIdeal.τ) (Cert.SyReRefIdeal.main (F := Ideal))) ⟨m', fun _ => 0, g'⟩ (fun r => ∀ c : Dev Cert.SyReRefIdeal.nD,
          r.2.mem ((c.tc : Thread Cert.SyReRefIdeal.nD Cert.SyReRefIdeal.τ).loc Cert.SyReRefIdeal.main_v3) = v0 c
          ∧ r.2.mem ((c.tc : Thread Cert.SyReRefIdeal.nD Cert.SyReRefIdeal.τ).loc Cert.SyReRefIdeal.main_arg0) = m' ((c.tc : Thread Cert.SyReRefIdeal.nD Cert.SyReRefIdeal.τ).loc Cert.SyReRefIdeal.main_arg0)
          ∧ r.2.mem ((c.tc : Thread Cert.SyReRefIdeal.nD Cert.SyReRefIdeal.τ).loc Cert.SyReRefIdeal.main_arg1) = m' ((c.tc : Thread Cert.SyReRefIdeal.nD Cert.SyReRefIdeal.τ).loc Cert.SyReRefIdeal.main_arg1))

def preserves_SyIm_SyImIdeal : Prop :=
  True

def algebraic_SyImIdeal_SyImRefIdeal [hSyImIdeal : Cert.SyImIdeal.Facts] [hSyImRefIdeal : Cert.SyImRefIdeal.Facts] : Prop :=
  ∀ (m : (ℓ : Loc Cert.SyImIdeal.nD Cert.SyImIdeal.τ Cert.SyImIdeal.sig) → Buf (Elt Ideal) ℓ) (g : Dev Cert.SyImIdeal.nD → PrngReg)
    (m' : (ℓ : Loc Cert.SyImRefIdeal.nD Cert.SyImRefIdeal.τ Cert.SyImRefIdeal.sig) → Buf (Elt Ideal) ℓ) (g' : Dev Cert.SyImRefIdeal.nD → PrngReg), Pre_SyImIdeal m →
    (∀ c : Dev Cert.SyImIdeal.nD,
      m' ((c.tc : Thread Cert.SyImRefIdeal.nD Cert.SyImRefIdeal.τ).loc Cert.SyImRefIdeal.main_arg0) = m ((c.tc : Thread Cert.SyImIdeal.nD Cert.SyImIdeal.τ).loc Cert.SyImIdeal.main_arg0)
      ∧ m' ((c.tc : Thread Cert.SyImRefIdeal.nD Cert.SyImRefIdeal.τ).loc Cert.SyImRefIdeal.main_arg1) = m ((c.tc : Thread Cert.SyImIdeal.nD Cert.SyImIdeal.τ).loc Cert.SyImIdeal.main_arg1)
      ∧ m' ((c.tc : Thread Cert.SyImRefIdeal.nD Cert.SyImRefIdeal.τ).loc Cert.SyImRefIdeal.main_arg2) = m ((c.tc : Thread Cert.SyImIdeal.nD Cert.SyImIdeal.τ).loc Cert.SyImIdeal.main_arg2)) →
    ∃ (v0 : (c : Dev Cert.SyImIdeal.nD) → Buf (Elt Ideal) ((c.tc : Thread Cert.SyImIdeal.nD Cert.SyImIdeal.τ).loc Cert.SyImIdeal.main_v14)),
      θ_run (Cert.SyImIdeal.defs (F := Ideal)) (onTc (τ := Cert.SyImIdeal.τ) (Cert.SyImIdeal.main (F := Ideal))) ⟨m, fun _ => 0, g⟩ (fun r => ∀ c : Dev Cert.SyImIdeal.nD,
          r.2.mem ((c.tc : Thread Cert.SyImIdeal.nD Cert.SyImIdeal.τ).loc Cert.SyImIdeal.main_v14) = v0 c
          ∧ r.2.mem ((c.tc : Thread Cert.SyImIdeal.nD Cert.SyImIdeal.τ).loc Cert.SyImIdeal.main_arg0) = m ((c.tc : Thread Cert.SyImIdeal.nD Cert.SyImIdeal.τ).loc Cert.SyImIdeal.main_arg0)
          ∧ r.2.mem ((c.tc : Thread Cert.SyImIdeal.nD Cert.SyImIdeal.τ).loc Cert.SyImIdeal.main_arg1) = m ((c.tc : Thread Cert.SyImIdeal.nD Cert.SyImIdeal.τ).loc Cert.SyImIdeal.main_arg1)
          ∧ r.2.mem ((c.tc : Thread Cert.SyImIdeal.nD Cert.SyImIdeal.τ).loc Cert.SyImIdeal.main_arg2) = m ((c.tc : Thread Cert.SyImIdeal.nD Cert.SyImIdeal.τ).loc Cert.SyImIdeal.main_arg2))
      ∧ θ_run (Cert.SyImRefIdeal.defs (F := Ideal)) (onTc (τ := Cert.SyImRefIdeal.τ) (Cert.SyImRefIdeal.main (F := Ideal))) ⟨m', fun _ => 0, g'⟩ (fun r => ∀ c : Dev Cert.SyImRefIdeal.nD,
          r.2.mem ((c.tc : Thread Cert.SyImRefIdeal.nD Cert.SyImRefIdeal.τ).loc Cert.SyImRefIdeal.main_v5) = v0 c
          ∧ r.2.mem ((c.tc : Thread Cert.SyImRefIdeal.nD Cert.SyImRefIdeal.τ).loc Cert.SyImRefIdeal.main_arg0) = m' ((c.tc : Thread Cert.SyImRefIdeal.nD Cert.SyImRefIdeal.τ).loc Cert.SyImRefIdeal.main_arg0)
          ∧ r.2.mem ((c.tc : Thread Cert.SyImRefIdeal.nD Cert.SyImRefIdeal.τ).loc Cert.SyImRefIdeal.main_arg1) = m' ((c.tc : Thread Cert.SyImRefIdeal.nD Cert.SyImRefIdeal.τ).loc Cert.SyImRefIdeal.main_arg1)
          ∧ r.2.mem ((c.tc : Thread Cert.SyImRefIdeal.nD Cert.SyImRefIdeal.τ).loc Cert.SyImRefIdeal.main_arg2) = m' ((c.tc : Thread Cert.SyImRefIdeal.nD Cert.SyImRefIdeal.τ).loc Cert.SyImRefIdeal.main_arg2))

def preserves_SBuX0_SBuX0Ideal : Prop :=
  True

def algebraic_SBuX0Ideal_SBuX0RefIdeal [hSBuX0Ideal : Cert.SBuX0Ideal.Facts] [hSBuX0RefIdeal : Cert.SBuX0RefIdeal.Facts] : Prop :=
  ∀ (m : (ℓ : Loc Cert.SBuX0Ideal.nD Cert.SBuX0Ideal.τ Cert.SBuX0Ideal.sig) → Buf (Elt Ideal) ℓ) (g : Dev Cert.SBuX0Ideal.nD → PrngReg)
    (m' : (ℓ : Loc Cert.SBuX0RefIdeal.nD Cert.SBuX0RefIdeal.τ Cert.SBuX0RefIdeal.sig) → Buf (Elt Ideal) ℓ) (g' : Dev Cert.SBuX0RefIdeal.nD → PrngReg), Pre_SBuX0Ideal m →
    (∀ c : Dev Cert.SBuX0Ideal.nD,
      m' ((c.tc : Thread Cert.SBuX0RefIdeal.nD Cert.SBuX0RefIdeal.τ).loc Cert.SBuX0RefIdeal.main_arg0) = m ((c.tc : Thread Cert.SBuX0Ideal.nD Cert.SBuX0Ideal.τ).loc Cert.SBuX0Ideal.main_arg0)
      ∧ m' ((c.tc : Thread Cert.SBuX0RefIdeal.nD Cert.SBuX0RefIdeal.τ).loc Cert.SBuX0RefIdeal.main_arg1) = m ((c.tc : Thread Cert.SBuX0Ideal.nD Cert.SBuX0Ideal.τ).loc Cert.SBuX0Ideal.main_arg1)
      ∧ m' ((c.tc : Thread Cert.SBuX0RefIdeal.nD Cert.SBuX0RefIdeal.τ).loc Cert.SBuX0RefIdeal.main_arg2) = m ((c.tc : Thread Cert.SBuX0Ideal.nD Cert.SBuX0Ideal.τ).loc Cert.SBuX0Ideal.main_arg2)
      ∧ m' ((c.tc : Thread Cert.SBuX0RefIdeal.nD Cert.SBuX0RefIdeal.τ).loc Cert.SBuX0RefIdeal.main_arg3) = m ((c.tc : Thread Cert.SBuX0Ideal.nD Cert.SBuX0Ideal.τ).loc Cert.SBuX0Ideal.main_arg3)) →
    ∃ (v0 : (c : Dev Cert.SBuX0Ideal.nD) → Buf (Elt Ideal) ((c.tc : Thread Cert.SBuX0Ideal.nD Cert.SBuX0Ideal.τ).loc Cert.SBuX0Ideal.main_v25)),
      θ_run (Cert.SBuX0Ideal.defs (F := Ideal)) (onTc (τ := Cert.SBuX0Ideal.τ) (Cert.SBuX0Ideal.main (F := Ideal))) ⟨m, fun _ => 0, g⟩ (fun r => ∀ c : Dev Cert.SBuX0Ideal.nD,
          r.2.mem ((c.tc : Thread Cert.SBuX0Ideal.nD Cert.SBuX0Ideal.τ).loc Cert.SBuX0Ideal.main_v25) = v0 c
          ∧ r.2.mem ((c.tc : Thread Cert.SBuX0Ideal.nD Cert.SBuX0Ideal.τ).loc Cert.SBuX0Ideal.main_arg0) = m ((c.tc : Thread Cert.SBuX0Ideal.nD Cert.SBuX0Ideal.τ).loc Cert.SBuX0Ideal.main_arg0)
          ∧ r.2.mem ((c.tc : Thread Cert.SBuX0Ideal.nD Cert.SBuX0Ideal.τ).loc Cert.SBuX0Ideal.main_arg1) = m ((c.tc : Thread Cert.SBuX0Ideal.nD Cert.SBuX0Ideal.τ).loc Cert.SBuX0Ideal.main_arg1)
          ∧ r.2.mem ((c.tc : Thread Cert.SBuX0Ideal.nD Cert.SBuX0Ideal.τ).loc Cert.SBuX0Ideal.main_arg2) = m ((c.tc : Thread Cert.SBuX0Ideal.nD Cert.SBuX0Ideal.τ).loc Cert.SBuX0Ideal.main_arg2)
          ∧ r.2.mem ((c.tc : Thread Cert.SBuX0Ideal.nD Cert.SBuX0Ideal.τ).loc Cert.SBuX0Ideal.main_arg3) = m ((c.tc : Thread Cert.SBuX0Ideal.nD Cert.SBuX0Ideal.τ).loc Cert.SBuX0Ideal.main_arg3))
      ∧ θ_run (Cert.SBuX0RefIdeal.defs (F := Ideal)) (onTc (τ := Cert.SBuX0RefIdeal.τ) (Cert.SBuX0RefIdeal.main (F := Ideal))) ⟨m', fun _ => 0, g'⟩ (fun r => ∀ c : Dev Cert.SBuX0RefIdeal.nD,
          r.2.mem ((c.tc : Thread Cert.SBuX0RefIdeal.nD Cert.SBuX0RefIdeal.τ).loc Cert.SBuX0RefIdeal.main_v8) = v0 c
          ∧ r.2.mem ((c.tc : Thread Cert.SBuX0RefIdeal.nD Cert.SBuX0RefIdeal.τ).loc Cert.SBuX0RefIdeal.main_arg0) = m' ((c.tc : Thread Cert.SBuX0RefIdeal.nD Cert.SBuX0RefIdeal.τ).loc Cert.SBuX0RefIdeal.main_arg0)
          ∧ r.2.mem ((c.tc : Thread Cert.SBuX0RefIdeal.nD Cert.SBuX0RefIdeal.τ).loc Cert.SBuX0RefIdeal.main_arg1) = m' ((c.tc : Thread Cert.SBuX0RefIdeal.nD Cert.SBuX0RefIdeal.τ).loc Cert.SBuX0RefIdeal.main_arg1)
          ∧ r.2.mem ((c.tc : Thread Cert.SBuX0RefIdeal.nD Cert.SBuX0RefIdeal.τ).loc Cert.SBuX0RefIdeal.main_arg2) = m' ((c.tc : Thread Cert.SBuX0RefIdeal.nD Cert.SBuX0RefIdeal.τ).loc Cert.SBuX0RefIdeal.main_arg2)
          ∧ r.2.mem ((c.tc : Thread Cert.SBuX0RefIdeal.nD Cert.SBuX0RefIdeal.τ).loc Cert.SBuX0RefIdeal.main_arg3) = m' ((c.tc : Thread Cert.SBuX0RefIdeal.nD Cert.SBuX0RefIdeal.τ).loc Cert.SBuX0RefIdeal.main_arg3))

def preserves_SBuX1_SBuX1Ideal : Prop :=
  True

def algebraic_SBuX1Ideal_SBuX1RefIdeal [hSBuX1Ideal : Cert.SBuX1Ideal.Facts] [hSBuX1RefIdeal : Cert.SBuX1RefIdeal.Facts] : Prop :=
  ∀ (m : (ℓ : Loc Cert.SBuX1Ideal.nD Cert.SBuX1Ideal.τ Cert.SBuX1Ideal.sig) → Buf (Elt Ideal) ℓ) (g : Dev Cert.SBuX1Ideal.nD → PrngReg)
    (m' : (ℓ : Loc Cert.SBuX1RefIdeal.nD Cert.SBuX1RefIdeal.τ Cert.SBuX1RefIdeal.sig) → Buf (Elt Ideal) ℓ) (g' : Dev Cert.SBuX1RefIdeal.nD → PrngReg), Pre_SBuX1Ideal m →
    (∀ c : Dev Cert.SBuX1Ideal.nD,
      m' ((c.tc : Thread Cert.SBuX1RefIdeal.nD Cert.SBuX1RefIdeal.τ).loc Cert.SBuX1RefIdeal.main_arg0) = m ((c.tc : Thread Cert.SBuX1Ideal.nD Cert.SBuX1Ideal.τ).loc Cert.SBuX1Ideal.main_arg0)
      ∧ m' ((c.tc : Thread Cert.SBuX1RefIdeal.nD Cert.SBuX1RefIdeal.τ).loc Cert.SBuX1RefIdeal.main_arg1) = m ((c.tc : Thread Cert.SBuX1Ideal.nD Cert.SBuX1Ideal.τ).loc Cert.SBuX1Ideal.main_arg1)
      ∧ m' ((c.tc : Thread Cert.SBuX1RefIdeal.nD Cert.SBuX1RefIdeal.τ).loc Cert.SBuX1RefIdeal.main_arg2) = m ((c.tc : Thread Cert.SBuX1Ideal.nD Cert.SBuX1Ideal.τ).loc Cert.SBuX1Ideal.main_arg2)
      ∧ m' ((c.tc : Thread Cert.SBuX1RefIdeal.nD Cert.SBuX1RefIdeal.τ).loc Cert.SBuX1RefIdeal.main_arg3) = m ((c.tc : Thread Cert.SBuX1Ideal.nD Cert.SBuX1Ideal.τ).loc Cert.SBuX1Ideal.main_arg3)) →
    ∃ (v0 : (c : Dev Cert.SBuX1Ideal.nD) → Buf (Elt Ideal) ((c.tc : Thread Cert.SBuX1Ideal.nD Cert.SBuX1Ideal.τ).loc Cert.SBuX1Ideal.main_v25)),
      θ_run (Cert.SBuX1Ideal.defs (F := Ideal)) (onTc (τ := Cert.SBuX1Ideal.τ) (Cert.SBuX1Ideal.main (F := Ideal))) ⟨m, fun _ => 0, g⟩ (fun r => ∀ c : Dev Cert.SBuX1Ideal.nD,
          r.2.mem ((c.tc : Thread Cert.SBuX1Ideal.nD Cert.SBuX1Ideal.τ).loc Cert.SBuX1Ideal.main_v25) = v0 c
          ∧ r.2.mem ((c.tc : Thread Cert.SBuX1Ideal.nD Cert.SBuX1Ideal.τ).loc Cert.SBuX1Ideal.main_arg0) = m ((c.tc : Thread Cert.SBuX1Ideal.nD Cert.SBuX1Ideal.τ).loc Cert.SBuX1Ideal.main_arg0)
          ∧ r.2.mem ((c.tc : Thread Cert.SBuX1Ideal.nD Cert.SBuX1Ideal.τ).loc Cert.SBuX1Ideal.main_arg1) = m ((c.tc : Thread Cert.SBuX1Ideal.nD Cert.SBuX1Ideal.τ).loc Cert.SBuX1Ideal.main_arg1)
          ∧ r.2.mem ((c.tc : Thread Cert.SBuX1Ideal.nD Cert.SBuX1Ideal.τ).loc Cert.SBuX1Ideal.main_arg2) = m ((c.tc : Thread Cert.SBuX1Ideal.nD Cert.SBuX1Ideal.τ).loc Cert.SBuX1Ideal.main_arg2)
          ∧ r.2.mem ((c.tc : Thread Cert.SBuX1Ideal.nD Cert.SBuX1Ideal.τ).loc Cert.SBuX1Ideal.main_arg3) = m ((c.tc : Thread Cert.SBuX1Ideal.nD Cert.SBuX1Ideal.τ).loc Cert.SBuX1Ideal.main_arg3))
      ∧ θ_run (Cert.SBuX1RefIdeal.defs (F := Ideal)) (onTc (τ := Cert.SBuX1RefIdeal.τ) (Cert.SBuX1RefIdeal.main (F := Ideal))) ⟨m', fun _ => 0, g'⟩ (fun r => ∀ c : Dev Cert.SBuX1RefIdeal.nD,
          r.2.mem ((c.tc : Thread Cert.SBuX1RefIdeal.nD Cert.SBuX1RefIdeal.τ).loc Cert.SBuX1RefIdeal.main_v8) = v0 c
          ∧ r.2.mem ((c.tc : Thread Cert.SBuX1RefIdeal.nD Cert.SBuX1RefIdeal.τ).loc Cert.SBuX1RefIdeal.main_arg0) = m' ((c.tc : Thread Cert.SBuX1RefIdeal.nD Cert.SBuX1RefIdeal.τ).loc Cert.SBuX1RefIdeal.main_arg0)
          ∧ r.2.mem ((c.tc : Thread Cert.SBuX1RefIdeal.nD Cert.SBuX1RefIdeal.τ).loc Cert.SBuX1RefIdeal.main_arg1) = m' ((c.tc : Thread Cert.SBuX1RefIdeal.nD Cert.SBuX1RefIdeal.τ).loc Cert.SBuX1RefIdeal.main_arg1)
          ∧ r.2.mem ((c.tc : Thread Cert.SBuX1RefIdeal.nD Cert.SBuX1RefIdeal.τ).loc Cert.SBuX1RefIdeal.main_arg2) = m' ((c.tc : Thread Cert.SBuX1RefIdeal.nD Cert.SBuX1RefIdeal.τ).loc Cert.SBuX1RefIdeal.main_arg2)
          ∧ r.2.mem ((c.tc : Thread Cert.SBuX1RefIdeal.nD Cert.SBuX1RefIdeal.τ).loc Cert.SBuX1RefIdeal.main_arg3) = m' ((c.tc : Thread Cert.SBuX1RefIdeal.nD Cert.SBuX1RefIdeal.τ).loc Cert.SBuX1RefIdeal.main_arg3))

def Claim : Prop :=
  ∃ (hKernel : Cert.Kernel.Facts) (hKernelIdeal : Cert.KernelIdeal.Facts) (hReferenceIdeal : Cert.ReferenceIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hUpX0 : Cert.UpX0.Facts) (hUpX0Ideal : Cert.UpX0Ideal.Facts) (hUpX0RefIdeal : Cert.UpX0RefIdeal.Facts) (hUpX1 : Cert.UpX1.Facts) (hUpX1Ideal : Cert.UpX1Ideal.Facts) (hUpX1RefIdeal : Cert.UpX1RefIdeal.Facts) (hUpW : Cert.UpW.Facts) (hUpWIdeal : Cert.UpWIdeal.Facts) (hUpWRefIdeal : Cert.UpWRefIdeal.Facts) (hDownX : Cert.DownX.Facts) (hDownXIdeal : Cert.DownXIdeal.Facts) (hDownXRefIdeal : Cert.DownXRefIdeal.Facts) (hDownW : Cert.DownW.Facts) (hDownWIdeal : Cert.DownWIdeal.Facts) (hDownWRefIdeal : Cert.DownWRefIdeal.Facts) (hOutX : Cert.OutX.Facts) (hOutXIdeal : Cert.OutXIdeal.Facts) (hOutXRefIdeal : Cert.OutXRefIdeal.Facts) (hOutW : Cert.OutW.Facts) (hOutWIdeal : Cert.OutWIdeal.Facts) (hOutWRefIdeal : Cert.OutWRefIdeal.Facts) (hKvX : Cert.KvX.Facts) (hKvXIdeal : Cert.KvXIdeal.Facts) (hKvXRefIdeal : Cert.KvXRefIdeal.Facts) (hKvW : Cert.KvW.Facts) (hKvWIdeal : Cert.KvWIdeal.Facts) (hKvWRefIdeal : Cert.KvWRefIdeal.Facts) (hInF : Cert.InF.Facts) (hInFIdeal : Cert.InFIdeal.Facts) (hInFRefIdeal : Cert.InFRefIdeal.Facts) (hUpF : Cert.UpF.Facts) (hUpFIdeal : Cert.UpFIdeal.Facts) (hUpFRefIdeal : Cert.UpFRefIdeal.Facts) (hDownF : Cert.DownF.Facts) (hDownFIdeal : Cert.DownFIdeal.Facts) (hDownFRefIdeal : Cert.DownFRefIdeal.Facts) (hOutF : Cert.OutF.Facts) (hOutFIdeal : Cert.OutFIdeal.Facts) (hOutFRefIdeal : Cert.OutFRefIdeal.Facts) (hQF : Cert.QF.Facts) (hQFIdeal : Cert.QFIdeal.Facts) (hQFRefIdeal : Cert.QFRefIdeal.Facts) (hKvF : Cert.KvF.Facts) (hKvFIdeal : Cert.KvFIdeal.Facts) (hKvFRefIdeal : Cert.KvFRefIdeal.Facts) (hMergeF : Cert.MergeF.Facts) (hMergeFIdeal : Cert.MergeFIdeal.Facts) (hMergeFRefIdeal : Cert.MergeFRefIdeal.Facts) (hMergeB : Cert.MergeB.Facts) (hMergeBIdeal : Cert.MergeBIdeal.Facts) (hMergeBRefIdeal : Cert.MergeBRefIdeal.Facts) (hAttnF : Cert.AttnF.Facts) (hAttnFIdeal : Cert.AttnFIdeal.Facts) (hAttnFRefIdeal : Cert.AttnFRefIdeal.Facts) (hSyX : Cert.SyX.Facts) (hSyXIdeal : Cert.SyXIdeal.Facts) (hSyXRefIdeal : Cert.SyXRefIdeal.Facts) (hSBu : Cert.SBu.Facts) (hSBuIdeal : Cert.SBuIdeal.Facts) (hSBuRefIdeal : Cert.SBuRefIdeal.Facts) (hSyRe : Cert.SyRe.Facts) (hSyReIdeal : Cert.SyReIdeal.Facts) (hSyReRefIdeal : Cert.SyReRefIdeal.Facts) (hSyIm : Cert.SyIm.Facts) (hSyImIdeal : Cert.SyImIdeal.Facts) (hSyImRefIdeal : Cert.SyImRefIdeal.Facts) (hSBuX0 : Cert.SBuX0.Facts) (hSBuX0Ideal : Cert.SBuX0Ideal.Facts) (hSBuX0RefIdeal : Cert.SBuX0RefIdeal.Facts) (hSBuX1 : Cert.SBuX1.Facts) (hSBuX1Ideal : Cert.SBuX1Ideal.Facts) (hSBuX1RefIdeal : Cert.SBuX1RefIdeal.Facts),
    quiescent_Kernel (hKernel := hKernel)
    ∧ quiescent_KernelIdeal (hKernelIdeal := hKernelIdeal)
    ∧ quiescent_ReferenceIdeal (hReferenceIdeal := hReferenceIdeal)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_UpX0 (hUpX0 := hUpX0)
    ∧ quiescent_UpX0Ideal (hUpX0Ideal := hUpX0Ideal)
    ∧ quiescent_UpX0RefIdeal (hUpX0RefIdeal := hUpX0RefIdeal)
    ∧ quiescent_UpX1 (hUpX1 := hUpX1)
    ∧ quiescent_UpX1Ideal (hUpX1Ideal := hUpX1Ideal)
    ∧ quiescent_UpX1RefIdeal (hUpX1RefIdeal := hUpX1RefIdeal)
    ∧ quiescent_UpW (hUpW := hUpW)
    ∧ quiescent_UpWIdeal (hUpWIdeal := hUpWIdeal)
    ∧ quiescent_UpWRefIdeal (hUpWRefIdeal := hUpWRefIdeal)
    ∧ quiescent_DownX (hDownX := hDownX)
    ∧ quiescent_DownXIdeal (hDownXIdeal := hDownXIdeal)
    ∧ quiescent_DownXRefIdeal (hDownXRefIdeal := hDownXRefIdeal)
    ∧ quiescent_DownW (hDownW := hDownW)
    ∧ quiescent_DownWIdeal (hDownWIdeal := hDownWIdeal)
    ∧ quiescent_DownWRefIdeal (hDownWRefIdeal := hDownWRefIdeal)
    ∧ quiescent_OutX (hOutX := hOutX)
    ∧ quiescent_OutXIdeal (hOutXIdeal := hOutXIdeal)
    ∧ quiescent_OutXRefIdeal (hOutXRefIdeal := hOutXRefIdeal)
    ∧ quiescent_OutW (hOutW := hOutW)
    ∧ quiescent_OutWIdeal (hOutWIdeal := hOutWIdeal)
    ∧ quiescent_OutWRefIdeal (hOutWRefIdeal := hOutWRefIdeal)
    ∧ quiescent_KvX (hKvX := hKvX)
    ∧ quiescent_KvXIdeal (hKvXIdeal := hKvXIdeal)
    ∧ quiescent_KvXRefIdeal (hKvXRefIdeal := hKvXRefIdeal)
    ∧ quiescent_KvW (hKvW := hKvW)
    ∧ quiescent_KvWIdeal (hKvWIdeal := hKvWIdeal)
    ∧ quiescent_KvWRefIdeal (hKvWRefIdeal := hKvWRefIdeal)
    ∧ quiescent_InF (hInF := hInF)
    ∧ quiescent_InFIdeal (hInFIdeal := hInFIdeal)
    ∧ quiescent_InFRefIdeal (hInFRefIdeal := hInFRefIdeal)
    ∧ quiescent_UpF (hUpF := hUpF)
    ∧ quiescent_UpFIdeal (hUpFIdeal := hUpFIdeal)
    ∧ quiescent_UpFRefIdeal (hUpFRefIdeal := hUpFRefIdeal)
    ∧ quiescent_DownF (hDownF := hDownF)
    ∧ quiescent_DownFIdeal (hDownFIdeal := hDownFIdeal)
    ∧ quiescent_DownFRefIdeal (hDownFRefIdeal := hDownFRefIdeal)
    ∧ quiescent_OutF (hOutF := hOutF)
    ∧ quiescent_OutFIdeal (hOutFIdeal := hOutFIdeal)
    ∧ quiescent_OutFRefIdeal (hOutFRefIdeal := hOutFRefIdeal)
    ∧ quiescent_QF (hQF := hQF)
    ∧ quiescent_QFIdeal (hQFIdeal := hQFIdeal)
    ∧ quiescent_QFRefIdeal (hQFRefIdeal := hQFRefIdeal)
    ∧ quiescent_KvF (hKvF := hKvF)
    ∧ quiescent_KvFIdeal (hKvFIdeal := hKvFIdeal)
    ∧ quiescent_KvFRefIdeal (hKvFRefIdeal := hKvFRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_AttnF (hAttnF := hAttnF)
    ∧ quiescent_AttnFIdeal (hAttnFIdeal := hAttnFIdeal)
    ∧ quiescent_AttnFRefIdeal (hAttnFRefIdeal := hAttnFRefIdeal)
    ∧ quiescent_SyX (hSyX := hSyX)
    ∧ quiescent_SyXIdeal (hSyXIdeal := hSyXIdeal)
    ∧ quiescent_SyXRefIdeal (hSyXRefIdeal := hSyXRefIdeal)
    ∧ quiescent_SBu (hSBu := hSBu)
    ∧ quiescent_SBuIdeal (hSBuIdeal := hSBuIdeal)
    ∧ quiescent_SBuRefIdeal (hSBuRefIdeal := hSBuRefIdeal)
    ∧ quiescent_SyRe (hSyRe := hSyRe)
    ∧ quiescent_SyReIdeal (hSyReIdeal := hSyReIdeal)
    ∧ quiescent_SyReRefIdeal (hSyReRefIdeal := hSyReRefIdeal)
    ∧ quiescent_SyIm (hSyIm := hSyIm)
    ∧ quiescent_SyImIdeal (hSyImIdeal := hSyImIdeal)
    ∧ quiescent_SyImRefIdeal (hSyImRefIdeal := hSyImRefIdeal)
    ∧ quiescent_SBuX0 (hSBuX0 := hSBuX0)
    ∧ quiescent_SBuX0Ideal (hSBuX0Ideal := hSBuX0Ideal)
    ∧ quiescent_SBuX0RefIdeal (hSBuX0RefIdeal := hSBuX0RefIdeal)
    ∧ quiescent_SBuX1 (hSBuX1 := hSBuX1)
    ∧ quiescent_SBuX1Ideal (hSBuX1Ideal := hSBuX1Ideal)
    ∧ quiescent_SBuX1RefIdeal (hSBuX1RefIdeal := hSBuX1RefIdeal)
    ∧ preserves_Kernel_KernelIdeal
    ∧ algebraic_KernelIdeal_ReferenceIdeal (hKernelIdeal := hKernelIdeal) (hReferenceIdeal := hReferenceIdeal)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_UpX0_UpX0Ideal
    ∧ algebraic_UpX0Ideal_UpX0RefIdeal (hUpX0Ideal := hUpX0Ideal) (hUpX0RefIdeal := hUpX0RefIdeal)
    ∧ preserves_UpX1_UpX1Ideal
    ∧ algebraic_UpX1Ideal_UpX1RefIdeal (hUpX1Ideal := hUpX1Ideal) (hUpX1RefIdeal := hUpX1RefIdeal)
    ∧ preserves_UpW_UpWIdeal
    ∧ algebraic_UpWIdeal_UpWRefIdeal (hUpWIdeal := hUpWIdeal) (hUpWRefIdeal := hUpWRefIdeal)
    ∧ preserves_DownX_DownXIdeal
    ∧ algebraic_DownXIdeal_DownXRefIdeal (hDownXIdeal := hDownXIdeal) (hDownXRefIdeal := hDownXRefIdeal)
    ∧ preserves_DownW_DownWIdeal
    ∧ algebraic_DownWIdeal_DownWRefIdeal (hDownWIdeal := hDownWIdeal) (hDownWRefIdeal := hDownWRefIdeal)
    ∧ preserves_OutX_OutXIdeal
    ∧ algebraic_OutXIdeal_OutXRefIdeal (hOutXIdeal := hOutXIdeal) (hOutXRefIdeal := hOutXRefIdeal)
    ∧ preserves_OutW_OutWIdeal
    ∧ algebraic_OutWIdeal_OutWRefIdeal (hOutWIdeal := hOutWIdeal) (hOutWRefIdeal := hOutWRefIdeal)
    ∧ preserves_KvX_KvXIdeal
    ∧ algebraic_KvXIdeal_KvXRefIdeal (hKvXIdeal := hKvXIdeal) (hKvXRefIdeal := hKvXRefIdeal)
    ∧ preserves_KvW_KvWIdeal
    ∧ algebraic_KvWIdeal_KvWRefIdeal (hKvWIdeal := hKvWIdeal) (hKvWRefIdeal := hKvWRefIdeal)
    ∧ preserves_InF_InFIdeal
    ∧ algebraic_InFIdeal_InFRefIdeal (hInFIdeal := hInFIdeal) (hInFRefIdeal := hInFRefIdeal)
    ∧ preserves_UpF_UpFIdeal
    ∧ algebraic_UpFIdeal_UpFRefIdeal (hUpFIdeal := hUpFIdeal) (hUpFRefIdeal := hUpFRefIdeal)
    ∧ preserves_DownF_DownFIdeal
    ∧ algebraic_DownFIdeal_DownFRefIdeal (hDownFIdeal := hDownFIdeal) (hDownFRefIdeal := hDownFRefIdeal)
    ∧ preserves_OutF_OutFIdeal
    ∧ algebraic_OutFIdeal_OutFRefIdeal (hOutFIdeal := hOutFIdeal) (hOutFRefIdeal := hOutFRefIdeal)
    ∧ preserves_QF_QFIdeal
    ∧ algebraic_QFIdeal_QFRefIdeal (hQFIdeal := hQFIdeal) (hQFRefIdeal := hQFRefIdeal)
    ∧ preserves_KvF_KvFIdeal
    ∧ algebraic_KvFIdeal_KvFRefIdeal (hKvFIdeal := hKvFIdeal) (hKvFRefIdeal := hKvFRefIdeal)
    ∧ preserves_MergeF_MergeFIdeal
    ∧ algebraic_MergeFIdeal_MergeFRefIdeal (hMergeFIdeal := hMergeFIdeal) (hMergeFRefIdeal := hMergeFRefIdeal)
    ∧ preserves_MergeB_MergeBIdeal
    ∧ algebraic_MergeBIdeal_MergeBRefIdeal (hMergeBIdeal := hMergeBIdeal) (hMergeBRefIdeal := hMergeBRefIdeal)
    ∧ preserves_AttnF_AttnFIdeal
    ∧ algebraic_AttnFIdeal_AttnFRefIdeal (hAttnFIdeal := hAttnFIdeal) (hAttnFRefIdeal := hAttnFRefIdeal)
    ∧ preserves_SyX_SyXIdeal
    ∧ algebraic_SyXIdeal_SyXRefIdeal (hSyXIdeal := hSyXIdeal) (hSyXRefIdeal := hSyXRefIdeal)
    ∧ preserves_SBu_SBuIdeal
    ∧ algebraic_SBuIdeal_SBuRefIdeal (hSBuIdeal := hSBuIdeal) (hSBuRefIdeal := hSBuRefIdeal)
    ∧ preserves_SyRe_SyReIdeal
    ∧ algebraic_SyReIdeal_SyReRefIdeal (hSyReIdeal := hSyReIdeal) (hSyReRefIdeal := hSyReRefIdeal)
    ∧ preserves_SyIm_SyImIdeal
    ∧ algebraic_SyImIdeal_SyImRefIdeal (hSyImIdeal := hSyImIdeal) (hSyImRefIdeal := hSyImRefIdeal)
    ∧ preserves_SBuX0_SBuX0Ideal
    ∧ algebraic_SBuX0Ideal_SBuX0RefIdeal (hSBuX0Ideal := hSBuX0Ideal) (hSBuX0RefIdeal := hSBuX0RefIdeal)
    ∧ preserves_SBuX1_SBuX1Ideal
    ∧ algebraic_SBuX1Ideal_SBuX1RefIdeal (hSBuX1Ideal := hSBuX1Ideal) (hSBuX1RefIdeal := hSBuX1RefIdeal)
-- ==== Kernel.lean ====
abbrev S8192x1024 : Shape := ⟨2, ![8192, 1024]⟩
abbrev S512x2048 : Shape := ⟨2, ![512, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S512x2048, .f32⟩
  | .hbm, ⟨2, _⟩ => ⟨S8192x1024, .f32⟩
  | .hbm, ⟨3, _⟩ => ⟨S8192x1024, .f32⟩
  | .hbm, ⟨4, _⟩ => ⟨S512x1024, .f32⟩
  | .hbm, ⟨5, _⟩ => ⟨S512x1024, .f32⟩
  | .local _ .vmem, ⟨0, _⟩ => ⟨S512x256, .bf16⟩
  | .local _ .vmem, ⟨1, _⟩ => ⟨S512x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S8192x1024 : Shape := ⟨2, ![8192, 1024]⟩
abbrev S512x2048 : Shape := ⟨2, ![512, 2048]⟩
abbrev S2x4096x4x256 : Shape := ⟨4, ![2, 4096, 4, 256]⟩
abbrev S512x1024 : Shape := ⟨2, ![512, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩
abbrev S2x4x256x256 : Shape := ⟨4, ![2, 4, 256, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x2048, .f32⟩
  | .hbm, ⟨2, _⟩ => ⟨S8192x1024, .f32⟩
  | .hbm, ⟨3, _⟩ => ⟨S8192x1024, .f32⟩
  | .hbm, ⟨4, _⟩ => ⟨S2x4096x4x256, .f32⟩
  | .hbm, ⟨5, _⟩ => ⟨S2x4096x4x256, .f32⟩
  | .hbm, ⟨6, _⟩ => ⟨S512x1024, .f32⟩
  | .hbm, ⟨7, _⟩ => ⟨S2x256x4x256, .f32⟩
  | .hbm, ⟨8, _⟩ => ⟨S512x1024, .f32⟩
  | .hbm, ⟨9, _⟩ => ⟨S2x256x4x256, .f32⟩
  | .hbm, ⟨10, _⟩ => ⟨S2x4x4096x256, .f32⟩
  | .hbm, ⟨11, _⟩ => ⟨S_, .f32⟩
  | .hbm, ⟨12, _⟩ => ⟨S2x4x4096x256, .f32⟩
  | .hbm, ⟨13, _⟩ => ⟨S2x4x4096x256, .f32⟩
  | .hbm, ⟨14, _⟩ => ⟨S_, .f32⟩
  | .hbm, ⟨15, _⟩ => ⟨S2x4x4096, .f32⟩
  | .hbm, ⟨16, _⟩ => ⟨S2x4x4096x1, .f32⟩
  | .hbm, ⟨17, _⟩ => ⟨S2x4x4096x256, .f32⟩
  | .hbm, ⟨18, _⟩ => ⟨S2x4x4096x256, .i1⟩
  | .hbm, ⟨19, _⟩ => ⟨S2x4x4096x256, .f32⟩
  | .hbm, ⟨20, _⟩ => ⟨S_, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x4096x256, .f32⟩
  | .hbm, ⟨26, _⟩ => ⟨S_, .f32⟩
  | .hbm, ⟨27, _⟩ => ⟨S2x4x4096, .f32⟩
  | .hbm, ⟨28, _⟩ => ⟨S2x4x4096x1, .f32⟩
  | .hbm, ⟨29, _⟩ => ⟨S2x4x4096x256, .f32⟩
  | .hbm, ⟨30, _⟩ => ⟨S2x4x4096x256, .f32⟩
  | .hbm, ⟨31, _⟩ => ⟨S2x4x4096x1, .f32⟩
  | .hbm, ⟨32, _⟩ => ⟨S_, .f32⟩
  | .hbm, ⟨33, _⟩ => ⟨S2x4x4096x1, .f32⟩
  | .hbm, ⟨34, _⟩ => ⟨S2x4x4096x1, .f32⟩
  | .hbm, ⟨35, _⟩ => ⟨S2x4x256x4096, .f32⟩
  | .hbm, ⟨36, _⟩ => ⟨S2x4096x4x256, .f32⟩
  | .hbm, ⟨37, _⟩ => ⟨S2x4x256x4096, .f32⟩
  | .hbm, ⟨38, _⟩ => ⟨S2x4x4096x256, .f32⟩
  | .hbm, ⟨39, _⟩ => ⟨S2x4x256x256, .f32⟩
  | .hbm, ⟨40, _⟩ => ⟨S2x256x4x256, .f32⟩
  | .hbm, ⟨41, _⟩ => ⟨S2x4x4096x256, .f32⟩
  | .hbm, ⟨42, _⟩ => ⟨S2x4x4096x256, .f32⟩
  | .hbm, ⟨43, _⟩ => ⟨S2x4x4096x256, .f32⟩
  | .hbm, ⟨44, _⟩ => ⟨S_, .f32⟩
  | .hbm, ⟨45, _⟩ => ⟨S2x4x4096, .f32⟩
  | .hbm, ⟨46, _⟩ => ⟨S2x4x4096x1, .f32⟩
  | .hbm, ⟨47, _⟩ => ⟨S2x4x4096x1, .f32⟩
  | .hbm, ⟨48, _⟩ => ⟨S2x4x4096x256, .f32⟩
  | .hbm, ⟨49, _⟩ => ⟨S2x4x4096x256, .f32⟩
  | .hbm, ⟨50, _⟩ => ⟨S_, .f32⟩
  | .hbm, ⟨51, _⟩ => ⟨S2x4x4096, .f32⟩
  | .hbm, ⟨52, _⟩ => ⟨S2x4x4096x256, .f32⟩
  | .hbm, ⟨53, _⟩ => ⟨S2x4x4096x256, .f32⟩
  | .hbm, ⟨54, _⟩ => ⟨S2x4x4096x256, .f32⟩
  | .hbm, ⟨55, _⟩ => ⟨S2x4x4096x256, .f32⟩
  | .hbm, ⟨56, _⟩ => ⟨S_, .f32⟩
  | .hbm, ⟨57, _⟩ => ⟨S2x4x4096, .f32⟩
  | .hbm, ⟨58, _⟩ => ⟨S2x4x4096x1, .f32⟩
  | .hbm, ⟨59, _⟩ => ⟨S_, .f32⟩
  | .hbm, ⟨60, _⟩ => ⟨S2x4x4096, .f32⟩
  | .hbm, ⟨61, _⟩ => ⟨S2x4x4096, .f32⟩
  | .hbm, ⟨62, _⟩ => ⟨S2x4x4096x256, .f32⟩
  | .hbm, ⟨63, _⟩ => ⟨S2x4x4096x256, .f32⟩
  | .hbm, ⟨64, _⟩ => ⟨S2x4x4096x256, .f32⟩
  | .hbm, ⟨65, _⟩ => ⟨S_, .f32⟩
  | .hbm, ⟨66, _⟩ => ⟨S2x4x4096x256, .f32⟩
  | .hbm, ⟨67, _⟩ => ⟨S2x4x4096x256, .f32⟩
  | .hbm, ⟨68, _⟩ => ⟨S2x4x256x256, .f32⟩
  | .hbm, ⟨69, _⟩ => ⟨S2x256x4x256, .f32⟩
  | .hbm, ⟨70, _⟩ => ⟨S2x4x4096x256, .f32⟩
  | .hbm, ⟨71, _⟩ => ⟨S2x4096x4x256, .f32⟩
  | .hbm, ⟨72, _⟩ => ⟨S8192x1024, .f32⟩
  | .hbm, ⟨73, _⟩ => ⟨S512x1024, .f32⟩
  | .hbm, ⟨74, _⟩ => ⟨S512x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== InX.lean ====
abbrev S8192x7168 : Shape := ⟨2, ![8192, 7168]⟩
abbrev S1024x7168 : Shape := ⟨2, ![1024, 7168]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond3 (i : grid0.Coords) : BitVec 1 :=
  let arg2 : BitVec 32 := BitVec.ofNat 32 (i 2).val
  let c6_i32_3 : BitVec 32 := 6#32
  let v8 : BitVec 1 := Scalar.cmpi .eq arg2 c6_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXRefIdeal.lean ====
abbrev S8192x7168 : Shape := ⟨2, ![8192, 7168]⟩
abbrev S1024x7168 : Shape := ⟨2, ![1024, 7168]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S1024x7168, .bf16⟩
  | .hbm, ⟨2, _⟩ => ⟨S1024x7168, .f32⟩
  | .hbm, ⟨3, _⟩ => ⟨S8192x7168, .f32⟩
  | .hbm, ⟨4, _⟩ => ⟨S_, .f32⟩
  | .hbm, ⟨5, _⟩ => ⟨S8192x1024, .f32⟩
  | .hbm, ⟨6, _⟩ => ⟨S8192x7168, .f32⟩
  | .hbm, ⟨7, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InW.lean ====
abbrev S8192x1024 : Shape := ⟨2, ![8192, 1024]⟩
abbrev S8192x7168 : Shape := ⟨2, ![8192, 7168]⟩
abbrev S1024x7168 : Shape := ⟨2, ![1024, 7168]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S1024x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWRefIdeal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8192x1024, .f32⟩
  | .hbm, ⟨3, _⟩ => ⟨S8192x7168, .f32⟩
  | .hbm, ⟨4, _⟩ => ⟨S_, .f32⟩
  | .hbm, ⟨5, _⟩ => ⟨S1024x7168, .f32⟩
  | .hbm, ⟨6, _⟩ => ⟨S8192x7168, .f32⟩
  | .hbm, ⟨7, _⟩ => ⟨S7168x1024, .f32⟩
  | .hbm, ⟨8, _⟩ => ⟨S1024x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpX0.lean ====
abbrev S8192x3072 : Shape := ⟨2, ![8192, 3072]⟩
abbrev S1024x6144 : Shape := ⟨2, ![1024, 6144]⟩
abbrev S8192x1024 : Shape := ⟨2, ![8192, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S1024x6144, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpX0RefIdeal.lean ====
abbrev S8192x3072 : Shape := ⟨2, ![8192, 3072]⟩
abbrev S1024x6144 : Shape := ⟨2, ![1024, 6144]⟩
abbrev S1024x3072 : Shape := ⟨2, ![1024, 3072]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x6144, .bf16⟩
  | .hbm, ⟨2, _⟩ => ⟨S1024x3072, .bf16⟩
  | .hbm, ⟨3, _⟩ => ⟨S1024x3072, .f32⟩
  | .hbm, ⟨4, _⟩ => ⟨S_, .f32⟩
  | .hbm, ⟨5, _⟩ => ⟨S8192x1024, .f32⟩
  | .hbm, ⟨6, _⟩ => ⟨S8192x3072, .f32⟩
  | .hbm, ⟨7, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpX1.lean ====
abbrev S8192x3072 : Shape := ⟨2, ![8192, 3072]⟩
abbrev S1024x6144 : Shape := ⟨2, ![1024, 6144]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .f32⟩
  | .hbm, ⟨1, _⟩ => ⟨S1024x6144, .bf16⟩
  | .hbm, ⟨2, _⟩ => ⟨S8192x1024, .f32⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpX1RefIdeal.lean ====
abbrev S8192x3072 : Shape := ⟨2, ![8192, 3072]⟩
abbrev S1024x6144 : Shape := ⟨2, ![1024, 6144]⟩
abbrev S8192x1024 : Shape := ⟨2, ![8192, 1024]⟩
abbrev S1024x3072 : Shape := ⟨2, ![1024, 3072]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S1024x6144, .bf16⟩
  | .hbm, ⟨2, _⟩ => ⟨S8192x1024, .f32⟩
  | .hbm, ⟨3, _⟩ => ⟨S1024x3072, .bf16⟩
  | .hbm, ⟨4, _⟩ => ⟨S1024x3072, .f32⟩
  | .hbm, ⟨5, _⟩ => ⟨S_, .f32⟩
  | .hbm, ⟨6, _⟩ => ⟨S8192x1024, .f32⟩
  | .hbm, ⟨7, _⟩ => ⟨S8192x3072, .f32⟩
  | .hbm, ⟨8, _⟩ => ⟨S8192x1024, .f32⟩
  | .hbm, ⟨9, _⟩ => ⟨S8192x1024, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpW.lean ====
abbrev S8192x1024 : Shape := ⟨2, ![8192, 1024]⟩
abbrev S8192x3072 : Shape := ⟨2, ![8192, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .f32⟩
  | .hbm, ⟨2, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .f32⟩
  | .hbm, ⟨2, _⟩ => ⟨S8192x1024, .f32⟩
  | .hbm, ⟨3, _⟩ => ⟨S_, .f32⟩
  | .hbm, ⟨4, _⟩ => ⟨S1024x3072, .f32⟩
  | .hbm, ⟨5, _⟩ => ⟨S8192x3072, .f32⟩
  | .hbm, ⟨6, _⟩ => ⟨S3072x1024, .f32⟩
  | .hbm, ⟨7, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownX.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S8192x3072, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S8192x1024 : Shape := ⟨2, ![8192, 1024]⟩
abbrev S3072x1024 : Shape := ⟨2, ![3072, 1024]⟩
abbrev S_ : Shape := ⟨0, ![]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .bf16⟩
  | .hbm, ⟨2, _⟩ => ⟨S3072x1024, .f32⟩
  | .hbm, ⟨3, _⟩ => ⟨S_, .f32⟩
  | .hbm, ⟨4, _⟩ => ⟨S8192x3072, .f32⟩
  | .hbm, ⟨5, _⟩ => ⟨S8192x1024, .f32⟩
  | .hbm, ⟨6, _⟩ => ⟨S8192x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownW.lean ====
abbrev S8192x3072 : Shape := ⟨2, ![8192, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .f32⟩
  | .hbm, ⟨2, _⟩ => ⟨S8192x3072, .f32⟩
  | .hbm, ⟨3, _⟩ => ⟨S_, .f32⟩
  | .hbm, ⟨4, _⟩ => ⟨S3072x1024, .f32⟩
  | .hbm, ⟨5, _⟩ => ⟨S8192x1024, .f32⟩
  | .hbm, ⟨6, _⟩ => ⟨S1024x3072, .f32⟩
  | .hbm, ⟨7, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutX.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutW.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvX.lean ====
abbrev S512x2048 : Shape := ⟨2, ![512, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .f32⟩
  | .hbm, ⟨1, _⟩ => ⟨S1024x2048, .bf16⟩
  | .hbm, ⟨2, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvXRefIdeal.lean ====
abbrev S512x2048 : Shape := ⟨2, ![512, 2048]⟩
abbrev S1024x2048 : Shape := ⟨2, ![1024, 2048]⟩
abbrev S_ : Shape := ⟨0, ![]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S512x1024, .f32⟩
  | .hbm, ⟨5, _⟩ => ⟨S512x2048, .f32⟩
  | .hbm, ⟨6, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvW.lean ====
abbrev S512x1024 : Shape := ⟨2, ![512, 1024]⟩
abbrev S512x2048 : Shape := ⟨2, ![512, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S512x2048, .f32⟩
  | .hbm, ⟨2, _⟩ => ⟨S1024x2048, .f32⟩
  | .local _ .vmem, ⟨0, _⟩ => ⟨S512x1024, .bf16⟩
  | .local _ .vmem, ⟨1, _⟩ => ⟨S512x1024, .f32⟩
  | .local _ .vmem, ⟨2, _⟩ => ⟨S512x1024, .f32⟩
  | .local _ .vmem, ⟨3, _⟩ => ⟨S1024x1024, .f32⟩
  | .local _ .vmem, ⟨4, _⟩ => ⟨S1024x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvWRefIdeal.lean ====
abbrev S512x1024 : Shape := ⟨2, ![512, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .f32⟩
  | .hbm, ⟨2, _⟩ => ⟨S512x1024, .f32⟩
  | .hbm, ⟨3, _⟩ => ⟨S_, .f32⟩
  | .hbm, ⟨4, _⟩ => ⟨S1024x2048, .f32⟩
  | .hbm, ⟨5, _⟩ => ⟨S512x2048, .f32⟩
  | .hbm, ⟨6, _⟩ => ⟨S2048x1024, .f32⟩
  | .hbm, ⟨7, _⟩ => ⟨S1024x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InF.lean ====
abbrev S8192x1024 : Shape := ⟨2, ![8192, 1024]⟩
abbrev S1024x7168 : Shape := ⟨2, ![1024, 7168]⟩
abbrev S8192x7168 : Shape := ⟨2, ![8192, 7168]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFRefIdeal.lean ====
abbrev S8192x1024 : Shape := ⟨2, ![8192, 1024]⟩
abbrev S1024x7168 : Shape := ⟨2, ![1024, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7168, .bf16⟩
  | .hbm, ⟨2, _⟩ => ⟨S8192x1024, .f32⟩
  | .hbm, ⟨3, _⟩ => ⟨S1024x7168, .f32⟩
  | .hbm, ⟨4, _⟩ => ⟨S8192x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpF.lean ====
abbrev S8192x1024 : Shape := ⟨2, ![8192, 1024]⟩
abbrev S1024x6144 : Shape := ⟨2, ![1024, 6144]⟩
abbrev S8192x6144 : Shape := ⟨2, ![8192, 6144]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S8192x1024 : Shape := ⟨2, ![8192, 1024]⟩
abbrev S1024x6144 : Shape := ⟨2, ![1024, 6144]⟩
abbrev S8192x6144 : Shape := ⟨2, ![8192, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x6144, .bf16⟩
  | .hbm, ⟨2, _⟩ => ⟨S8192x1024, .f32⟩
  | .hbm, ⟨3, _⟩ => ⟨S1024x6144, .f32⟩
  | .hbm, ⟨4, _⟩ => ⟨S8192x6144, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownF.lean ====
abbrev S8192x3072 : Shape := ⟨2, ![8192, 3072]⟩
abbrev S3072x1024 : Shape := ⟨2, ![3072, 1024]⟩
abbrev S8192x1024 : Shape := ⟨2, ![8192, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_3 : BitVec 32 := 2#32
  let v8 : BitVec 1 := Scalar.cmpi .eq arg2 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFRefIdeal.lean ====
abbrev S8192x3072 : Shape := ⟨2, ![8192, 3072]⟩
abbrev S3072x1024 : Shape := ⟨2, ![3072, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S3072x1024, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S8192x1024, .f32⟩
  | .hbm, ⟨6, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutF.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QF.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QFRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvF.lean ====
abbrev S512x1024 : Shape := ⟨2, ![512, 1024]⟩
abbrev S1024x2048 : Shape := ⟨2, ![1024, 2048]⟩
abbrev S512x2048 : Shape := ⟨2, ![512, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x2048, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvFRefIdeal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x1024, .f32⟩
  | .hbm, ⟨3, _⟩ => ⟨S1024x2048, .f32⟩
  | .hbm, ⟨4, _⟩ => ⟨S512x2048, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MergeF.lean ====
abbrev S8192x512 : Shape := ⟨2, ![8192, 512]⟩
abbrev S8192x7168 : Shape := ⟨2, ![8192, 7168]⟩
abbrev S512x1024 : Shape := ⟨2, ![512, 1024]⟩
abbrev S1x1024 : Shape := ⟨2, ![1, 1024]⟩
abbrev S8192x1024 : Shape := ⟨2, ![8192, 1024]⟩
abbrev S256x512 : Shape := ⟨2, ![256, 512]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeFRefIdeal.lean ====
abbrev S8192x512 : Shape := ⟨2, ![8192, 512]⟩
abbrev S8192x7168 : Shape := ⟨2, ![8192, 7168]⟩
abbrev S512x1024 : Shape := ⟨2, ![512, 1024]⟩
abbrev S1x1024 : Shape := ⟨2, ![1, 1024]⟩
abbrev S8192x1024 : Shape := ⟨2, ![8192, 1024]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== MergeB.lean ====
abbrev S8192x512 : Shape := ⟨2, ![8192, 512]⟩
abbrev S8192x7168 : Shape := ⟨2, ![8192, 7168]⟩
abbrev S512x1024 : Shape := ⟨2, ![512, 1024]⟩
abbrev S1x1024 : Shape := ⟨2, ![1, 1024]⟩
abbrev S8192x1024 : Shape := ⟨2, ![8192, 1024]⟩
abbrev S256x512 : Shape := ⟨2, ![256, 512]⟩
abbrev S256x1024 : Shape := ⟨2, ![256, 1024]⟩
abbrev S1024 : Shape := ⟨1, ![1024]⟩

abbrev nBuf : Space → Nat
  | .hbm => 24
  | .vmem => 42
  | .smem => 0
  | _ => 0

abbrev bufTy : (tb : Table) → Fin (tcTables nBuf tb) → BufTy
  | .hbm, ⟨0, _⟩ => ⟨S8192x512, .f32⟩
  | .hbm, ⟨1, _⟩ => ⟨S8192x7168, .f32⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S1x1024, .f32⟩
  | .hbm, ⟨22, _⟩ => ⟨S1x1024, .f32⟩
  | .hbm, ⟨23, _⟩ => ⟨S1x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S512x1024, .f32⟩
  | .local _ .vmem, ⟨37, _⟩ => ⟨S512x1024, .f32⟩
  | .local _ .vmem, ⟨38, _⟩ => ⟨S512x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev main_v0_10 : Ref sig .tc := ⟨.hbm, 21, rfl⟩
abbrev main_v0_11 : Ref sig .tc := ⟨.hbm, 22, rfl⟩
abbrev main_v0_12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_stg23_0 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37
abbrev cc0_sem23_0 : DmaSem sig := 38
abbrev cc0_sem24_0 : DmaSem sig := 39
abbrev cc0_sem25_0 : DmaSem sig := 40
abbrev cc0_sem26_0 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== MergeBRefIdeal.lean ====
abbrev S8192x512 : Shape := ⟨2, ![8192, 512]⟩
abbrev S8192x7168 : Shape := ⟨2, ![8192, 7168]⟩
abbrev S512x1024 : Shape := ⟨2, ![512, 1024]⟩
abbrev S1x1024 : Shape := ⟨2, ![1, 1024]⟩
abbrev S8192x1024 : Shape := ⟨2, ![8192, 1024]⟩
abbrev S_ : Shape := ⟨0, ![]⟩
abbrev S1024x512 : Shape := ⟨2, ![1024, 512]⟩
abbrev S1024 : Shape := ⟨1, ![1024]⟩

abbrev nBuf : Space → Nat
  | .hbm => 141
  | .vmem => 0
  | .smem => 0
  | _ => 0

abbrev hbmTy0_0 (i : Nat) : BufTy := match i % 128 with
  | 0 => ⟨S8192x512, .f32⟩
  | 1 => ⟨S8192x7168, .f32⟩
  | 2 => ⟨S8192x512, .f32⟩
  | 3 => ⟨S8192x512, .f32⟩
  | 4 => ⟨S512x1024, .f32⟩
  | 5 => ⟨S512x1024, .f32⟩
  | 6 => ⟨S512x1024, .f32⟩
  | 7 => ⟨S1x1024, .f32⟩
  | 8 => ⟨S1x1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S8192x512, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S8192x512, .f32⟩
  | 39 => ⟨S8192x512, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S_, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S1024x512, .f32⟩
  | 95 => ⟨S512x1024, .f32⟩
  | 96 => ⟨S8192x512, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S1024x512, .f32⟩
  | 104 => ⟨S512x1024, .f32⟩
  | 105 => ⟨S8192x512, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S1024x512, .f32⟩
  | 113 => ⟨S512x1024, .f32⟩
  | 114 => ⟨S8192x512, .f32⟩
  | 115 => ⟨S8192x1024, .f32⟩
  | 116 => ⟨S_, .f32⟩
  | 117 => ⟨S1024, .f32⟩
  | 118 => ⟨S1x1024, .f32⟩
  | 119 => ⟨S8192x512, .f32⟩
  | 120 => ⟨S8192x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S8192x512, .f32⟩
  | 127 => ⟨S_, .f32⟩
  | _ => ⟨S8192x512, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_17 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_18 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== AttnF.lean ====
abbrev S8192x1024 : Shape := ⟨2, ![8192, 1024]⟩
abbrev S512x2048 : Shape := ⟨2, ![512, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S512x2048, .f32⟩
  | .hbm, ⟨2, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S512x256, .bf16⟩
  | .local _ .vmem, ⟨7, _⟩ => ⟨S512x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnFRefIdeal.lean ====
abbrev S8192x1024 : Shape := ⟨2, ![8192, 1024]⟩
abbrev S512x2048 : Shape := ⟨2, ![512, 2048]⟩
abbrev S2x4096x4x256 : Shape := ⟨4, ![2, 4096, 4, 256]⟩
abbrev S512x1024 : Shape := ⟨2, ![512, 1024]⟩
abbrev S2x256x4x256 : Shape := ⟨4, ![2, 256, 4, 256]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x2048, .f32⟩
  | .hbm, ⟨2, _⟩ => ⟨S8192x1024, .f32⟩
  | .hbm, ⟨3, _⟩ => ⟨S2x4096x4x256, .f32⟩
  | .hbm, ⟨4, _⟩ => ⟨S512x1024, .f32⟩
  | .hbm, ⟨5, _⟩ => ⟨S2x256x4x256, .f32⟩
  | .hbm, ⟨6, _⟩ => ⟨S512x1024, .f32⟩
  | .hbm, ⟨7, _⟩ => ⟨S2x256x4x256, .f32⟩
  | .hbm, ⟨8, _⟩ => ⟨S2x4x4096x256, .f32⟩
  | .hbm, ⟨9, _⟩ => ⟨S_, .f32⟩
  | .hbm, ⟨10, _⟩ => ⟨S2x4x4096x256, .f32⟩
  | .hbm, ⟨11, _⟩ => ⟨S2x4x4096x256, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x256, .f32⟩
  | .hbm, ⟨16, _⟩ => ⟨S2x4x4096x256, .f32⟩
  | .hbm, ⟨17, _⟩ => ⟨S2x4x4096x256, .f32⟩
  | .hbm, ⟨18, _⟩ => ⟨S_, .f32⟩
  | .hbm, ⟨19, _⟩ => ⟨S2x4x4096, .f32⟩
  | .hbm, ⟨20, _⟩ => ⟨S2x4x4096x1, .f32⟩
  | .hbm, ⟨21, _⟩ => ⟨S2x4x4096x256, .f32⟩
  | .hbm, ⟨22, _⟩ => ⟨S2x4x4096x256, .f32⟩
  | .hbm, ⟨23, _⟩ => ⟨S2x4x256x4096, .f32⟩
  | .hbm, ⟨24, _⟩ => ⟨S2x4096x4x256, .f32⟩
  | .hbm, ⟨25, _⟩ => ⟨S8192x1024, .f32⟩
  | .hbm, ⟨26, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== SyX.lean ====
abbrev S8192x512 : Shape := ⟨2, ![8192, 512]⟩
abbrev S32x16x64 : Shape := ⟨3, ![32, 16, 64]⟩
abbrev S32x64x16 : Shape := ⟨3, ![32, 64, 16]⟩
abbrev S32x32 : Shape := ⟨2, ![32, 32]⟩
abbrev S_ : Shape := ⟨0, ![]⟩
abbrev S32x64x1x16 : Shape := ⟨4, ![32, 64, 1, 16]⟩
abbrev S32x1x32x1 : Shape := ⟨4, ![32, 1, 32, 1]⟩
abbrev S32x64x32x16 : Shape := ⟨4, ![32, 64, 32, 16]⟩
abbrev S2048x512 : Shape := ⟨2, ![2048, 512]⟩
abbrev S4096x512 : Shape := ⟨2, ![4096, 512]⟩
abbrev S8192x4096 : Shape := ⟨2, ![8192, 4096]⟩
abbrev S1024x128 : Shape := ⟨2, ![1024, 128]⟩
abbrev S512x128 : Shape := ⟨2, ![512, 128]⟩
abbrev S1024x512 : Shape := ⟨2, ![1024, 512]⟩

abbrev nBuf : Space → Nat
  | .hbm => 34
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S32x16x64, .f32⟩
  | .hbm, ⟨2, _⟩ => ⟨S32x16x64, .f32⟩
  | .hbm, ⟨3, _⟩ => ⟨S32x64x16, .f32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S32x32, .f32⟩
  | .hbm, ⟨11, _⟩ => ⟨S32x64x1x16, .f32⟩
  | .hbm, ⟨12, _⟩ => ⟨S32x1x32x1, .f32⟩
  | .hbm, ⟨13, _⟩ => ⟨S32x64x32x16, .f32⟩
  | .hbm, ⟨14, _⟩ => ⟨S32x64x32x16, .f32⟩
  | .hbm, ⟨15, _⟩ => ⟨S32x64x32x16, .f32⟩
  | .hbm, ⟨16, _⟩ => ⟨S2048x512, .f32⟩
  | .hbm, ⟨17, _⟩ => ⟨S32x64x16, .f32⟩
  | .hbm, ⟨18, _⟩ => ⟨S32x64x16, .f32⟩
  | .hbm, ⟨19, _⟩ => ⟨S32x32, .i32⟩
  | .hbm, ⟨20, _⟩ => ⟨S32x32, .i32⟩
  | .hbm, ⟨21, _⟩ => ⟨S_, .i32⟩
  | .hbm, ⟨22, _⟩ => ⟨S32x32, .i32⟩
  | .hbm, ⟨23, _⟩ => ⟨S32x32, .i32⟩
  | .hbm, ⟨24, _⟩ => ⟨S32x32, .i1⟩
  | .hbm, ⟨25, _⟩ => ⟨S32x32, .f32⟩
  | .hbm, ⟨26, _⟩ => ⟨S32x64x1x16, .f32⟩
  | .hbm, ⟨27, _⟩ => ⟨S32x1x32x1, .f32⟩
  | .hbm, ⟨28, _⟩ => ⟨S32x64x32x16, .f32⟩
  | .hbm, ⟨29, _⟩ => ⟨S32x64x32x16, .f32⟩
  | .hbm, ⟨30, _⟩ => ⟨S32x64x32x16, .f32⟩
  | .hbm, ⟨31, _⟩ => ⟨S2048x512, .f32⟩
  | .hbm, ⟨32, _⟩ => ⟨S4096x512, .f32⟩
  | .hbm, ⟨33, _⟩ => ⟨S8192x4096, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x512, .f32⟩
  | .local _ .vmem, ⟨5, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SyXRefIdeal.lean ====
abbrev S8192x512 : Shape := ⟨2, ![8192, 512]⟩
abbrev S32x16x64 : Shape := ⟨3, ![32, 16, 64]⟩
abbrev S_ : Shape := ⟨0, ![]⟩
abbrev S8192x32x64 : Shape := ⟨3, ![8192, 32, 64]⟩
abbrev S32x16x8192 : Shape := ⟨3, ![32, 16, 8192]⟩
abbrev S8192x32x16 : Shape := ⟨3, ![8192, 32, 16]⟩
abbrev S32x8192x64 : Shape := ⟨3, ![32, 8192, 64]⟩
abbrev S8192x2048 : Shape := ⟨2, ![8192, 2048]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S32x16x64, .f32⟩
  | .hbm, ⟨2, _⟩ => ⟨S32x16x64, .f32⟩
  | .hbm, ⟨3, _⟩ => ⟨S_, .f32⟩
  | .hbm, ⟨4, _⟩ => ⟨S8192x32x64, .f32⟩
  | .hbm, ⟨5, _⟩ => ⟨S32x16x8192, .f32⟩
  | .hbm, ⟨6, _⟩ => ⟨S8192x32x16, .f32⟩
  | .hbm, ⟨7, _⟩ => ⟨S32x16x8192, .f32⟩
  | .hbm, ⟨8, _⟩ => ⟨S8192x32x16, .f32⟩
  | .hbm, ⟨9, _⟩ => ⟨S8192x32x16, .f32⟩
  | .hbm, ⟨10, _⟩ => ⟨S8192x32x16, .f32⟩
  | .hbm, ⟨11, _⟩ => ⟨S8192x32x16, .f32⟩
  | .hbm, ⟨12, _⟩ => ⟨S32x16x8192, .f32⟩
  | .hbm, ⟨13, _⟩ => ⟨S32x8192x64, .f32⟩
  | .hbm, ⟨14, _⟩ => ⟨S8192x32x64, .f32⟩
  | .hbm, ⟨15, _⟩ => ⟨S32x16x8192, .f32⟩
  | .hbm, ⟨16, _⟩ => ⟨S32x8192x64, .f32⟩
  | .hbm, ⟨17, _⟩ => ⟨S8192x32x64, .f32⟩
  | .hbm, ⟨18, _⟩ => ⟨S8192x2048, .f32⟩
  | .hbm, ⟨19, _⟩ => ⟨S8192x2048, .f32⟩
  | .hbm, ⟨20, _⟩ => ⟨S8192x4096, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== SBu.lean ====
abbrev S8192x7168 : Shape := ⟨2, ![8192, 7168]⟩
abbrev S32x16x64 : Shape := ⟨3, ![32, 16, 64]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S512x4096 : Shape := ⟨2, ![512, 4096]⟩
abbrev S8192x4096 : Shape := ⟨2, ![8192, 4096]⟩
abbrev S1024x128 : Shape := ⟨2, ![1024, 128]⟩
abbrev S128x512 : Shape := ⟨2, ![128, 512]⟩
abbrev S1024x512 : Shape := ⟨2, ![1024, 512]⟩

abbrev nBuf : Space → Nat
  | .hbm => 31
  | .vmem => 6
  | .smem => 0
  | _ => 0

abbrev bufTy : (tb : Table) → Fin (tcTables nBuf tb) → BufTy
  | .hbm, ⟨0, _⟩ => ⟨S8192x7168, .f32⟩
  | .hbm, ⟨1, _⟩ => ⟨S32x16x64, .f32⟩
  | .hbm, ⟨2, _⟩ => ⟨S32x16x64, .f32⟩
  | .hbm, ⟨3, _⟩ => ⟨S32x32, .i32⟩
  | .hbm, ⟨4, _⟩ => ⟨S32x32, .i32⟩
  | .hbm, ⟨5, _⟩ => ⟨S_, .i32⟩
  | .hbm, ⟨6, _⟩ => ⟨S32x32, .i32⟩
  | .hbm, ⟨7, _⟩ => ⟨S32x32, .i32⟩
  | .hbm, ⟨8, _⟩ => ⟨S32x32, .i1⟩
  | .hbm, ⟨9, _⟩ => ⟨S32x32, .f32⟩
  | .hbm, ⟨10, _⟩ => ⟨S32x16x1x64, .f32⟩
  | .hbm, ⟨11, _⟩ => ⟨S32x1x32x1, .f32⟩
  | .hbm, ⟨12, _⟩ => ⟨S32x16x32x64, .f32⟩
  | .hbm, ⟨13, _⟩ => ⟨S32x16x32x64, .f32⟩
  | .hbm, ⟨14, _⟩ => ⟨S32x16x32x64, .f32⟩
  | .hbm, ⟨15, _⟩ => ⟨S512x2048, .f32⟩
  | .hbm, ⟨16, _⟩ => ⟨S32x32, .i32⟩
  | .hbm, ⟨17, _⟩ => ⟨S32x32, .i32⟩
  | .hbm, ⟨18, _⟩ => ⟨S_, .i32⟩
  | .hbm, ⟨19, _⟩ => ⟨S32x32, .i32⟩
  | .hbm, ⟨20, _⟩ => ⟨S32x32, .i32⟩
  | .hbm, ⟨21, _⟩ => ⟨S32x32, .i1⟩
  | .hbm, ⟨22, _⟩ => ⟨S32x32, .f32⟩
  | .hbm, ⟨23, _⟩ => ⟨S32x16x1x64, .f32⟩
  | .hbm, ⟨24, _⟩ => ⟨S32x1x32x1, .f32⟩
  | .hbm, ⟨25, _⟩ => ⟨S32x16x32x64, .f32⟩
  | .hbm, ⟨26, _⟩ => ⟨S32x16x32x64, .f32⟩
  | .hbm, ⟨27, _⟩ => ⟨S32x16x32x64, .f32⟩
  | .hbm, ⟨28, _⟩ => ⟨S512x2048, .f32⟩
  | .hbm, ⟨29, _⟩ => ⟨S512x4096, .f32⟩
  | .hbm, ⟨30, _⟩ => ⟨S8192x4096, .f32⟩
  | .local _ .vmem, ⟨0, _⟩ => ⟨S1024x128, .f32⟩
  | .local _ .vmem, ⟨1, _⟩ => ⟨S1024x128, .f32⟩
  | .local _ .vmem, ⟨2, _⟩ => ⟨S128x512, .f32⟩
  | .local _ .vmem, ⟨3, _⟩ => ⟨S128x512, .f32⟩
  | .local _ .vmem, ⟨4, _⟩ => ⟨S1024x512, .f32⟩
  | .local _ .vmem, ⟨5, _⟩ => ⟨S1024x512, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c48_i32 : BitVec 32 := 48#32
  let v10 : BitVec 32 := Scalar.addi c48_i32 v9
  let c0_i32_3 : BitVec 32 := 0#32
  ![arg0.toNat, v10.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SBuRefIdeal.lean ====
abbrev S8192x7168 : Shape := ⟨2, ![8192, 7168]⟩
abbrev S32x16x64 : Shape := ⟨3, ![32, 16, 64]⟩
abbrev S8192x512 : Shape := ⟨2, ![8192, 512]⟩
abbrev S8192x32x16 : Shape := ⟨3, ![8192, 32, 16]⟩
abbrev S32x64x8192 : Shape := ⟨3, ![32, 64, 8192]⟩
abbrev S8192x32x64 : Shape := ⟨3, ![8192, 32, 64]⟩
abbrev S8192x2048 : Shape := ⟨2, ![8192, 2048]⟩
abbrev S8192x4096 : Shape := ⟨2, ![8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S32x16x64, .f32⟩
  | .hbm, ⟨2, _⟩ => ⟨S32x16x64, .f32⟩
  | .hbm, ⟨3, _⟩ => ⟨S8192x512, .f32⟩
  | .hbm, ⟨4, _⟩ => ⟨S8192x32x16, .f32⟩
  | .hbm, ⟨5, _⟩ => ⟨S32x64x8192, .f32⟩
  | .hbm, ⟨6, _⟩ => ⟨S8192x32x64, .f32⟩
  | .hbm, ⟨7, _⟩ => ⟨S8192x2048, .f32⟩
  | .hbm, ⟨8, _⟩ => ⟨S32x64x8192, .f32⟩
  | .hbm, ⟨9, _⟩ => ⟨S8192x32x64, .f32⟩
  | .hbm, ⟨10, _⟩ => ⟨S8192x2048, .f32⟩
  | .hbm, ⟨11, _⟩ => ⟨S8192x4096, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== SyRe.lean ====
abbrev S8192x2048 : Shape := ⟨2, ![8192, 2048]⟩
abbrev S32x16x64 : Shape := ⟨3, ![32, 16, 64]⟩
abbrev S32x64x16 : Shape := ⟨3, ![32, 64, 16]⟩
abbrev S32x32 : Shape := ⟨2, ![32, 32]⟩
abbrev S_ : Shape := ⟨0, ![]⟩
abbrev S32x64x1x16 : Shape := ⟨4, ![32, 64, 1, 16]⟩
abbrev S32x1x32x1 : Shape := ⟨4, ![32, 1, 32, 1]⟩
abbrev S32x64x32x16 : Shape := ⟨4, ![32, 64, 32, 16]⟩
abbrev S2048x512 : Shape := ⟨2, ![2048, 512]⟩
abbrev S8192x512 : Shape := ⟨2, ![8192, 512]⟩
abbrev S1024x512 : Shape := ⟨2, ![1024, 512]⟩
abbrev S512x128 : Shape := ⟨2, ![512, 128]⟩
abbrev S1024x128 : Shape := ⟨2, ![1024, 128]⟩

abbrev nBuf : Space → Nat
  | .hbm => 17
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S32x64x16, .f32⟩
  | .hbm, ⟨3, _⟩ => ⟨S32x32, .i32⟩
  | .hbm, ⟨4, _⟩ => ⟨S32x32, .i32⟩
  | .hbm, ⟨5, _⟩ => ⟨S_, .i32⟩
  | .hbm, ⟨6, _⟩ => ⟨S32x32, .i32⟩
  | .hbm, ⟨7, _⟩ => ⟨S32x32, .i32⟩
  | .hbm, ⟨8, _⟩ => ⟨S32x32, .i1⟩
  | .hbm, ⟨9, _⟩ => ⟨S32x32, .f32⟩
  | .hbm, ⟨10, _⟩ => ⟨S32x64x1x16, .f32⟩
  | .hbm, ⟨11, _⟩ => ⟨S32x1x32x1, .f32⟩
  | .hbm, ⟨12, _⟩ => ⟨S32x64x32x16, .f32⟩
  | .hbm, ⟨13, _⟩ => ⟨S32x64x32x16, .f32⟩
  | .hbm, ⟨14, _⟩ => ⟨S32x64x32x16, .f32⟩
  | .hbm, ⟨15, _⟩ => ⟨S2048x512, .f32⟩
  | .hbm, ⟨16, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg0.toNat, v10.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SyReRefIdeal.lean ====
abbrev S8192x2048 : Shape := ⟨2, ![8192, 2048]⟩
abbrev S32x16x64 : Shape := ⟨3, ![32, 16, 64]⟩
abbrev S8192x32x64 : Shape := ⟨3, ![8192, 32, 64]⟩
abbrev S32x16x8192 : Shape := ⟨3, ![32, 16, 8192]⟩
abbrev S8192x32x16 : Shape := ⟨3, ![8192, 32, 16]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S8192x32x64, .f32⟩
  | .hbm, ⟨3, _⟩ => ⟨S32x16x8192, .f32⟩
  | .hbm, ⟨4, _⟩ => ⟨S8192x32x16, .f32⟩
  | .hbm, ⟨5, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SyIm.lean ====
abbrev S8192x2048 : Shape := ⟨2, ![8192, 2048]⟩
abbrev S32x16x64 : Shape := ⟨3, ![32, 16, 64]⟩
abbrev S8192x512 : Shape := ⟨2, ![8192, 512]⟩
abbrev S32x64x16 : Shape := ⟨3, ![32, 64, 16]⟩
abbrev S32x32 : Shape := ⟨2, ![32, 32]⟩
abbrev S_ : Shape := ⟨0, ![]⟩
abbrev S32x64x1x16 : Shape := ⟨4, ![32, 64, 1, 16]⟩
abbrev S32x1x32x1 : Shape := ⟨4, ![32, 1, 32, 1]⟩
abbrev S32x64x32x16 : Shape := ⟨4, ![32, 64, 32, 16]⟩
abbrev S2048x512 : Shape := ⟨2, ![2048, 512]⟩
abbrev S1024x512 : Shape := ⟨2, ![1024, 512]⟩
abbrev S512x128 : Shape := ⟨2, ![512, 128]⟩
abbrev S1024x128 : Shape := ⟨2, ![1024, 128]⟩

abbrev nBuf : Space → Nat
  | .hbm => 19
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S8192x512, .f32⟩
  | .hbm, ⟨3, _⟩ => ⟨S32x64x16, .f32⟩
  | .hbm, ⟨4, _⟩ => ⟨S32x64x16, .f32⟩
  | .hbm, ⟨5, _⟩ => ⟨S32x32, .i32⟩
  | .hbm, ⟨6, _⟩ => ⟨S32x32, .i32⟩
  | .hbm, ⟨7, _⟩ => ⟨S_, .i32⟩
  | .hbm, ⟨8, _⟩ => ⟨S32x32, .i32⟩
  | .hbm, ⟨9, _⟩ => ⟨S32x32, .i32⟩
  | .hbm, ⟨10, _⟩ => ⟨S32x32, .i1⟩
  | .hbm, ⟨11, _⟩ => ⟨S32x32, .f32⟩
  | .hbm, ⟨12, _⟩ => ⟨S32x64x1x16, .f32⟩
  | .hbm, ⟨13, _⟩ => ⟨S32x1x32x1, .f32⟩
  | .hbm, ⟨14, _⟩ => ⟨S32x64x32x16, .f32⟩
  | .hbm, ⟨15, _⟩ => ⟨S32x64x32x16, .f32⟩
  | .hbm, ⟨16, _⟩ => ⟨S32x64x32x16, .f32⟩
  | .hbm, ⟨17, _⟩ => ⟨S2048x512, .f32⟩
  | .hbm, ⟨18, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg0.toNat, v10.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![v9.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SyImRefIdeal.lean ====
abbrev S8192x2048 : Shape := ⟨2, ![8192, 2048]⟩
abbrev S32x16x64 : Shape := ⟨3, ![32, 16, 64]⟩
abbrev S8192x512 : Shape := ⟨2, ![8192, 512]⟩
abbrev S8192x32x64 : Shape := ⟨3, ![8192, 32, 64]⟩
abbrev S32x16x8192 : Shape := ⟨3, ![32, 16, 8192]⟩
abbrev S8192x32x16 : Shape := ⟨3, ![8192, 32, 16]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S8192x512, .f32⟩
  | .hbm, ⟨3, _⟩ => ⟨S8192x32x64, .f32⟩
  | .hbm, ⟨4, _⟩ => ⟨S32x16x64, .f32⟩
  | .hbm, ⟨5, _⟩ => ⟨S32x16x8192, .f32⟩
  | .hbm, ⟨6, _⟩ => ⟨S8192x32x16, .f32⟩
  | .hbm, ⟨7, _⟩ => ⟨S8192x512, .f32⟩
  | .hbm, ⟨8, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SBuX0.lean ====
abbrev S8192x2048 : Shape := ⟨2, ![8192, 2048]⟩
abbrev S32x16x64 : Shape := ⟨3, ![32, 16, 64]⟩
abbrev S8192x512 : Shape := ⟨2, ![8192, 512]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S512x4096 : Shape := ⟨2, ![512, 4096]⟩
abbrev S1024x512 : Shape := ⟨2, ![1024, 512]⟩
abbrev S128x512 : Shape := ⟨2, ![128, 512]⟩
abbrev S1024x128 : Shape := ⟨2, ![1024, 128]⟩

abbrev nBuf : Space → Nat
  | .hbm => 32
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S32x16x64, .f32⟩
  | .hbm, ⟨3, _⟩ => ⟨S8192x512, .f32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S32x32, .f32⟩
  | .hbm, ⟨11, _⟩ => ⟨S32x16x1x64, .f32⟩
  | .hbm, ⟨12, _⟩ => ⟨S32x1x32x1, .f32⟩
  | .hbm, ⟨13, _⟩ => ⟨S32x16x32x64, .f32⟩
  | .hbm, ⟨14, _⟩ => ⟨S32x16x32x64, .f32⟩
  | .hbm, ⟨15, _⟩ => ⟨S32x16x32x64, .f32⟩
  | .hbm, ⟨16, _⟩ => ⟨S512x2048, .f32⟩
  | .hbm, ⟨17, _⟩ => ⟨S32x32, .i32⟩
  | .hbm, ⟨18, _⟩ => ⟨S32x32, .i32⟩
  | .hbm, ⟨19, _⟩ => ⟨S_, .i32⟩
  | .hbm, ⟨20, _⟩ => ⟨S32x32, .i32⟩
  | .hbm, ⟨21, _⟩ => ⟨S32x32, .i32⟩
  | .hbm, ⟨22, _⟩ => ⟨S32x32, .i1⟩
  | .hbm, ⟨23, _⟩ => ⟨S32x32, .f32⟩
  | .hbm, ⟨24, _⟩ => ⟨S32x16x1x64, .f32⟩
  | .hbm, ⟨25, _⟩ => ⟨S32x1x32x1, .f32⟩
  | .hbm, ⟨26, _⟩ => ⟨S32x16x32x64, .f32⟩
  | .hbm, ⟨27, _⟩ => ⟨S32x16x32x64, .f32⟩
  | .hbm, ⟨28, _⟩ => ⟨S32x16x32x64, .f32⟩
  | .hbm, ⟨29, _⟩ => ⟨S512x2048, .f32⟩
  | .hbm, ⟨30, _⟩ => ⟨S512x4096, .f32⟩
  | .hbm, ⟨31, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S128x512, .f32⟩
  | .local _ .vmem, ⟨3, _⟩ => ⟨S128x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.addi c0_i32_3 v9
  let c0_i32_4 : BitVec 32 := 0#32
  ![arg1.toNat, v10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SBuX0RefIdeal.lean ====
abbrev S8192x2048 : Shape := ⟨2, ![8192, 2048]⟩
abbrev S32x16x64 : Shape := ⟨3, ![32, 16, 64]⟩
abbrev S8192x512 : Shape := ⟨2, ![8192, 512]⟩
abbrev S_ : Shape := ⟨0, ![]⟩
abbrev S8192x32x16 : Shape := ⟨3, ![8192, 32, 16]⟩
abbrev S32x64x8192 : Shape := ⟨3, ![32, 64, 8192]⟩
abbrev S8192x32x64 : Shape := ⟨3, ![8192, 32, 64]⟩
abbrev S32x8192x16 : Shape := ⟨3, ![32, 8192, 16]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S32x16x64, .f32⟩
  | .hbm, ⟨3, _⟩ => ⟨S8192x512, .f32⟩
  | .hbm, ⟨4, _⟩ => ⟨S_, .f32⟩
  | .hbm, ⟨5, _⟩ => ⟨S8192x32x16, .f32⟩
  | .hbm, ⟨6, _⟩ => ⟨S32x64x8192, .f32⟩
  | .hbm, ⟨7, _⟩ => ⟨S8192x32x64, .f32⟩
  | .hbm, ⟨8, _⟩ => ⟨S8192x32x64, .f32⟩
  | .hbm, ⟨9, _⟩ => ⟨S32x64x8192, .f32⟩
  | .hbm, ⟨10, _⟩ => ⟨S32x8192x16, .f32⟩
  | .hbm, ⟨11, _⟩ => ⟨S8192x32x16, .f32⟩
  | .hbm, ⟨12, _⟩ => ⟨S8192x512, .f32⟩
  | .hbm, ⟨13, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== SBuX1.lean ====
abbrev S8192x2048 : Shape := ⟨2, ![8192, 2048]⟩
abbrev S32x16x64 : Shape := ⟨3, ![32, 16, 64]⟩
abbrev S8192x512 : Shape := ⟨2, ![8192, 512]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S512x4096 : Shape := ⟨2, ![512, 4096]⟩
abbrev S1024x512 : Shape := ⟨2, ![1024, 512]⟩
abbrev S128x512 : Shape := ⟨2, ![128, 512]⟩
abbrev S1024x128 : Shape := ⟨2, ![1024, 128]⟩

abbrev nBuf : Space → Nat
  | .hbm => 32
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S32x16x64, .f32⟩
  | .hbm, ⟨3, _⟩ => ⟨S8192x512, .f32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S32x32, .f32⟩
  | .hbm, ⟨11, _⟩ => ⟨S32x16x1x64, .f32⟩
  | .hbm, ⟨12, _⟩ => ⟨S32x1x32x1, .f32⟩
  | .hbm, ⟨13, _⟩ => ⟨S32x16x32x64, .f32⟩
  | .hbm, ⟨14, _⟩ => ⟨S32x16x32x64, .f32⟩
  | .hbm, ⟨15, _⟩ => ⟨S32x16x32x64, .f32⟩
  | .hbm, ⟨16, _⟩ => ⟨S512x2048, .f32⟩
  | .hbm, ⟨17, _⟩ => ⟨S32x32, .i32⟩
  | .hbm, ⟨18, _⟩ => ⟨S32x32, .i32⟩
  | .hbm, ⟨19, _⟩ => ⟨S_, .i32⟩
  | .hbm, ⟨20, _⟩ => ⟨S32x32, .i32⟩
  | .hbm, ⟨21, _⟩ => ⟨S32x32, .i32⟩
  | .hbm, ⟨22, _⟩ => ⟨S32x32, .i1⟩
  | .hbm, ⟨23, _⟩ => ⟨S32x32, .f32⟩
  | .hbm, ⟨24, _⟩ => ⟨S32x16x1x64, .f32⟩
  | .hbm, ⟨25, _⟩ => ⟨S32x1x32x1, .f32⟩
  | .hbm, ⟨26, _⟩ => ⟨S32x16x32x64, .f32⟩
  | .hbm, ⟨27, _⟩ => ⟨S32x16x32x64, .f32⟩
  | .hbm, ⟨28, _⟩ => ⟨S32x16x32x64, .f32⟩
  | .hbm, ⟨29, _⟩ => ⟨S512x2048, .f32⟩
  | .hbm, ⟨30, _⟩ => ⟨S512x4096, .f32⟩
  | .hbm, ⟨31, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S128x512, .f32⟩
  | .local _ .vmem, ⟨3, _⟩ => ⟨S128x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg0.toNat, v9.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.addi c4_i32_3 v9
  let c0_i32_4 : BitVec 32 := 0#32
  ![arg1.toNat, v10.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SBuX1RefIdeal.lean ====
abbrev S8192x2048 : Shape := ⟨2, ![8192, 2048]⟩
abbrev S32x16x64 : Shape := ⟨3, ![32, 16, 64]⟩
abbrev S8192x512 : Shape := ⟨2, ![8192, 512]⟩
abbrev S_ : Shape := ⟨0, ![]⟩
abbrev S8192x32x16 : Shape := ⟨3, ![8192, 32, 16]⟩
abbrev S32x64x8192 : Shape := ⟨3, ![32, 64, 8192]⟩
abbrev S8192x32x64 : Shape := ⟨3, ![8192, 32, 64]⟩
abbrev S32x8192x16 : Shape := ⟨3, ![32, 8192, 16]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S32x16x64, .f32⟩
  | .hbm, ⟨2, _⟩ => ⟨S32x16x64, .f32⟩
  | .hbm, ⟨3, _⟩ => ⟨S8192x512, .f32⟩
  | .hbm, ⟨4, _⟩ => ⟨S_, .f32⟩
  | .hbm, ⟨5, _⟩ => ⟨S8192x32x16, .f32⟩
  | .hbm, ⟨6, _⟩ => ⟨S32x64x8192, .f32⟩
  | .hbm, ⟨7, _⟩ => ⟨S8192x32x64, .f32⟩
  | .hbm, ⟨8, _⟩ => ⟨S8192x32x64, .f32⟩
  | .hbm, ⟨9, _⟩ => ⟨S32x64x8192, .f32⟩
  | .hbm, ⟨10, _⟩ => ⟨S32x8192x16, .f32⟩
  | .hbm, ⟨11, _⟩ => ⟨S8192x32x16, .f32⟩
  | .hbm, ⟨12, _⟩ => ⟨S8192x512, .f32⟩
  | .hbm, ⟨13, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.At2.lean ====
/- Hand-written: reading a two-axis array at natural numbers, so that a block's index and an array's are one arithmetic
   expression, and a sum over tiles is a sum over a range. -/
module

public import Idealize.ShloMosaic.PureOps.Ideal.Laws
public import Idealize.ShloMosaic.Lib.Pointwise

@[expose] public section

namespace Cert.Proof

open Idealize.ShloMosaic

/-- `X` at row `r`, column `c`, both below the extents wherever it is used. -/
def at2 {a b : ℕ} [NeZero a] [NeZero b] {α : Type} (X : (⟨2, ![a, b]⟩ : Shape).Idx → α) (r c : ℕ) : α :=
  X (ix2 (Fin.ofNat a r) (Fin.ofNat b c))

theorem eq_at2 {a b : ℕ} [NeZero a] [NeZero b] {α : Type} (X : (⟨2, ![a, b]⟩ : Shape).Idx → α)
    (j : (⟨2, ![a, b]⟩ : Shape).Idx) (r c : ℕ) (h0 : (j 0).val = r) (h1 : (j 1).val = c) : X j = at2 X r c := by
  subst h0 h1
  refine congrArg X (funext fun d => Fin.ext ?_)
  match d with
  | ⟨0, _⟩ => exact (Nat.mod_eq_of_lt (j 0).isLt).symm
  | ⟨1, _⟩ => exact (Nat.mod_eq_of_lt (j 1).isLt).symm

end Cert.Proof
-- ==== Proof.AttnRow.lean ====
/- Hand-written: ONE ROW OF THE ATTENTION'S GRADIENT, over the extended reals. A query row has the scores `s` against
   the memory tokens and, for each token, the product `g` of the row's cotangent with the token's value. The kernel and
   the reference both compute the softmax of `s` and the gradient of the loss by `s`, in the same operations; they are
   named here once, and the kernel's payloads and the reference's values are read as them. -/
module

public import Idealize.ShloMosaic.PureOps.Ideal.Laws
public import Idealize.ShloMosaic.Lib.ValueIdx

@[expose] public section

noncomputable section

namespace Cert.Proof.Attn

open Idealize.ShloMosaic
open scoped BigOperators

variable {n : ℕ}

/-- The row's greatest score, from −∞. -/
def top (s : Fin n → EReal) : EReal := Finset.univ.fold max (Ideal.ofBits .f32 0xFF800000#32) s

/-- One where the score is the greatest, zero elsewhere. -/
def hit (s : Fin n → EReal) (k : Fin n) : EReal := (((Ideal.cmp .oeq (s k) (top s)).toNat : ℝ) : EReal)

/-- The exponential of a score with the greatest taken off. -/
def ex (s : Fin n → EReal) (k : Fin n) : EReal := Ideal.exp (s k - top s)

/-- The exponentials' sum. -/
def mass (s : Fin n → EReal) : EReal := ∑ k, ex s k

/-- The softmax's weight. -/
def prob (s : Fin n → EReal) (k : Fin n) : EReal := Ideal.div (ex s k) (mass s)

/-- The cotangent reaching the sum, with its sign turned. -/
def pull (s g : Fin n → EReal) : EReal :=
  ∑ k, g k * Ideal.div 1 (mass s * mass s) * ex s k

/-- The cotangent of a score with the greatest taken off. -/
def dshift (s g : Fin n → EReal) (k : Fin n) : EReal := (Ideal.div (g k) (mass s) + -(pull s g)) * ex s k

/-- The cotangent of the greatest score, shared evenly among the places that reach it. -/
def dtop (s g : Fin n → EReal) : EReal := Ideal.div (∑ k, -(dshift s g k)) (∑ k, hit s k)

/-- The cotangent of the product of query and key, the scale included. -/
def dscore (s g : Fin n → EReal) (k : Fin n) : EReal :=
  (dshift s g k + dtop s g * hit s k) * Ideal.ofBits .f32 0x3D800000#32

/-- A one-bit word widened and read as a signed integer is the word read unsigned. -/
theorem toInt_widen (b : BitVec 1) : (b.setWidth 32).toInt = (b.toNat : ℤ) := by
  revert b; decide

end Cert.Proof.Attn

end
-- ==== Proof.AttnSpec.lean ====
/- Hand-written: THE ATTENTION'S GRADIENT ENTRY BY ENTRY, over the extended reals: what the three result arrays hold as
   functions of the queries `Q`, the keys and values `KV` (the values 1024 columns to the right of the keys) and the
   cotangent `G`. Batch `b` owns 4096 query rows and 256 memory rows; head `h` owns 256 columns. -/
module

public import proofs.«01_k».proof.Proof.At2
public import proofs.«01_k».proof.Proof.AttnRow

@[expose] public section

noncomputable section

namespace Cert.Proof.Attn

open Idealize.ShloMosaic
open scoped BigOperators

variable (Q : (⟨2, ![8192, 1024]⟩ : Shape).Idx → EReal) (KV : (⟨2, ![512, 2048]⟩ : Shape).Idx → EReal)
  (G : (⟨2, ![8192, 1024]⟩ : Shape).Idx → EReal)

/-- The scores of query row `s` of batch `b` under head `h`. -/
def score (b h s : ℕ) (j : Fin 256) : EReal :=
  (∑ d : Fin 256, at2 Q (4096 * b + s) (256 * h + d) * at2 KV (256 * b + j) (256 * h + d)) * Ideal.ofBits .f32 0x3D800000#32

/-- The cotangent of that row's weights. -/
def weight (b h s : ℕ) (j : Fin 256) : EReal :=
  ∑ d : Fin 256, at2 G (4096 * b + s) (256 * h + d) * at2 KV (256 * b + j) (1024 + 256 * h + d)

/-- The query gradient at row `s` of batch `b`, column `d` of head `h`. -/
def dq (b h s d : ℕ) : EReal :=
  ∑ j : Fin 256, dscore (score Q KV b h s) (weight KV G b h s) j * at2 KV (256 * b + j) (256 * h + d)

/-- Query row `s`'s part of the key gradient at memory row `j`. -/
def dkTerm (b h : ℕ) (j : Fin 256) (d s : ℕ) : EReal :=
  dscore (score Q KV b h s) (weight KV G b h s) j * at2 Q (4096 * b + s) (256 * h + d)

/-- Query row `s`'s part of the value gradient at memory row `j`. -/
def dvTerm (b h : ℕ) (j : Fin 256) (d s : ℕ) : EReal :=
  prob (score Q KV b h s) j * at2 G (4096 * b + s) (256 * h + d)

/-- The query gradient as an array. -/
def dqArr (i : (⟨2, ![8192, 1024]⟩ : Shape).Idx) : EReal :=
  dq Q KV G ((i 0).val / 4096) ((i 1).val / 256) ((i 0).val % 4096) ((i 1).val % 256)

/-- The key gradient as an array. -/
def dkArr (i : (⟨2, ![512, 1024]⟩ : Shape).Idx) : EReal :=
  ∑ s ∈ Finset.range 4096, dkTerm Q KV G ((i 0).val / 256) ((i 1).val / 256) (Fin.ofNat 256 (i 0).val) ((i 1).val % 256) s

/-- The value gradient as an array. -/
def dvArr (i : (⟨2, ![512, 1024]⟩ : Shape).Idx) : EReal :=
  ∑ s ∈ Finset.range 4096, dvTerm Q KV G ((i 0).val / 256) ((i 1).val / 256) (Fin.ofNat 256 (i 0).val) ((i 1).val % 256) s

end Cert.Proof.Attn

end
-- ==== Proof.AttnPay.lean ====
/- Hand-written: the kernel's payloads of one query tile, read at an index, as the row functions of AttnRow.lean. -/
module

public import proofs.«01_k».proof.Proof.AttnRow
public import proofs.«01_k».proof.Proof.Gen.KernelIdeal.Skeleton
public import Idealize.ShloMosaic.Lib.Pointwise

@[expose] public section

set_option maxRecDepth 16384

noncomputable section

namespace Cert.Proof.Attn

open Cert.KernelIdeal Cert.KernelIdeal.Gen Idealize.ShloMosaic
open scoped BigOperators

variable (q : Vec Ideal S512x256 .bf16) (k : Vec Ideal S256x256 .f32) (v : Vec Ideal S256x256 .f32)
  (g : Vec Ideal S512x256 .f32)

/-- The scores of tile row `r`. -/
def tscore (r : Fin 512) (j : Fin 256) : EReal :=
  (∑ d : Fin 256, q (ix2 r d) * k (ix2 j d)) * Ideal.ofBits .f32 0x3D800000#32

/-- Tile row `r`'s cotangent against each token's value. -/
def tpull (r : Fin 512) (j : Fin 256) : EReal := ∑ d : Fin 256, g (ix2 r d) * v (ix2 j d)

theorem pay2_apply (r : Fin 512) (j : Fin 256) : k0_pay2 q k (ix2 r j) = tscore q k r j := by
  unfold k0_pay2 k0_pay1 tscore
  pointwise

theorem pay3_apply (r : Fin 512) : k0_pay3 q k (ix1 r) = top (tscore q k r) := by
  refine (Ideal.multiReduction_maximumf_single (k0_pay2 q k) _ reduces_S512x256_S512 (.inl rfl) rfl (ix1 r)).trans ?_
  refine congrArg (Finset.univ.fold max _) (funext fun j => ?_)
  refine Eq.trans (congrArg (k0_pay2 q k) (funext fun a => Fin.ext ?_)) (pay2_apply q k r j)
  match a with
  | ⟨0, _⟩ => rfl
  | ⟨1, _⟩ => rfl

theorem pay4_apply (r : Fin 512) (j : Fin 256) : k0_pay4 q k (ix2 r j) = hit (tscore q k r) j := by
  unfold k0_pay4 hit
  pointwise
  rw [pay2_apply, pay3_apply]
  show ((BitVec.toInt _ : ℝ) : EReal) = _
  rw [toInt_widen]
  rfl

theorem pay5_apply (r : Fin 512) : k0_pay5 q k (ix1 r) = ∑ j, hit (tscore q k r) j := by
  unfold k0_pay5
  pointwise
  simp only [pay4_apply]

theorem pay6_apply (r : Fin 512) (j : Fin 256) : k0_pay6 q k (ix2 r j) = ex (tscore q k r) j := by
  unfold k0_pay6
  pointwise
  rw [pay2_apply, pay3_apply]
  rfl

theorem pay7_apply (r : Fin 512) : k0_pay7 q k (ix2 r 0) = mass (tscore q k r) := by
  unfold k0_pay7
  pointwise
  simp only [pay6_apply]
  rfl

theorem pay8_apply (r : Fin 512) (j : Fin 256) : k0_pay8 v g (ix2 r j) = tpull v g r j := by
  unfold k0_pay8 tpull
  pointwise

theorem pay9_apply (j d : Fin 256) :
    k0_pay9 q k g (ix2 j d) = ∑ r : Fin 512, prob (tscore q k r) j * g (ix2 r d) := by
  unfold k0_pay9
  pointwise
  simp only [pay6_apply, pay7_apply]
  rfl

theorem pay10_apply (r : Fin 512) : k0_pay10 q k v g (ix2 r 0) = pull (tscore q k r) (tpull v g r) := by
  unfold k0_pay10
  pointwise
  simp only [pay6_apply, pay7_apply, pay8_apply]
  rfl

/-- The second half of the body's arithmetic, its operands the first half's payloads: the tile's score gradient. -/
theorem pay11_apply (r : Fin 512) (j : Fin 256) :
    k0_pay11 (k0_pay4 q k) (k0_pay5 q k) (k0_pay6 q k) (k0_pay7 q k) (k0_pay8 v g) (k0_pay10 q k v g)
      (Scalar.ofBits .f32 0x00000000#32) (ix2 r j) = dscore (tscore q k r) (tpull v g r) j := by
  unfold k0_pay11
  pointwise
  simp only [pay4_apply, pay5_apply, pay6_apply, pay7_apply, pay8_apply, pay10_apply,
    zero_sub, Finset.univ_unique, Finset.sum_singleton, Fin.default_eq_zero, Fin.isValue]
  rfl

/-- The query gradient of a tile. -/
theorem pay12_apply (r : Fin 512) (d : Fin 256) :
    k0_pay12 k (k0_pay4 q k) (k0_pay5 q k) (k0_pay6 q k) (k0_pay7 q k) (k0_pay8 v g) (k0_pay10 q k v g)
      (Scalar.ofBits .f32 0x00000000#32) (ix2 r d)
      = ∑ j : Fin 256, dscore (tscore q k r) (tpull v g r) j * k (ix2 j d) := by
  have h := pay11_apply q k v g
  unfold k0_pay12
  generalize k0_pay11 (F := Ideal) _ _ _ _ _ _ _ = D at h ⊢
  pointwise
  simp only [h]

/-- A tile's addition to the key gradient. -/
theorem pay15_apply (o : Vec Ideal S256x256 .f32) (j d : Fin 256) :
    k0_pay15 (k0_pay1 q) (k0_pay4 q k) (k0_pay5 q k) (k0_pay6 q k) (k0_pay7 q k) (k0_pay8 v g) (k0_pay10 q k v g)
      (Scalar.ofBits .f32 0x00000000#32) o (ix2 j d)
      = o (ix2 j d) + ∑ r : Fin 512, dscore (tscore q k r) (tpull v g r) j * q (ix2 r d) := by
  have h := pay11_apply q k v g
  unfold k0_pay15 k0_pay1
  generalize k0_pay11 (F := Ideal) _ _ _ _ _ _ _ = D at h ⊢
  pointwise
  simp only [h]

/-- A tile's addition to the value gradient. -/
theorem pay16_apply (o : Vec Ideal S256x256 .f32) (j d : Fin 256) :
    k0_pay16 (k0_pay9 q k g) o (ix2 j d)
      = o (ix2 j d) + ∑ r : Fin 512, prob (tscore q k r) j * g (ix2 r d) := by
  unfold k0_pay16
  pointwise
  rw [pay9_apply]

end Cert.Proof.Attn

end
-- ==== Proof.AttnOut.lean ====
/- Hand-written: WHAT ONE GRID POINT LEAVES in the three output blocks, as functions of its input blocks, at any float
   values. A point stores the tile's query gradient whole, and adds the tile's share to the key and value gradients; the
   first point of a head (case A) adds to the zero block, a later one (case B) to what the point before left. -/
module

public import proofs.«01_k».proof.Proof.Gen.KernelIdeal.Value

@[expose] public section

set_option maxRecDepth 16384

noncomputable section

namespace Cert.Proof.Attn

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A tile's query gradient. -/
def dqTile (q : Vec F S512x256 .bf16) (k v : Vec F S256x256 .f32) (g : Vec F S512x256 .f32) : Vec F S512x256 .f32 :=
  k0_pay12 k (k0_pay4 q k) (k0_pay5 q k) (k0_pay6 q k) (k0_pay7 q k) (k0_pay8 v g) (k0_pay10 q k v g)
    (Scalar.ofBits .f32 0x00000000#32)

/-- The key gradient `o` with a tile's share added. -/
def dkStep (q : Vec F S512x256 .bf16) (k v : Vec F S256x256 .f32) (g : Vec F S512x256 .f32) (o : Vec F S256x256 .f32) :
    Vec F S256x256 .f32 :=
  k0_pay15 (k0_pay1 q) (k0_pay4 q k) (k0_pay5 q k) (k0_pay6 q k) (k0_pay7 q k) (k0_pay8 v g) (k0_pay10 q k v g)
    (Scalar.ofBits .f32 0x00000000#32) o

/-- The value gradient `o` with a tile's share added. -/
def dvStep (q : Vec F S512x256 .bf16) (k : Vec F S256x256 .f32) (g : Vec F S512x256 .f32) (o : Vec F S256x256 .f32) :
    Vec F S256x256 .f32 :=
  k0_pay16 (k0_pay9 q k g) o

section Cases

variable (c : Dev nD) (i : grid0.Coords)
  (a3 : Memref sig .tc .vmem S512x256 .bf16) (h3 : a3.IsWhole) (a4 : Memref sig .tc .vmem S256x256 .f32) (h4 : a4.IsWhole)
  (a5 : Memref sig .tc .vmem S256x256 .f32) (h5 : a5.IsWhole) (a6 : Memref sig .tc .vmem S512x256 .f32) (h6 : a6.IsWhole)
  (a7 : Memref sig .tc .vmem S512x256 .f32) (h7 : a7.IsWhole) (a8 : Memref sig .tc .vmem S256x256 .f32) (h8 : a8.IsWhole)
  (a9 : Memref sig .tc .vmem S256x256 .f32) (h9 : a9.IsWhole)
  (q : Vec F S512x256 .bf16) (k v : Vec F S256x256 .f32) (g : Vec F S512x256 .f32) (o5 o6 : Vec F S256x256 .f32)

theorem out_A_4 (hc : cond0_0 i) :
    out0_A_4 c i a3 h3 a4 h4 a5 h5 a6 h6 a7 h7 a8 h8 a9 h9 hc q k v g = dqTile q k v g := by
  unfold out0_A_4
  rw [View.read_writes_eq_canon _ _ _ (cover0_A_4 c i a3 h3 a4 h4 a5 h5 a6 h6 a7 h7 a8 h8 a9 h9 hc q k v g)]
  unfold kernelRun0_A
  dsimp only
  sl_unfold_words
  rw [View.canon_unit_zero hz]
  simp only [View.readAt_eq_ld, h3.read_unread, h4.read_unread, h5.read_unread, h6.read_unread,
    View.ld_unit_zero (S := S512x256) hz, View.ld_unit_zero (S := S256x256) hz]
  rfl

theorem out_B_4 (hc : ¬cond0_0 i) :
    out0_B_4 c i a3 h3 a4 h4 a5 h5 a6 h6 a7 h7 a8 h8 a9 h9 hc q k v g o5 o6 = dqTile q k v g := by
  unfold out0_B_4
  rw [View.read_writes_eq_canon _ _ _ (cover0_B_4 c i a3 h3 a4 h4 a5 h5 a6 h6 a7 h7 a8 h8 a9 h9 hc q k v g o5 o6)]
  unfold kernelRun0_B
  dsimp only
  sl_unfold_words
  rw [View.canon_unit_zero hz]
  simp only [View.readAt_eq_ld, h3.read_unread, h4.read_unread, h5.read_unread, h6.read_unread,
    View.ld_unit_zero (S := S512x256) hz, View.ld_unit_zero (S := S256x256) hz]
  rfl

theorem out_A_5 (hc : cond0_0 i) :
    out0_A_5 c i a3 h3 a4 h4 a5 h5 a6 h6 a7 h7 a8 h8 a9 h9 hc q k v g = dkStep q k v g k0_pay13 := by
  unfold out0_A_5
  rw [View.read_writes_eq_canon _ _ _ (cover0_A_5 c i a3 h3 a4 h4 a5 h5 a6 h6 a7 h7 a8 h8 a9 h9 hc q k v g)]
  unfold kernelRun0_A
  dsimp only
  sl_unfold_words
  rw [View.canon_cons_unit_zero (S := S256x256) hz, View.readCov_unit_zero (S := S256x256) _ hz]
  simp only [View.readAt_eq_ld, h3.read_unread, h4.read_unread, h5.read_unread, h6.read_unread,
    View.ld_unit_zero (S := S512x256) hz, View.ld_unit_zero (S := S256x256) hz]
  rfl

theorem out_B_5 (hc : ¬cond0_0 i) :
    out0_B_5 c i a3 h3 a4 h4 a5 h5 a6 h6 a7 h7 a8 h8 a9 h9 hc q k v g o5 o6 = dkStep q k v g o5 := by
  unfold out0_B_5
  rw [View.read_writes_eq_canon _ _ _ (cover0_B_5 c i a3 h3 a4 h4 a5 h5 a6 h6 a7 h7 a8 h8 a9 h9 hc q k v g o5 o6)]
  unfold kernelRun0_B
  dsimp only
  sl_unfold_words
  rw [View.canon_unit_zero hz]
  simp only [View.readAt_eq_ld, h3.read_unread, h4.read_unread, h5.read_unread, h6.read_unread, h8.read_unread,
    View.ld_unit_zero (S := S512x256) hz, View.ld_unit_zero (S := S256x256) hz]
  rfl

theorem out_A_6 (hc : cond0_0 i) :
    out0_A_6 c i a3 h3 a4 h4 a5 h5 a6 h6 a7 h7 a8 h8 a9 h9 hc q k v g = dvStep q k g k0_pay14 := by
  unfold out0_A_6
  rw [View.read_writes_eq_canon _ _ _ (cover0_A_6 c i a3 h3 a4 h4 a5 h5 a6 h6 a7 h7 a8 h8 a9 h9 hc q k v g)]
  unfold kernelRun0_A
  dsimp only
  sl_unfold_words
  rw [View.canon_cons_unit_zero (S := S256x256) hz, View.readCov_unit_zero (S := S256x256) _ hz]
  simp only [View.readAt_eq_ld, h3.read_unread, h4.read_unread, h5.read_unread, h6.read_unread,
    View.ld_unit_zero (S := S512x256) hz, View.ld_unit_zero (S := S256x256) hz]
  rfl

theorem out_B_6 (hc : ¬cond0_0 i) :
    out0_B_6 c i a3 h3 a4 h4 a5 h5 a6 h6 a7 h7 a8 h8 a9 h9 hc q k v g o5 o6 = dvStep q k g o6 := by
  unfold out0_B_6
  rw [View.read_writes_eq_canon _ _ _ (cover0_B_6 c i a3 h3 a4 h4 a5 h5 a6 h6 a7 h7 a8 h8 a9 h9 hc q k v g o5 o6)]
  unfold kernelRun0_B
  dsimp only
  sl_unfold_words
  rw [View.canon_unit_zero hz]
  simp only [View.readAt_eq_ld, h3.read_unread, h4.read_unread, h5.read_unread, h6.read_unread, h9.read_unread,
    View.ld_unit_zero (S := S512x256) hz, View.ld_unit_zero (S := S256x256) hz]
  rfl

end Cases

end Cert.Proof.Attn

end
-- ==== Proof.AttnFinal.lean ====
/- Hand-written: THE KERNEL'S RESULT ARRAYS. Grid point `t` is batch `t / 32`, head `t / 8 % 4`, query tile `t % 8`; its
   input blocks are read off the argument arrays (`blk0` to `blk3`), the key and value gradients' blocks hold the sum over
   the query rows met so far (`outs_eq`, by induction on the point), and the arrays end at the entries of AttnSpec.lean. -/
module

public import proofs.«01_k».proof.Proof.AttnSpec
public import proofs.«01_k».proof.Proof.AttnPay
public import proofs.«01_k».proof.Proof.AttnOut

@[expose] public section

set_option maxRecDepth 16384

noncomputable section

namespace Cert.Proof.Attn

open Cert.KernelIdeal Cert.KernelIdeal.Gen Cert.KernelIdeal.Value Idealize.ShloMosaic Idealize.ShloMosaic.TcCoe Idealize.SL.Sem
open scoped BigOperators

variable (m : (ℓ : Loc nD τ sig) → Buf (Elt Ideal) ℓ) (ρ : Dev nD → PrngReg) (c : Dev nD)

abbrev argQ : (⟨2, ![8192, 1024]⟩ : Shape).Idx → EReal := m ((c : Thread nD τ).loc main_arg0)
abbrev argKV : (⟨2, ![512, 2048]⟩ : Shape).Idx → EReal := m ((c : Thread nD τ).loc main_arg1)
abbrev argG : (⟨2, ![8192, 1024]⟩ : Shape).Idx → EReal := m ((c : Thread nD τ).loc main_arg2)

/-! ## The windows' block indices -/

theorem ix0_0 : ∀ t : Fin cfg0.N, win0_0.index t (0 : Fin 2) = t.val / 32 * 8 + t.val % 8 ∧ win0_0.index t (1 : Fin 2) = t.val / 8 % 4 :=
  (by decide +kernel : ∀ t : Fin grid0.N, _)
theorem ix0_1 : ∀ t : Fin cfg0.N, win0_1.index t (0 : Fin 2) = t.val / 32 ∧ win0_1.index t (1 : Fin 2) = t.val / 8 % 4 :=
  (by decide +kernel : ∀ t : Fin grid0.N, _)
theorem ix0_2 : ∀ t : Fin cfg0.N, win0_2.index t (0 : Fin 2) = t.val / 32 ∧ win0_2.index t (1 : Fin 2) = 4 + t.val / 8 % 4 :=
  (by decide +kernel : ∀ t : Fin grid0.N, _)
theorem ix0_3 : ∀ t : Fin cfg0.N, win0_3.index t (0 : Fin 2) = t.val / 32 * 8 + t.val % 8 ∧ win0_3.index t (1 : Fin 2) = t.val / 8 % 4 :=
  (by decide +kernel : ∀ t : Fin grid0.N, _)
theorem ix0_4 : ∀ t : Fin cfg0.N, win0_4.index t (0 : Fin 2) = t.val / 32 * 8 + t.val % 8 ∧ win0_4.index t (1 : Fin 2) = t.val / 8 % 4 :=
  (by decide +kernel : ∀ t : Fin grid0.N, _)
theorem ix0_5 : ∀ t : Fin cfg0.N, win0_5.index t (0 : Fin 2) = t.val / 32 ∧ win0_5.index t (1 : Fin 2) = t.val / 8 % 4 :=
  (by decide +kernel : ∀ t : Fin grid0.N, _)
theorem ix0_6 : ∀ t : Fin cfg0.N, win0_6.index t (0 : Fin 2) = t.val / 32 ∧ win0_6.index t (1 : Fin 2) = t.val / 8 % 4 :=
  (by decide +kernel : ∀ t : Fin grid0.N, _)

/-! ## The input blocks -/

theorem blk0 (t : Fin cfg0.N) (r : Fin 512) (d : Fin 256) : (iblk m c 0 t : Vec Ideal S512x256 .bf16) (ix2 r d)
    = at2 (argQ m c) (4096 * (t.val / 32) + (512 * (t.val % 8) + r.val)) (256 * (t.val / 8 % 4) + d.val) := by
  obtain ⟨e0, e1⟩ := ix0_0 t
  refine eq_at2 (argQ m c) (((cfg0.win 0).blk t).view.emb (ix2 r d)) _ _ ?_ ?_
  · show win0_0.index t (0 : Fin 2) * 512 + 1 * r.val = _; omega
  · show win0_0.index t (1 : Fin 2) * 256 + 1 * d.val = _; omega

theorem blk1 (t : Fin cfg0.N) (r : Fin 256) (d : Fin 256) : (iblk m c 1 t : Vec Ideal S256x256 .f32) (ix2 r d)
    = at2 (argKV m c) (256 * (t.val / 32) + r.val) (256 * (t.val / 8 % 4) + d.val) := by
  obtain ⟨e0, e1⟩ := ix0_1 t
  refine eq_at2 (argKV m c) (((cfg0.win 1).blk t).view.emb (ix2 r d)) _ _ ?_ ?_
  · show win0_1.index t (0 : Fin 2) * 256 + 1 * r.val = _; omega
  · show win0_1.index t (1 : Fin 2) * 256 + 1 * d.val = _; omega

theorem blk2 (t : Fin cfg0.N) (r : Fin 256) (d : Fin 256) : (iblk m c 2 t : Vec Ideal S256x256 .f32) (ix2 r d)
    = at2 (argKV m c) (256 * (t.val / 32) + r.val) (1024 + 256 * (t.val / 8 % 4) + d.val) := by
  obtain ⟨e0, e1⟩ := ix0_2 t
  refine eq_at2 (argKV m c) (((cfg0.win 2).blk t).view.emb (ix2 r d)) _ _ ?_ ?_
  · show win0_2.index t (0 : Fin 2) * 256 + 1 * r.val = _; omega
  · show win0_2.index t (1 : Fin 2) * 256 + 1 * d.val = _; omega

theorem blk3 (t : Fin cfg0.N) (r : Fin 512) (d : Fin 256) : (iblk m c 3 t : Vec Ideal S512x256 .f32) (ix2 r d)
    = at2 (argG m c) (4096 * (t.val / 32) + (512 * (t.val % 8) + r.val)) (256 * (t.val / 8 % 4) + d.val) := by
  obtain ⟨e0, e1⟩ := ix0_3 t
  refine eq_at2 (argG m c) (((cfg0.win 3).blk t).view.emb (ix2 r d)) _ _ ?_ ?_
  · show win0_3.index t (0 : Fin 2) * 512 + 1 * r.val = _; omega
  · show win0_3.index t (1 : Fin 2) * 256 + 1 * d.val = _; omega

theorem tscore_eq (t : Fin cfg0.N) (r : Fin 512) : tscore (iblk m c 0 t) (iblk m c 1 t) r
    = score (argQ m c) (argKV m c) (t.val / 32) (t.val / 8 % 4) (512 * (t.val % 8) + r.val) := by
  funext j
  unfold tscore score
  simp only [blk0, blk1]

theorem tpull_eq (t : Fin cfg0.N) (r : Fin 512) : tpull (iblk m c 2 t) (iblk m c 3 t) r
    = weight (argKV m c) (argG m c) (t.val / 32) (t.val / 8 % 4) (512 * (t.val % 8) + r.val) := by
  funext j
  unfold tpull weight
  simp only [blk2, blk3]

/-! ## What a point leaves -/

theorem dqTile_apply (t : Fin cfg0.N) (r : Fin 512) (d : Fin 256) :
    dqTile (iblk m c 0 t) (iblk m c 1 t) (iblk m c 2 t) (iblk m c 3 t) (ix2 r d)
      = dq (argQ m c) (argKV m c) (argG m c) (t.val / 32) (t.val / 8 % 4) (512 * (t.val % 8) + r.val) d.val := by
  unfold dqTile dq
  rw [pay12_apply, tscore_eq, tpull_eq]
  simp only [blk1]

theorem dkStep_apply (t : Fin cfg0.N) (o : Vec Ideal S256x256 .f32) (j d : Fin 256) :
    dkStep (iblk m c 0 t) (iblk m c 1 t) (iblk m c 2 t) (iblk m c 3 t) o (ix2 j d)
      = o (ix2 j d) + ∑ r ∈ Finset.range 512, dkTerm (argQ m c) (argKV m c) (argG m c) (t.val / 32) (t.val / 8 % 4) j d.val
          (512 * (t.val % 8) + r) := by
  unfold dkStep
  rw [pay15_apply, Finset.sum_range]
  simp only [tscore_eq, tpull_eq, blk0]
  rfl

theorem dvStep_apply (t : Fin cfg0.N) (o : Vec Ideal S256x256 .f32) (j d : Fin 256) :
    dvStep (iblk m c 0 t) (iblk m c 1 t) (iblk m c 3 t) o (ix2 j d)
      = o (ix2 j d) + ∑ r ∈ Finset.range 512, dvTerm (argQ m c) (argKV m c) (argG m c) (t.val / 32) (t.val / 8 % 4) j d.val
          (512 * (t.val % 8) + r) := by
  unfold dvStep
  rw [pay16_apply, Finset.sum_range]
  simp only [tscore_eq, blk3]
  rfl

/-- The blocks' reset value is zero. -/
theorem reset5 (j d : Fin 256) : k0_pay13 (F := Ideal) (ix2 j d) = 0 := by
  unfold k0_pay13
  pointwise

theorem reset6 (j d : Fin 256) : k0_pay14 (F := Ideal) (ix2 j d) = 0 := by
  unfold k0_pay14
  pointwise

/-- After point `n`, the key and value gradients' blocks hold the sums over the query rows of the head met so far. -/
theorem outs_eq : ∀ (n : ℕ) (hn : n < cfg0.N) (j d : Fin 256),
    (outsAt0 m c n hn).2.1 (ix2 j d) = ∑ s ∈ Finset.range (512 * (n % 8) + 512),
        dkTerm (argQ m c) (argKV m c) (argG m c) (n / 32) (n / 8 % 4) j d.val s
    ∧ (outsAt0 m c n hn).2.2 (ix2 j d) = ∑ s ∈ Finset.range (512 * (n % 8) + 512),
        dvTerm (argQ m c) (argKV m c) (argG m c) (n / 32) (n / 8 % 4) j d.val s := by
  intro n
  induction n using Nat.strong_induction_on with
  | _ n ih =>
    intro hn j d
    by_cases h0 : n % 8 = 0
    · have h := outsAt0_A m c ⟨n, hn⟩ h0
      dsimp only at h
      rw [h]
      dsimp only
      rw [out_A_5, out_A_6, dkStep_apply, dvStep_apply, reset5, reset6]
      simp only [h0, zero_add, Nat.mul_zero, and_self]
    · have h := outsAt0_B m c ⟨n, hn⟩ h0
      dsimp only at h
      rw [h]
      dsimp only
      obtain ⟨i5, i6⟩ := ih (n - 1) (by omega) (by omega) j d
      rw [out_B_5, out_B_6, dkStep_apply, dvStep_apply, i5, i6,
        show (n - 1) / 32 = n / 32 by omega, show (n - 1) / 8 % 4 = n / 8 % 4 by omega,
        show 512 * ((n - 1) % 8) + 512 = 512 * (n % 8) by omega, Finset.sum_range_add, Finset.sum_range_add]
      exact ⟨rfl, rfl⟩

theorem outs_dq (t : Fin cfg0.N) (r : Fin 512) (d : Fin 256) : (outsAt0 m c t.val t.isLt).1 (ix2 r d)
    = dq (argQ m c) (argKV m c) (argG m c) (t.val / 32) (t.val / 8 % 4) (512 * (t.val % 8) + r.val) d.val := by
  by_cases h0 : t.val % 8 = 0
  · rw [outsAt0_A m c t h0]
    dsimp only
    rw [out_A_4, dqTile_apply]
  · rw [outsAt0_B m c t h0]
    dsimp only
    rw [out_B_4, dqTile_apply]

/-! ## The result arrays -/

theorem final_dq : (dats m 0 c).arrAt 4 cfg0.N = dqArr (argQ m c) (argKV m c) (argG m c) := by
  refine (dats m 0 c).arrAt_eq_of_cover 4 _ (fun t hf => ?_) (fun i => ?_)
  · rw [Cert.KernelIdeal.Value.flushed4 m c t]
    funext j
    obtain ⟨e0, e1⟩ := ix0_4 t
    have hj0 : (j 0).val < 512 := (j 0).isLt
    have hj1 : (j 1).val < 256 := (j 1).isLt
    have hN : t.val < 64 := t.isLt
    show (outsAt0 m c t.val t.isLt).1 j = dqArr (argQ m c) (argKV m c) (argG m c) (((cfg0.win 4).blk t).view.emb j)
    have a0 : (((cfg0.win 4).blk t).view.emb j 0).val = 4096 * (t.val / 32) + (512 * (t.val % 8) + (j 0).val) := by
      show win0_4.index t (0 : Fin 2) * 512 + 1 * (j 0).val = _; omega
    have a1 : (((cfg0.win 4).blk t).view.emb j 1).val = 256 * (t.val / 8 % 4) + (j 1).val := by
      show win0_4.index t (1 : Fin 2) * 256 + 1 * (j 1).val = _; omega
    refine (congrArg (outsAt0 m c t.val t.isLt).1 (eq_ix2 (n0 := 512) (n1 := 256) j)).trans ((outs_dq m c t (j 0) (j 1)).trans ?_)
    unfold dqArr
    rw [a0, a1]
    congr 1 <;> omega
  · have hi0 : (i 0).val < 8192 := (i 0).isLt
    have hi1 : (i 1).val < 1024 := (i 1).isLt
    let t : Fin cfg0.N := ⟨(i 0).val / 4096 * 32 + (i 1).val / 256 * 8 + (i 0).val % 4096 / 512, by
      rw [show cfg0.N = 64 from N_0]; omega⟩
    refine ⟨t, flush0_4 t, ?_⟩
    obtain ⟨e0, e1⟩ := ix0_4 t
    have ht : t.val = (i 0).val / 4096 * 32 + (i 1).val / 256 * 8 + (i 0).val % 4096 / 512 := rfl
    show i ∈ ((View.whole main_v0_0).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 256 ≤ (i 1).val ∧ (i 1).val < win0_4.index t (1 : Fin 2) * 256 + 256; omega

/-- The last point of the memory block that holds index `i`. -/
def lastPoint (i : S512x1024.Idx) : Fin cfg0.N :=
  ⟨(i 0).val / 256 * 32 + (i 1).val / 256 * 8 + 7, by
    have hi0 : (i 0).val < 512 := (i 0).isLt
    have hi1 : (i 1).val < 1024 := (i 1).isLt
    rw [show cfg0.N = 64 from N_0]; omega⟩

theorem final_dk : (dats m 0 c).arrAt 5 cfg0.N = dkArr (argQ m c) (argKV m c) (argG m c) := by
  refine (dats m 0 c).arrAt_eq_of_cover 5 _ (fun t hf => ?_) (fun i => ?_)
  · rw [Cert.KernelIdeal.Value.flushed5 m c t]
    funext j
    obtain ⟨e0, e1⟩ := ix0_5 t
    have h7 := (flush0_5 t).mp hf
    have hj0 : (j 0).val < 256 := (j 0).isLt
    have hj1 : (j 1).val < 256 := (j 1).isLt
    have hN : t.val < 64 := t.isLt
    show (outsAt0 m c t.val t.isLt).2.1 j = dkArr (argQ m c) (argKV m c) (argG m c) (((cfg0.win 5).blk t).view.emb j)
    have a0 : (((cfg0.win 5).blk t).view.emb j 0).val = 256 * (t.val / 32) + (j 0).val := by
      show win0_5.index t (0 : Fin 2) * 256 + 1 * (j 0).val = _; omega
    have a1 : (((cfg0.win 5).blk t).view.emb j 1).val = 256 * (t.val / 8 % 4) + (j 1).val := by
      show win0_5.index t (1 : Fin 2) * 256 + 1 * (j 1).val = _; omega
    have a2 : (Fin.ofNat 256 (256 * (t.val / 32) + (j 0).val) : Fin 256) = j 0 :=
      Fin.ext (show (256 * (t.val / 32) + (j 0).val) % 256 = (j 0).val by omega)
    refine (congrArg (outsAt0 m c t.val t.isLt).2.1 (eq_ix2 (n0 := 256) (n1 := 256) j)).trans
      ((outs_eq m c t.val t.isLt (j 0) (j 1)).1.trans ?_)
    unfold dkArr
    rw [a0, a1, a2, h7, show (256 * (t.val / 32) + (j 0).val) / 256 = t.val / 32 by omega,
      show (256 * (t.val / 8 % 4) + (j 1).val) / 256 = t.val / 8 % 4 by omega,
      show (256 * (t.val / 8 % 4) + (j 1).val) % 256 = (j 1).val by omega]
  · have hi0 : (i 0).val < 512 := (i 0).isLt
    have hi1 : (i 1).val < 1024 := (i 1).isLt
    have ht : (lastPoint i).val = (i 0).val / 256 * 32 + (i 1).val / 256 * 8 + 7 := rfl
    refine ⟨lastPoint i, (flush0_5 _).mpr (by omega), ?_⟩
    obtain ⟨e0, e1⟩ := ix0_5 (lastPoint i)
    show i ∈ ((View.whole main_v0_1).slice (win0_5.rect (lastPoint i))).set
    rw [View.set_slice_whole, Rect.mem_set_unit]
    intro a
    match a with
    | ⟨0, _⟩ => show win0_5.index (lastPoint i) (0 : Fin 2) * 256 ≤ (i 0).val ∧ (i 0).val < win0_5.index (lastPoint i) (0 : Fin 2) * 256 + 256; omega
    | ⟨1, _⟩ => show win0_5.index (lastPoint i) (1 : Fin 2) * 256 ≤ (i 1).val ∧ (i 1).val < win0_5.index (lastPoint i) (1 : Fin 2) * 256 + 256; omega

theorem final_dv : (dats m 0 c).arrAt 6 cfg0.N = dvArr (argQ m c) (argKV m c) (argG m c) := by
  refine (dats m 0 c).arrAt_eq_of_cover 6 _ (fun t hf => ?_) (fun i => ?_)
  · rw [Cert.KernelIdeal.Value.flushed6 m c t]
    funext j
    obtain ⟨e0, e1⟩ := ix0_6 t
    have h7 := (flush0_6 t).mp hf
    have hj0 : (j 0).val < 256 := (j 0).isLt
    have hj1 : (j 1).val < 256 := (j 1).isLt
    have hN : t.val < 64 := t.isLt
    show (outsAt0 m c t.val t.isLt).2.2 j = dvArr (argQ m c) (argKV m c) (argG m c) (((cfg0.win 6).blk t).view.emb j)
    have a0 : (((cfg0.win 6).blk t).view.emb j 0).val = 256 * (t.val / 32) + (j 0).val := by
      show win0_6.index t (0 : Fin 2) * 256 + 1 * (j 0).val = _; omega
    have a1 : (((cfg0.win 6).blk t).view.emb j 1).val = 256 * (t.val / 8 % 4) + (j 1).val := by
      show win0_6.index t (1 : Fin 2) * 256 + 1 * (j 1).val = _; omega
    have a2 : (Fin.ofNat 256 (256 * (t.val / 32) + (j 0).val) : Fin 256) = j 0 :=
      Fin.ext (show (256 * (t.val / 32) + (j 0).val) % 256 = (j 0).val by omega)
    refine (congrArg (outsAt0 m c t.val t.isLt).2.2 (eq_ix2 (n0 := 256) (n1 := 256) j)).trans
      ((outs_eq m c t.val t.isLt (j 0) (j 1)).2.trans ?_)
    unfold dvArr
    rw [a0, a1, a2, h7, show (256 * (t.val / 32) + (j 0).val) / 256 = t.val / 32 by omega,
      show (256 * (t.val / 8 % 4) + (j 1).val) / 256 = t.val / 8 % 4 by omega,
      show (256 * (t.val / 8 % 4) + (j 1).val) % 256 = (j 1).val by omega]
  · have hi0 : (i 0).val < 512 := (i 0).isLt
    have hi1 : (i 1).val < 1024 := (i 1).isLt
    have ht : (lastPoint i).val = (i 0).val / 256 * 32 + (i 1).val / 256 * 8 + 7 := rfl
    refine ⟨lastPoint i, (flush0_6 _).mpr (by omega), ?_⟩
    obtain ⟨e0, e1⟩ := ix0_6 (lastPoint i)
    show i ∈ ((View.whole main_v0_2).slice (win0_6.rect (lastPoint i))).set
    rw [View.set_slice_whole, Rect.mem_set_unit]
    intro a
    match a with
    | ⟨0, _⟩ => show win0_6.index (lastPoint i) (0 : Fin 2) * 256 ≤ (i 0).val ∧ (i 0).val < win0_6.index (lastPoint i) (0 : Fin 2) * 256 + 256; omega
    | ⟨1, _⟩ => show win0_6.index (lastPoint i) (1 : Fin 2) * 256 ≤ (i 1).val ∧ (i 1).val < win0_6.index (lastPoint i) (1 : Fin 2) * 256 + 256; omega

/-- The kernel run: the three result arrays at AttnSpec.lean's entries, the arguments kept. -/
theorem kernel_run : θ_run defs (onTc (τ := τ) (main (F := Ideal))) ⟨m, fun _ => 0, ρ⟩ fun r => ∀ c : Dev nD,
    r.2.mem ((c : Thread nD τ).loc main_v0_0) = dqArr (argQ m c) (argKV m c) (argG m c)
    ∧ r.2.mem ((c : Thread nD τ).loc main_v0_1) = dkArr (argQ m c) (argKV m c) (argG m c)
    ∧ r.2.mem ((c : Thread nD τ).loc main_v0_2) = dvArr (argQ m c) (argKV m c) (argG m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1.trans (final_dq m c), (h c).2.1.trans (final_dk m c),
    (h c).2.2.1.trans (final_dv m c), (h c).2.2.2⟩) (run_blocks m ρ)

end Cert.Proof.Attn

end
-- ==== Proof.AttnRef.lean ====
/- Hand-written: THE REFERENCE'S VALUES, read at an index and found to be AttnSpec.lean's. The reference runs over the
   axes batch, head, query row, memory row; each of its operations is read once, in program order. -/
module

public import proofs.«01_k».proof.Proof.AttnSpec
public import proofs.«01_k».proof.Proof.Gen.ReferenceIdeal.Read

@[expose] public section

set_option maxRecDepth 16384

noncomputable section

namespace Cert.Proof.Attn

open Cert.ReferenceIdeal Cert.ReferenceIdeal.Gen Cert.ReferenceIdeal.Read Idealize.ShloMosaic
open scoped BigOperators

variable (Q : (⟨2, ![8192, 1024]⟩ : Shape).Idx → EReal) (KV : (⟨2, ![512, 2048]⟩ : Shape).Idx → EReal)
  (G : (⟨2, ![8192, 1024]⟩ : Shape).Idx → EReal)

/-! ## The arguments by batch, row and head -/

theorem rq (b : Fin 2) (s : Fin 4096) (h : Fin 4) (d : Fin 256) :
    val_main_v1 (F := Ideal) Q (ix4 b s h d) = at2 Q (4096 * b + s) (256 * h + d) := by
  have hb := b.isLt; have hs := s.isLt; have hh := h.isLt; have hd := d.isLt
  rw [val_main_v1_apply, val_main_v0_apply]
  exact eq_at2 Q _ _ _
    (show (((b.val * 4096 + s.val) * 4 + h.val) * 256 + d.val) / 1024 = 4096 * b.val + s.val by omega)
    (show (((b.val * 4096 + s.val) * 4 + h.val) * 256 + d.val) % 1024 = 256 * h.val + d.val by omega)

theorem rg (b : Fin 2) (s : Fin 4096) (h : Fin 4) (d : Fin 256) :
    val_main_v2 (F := Ideal) G (ix4 b s h d) = at2 G (4096 * b + s) (256 * h + d) := by
  have hb := b.isLt; have hs := s.isLt; have hh := h.isLt; have hd := d.isLt
  rw [val_main_v2_apply]
  exact eq_at2 G _ _ _
    (show (((b.val * 4096 + s.val) * 4 + h.val) * 256 + d.val) / 1024 = 4096 * b.val + s.val by omega)
    (show (((b.val * 4096 + s.val) * 4 + h.val) * 256 + d.val) % 1024 = 256 * h.val + d.val by omega)

theorem rk (b : Fin 2) (j : Fin 256) (h : Fin 4) (d : Fin 256) :
    val_main_v4 (F := Ideal) KV (ix4 b j h d) = at2 KV (256 * b + j) (256 * h + d) := by
  have hb := b.isLt; have hj := j.isLt; have hh := h.isLt; have hd := d.isLt
  rw [val_main_v4_apply, val_main_v3_apply]
  exact eq_at2 KV _ _ _
    (show (((b.val * 256 + j.val) * 4 + h.val) * 256 + d.val) / 1024 = 256 * b.val + j.val by omega)
    (show (((b.val * 256 + j.val) * 4 + h.val) * 256 + d.val) % 1024 = 256 * h.val + d.val by omega)

theorem rv (b : Fin 2) (j : Fin 256) (h : Fin 4) (d : Fin 256) :
    val_main_v6 (F := Ideal) KV (ix4 b j h d) = at2 KV (256 * b + j) (1024 + 256 * h + d) := by
  have hb := b.isLt; have hj := j.isLt; have hh := h.isLt; have hd := d.isLt
  rw [val_main_v6_apply, val_main_v5_apply]
  exact eq_at2 KV _ _ _
    (show (((b.val * 256 + j.val) * 4 + h.val) * 256 + d.val) / 1024 = 256 * b.val + j.val by omega)
    (show 1024 + (((b.val * 256 + j.val) * 4 + h.val) * 256 + d.val) % 1024 = 1024 + 256 * h.val + d.val by omega)

/-! ## The weights -/

variable (b : Fin 2) (h : Fin 4) (s : Fin 4096) (j : Fin 256)

theorem rscore : val_main_v9 (F := Ideal) Q KV (ix4 b h s j) = score Q KV b h s j := by
  unfold val_main_v9 val_main_v7 val_main_v8 val_main_cst
  pointwise
  simp only [rq, rk]
  rfl

theorem rtop : val_main_v10 (F := Ideal) Q KV (ix3 b h s) = top (score Q KV b h s) := by
  unfold val_main_v10
  refine (Host.reduce_eq_fold_single (a := 3) (FloatOps.maximumf (F := Ideal)) _ _ reducesTo_S2x4x4096x256_S2x4x4096_d3 (by decide) h_S_ (ix3 b h s)).trans ?_
  refine congrArg (Finset.univ.fold max _) (funext fun j => ?_)
  refine Eq.trans (congrArg (val_main_v9 (F := Ideal) Q KV) (funext fun a => Fin.ext ?_)) (rscore Q KV b h s j)
  match a with
  | ⟨0, _⟩ => rfl
  | ⟨1, _⟩ => rfl
  | ⟨2, _⟩ => rfl
  | ⟨3, _⟩ => rfl

theorem rhit : val_main_v14 (F := Ideal) Q KV (ix4 b h s j) = hit (score Q KV b h s) j := by
  unfold val_main_v14 val_main_v13 val_main_v12 val_main_v11
  pointwise
  rw [rscore, rtop]
  rfl

theorem rex : val_main_v19 (F := Ideal) Q KV (ix4 b h s j) = ex (score Q KV b h s) j := by
  unfold val_main_v19 val_main_v18 val_main_v17 val_main_v16
  pointwise
  rw [rscore, rtop]
  rfl

theorem rmass : val_main_v21 (F := Ideal) Q KV (ix4 b h s 0) = mass (score Q KV b h s) := by
  unfold val_main_v21 val_main_v20 val_main_cst_2
  pointwise
  simp only [rex]
  rfl

theorem rprob : val_main_v23 (F := Ideal) Q KV (ix4 b h s j) = prob (score Q KV b h s) j := by
  unfold val_main_v23 val_main_v22
  pointwise
  rw [rex, rmass]
  rfl

theorem rweight : val_main_v30 (F := Ideal) KV G (ix4 b h s j) = weight KV G b h s j := by
  unfold val_main_v30 val_main_v29
  pointwise
  simp only [rg, rv]
  rfl

theorem rpull : val_main_v38 (F := Ideal) Q KV G (ix4 b h s 0) = -pull (score Q KV b h s) (weight KV G b h s) := by
  unfold val_main_v38 val_main_v37 val_main_v36 val_main_v35 val_main_v34 val_main_v33 val_main_v26 val_main_v25 val_main_v24 val_main_cst_3 val_main_cst_4
  pointwise
  simp only [rex, rmass, rweight]
  rfl

theorem rdshift : val_main_v44 (F := Ideal) Q KV G (ix4 b h s j) = dshift (score Q KV b h s) (weight KV G b h s) j := by
  unfold val_main_v44 val_main_v43 val_main_v42 val_main_v41 val_main_v40 val_main_v39 val_main_cst_5
  pointwise
  simp only [rex, rmass, rweight, rpull]
  rw [show ∑ x, val_main_v38 (F := Ideal) Q KV G (ix4 b h s x) = val_main_v38 (F := Ideal) Q KV G (ix4 b h s 0) from
    Fintype.sum_unique _, rpull]
  rfl

theorem rdtop : val_main_v49 (F := Ideal) Q KV G (ix3 b h s) = dtop (score Q KV b h s) (weight KV G b h s) := by
  unfold val_main_v49 val_main_v48 val_main_v47 val_main_v46 val_main_v45 val_main_v15 val_main_cst_1 val_main_cst_6 val_main_cst_7
  pointwise
  simp only [rhit, rdshift]
  rw [Fintype.sum_unique]
  rfl

theorem rdscore : val_main_v54 (F := Ideal) Q KV G (ix4 b h s j) = dscore (score Q KV b h s) (weight KV G b h s) j := by
  unfold val_main_v54 val_main_v53 val_main_v52 val_main_v51 val_main_v50 val_main_cst_8
  pointwise
  simp only [rhit, rdshift, rdtop]
  rfl

/-! ## The results -/

theorem rdq (d : Fin 256) : val_main_v58 (F := Ideal) Q KV G (ix4 b s h d) = dq Q KV G b h s d := by
  unfold val_main_v58 val_main_v57
  pointwise
  simp only [rk, rdscore]
  rfl

theorem rdk (d : Fin 256) : val_main_v56 (F := Ideal) Q KV G (ix4 b j h d) = ∑ s ∈ Finset.range 4096, dkTerm Q KV G b h j d s := by
  unfold val_main_v56 val_main_v55
  pointwise
  simp only [rq, rdscore]
  rw [Finset.sum_range]
  rfl

theorem rdv (d : Fin 256) : val_main_v32 (F := Ideal) Q KV G (ix4 b j h d) = ∑ s ∈ Finset.range 4096, dvTerm Q KV G b h j d s := by
  unfold val_main_v32 val_main_v31 val_main_v29
  pointwise
  simp only [rg, rprob]
  rw [Finset.sum_range]
  exact Finset.sum_congr rfl fun _ _ => mul_comm _ _

theorem ref_dq : val_main_v59 (F := Ideal) Q KV G = dqArr Q KV G := by
  funext i
  have h0 : (i 0).val < 8192 := (i 0).isLt
  have h1 : (i 1).val < 1024 := (i 1).isLt
  rw [val_main_v59_apply]
  have e : idx_main_v59 i = ix4 (⟨(i 0).val / 4096, by omega⟩ : Fin 2) (⟨(i 0).val % 4096, by omega⟩ : Fin 4096)
      (⟨(i 1).val / 256, by omega⟩ : Fin 4) (⟨(i 1).val % 256, by omega⟩ : Fin 256) := by
    funext a
    refine Fin.ext ?_
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) / 256 % 4 = (i 1).val / 256; omega
    | ⟨3, _⟩ => show ((i 0).val * 1024 + (i 1).val) % 256 = (i 1).val % 256; omega
  rw [e, rdq]
  rfl

theorem memory_index (i : S512x1024.Idx) : idx_main_v60 i
    = ix4 (⟨(i 0).val / 256, by have h0 : (i 0).val < 512 := (i 0).isLt; omega⟩ : Fin 2) (Fin.ofNat 256 (i 0).val)
      (⟨(i 1).val / 256, by have h1 : (i 1).val < 1024 := (i 1).isLt; omega⟩ : Fin 4) (⟨(i 1).val % 256, by omega⟩ : Fin 256) := by
  have h0 : (i 0).val < 512 := (i 0).isLt
  have h1 : (i 1).val < 1024 := (i 1).isLt
  funext a
  refine Fin.ext ?_
  match a with
  | ⟨0, _⟩ => show ((i 0).val * 1024 + (i 1).val) / 262144 = (i 0).val / 256; omega
  | ⟨1, _⟩ => show ((i 0).val * 1024 + (i 1).val) / 1024 % 256 = (i 0).val % 256; omega
  | ⟨2, _⟩ => show ((i 0).val * 1024 + (i 1).val) / 256 % 4 = (i 1).val / 256; omega
  | ⟨3, _⟩ => show ((i 0).val * 1024 + (i 1).val) % 256 = (i 1).val % 256; omega

theorem ref_dk : val_main_v60 (F := Ideal) Q KV G = dkArr Q KV G := by
  funext i
  rw [val_main_v60_apply, memory_index, rdk]
  rfl

theorem ref_dv : val_main_v61 (F := Ideal) Q KV G = dvArr Q KV G := by
  funext i
  rw [val_main_v61_apply, show idx_main_v61 i = idx_main_v60 i from rfl, memory_index, rdv]
  rfl

end Cert.Proof.Attn

end
-- ==== Proof.AttnClaims.lean ====
/- Hand-written: THE ATTENTION'S GRADIENT, the value claim: kernel and reference end at the same three arrays of
   AttnSpec.lean when their arguments agree. -/
module

public import proofs.«01_k».proof.Defs
public import proofs.«01_k».proof.Proof.AttnFinal
public import proofs.«01_k».proof.Proof.AttnRef
public import Idealize.ShloMosaic.Lib.Quiescent

@[expose] public section

noncomputable section

namespace Cert.Proof.Attn

open Idealize.ShloMosaic Idealize.SL.Sem

theorem reference_frame : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The reference's results, as arrays of AttnSpec.lean. -/
theorem reference_run (m : (ℓ : Loc Cert.ReferenceIdeal.nD Cert.ReferenceIdeal.τ Cert.ReferenceIdeal.sig) → Buf (Elt Ideal) ℓ)
    (ρ : Dev Cert.ReferenceIdeal.nD → PrngReg) (c : Dev Cert.ReferenceIdeal.nD) :
    Cert.ReferenceIdeal.Value.res_main_v59 m c = dqArr (m (c.tc.loc Cert.ReferenceIdeal.main_arg0))
        (m (c.tc.loc Cert.ReferenceIdeal.main_arg1)) (m (c.tc.loc Cert.ReferenceIdeal.main_arg2))
    ∧ Cert.ReferenceIdeal.Value.res_main_v60 m c = dkArr (m (c.tc.loc Cert.ReferenceIdeal.main_arg0))
        (m (c.tc.loc Cert.ReferenceIdeal.main_arg1)) (m (c.tc.loc Cert.ReferenceIdeal.main_arg2)) :=
  ⟨(Cert.ReferenceIdeal.Read.val_main_v59_eq m c).trans (ref_dq _ _ _),
    (Cert.ReferenceIdeal.Read.val_main_v60_eq m c).trans (ref_dk _ _ _)⟩

theorem algebraic : Cert.algebraic_KernelIdeal_ReferenceIdeal := by
  intro m ρ m' ρ' _ hagree
  refine ⟨fun c => dqArr (argQ m c) (argKV m c) (argG m c), fun c => dkArr (argQ m c) (argKV m c) (argG m c),
    fun c => dvArr (argQ m c) (argKV m c) (argG m c), kernel_run m ρ, ?_⟩
  refine (θ_run Cert.ReferenceIdeal.defs _ _).mono (fun r h c => ?_) (Cert.ReferenceIdeal.Value.run (F := Ideal) m' ρ')
  obtain ⟨a0, a1, a2⟩ := hagree c
  obtain ⟨r0, r1, r2, keep⟩ := h c
  have e0 := r0.trans (reference_run m' ρ' c).1
  have e1 := r1.trans (reference_run m' ρ' c).2
  have e2 := r2.trans ((Cert.ReferenceIdeal.Read.val_main_v61_eq _ _ _).trans (ref_dv _ _ _))
  rw [a0, a1, a2] at e0 e1 e2
  exact ⟨e0, e1, e2, keep⟩

end Cert.Proof.Attn

end
-- ==== Proof.Product.lean ====
/- Hand-written: A BLOCKED PRODUCT, at extended reals. A product's entry is a sum over the contracted axis (`dot`); the
   kernels of the step's products add it up in tiles, one tile per grid point, `K` points per block of the result
   (`partial_dot`, by induction on the point; `whole_dot` at a block's last point). -/
module

public import proofs.«01_k».proof.Proof.At2

@[expose] public section

noncomputable section

namespace Cert.Proof

open Idealize.ShloMosaic
open scoped BigOperators

theorem zero_pair : (![0, 0] : Fin 2 → Nat) = fun _ => 0 := funext fun a => by fin_cases a <;> rfl

/-- The first `L` terms of the product's entry at row `r` of `A`, column `c` of `B`. -/
def dot (A B : ℕ → ℕ → EReal) (L r c : ℕ) : EReal := ∑ k ∈ Finset.range L, A r k * B k c

/-- The share of that entry that tile `e` of the contracted axis has, the axis cut into tiles of length `T`. -/
def dotTile (A B : ℕ → ℕ → EReal) (T e r c : ℕ) : EReal := ∑ d ∈ Finset.range T, A r (T * e + d) * B (T * e + d) c

theorem dot_succ (A B : ℕ → ℕ → EReal) (T e r c : ℕ) :
    dot A B (T * e) r c + dotTile A B T e r c = dot A B (T * (e + 1)) r c := by
  unfold dot dotTile
  rw [Nat.mul_succ, Finset.sum_range_add]

/-- One tile is the whole entry when the contracted axis is one tile long. -/
theorem dotTile_zero (A B : ℕ → ℕ → EReal) (T r c : ℕ) : dotTile A B T 0 r c = dot A B T r c := by
  unfold dotTile dot
  simp only [Nat.mul_zero, zero_add]

section Tile

variable {p s q : ℕ}

/-- A tile's product with the second operand transposed, with the first transposed, and with neither. -/
def tileNT (x : (⟨2, ![p, s]⟩ : Shape).Idx → EReal) (y : (⟨2, ![q, s]⟩ : Shape).Idx → EReal) (r : Fin p) (c : Fin q) : EReal :=
  ∑ k : Fin s, x (ix2 r k) * y (ix2 c k)
def tileTN (x : (⟨2, ![s, p]⟩ : Shape).Idx → EReal) (y : (⟨2, ![s, q]⟩ : Shape).Idx → EReal) (r : Fin p) (c : Fin q) : EReal :=
  ∑ k : Fin s, x (ix2 k r) * y (ix2 k c)
def tileNN (x : (⟨2, ![p, s]⟩ : Shape).Idx → EReal) (y : (⟨2, ![s, q]⟩ : Shape).Idx → EReal) (r : Fin p) (c : Fin q) : EReal :=
  ∑ k : Fin s, x (ix2 r k) * y (ix2 k c)

/-! Where the tile's operands are blocks of `A` and `B`, its product is a tile's share of theirs. -/

variable {A B : ℕ → ℕ → EReal} {e ro co : ℕ}

theorem tileNT_eq {x : (⟨2, ![p, s]⟩ : Shape).Idx → EReal} {y : (⟨2, ![q, s]⟩ : Shape).Idx → EReal}
    (hx : ∀ (r : Fin p) (k : Fin s), x (ix2 r k) = A (ro + r.val) (s * e + k.val))
    (hy : ∀ (c : Fin q) (k : Fin s), y (ix2 c k) = B (s * e + k.val) (co + c.val)) (r : Fin p) (c : Fin q) :
    tileNT x y r c = dotTile A B s e (ro + r.val) (co + c.val) := by
  unfold tileNT dotTile
  rw [Finset.sum_range]
  exact Finset.sum_congr rfl fun k _ => by rw [hx, hy]

theorem tileTN_eq {x : (⟨2, ![s, p]⟩ : Shape).Idx → EReal} {y : (⟨2, ![s, q]⟩ : Shape).Idx → EReal}
    (hx : ∀ (k : Fin s) (r : Fin p), x (ix2 k r) = A (ro + r.val) (s * e + k.val))
    (hy : ∀ (k : Fin s) (c : Fin q), y (ix2 k c) = B (s * e + k.val) (co + c.val)) (r : Fin p) (c : Fin q) :
    tileTN x y r c = dotTile A B s e (ro + r.val) (co + c.val) := by
  unfold tileTN dotTile
  rw [Finset.sum_range]
  exact Finset.sum_congr rfl fun k _ => by rw [hx, hy]

theorem tileNN_eq {x : (⟨2, ![p, s]⟩ : Shape).Idx → EReal} {y : (⟨2, ![s, q]⟩ : Shape).Idx → EReal}
    (hx : ∀ (r : Fin p) (k : Fin s), x (ix2 r k) = A (ro + r.val) (s * e + k.val))
    (hy : ∀ (k : Fin s) (c : Fin q), y (ix2 k c) = B (s * e + k.val) (co + c.val)) (r : Fin p) (c : Fin q) :
    tileNN x y r c = dotTile A B s e (ro + r.val) (co + c.val) := by
  unfold tileNN dotTile
  rw [Finset.sum_range]
  exact Finset.sum_congr rfl fun k _ => by rw [hx, hy]

end Tile

/-- A whole product's entry, its sum taken over the contracted axis's indices. -/
theorem dot_of_fin {L : ℕ} (A B : ℕ → ℕ → EReal) (r c : ℕ) (f : Fin L → EReal)
    (hf : ∀ k : Fin L, f k = A r k.val * B k.val c) : ∑ k : Fin L, f k = dot A B L r c := by
  unfold dot
  rw [Finset.sum_range]
  exact Finset.sum_congr rfl fun k _ => hf k

/-- The array `n` by `m` of a function of two natural numbers. -/
def arr2 {n m : ℕ} (f : ℕ → ℕ → EReal) : (⟨2, ![n, m]⟩ : Shape).Idx → EReal := fun i => f (i 0).val (i 1).val

theorem pred_div {K n : ℕ} (hK : 0 < K) (h : n % K ≠ 0) : (n - 1) / K = n / K ∧ (n - 1) % K + 1 = n % K := by
  have hm := Nat.mod_lt n hK
  have hn := Nat.div_add_mod n K
  have h1 : n - 1 = K * (n / K) + (n % K - 1) := by omega
  rw [h1, Nat.mul_add_div hK, Nat.mul_add_mod, Nat.div_eq_of_lt (show n % K - 1 < K by omega),
    Nat.mod_eq_of_lt (show n % K - 1 < K by omega)]
  omega

section Accumulate

variable {N K T : ℕ} (hK : 0 < K) (A B : ℕ → ℕ → EReal) (row col : ℕ → ℕ) (acc : ∀ n, n < N → EReal)
  (first : ∀ n h, n % K = 0 → acc n h = dotTile A B T (n % K) (row (n / K)) (col (n / K)))
  (later : ∀ n h, n % K ≠ 0 → n % K ≠ K - 1 →
    acc n h = acc (n - 1) (Nat.lt_of_le_of_lt (Nat.sub_le _ _) h) + dotTile A B T (n % K) (row (n / K)) (col (n / K)))

include hK first later

/-- Before a block's last point, the accumulator holds the terms of the tiles met so far. -/
theorem partial_dot : ∀ n (h : n < N), n % K ≠ K - 1 → acc n h = dot A B (T * (n % K + 1)) (row (n / K)) (col (n / K)) := by
  intro n
  induction n using Nat.strong_induction_on with
  | _ n ih =>
    intro h hl
    by_cases h0 : n % K = 0
    · rw [first n h h0, h0, ← dot_succ]
      unfold dot
      simp only [Nat.mul_zero, Finset.range_zero, Finset.sum_empty, zero_add]
    · obtain ⟨e1, e2⟩ := pred_div hK h0
      have hn : n ≠ 0 := fun hz => h0 (by rw [hz, Nat.zero_mod])
      have hlt := Nat.mod_lt n hK
      rw [later n h h0 hl, ih (n - 1) (by omega) (by omega) (by omega), e1, e2, dot_succ]

/-- At a block's last point, what the accumulator held before it and the last tile add up to the whole entry. -/
theorem whole_dot (n : ℕ) (h : n < N) (h0 : n % K ≠ 0) (hl : n % K = K - 1) :
    acc (n - 1) (Nat.lt_of_le_of_lt (Nat.sub_le _ _) h) + dotTile A B T (n % K) (row (n / K)) (col (n / K))
      = dot A B (T * K) (row (n / K)) (col (n / K)) := by
  obtain ⟨e1, e2⟩ := pred_div hK h0
  have hlt := Nat.mod_lt n hK
  rw [partial_dot hK A B row col acc first later (n - 1) (by omega) (by omega), e1, e2, dot_succ, hl]
  congr 2
  omega

end Accumulate

end Cert.Proof

end
-- ==== Proof.InX.lean ====
/- Hand-written: THE INPUT PROJECTION'S INPUT GRADIENT (`d_in_proj_x`): a product with the second operand transposed, each
   1024 by 1024 block of the result summed over seven tiles of the contracted axis in a scratch block. -/
module

public import proofs.«01_k».proof.Defs
public import proofs.«01_k».proof.Proof.Product
public import proofs.«01_k».proof.Proof.Gen.InXIdeal.Value
public import proofs.«01_k».proof.Proof.Gen.InXRefIdeal.Run
public import Idealize.ShloMosaic.Lib.Quiescent

@[expose] public section

set_option maxRecDepth 16384

noncomputable section

namespace Cert.Proof.InX

open Cert.InXIdeal Cert.InXIdeal.Gen Cert.InXIdeal.Value Idealize.ShloMosaic Idealize.ShloMosaic.TcCoe Idealize.SL.Sem
open scoped BigOperators

/-! ## What a point leaves -/

theorem pay1 (x y : Vec Ideal S1024x1024 .bf16) (r d : Fin 1024) :
    k0_pay1 (F := Ideal) x y (ix2 r d) = tileNT x y r d := by
  unfold k0_pay1 tileNT
  pointwise

theorem pay2 (o : Vec Ideal S1024x1024 .f32) (x y : Vec Ideal S1024x1024 .bf16) (r d : Fin 1024) :
    k0_pay2 (F := Ideal) o x y (ix2 r d) = o (ix2 r d) + tileNT x y r d := by
  unfold k0_pay2 tileNT
  pointwise

theorem pay3 (o : Vec Ideal S1024x1024 .f32) (x y : Vec Ideal S1024x1024 .bf16) (r d : Fin 1024) :
    k0_pay3 (F := Ideal) o x y (ix2 r d) = o (ix2 r d) + tileNT x y r d := by
  unfold k0_pay3 tileNT
  pointwise

section Cases

variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x y : Vec Ideal S1024x1024 .bf16) (o : Vec Ideal S1024x1024 .f32)

theorem scratch_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 hc0 hc1 hc2 x y o = k0_pay2 o x y := by
  unfold sout0_B_0
  rw [View.read_writes_eq_canon _ _ _ (scover0_B_0 c i a3 h3 a4 h4 a5 h5 a6 h6 hc0 hc1 hc2 x y o)]
  unfold kernelRun0_B
  dsimp only
  sl_unfold_words
  rw [View.canon_unit_zero zero_pair]
  simp only [View.readAt_eq_ld, h3.read_unread, h4.read_unread, h6.read_unread, View.ld_unit_zero (S := S1024x1024) zero_pair]

theorem out_C (hc0 : ¬cond0_0 i) (hc1 : ¬cond0_1 i) (hc2 : cond0_2 i) :
    out0_C_2 c i a3 h3 a4 h4 a5 h5 a6 h6 hc0 hc1 hc2 x y o = k0_pay3 o x y := by
  unfold out0_C_2
  rw [View.read_writes_eq_canon _ _ _ (cover0_C_2 c i a3 h3 a4 h4 a5 h5 a6 h6 hc0 hc1 hc2 x y o)]
  unfold kernelRun0_C
  dsimp only
  sl_unfold_words
  rw [View.canon_unit_zero zero_pair]
  simp only [View.readAt_eq_ld, h3.read_unread, h4.read_unread, h6.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 7168]⟩ : Shape).Idx → EReal) : ℕ → ℕ → EReal := at2 X
abbrev rhs (Y : (⟨2, ![1024, 7168]⟩ : Shape).Idx → EReal) : ℕ → ℕ → EReal := fun k j => at2 Y j k

/-- The result's array. -/
def result (X : (⟨2, ![8192, 7168]⟩ : Shape).Idx → EReal) (Y : (⟨2, ![1024, 7168]⟩ : Shape).Idx → EReal) :
    (⟨2, ![8192, 1024]⟩ : Shape).Idx → EReal := arr2 (dot (lhs X) (rhs Y) 7168)

abbrev arg0 : (⟨2, ![8192, 7168]⟩ : Shape).Idx → EReal := m ((c : Thread nD τ).loc main_arg0)
abbrev arg1 : (⟨2, ![1024, 7168]⟩ : Shape).Idx → EReal := m ((c : Thread nD τ).loc main_arg1)

/-! ## The blocks -/

theorem ix0_0 : ∀ t : Fin cfg0.N, win0_0.index t (0 : Fin 2) = t.val / 7 ∧ win0_0.index t (1 : Fin 2) = t.val % 7 :=
  (by decide +kernel : ∀ t : Fin grid0.N, _)
theorem ix0_1 : ∀ t : Fin cfg0.N, win0_1.index t (0 : Fin 2) = 0 ∧ win0_1.index t (1 : Fin 2) = t.val % 7 :=
  (by decide +kernel : ∀ t : Fin grid0.N, _)

theorem blk0 (t : Fin cfg0.N) (r d : Fin 1024) : (iblk m c 0 t : Vec Ideal S1024x1024 .bf16) (ix2 r d)
    = lhs (arg0 m c) (1024 * (t.val / 7) + r.val) (1024 * (t.val % 7) + d.val) := by
  obtain ⟨e0, e1⟩ := ix0_0 t
  refine eq_at2 (arg0 m c) (((cfg0.win 0).blk t).view.emb (ix2 r d)) _ _ ?_ ?_
  · show win0_0.index t (0 : Fin 2) * 1024 + 1 * r.val = _; omega
  · show win0_0.index t (1 : Fin 2) * 1024 + 1 * d.val = _; omega

theorem blk1 (t : Fin cfg0.N) (r d : Fin 1024) : (iblk m c 1 t : Vec Ideal S1024x1024 .bf16) (ix2 r d)
    = rhs (arg1 m c) (1024 * (t.val % 7) + d.val) (0 + r.val) := by
  obtain ⟨e0, e1⟩ := ix0_1 t
  refine eq_at2 (arg1 m c) (((cfg0.win 1).blk t).view.emb (ix2 r d)) _ _ ?_ ?_
  · show win0_1.index t (0 : Fin 2) * 1024 + 1 * r.val = _; omega
  · show win0_1.index t (1 : Fin 2) * 1024 + 1 * d.val = _; omega

theorem tile_eq (t : Fin cfg0.N) (r d : Fin 1024) : tileNT (iblk m c 0 t) (iblk m c 1 t) r d
    = dotTile (lhs (arg0 m c)) (rhs (arg1 m c)) 1024 (t.val % 7) (1024 * (t.val / 7) + r.val) (0 + d.val) :=
  tileNT_eq (blk0 m c t) (blk1 m c t) r d

/-- A block's last point leaves the product's entries. -/
theorem outs_eq (t : Fin cfg0.N) (ht : t.val % 7 = 6) (r d : Fin 1024) : (outsAt0 m c t.val t.isLt).1 (ix2 r d)
    = dot (lhs (arg0 m c)) (rhs (arg1 m c)) 7168 (1024 * (t.val / 7) + r.val) (0 + d.val) := by
  rw [outsAt0_C m c t (by omega) (by omega) ht]
  dsimp only
  rw [out_C, pay3, tile_eq]
  refine whole_dot (K := 7) (T := 1024) (by decide) (lhs (arg0 m c)) (rhs (arg1 m c)) (fun q => 1024 * q + r.val) (fun _ => 0 + d.val)
    (fun n h => (outsAt0 m c n h).2 (ix2 r d)) (fun n h h0 => ?_) (fun n h h0 hl => ?_) t.val t.isLt (by omega) ht
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G2 m c = result (arg0 m c) (arg1 m c) := by
  funext i
  have h0 : (i 0).val < 8192 := (i 0).isLt
  have h1 : (i 1).val < 1024 := (i 1).isLt
  have hp : pt2Of i < cfg0.N := by rw [show cfg0.N = 56 from N_0]; show 7 * (1 * _ + 1 * _) + 6 < 56; omega
  unfold G2
  rw [dif_pos hp, ← outsAt0_sweep m c (pt2Of i) hp]
  refine (congrArg _ (eq_ix2 (n0 := 1024) (n1 := 1024) (loc2Of i))).trans ((outs_eq m c ⟨pt2Of i, hp⟩ ?_ _ _).trans ?_)
  · show (7 * (1 * _ + 1 * _) + 6) % 7 = 6; omega
  · unfold result arr2
    refine congrArg₂ (dot _ _ 7168) ?_ ?_
    · show 1024 * ((7 * (1 * ((i 0).val / 1024 - 0) + 1 * ((i 1).val / 1024 - 0)) + 6) / 7) + (i 0).val % 1024 = (i 0).val; omega
    · show 0 + (i 1).val % 1024 = (i 1).val; omega

/-! ## The reference -/

theorem reference_eq (X : FVec Ideal ⟨2, ![8192, 7168]⟩ .bf16) (Y : FVec Ideal ⟨2, ![1024, 7168]⟩ .bf16) :
    Host.dotGeneral Cert.InXRefIdeal.dot_S8192x7168_S1024x7168_S8192x1024_1_1_0_0_n_n none
      (extf .f32 X (by decide)) (extf .f32 Y (by decide)) = result X Y := by
  funext i
  refine (congrArg _ (eq_ix2 (n0 := 8192) (n1 := 1024) i)).trans ?_
  pointwise
  exact dot_of_fin _ _ _ _ _ fun k => congrArg₂ (· * ·) (eq_at2 X _ _ _ rfl rfl) (eq_at2 Y _ _ _ rfl rfl)

theorem reference_frame : Cert.quiescent_InXRefIdeal := fun m ρ _ =>
  (θ_run Cert.InXRefIdeal.defs _ _).mono (fun r h => ⟨fun c => (h c).2, sem_eq_zero_of_no_sems (by decide) r.2⟩)
    (Cert.InXRefIdeal.Value.run (F := Ideal) m ρ)

theorem algebraic : Cert.algebraic_InXIdeal_InXRefIdeal := by
  intro m ρ m' ρ' _ hagree
  refine ⟨fun c => result (arg0 m c) (arg1 m c), ?_, ?_⟩
  · exact (θ_run defs _ _).mono (fun r h c => ⟨(h c).1.trans (final m c), (h c).2⟩) (run (F := Ideal) m ρ)
  · refine (θ_run Cert.InXRefIdeal.defs _ _).mono (fun r h c => ?_) (Cert.InXRefIdeal.Value.run (F := Ideal) m' ρ')
    obtain ⟨a0, a1⟩ := hagree c
    have e := (h c).1.trans (reference_eq _ _)
    rw [a0, a1] at e
    exact ⟨e, (h c).2⟩

end Cert.Proof.InX

end
-- ==== Proof.InW.lean ====
/- Hand-written: THE INPUT PROJECTION'S WEIGHT GRADIENT (`d_in_proj_w`): a product with the first operand transposed, each 1024 by
   1024 block of the result summed over eight tiles of the contracted axis in a scratch block. -/
module

public import proofs.«01_k».proof.Defs
public import proofs.«01_k».proof.Proof.Product
public import proofs.«01_k».proof.Proof.Gen.InWIdeal.Value
public import proofs.«01_k».proof.Proof.Gen.InWRefIdeal.Run
public import Idealize.ShloMosaic.Lib.Quiescent

@[expose] public section

set_option maxRecDepth 16384

noncomputable section

namespace Cert.Proof.InW

open Cert.InWIdeal Cert.InWIdeal.Gen Cert.InWIdeal.Value Idealize.ShloMosaic Idealize.ShloMosaic.TcCoe Idealize.SL.Sem
open scoped BigOperators

/-! ## What a point leaves -/

theorem pay1 (x y : Vec Ideal S1024x1024 .bf16) (r d : Fin 1024) :
    k0_pay1 (F := Ideal) x y (ix2 r d) = tileTN x y r d := by
  unfold k0_pay1 tileTN
  pointwise

theorem pay2 (o : Vec Ideal S1024x1024 .f32) (x y : Vec Ideal S1024x1024 .bf16) (r d : Fin 1024) :
    k0_pay2 (F := Ideal) o x y (ix2 r d) = o (ix2 r d) + tileTN x y r d := by
  unfold k0_pay2 tileTN
  pointwise

theorem pay3 (o : Vec Ideal S1024x1024 .f32) (x y : Vec Ideal S1024x1024 .bf16) (r d : Fin 1024) :
    k0_pay3 (F := Ideal) o x y (ix2 r d) = o (ix2 r d) + tileTN x y r d := by
  unfold k0_pay3 tileTN
  pointwise

section Cases

variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x y : Vec Ideal S1024x1024 .bf16) (o : Vec Ideal S1024x1024 .f32)

theorem scratch_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 hc0 hc1 hc2 x y o = k0_pay2 o x y := by
  unfold sout0_B_0
  rw [View.read_writes_eq_canon _ _ _ (scover0_B_0 c i a3 h3 a4 h4 a5 h5 a6 h6 hc0 hc1 hc2 x y o)]
  unfold kernelRun0_B
  dsimp only
  sl_unfold_words
  rw [View.canon_unit_zero zero_pair]
  simp only [View.readAt_eq_ld, h3.read_unread, h4.read_unread, h6.read_unread, View.ld_unit_zero (S := S1024x1024) zero_pair]

theorem out_C (hc0 : ¬cond0_0 i) (hc1 : ¬cond0_1 i) (hc2 : cond0_2 i) :
    out0_C_2 c i a3 h3 a4 h4 a5 h5 a6 h6 hc0 hc1 hc2 x y o = k0_pay3 o x y := by
  unfold out0_C_2
  rw [View.read_writes_eq_canon _ _ _ (cover0_C_2 c i a3 h3 a4 h4 a5 h5 a6 h6 hc0 hc1 hc2 x y o)]
  unfold kernelRun0_C
  dsimp only
  sl_unfold_words
  rw [View.canon_unit_zero zero_pair]
  simp only [View.readAt_eq_ld, h3.read_unread, h4.read_unread, h6.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := fun r k => at2 X k r
abbrev rhs (Y : (⟨2, ![8192, 7168]⟩ : Shape).Idx → EReal) : ℕ → ℕ → EReal := at2 Y

/-- The result's array. -/
def result (X : (⟨2, ![8192, 1024]⟩ : Shape).Idx → EReal) (Y : (⟨2, ![8192, 7168]⟩ : Shape).Idx → EReal) :
    (⟨2, ![1024, 7168]⟩ : Shape).Idx → EReal := arr2 (dot (lhs X) (rhs Y) 8192)

abbrev arg0 : (⟨2, ![8192, 1024]⟩ : Shape).Idx → EReal := m ((c : Thread nD τ).loc main_arg0)
abbrev arg1 : (⟨2, ![8192, 7168]⟩ : Shape).Idx → EReal := m ((c : Thread nD τ).loc main_arg1)

/-! ## The blocks -/

theorem ix0_0 : ∀ t : Fin cfg0.N, win0_0.index t (0 : Fin 2) = t.val % 8 ∧ win0_0.index t (1 : Fin 2) = 0 :=
  (by decide +kernel : ∀ t : Fin grid0.N, _)
theorem ix0_1 : ∀ t : Fin cfg0.N, win0_1.index t (0 : Fin 2) = t.val % 8 ∧ win0_1.index t (1 : Fin 2) = t.val / 8 :=
  (by decide +kernel : ∀ t : Fin grid0.N, _)

theorem blk0 (t : Fin cfg0.N) (k r : Fin 1024) : (iblk m c 0 t : Vec Ideal S1024x1024 .bf16) (ix2 k r)
    = lhs (arg0 m c) (0 + r.val) (1024 * (t.val % 8) + k.val) := by
  obtain ⟨e0, e1⟩ := ix0_0 t
  refine eq_at2 (arg0 m c) (((cfg0.win 0).blk t).view.emb (ix2 k r)) _ _ ?_ ?_
  · show win0_0.index t (0 : Fin 2) * 1024 + 1 * k.val = _; omega
  · show win0_0.index t (1 : Fin 2) * 1024 + 1 * r.val = _; omega

theorem blk1 (t : Fin cfg0.N) (k d : Fin 1024) : (iblk m c 1 t : Vec Ideal S1024x1024 .bf16) (ix2 k d)
    = rhs (arg1 m c) (1024 * (t.val % 8) + k.val) (1024 * (t.val / 8) + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

theorem tile_eq (t : Fin cfg0.N) (r d : Fin 1024) : tileTN (iblk m c 0 t) (iblk m c 1 t) r d
    = dotTile (lhs (arg0 m c)) (rhs (arg1 m c)) 1024 (t.val % 8) (0 + r.val) (1024 * (t.val / 8) + d.val) :=
  tileTN_eq (blk0 m c t) (blk1 m c t) r d

/-- A block's last point leaves the product's entries. -/
theorem outs_eq (t : Fin cfg0.N) (ht : t.val % 8 = 7) (r d : Fin 1024) : (outsAt0 m c t.val t.isLt).1 (ix2 r d)
    = dot (lhs (arg0 m c)) (rhs (arg1 m c)) 8192 (0 + r.val) (1024 * (t.val / 8) + d.val) := by
  rw [outsAt0_C m c t (by omega) (by omega) ht]
  dsimp only
  rw [out_C, pay3, tile_eq]
  refine whole_dot (K := 8) (T := 1024) (by decide) (lhs (arg0 m c)) (rhs (arg1 m c)) (fun _ => 0 + r.val) (fun q => 1024 * q + d.val)
    (fun n h => (outsAt0 m c n h).2 (ix2 r d)) (fun n h h0 => ?_) (fun n h h0 hl => ?_) t.val t.isLt (by omega) ht
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G2 m c = result (arg0 m c) (arg1 m c) := by
  funext i
  have h0 : (i 0).val < 1024 := (i 0).isLt
  have h1 : (i 1).val < 7168 := (i 1).isLt
  have hp : pt2Of i < cfg0.N := by rw [show cfg0.N = 56 from N_0]; show 8 * (7 * _ + 1 * _) + 7 < 56; omega
  unfold G2
  rw [dif_pos hp, ← outsAt0_sweep m c (pt2Of i) hp]
  refine (congrArg _ (eq_ix2 (n0 := 1024) (n1 := 1024) (loc2Of i))).trans ((outs_eq m c ⟨pt2Of i, hp⟩ ?_ _ _).trans ?_)
  · show (8 * (7 * _ + 1 * _) + 7) % 8 = 7; omega
  · unfold result arr2
    refine congrArg₂ (dot _ _ 8192) ?_ ?_
    · show 0 + (i 0).val % 1024 = (i 0).val; omega
    · show 1024 * ((8 * (7 * ((i 0).val / 1024 - 0) + 1 * ((i 1).val / 1024 - 0)) + 7) / 8) + (i 1).val % 1024 = (i 1).val; omega

/-! ## The reference -/

theorem reference_eq (X : FVec Ideal ⟨2, ![8192, 1024]⟩ .bf16) (Y : FVec Ideal ⟨2, ![8192, 7168]⟩ .bf16) :
    transpose _ [1, 0] (Host.dotGeneral Cert.InWRefIdeal.dot_S8192x7168_S8192x1024_S7168x1024_0_0_1_1_n_n none
      (extf .f32 Y (by decide)) (extf .f32 X (by decide))) Cert.InWRefIdeal.Gen.transposes_S7168x1024_S1024x7168_1_0
      = result X Y := by
  funext i
  refine (congrArg _ (eq_ix2 (n0 := 1024) (n1 := 7168) i)).trans ?_
  pointwise
  exact dot_of_fin _ _ _ _ _ fun k => (mul_comm _ _).trans
    (congrArg₂ (· * ·) (eq_at2 X _ _ _ rfl rfl) (eq_at2 Y _ _ _ rfl rfl))

theorem reference_frame : Cert.quiescent_InWRefIdeal := fun m ρ _ =>
  (θ_run Cert.InWRefIdeal.defs _ _).mono (fun r h => ⟨fun c => (h c).2, sem_eq_zero_of_no_sems (by decide) r.2⟩)
    (Cert.InWRefIdeal.Value.run (F := Ideal) m ρ)

theorem algebraic : Cert.algebraic_InWIdeal_InWRefIdeal := by
  intro m ρ m' ρ' _ hagree
  refine ⟨fun c => result (arg0 m c) (arg1 m c), ?_, ?_⟩
  · exact (θ_run defs _ _).mono (fun r h c => ⟨(h c).1.trans (final m c), (h c).2⟩) (run (F := Ideal) m ρ)
  · refine (θ_run Cert.InWRefIdeal.defs _ _).mono (fun r h c => ?_) (Cert.InWRefIdeal.Value.run (F := Ideal) m' ρ')
    obtain ⟨a0, a1⟩ := hagree c
    have e := (h c).1.trans (reference_eq _ _)
    rw [a0, a1] at e
    exact ⟨e, (h c).2⟩

end Cert.Proof.InW

end
-- ==== Proof.UpX0.lean ====
/- Hand-written: THE UP-PROJECTION'S INPUT GRADIENT FROM THE GATE'S HALF (`d_ffn_up_x0`): a product with the second operand transposed, each
   1024 by 1024 block of the result summed over three tiles of the contracted axis in a scratch block. -/
module

public import proofs.«01_k».proof.Defs
public import proofs.«01_k».proof.Proof.Product
public import proofs.«01_k».proof.Proof.Gen.UpX0Ideal.Value
public import proofs.«01_k».proof.Proof.Gen.UpX0RefIdeal.Run
public import Idealize.ShloMosaic.Lib.Quiescent

@[expose] public section

set_option maxRecDepth 16384

noncomputable section

namespace Cert.Proof.UpX0

open Cert.UpX0Ideal Cert.UpX0Ideal.Gen Cert.UpX0Ideal.Value Idealize.ShloMosaic Idealize.ShloMosaic.TcCoe Idealize.SL.Sem
open scoped BigOperators

/-! ## What a point leaves -/

theorem pay1 (x : Vec Ideal S1024x1024 .f32) (y : Vec Ideal S1024x1024 .bf16) (r d : Fin 1024) :
    k0_pay1 (F := Ideal) x y (ix2 r d) = tileNT x y r d := by
  unfold k0_pay1 tileNT
  pointwise

theorem pay2 (o : Vec Ideal S1024x1024 .f32) (x : Vec Ideal S1024x1024 .f32) (y : Vec Ideal S1024x1024 .bf16) (r d : Fin 1024) :
    k0_pay2 (F := Ideal) o x y (ix2 r d) = o (ix2 r d) + tileNT x y r d := by
  unfold k0_pay2 tileNT
  pointwise

theorem pay3 (o : Vec Ideal S1024x1024 .f32) (x : Vec Ideal S1024x1024 .f32) (y : Vec Ideal S1024x1024 .bf16) (r d : Fin 1024) :
    k0_pay3 (F := Ideal) o x y (ix2 r d) = o (ix2 r d) + tileNT x y r d := by
  unfold k0_pay3 tileNT
  pointwise

section Cases

variable (c : Dev nD) (i : grid0.Coords)
  (a3 : Memref sig .tc .vmem S1024x1024 .f32) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (x : Vec Ideal S1024x1024 .f32) (y : Vec Ideal S1024x1024 .bf16) (o : Vec Ideal S1024x1024 .f32)

theorem scratch_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 hc0 hc1 hc2 x y o = k0_pay2 o x y := by
  unfold sout0_B_0
  rw [View.read_writes_eq_canon _ _ _ (scover0_B_0 c i a3 h3 a4 h4 a5 h5 a6 h6 hc0 hc1 hc2 x y o)]
  unfold kernelRun0_B
  dsimp only
  sl_unfold_words
  rw [View.canon_unit_zero zero_pair]
  simp only [View.readAt_eq_ld, h3.read_unread, h4.read_unread, h6.read_unread, View.ld_unit_zero (S := S1024x1024) zero_pair]

theorem out_C (hc0 : ¬cond0_0 i) (hc1 : ¬cond0_1 i) (hc2 : cond0_2 i) :
    out0_C_2 c i a3 h3 a4 h4 a5 h5 a6 h6 hc0 hc1 hc2 x y o = k0_pay3 o x y := by
  unfold out0_C_2
  rw [View.read_writes_eq_canon _ _ _ (cover0_C_2 c i a3 h3 a4 h4 a5 h5 a6 h6 hc0 hc1 hc2 x y o)]
  unfold kernelRun0_C
  dsimp only
  sl_unfold_words
  rw [View.canon_unit_zero zero_pair]
  simp only [View.readAt_eq_ld, h3.read_unread, h4.read_unread, h6.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 3072]⟩ : Shape).Idx → EReal) : ℕ → ℕ → EReal := at2 X
abbrev rhs (Y : (⟨2, ![1024, 6144]⟩ : Shape).Idx → EReal) : ℕ → ℕ → EReal := fun k j => at2 Y j k

/-- The result's array. -/
def result (X : (⟨2, ![8192, 3072]⟩ : Shape).Idx → EReal) (Y : (⟨2, ![1024, 6144]⟩ : Shape).Idx → EReal) :
    (⟨2, ![8192, 1024]⟩ : Shape).Idx → EReal := arr2 (dot (lhs X) (rhs Y) 3072)

abbrev arg0 : (⟨2, ![8192, 3072]⟩ : Shape).Idx → EReal := m ((c : Thread nD τ).loc main_arg0)
abbrev arg1 : (⟨2, ![1024, 6144]⟩ : Shape).Idx → EReal := m ((c : Thread nD τ).loc main_arg1)

/-! ## The blocks -/

theorem ix0_0 : ∀ t : Fin cfg0.N, win0_0.index t (0 : Fin 2) = t.val / 3 ∧ win0_0.index t (1 : Fin 2) = t.val % 3 :=
  (by decide +kernel : ∀ t : Fin grid0.N, _)
theorem ix0_1 : ∀ t : Fin cfg0.N, win0_1.index t (0 : Fin 2) = 0 ∧ win0_1.index t (1 : Fin 2) = t.val % 3 :=
  (by decide +kernel : ∀ t : Fin grid0.N, _)

theorem blk0 (t : Fin cfg0.N) (r d : Fin 1024) : (iblk m c 0 t : Vec Ideal S1024x1024 .f32) (ix2 r d)
    = lhs (arg0 m c) (1024 * (t.val / 3) + r.val) (1024 * (t.val % 3) + d.val) := by
  obtain ⟨e0, e1⟩ := ix0_0 t
  refine eq_at2 (arg0 m c) (((cfg0.win 0).blk t).view.emb (ix2 r d)) _ _ ?_ ?_
  · show win0_0.index t (0 : Fin 2) * 1024 + 1 * r.val = _; omega
  · show win0_0.index t (1 : Fin 2) * 1024 + 1 * d.val = _; omega

theorem blk1 (t : Fin cfg0.N) (r d : Fin 1024) : (iblk m c 1 t : Vec Ideal S1024x1024 .bf16) (ix2 r d)
    = rhs (arg1 m c) (1024 * (t.val % 3) + d.val) (0 + r.val) := by
  obtain ⟨e0, e1⟩ := ix0_1 t
  refine eq_at2 (arg1 m c) (((cfg0.win 1).blk t).view.emb (ix2 r d)) _ _ ?_ ?_
  · show win0_1.index t (0 : Fin 2) * 1024 + 1 * r.val = _; omega
  · show win0_1.index t (1 : Fin 2) * 1024 + 1 * d.val = _; omega

theorem tile_eq (t : Fin cfg0.N) (r d : Fin 1024) : tileNT (iblk m c 0 t) (iblk m c 1 t) r d
    = dotTile (lhs (arg0 m c)) (rhs (arg1 m c)) 1024 (t.val % 3) (1024 * (t.val / 3) + r.val) (0 + d.val) :=
  tileNT_eq (blk0 m c t) (blk1 m c t) r d

/-- A block's last point leaves the product's entries. -/
theorem outs_eq (t : Fin cfg0.N) (ht : t.val % 3 = 2) (r d : Fin 1024) : (outsAt0 m c t.val t.isLt).1 (ix2 r d)
    = dot (lhs (arg0 m c)) (rhs (arg1 m c)) 3072 (1024 * (t.val / 3) + r.val) (0 + d.val) := by
  rw [outsAt0_C m c t (by omega) (by omega) ht]
  dsimp only
  rw [out_C, pay3, tile_eq]
  refine whole_dot (K := 3) (T := 1024) (by decide) (lhs (arg0 m c)) (rhs (arg1 m c)) (fun q => 1024 * q + r.val) (fun _ => 0 + d.val)
    (fun n h => (outsAt0 m c n h).2 (ix2 r d)) (fun n h h0 => ?_) (fun n h h0 hl => ?_) t.val t.isLt (by omega) ht
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G2 m c = result (arg0 m c) (arg1 m c) := by
  funext i
  have h0 : (i 0).val < 8192 := (i 0).isLt
  have h1 : (i 1).val < 1024 := (i 1).isLt
  have hp : pt2Of i < cfg0.N := by rw [show cfg0.N = 24 from N_0]; show 3 * (1 * _ + 1 * _) + 2 < 24; omega
  unfold G2
  rw [dif_pos hp, ← outsAt0_sweep m c (pt2Of i) hp]
  refine (congrArg _ (eq_ix2 (n0 := 1024) (n1 := 1024) (loc2Of i))).trans ((outs_eq m c ⟨pt2Of i, hp⟩ ?_ _ _).trans ?_)
  · show (3 * (1 * _ + 1 * _) + 2) % 3 = 2; omega
  · unfold result arr2
    refine congrArg₂ (dot _ _ 3072) ?_ ?_
    · show 1024 * ((3 * (1 * ((i 0).val / 1024 - 0) + 1 * ((i 1).val / 1024 - 0)) + 2) / 3) + (i 0).val % 1024 = (i 0).val; omega
    · show 0 + (i 1).val % 1024 = (i 1).val; omega

/-! ## The reference -/

theorem reference_eq (X : FVec Ideal ⟨2, ![8192, 3072]⟩ .f32) (Y : FVec Ideal ⟨2, ![1024, 6144]⟩ .bf16) :
    Host.dotGeneral Cert.UpX0RefIdeal.dot_S8192x3072_S1024x3072_S8192x1024_1_1_0_0_n_n none
      X (extf .f32 (extractStridedSlice _ ![0, 0] Y Cert.UpX0RefIdeal.Gen.slices_S1024x6144_S1024x3072_0_0) (by decide)) = result X Y := by
  funext i
  refine (congrArg _ (eq_ix2 (n0 := 8192) (n1 := 1024) i)).trans ?_
  pointwise
  exact dot_of_fin _ _ _ _ _ fun k => congrArg₂ (· * ·) (eq_at2 X _ _ _ rfl rfl) (eq_at2 Y _ _ _ rfl rfl)

theorem reference_frame : Cert.quiescent_UpX0RefIdeal := fun m ρ _ =>
  (θ_run Cert.UpX0RefIdeal.defs _ _).mono (fun r h => ⟨fun c => (h c).2, sem_eq_zero_of_no_sems (by decide) r.2⟩)
    (Cert.UpX0RefIdeal.Value.run (F := Ideal) m ρ)

theorem algebraic : Cert.algebraic_UpX0Ideal_UpX0RefIdeal := by
  intro m ρ m' ρ' _ hagree
  refine ⟨fun c => result (arg0 m c) (arg1 m c), ?_, ?_⟩
  · exact (θ_run defs _ _).mono (fun r h c => ⟨(h c).1.trans (final m c), (h c).2⟩) (run (F := Ideal) m ρ)
  · refine (θ_run Cert.UpX0RefIdeal.defs _ _).mono (fun r h c => ?_) (Cert.UpX0RefIdeal.Value.run (F := Ideal) m' ρ')
    obtain ⟨a0, a1⟩ := hagree c
    have e := (h c).1.trans (reference_eq _ _)
    rw [a0, a1] at e
    exact ⟨e, (h c).2⟩

end Cert.Proof.UpX0

end
-- ==== Proof.UpX1.lean ====
/- Hand-written: THE UP-PROJECTION'S INPUT GRADIENT FROM THE VALUE'S HALF, the gate's added (`d_ffn_up_x1`): a product with the second operand transposed, each
   1024 by 1024 block of the result summed over three tiles of the contracted axis in a scratch block, to which the last point adds the block of the third argument. -/
module

public import proofs.«01_k».proof.Defs
public import proofs.«01_k».proof.Proof.Product
public import proofs.«01_k».proof.Proof.Gen.UpX1Ideal.Value
public import proofs.«01_k».proof.Proof.Gen.UpX1RefIdeal.Run
public import Idealize.ShloMosaic.Lib.Quiescent

@[expose] public section

set_option maxRecDepth 16384

noncomputable section

namespace Cert.Proof.UpX1

open Cert.UpX1Ideal Cert.UpX1Ideal.Gen Cert.UpX1Ideal.Value Idealize.ShloMosaic Idealize.ShloMosaic.TcCoe Idealize.SL.Sem
open scoped BigOperators

/-! ## What a point leaves -/

theorem pay1 (x : Vec Ideal S1024x1024 .f32) (y : Vec Ideal S1024x1024 .bf16) (r d : Fin 1024) :
    k0_pay1 (F := Ideal) x y (ix2 r d) = tileNT x y r d := by
  unfold k0_pay1 tileNT
  pointwise

theorem pay2 (o : Vec Ideal S1024x1024 .f32) (x : Vec Ideal S1024x1024 .f32) (y : Vec Ideal S1024x1024 .bf16) (r d : Fin 1024) :
    k0_pay2 (F := Ideal) o x y (ix2 r d) = o (ix2 r d) + tileNT x y r d := by
  unfold k0_pay2 tileNT
  pointwise

theorem pay3 (o : Vec Ideal S1024x1024 .f32) (x : Vec Ideal S1024x1024 .f32) (y : Vec Ideal S1024x1024 .bf16)
    (z : Vec Ideal S1024x1024 .f32) (r d : Fin 1024) :
    k0_pay3 (F := Ideal) o x y z (ix2 r d) = o (ix2 r d) + tileNT x y r d + z (ix2 r d) := by
  unfold k0_pay3 tileNT
  pointwise

section Cases

variable (c : Dev nD) (i : grid0.Coords)
  (a3 : Memref sig .tc .vmem S1024x1024 .f32) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec Ideal S1024x1024 .f32) (y : Vec Ideal S1024x1024 .bf16) (z o : Vec Ideal S1024x1024 .f32)

theorem scratch_A (hc0 : cond0_0 i) (hc1 : ¬cond0_1 i) (hc2 : ¬cond0_2 i) :
    sout0_A_0 c i a3 h3 a4 h4 a5 h5 a6 h6 a7 h7 hc0 hc1 hc2 x y z = k0_pay1 x y := by
  unfold sout0_A_0
  rw [View.read_writes_eq_canon _ _ _ (scover0_A_0 c i a3 h3 a4 h4 a5 h5 a6 h6 a7 h7 hc0 hc1 hc2 x y z)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 a7 h7 hc0 hc1 hc2 x y z o = k0_pay2 o x y := by
  unfold sout0_B_0
  rw [View.read_writes_eq_canon _ _ _ (scover0_B_0 c i a3 h3 a4 h4 a5 h5 a6 h6 a7 h7 hc0 hc1 hc2 x y z o)]
  unfold kernelRun0_B
  dsimp only
  sl_unfold_words
  rw [View.canon_unit_zero zero_pair]
  simp only [View.readAt_eq_ld, h3.read_unread, h4.read_unread, h5.read_unread, h7.read_unread, View.ld_unit_zero (S := S1024x1024) zero_pair]

theorem out_C (hc0 : ¬cond0_0 i) (hc1 : ¬cond0_1 i) (hc2 : cond0_2 i) :
    out0_C_3 c i a3 h3 a4 h4 a5 h5 a6 h6 a7 h7 hc0 hc1 hc2 x y z o = k0_pay3 o x y z := by
  unfold out0_C_3
  rw [View.read_writes_eq_canon _ _ _ (cover0_C_3 c i a3 h3 a4 h4 a5 h5 a6 h6 a7 h7 hc0 hc1 hc2 x y z o)]
  unfold kernelRun0_C
  dsimp only
  sl_unfold_words
  rw [View.canon_unit_zero zero_pair]
  simp only [View.readAt_eq_ld, h3.read_unread, h4.read_unread, h5.read_unread, h7.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 3072]⟩ : Shape).Idx → EReal) : ℕ → ℕ → EReal := at2 X
abbrev rhs (Y : (⟨2, ![1024, 6144]⟩ : Shape).Idx → EReal) : ℕ → ℕ → EReal := fun k j => at2 Y j (3072 + k)

/-- The result's array. -/
def result (X : (⟨2, ![8192, 3072]⟩ : Shape).Idx → EReal) (Y : (⟨2, ![1024, 6144]⟩ : Shape).Idx → EReal)
    (Z : (⟨2, ![8192, 1024]⟩ : Shape).Idx → EReal) : (⟨2, ![8192, 1024]⟩ : Shape).Idx → EReal :=
  arr2 fun r d => dot (lhs X) (rhs Y) 3072 r d + at2 Z r d

abbrev arg0 : (⟨2, ![8192, 3072]⟩ : Shape).Idx → EReal := m ((c : Thread nD τ).loc main_arg0)
abbrev arg1 : (⟨2, ![1024, 6144]⟩ : Shape).Idx → EReal := m ((c : Thread nD τ).loc main_arg1)
abbrev arg2 : (⟨2, ![8192, 1024]⟩ : Shape).Idx → EReal := m ((c : Thread nD τ).loc main_arg2)

/-! ## The blocks -/

theorem ix0_0 : ∀ t : Fin cfg0.N, win0_0.index t (0 : Fin 2) = t.val / 3 ∧ win0_0.index t (1 : Fin 2) = t.val % 3 :=
  (by decide +kernel : ∀ t : Fin grid0.N, _)
theorem ix0_1 : ∀ t : Fin cfg0.N, win0_1.index t (0 : Fin 2) = 0 ∧ win0_1.index t (1 : Fin 2) = 3 + t.val % 3 :=
  (by decide +kernel : ∀ t : Fin grid0.N, _)

theorem ix0_2 : ∀ t : Fin cfg0.N, win0_2.index t (0 : Fin 2) = t.val / 3 ∧ win0_2.index t (1 : Fin 2) = 0 :=
  (by decide +kernel : ∀ t : Fin grid0.N, _)

theorem blk0 (t : Fin cfg0.N) (r d : Fin 1024) : (iblk m c 0 t : Vec Ideal S1024x1024 .f32) (ix2 r d)
    = lhs (arg0 m c) (1024 * (t.val / 3) + r.val) (1024 * (t.val % 3) + d.val) := by
  obtain ⟨e0, e1⟩ := ix0_0 t
  refine eq_at2 (arg0 m c) (((cfg0.win 0).blk t).view.emb (ix2 r d)) _ _ ?_ ?_
  · show win0_0.index t (0 : Fin 2) * 1024 + 1 * r.val = _; omega
  · show win0_0.index t (1 : Fin 2) * 1024 + 1 * d.val = _; omega

theorem blk1 (t : Fin cfg0.N) (r d : Fin 1024) : (iblk m c 1 t : Vec Ideal S1024x1024 .bf16) (ix2 r d)
    = rhs (arg1 m c) (1024 * (t.val % 3) + d.val) (0 + r.val) := by
  obtain ⟨e0, e1⟩ := ix0_1 t
  refine eq_at2 (arg1 m c) (((cfg0.win 1).blk t).view.emb (ix2 r d)) _ _ ?_ ?_
  · show win0_1.index t (0 : Fin 2) * 1024 + 1 * r.val = _; omega
  · show win0_1.index t (1 : Fin 2) * 1024 + 1 * d.val = _; omega

theorem blk2 (t : Fin cfg0.N) (r d : Fin 1024) : (iblk m c 2 t : Vec Ideal S1024x1024 .f32) (ix2 r d)
    = at2 (arg2 m c) (1024 * (t.val / 3) + r.val) (0 + d.val) := by
  obtain ⟨e0, e1⟩ := ix0_2 t
  refine eq_at2 (arg2 m c) (((cfg0.win 2).blk t).view.emb (ix2 r d)) _ _ ?_ ?_
  · show win0_2.index t (0 : Fin 2) * 1024 + 1 * r.val = _; omega
  · show win0_2.index t (1 : Fin 2) * 1024 + 1 * d.val = _; omega

theorem tile_eq (t : Fin cfg0.N) (r d : Fin 1024) : tileNT (iblk m c 0 t) (iblk m c 1 t) r d
    = dotTile (lhs (arg0 m c)) (rhs (arg1 m c)) 1024 (t.val % 3) (1024 * (t.val / 3) + r.val) (0 + d.val) :=
  tileNT_eq (blk0 m c t) (blk1 m c t) r d

/-- A block's last point leaves the product's entries. -/
theorem outs_eq (t : Fin cfg0.N) (ht : t.val % 3 = 2) (r d : Fin 1024) : (outsAt0 m c t.val t.isLt).1 (ix2 r d)
    = dot (lhs (arg0 m c)) (rhs (arg1 m c)) 3072 (1024 * (t.val / 3) + r.val) (0 + d.val)
      + at2 (arg2 m c) (1024 * (t.val / 3) + r.val) (0 + d.val) := by
  rw [outsAt0_C m c t (by omega) (by omega) ht]
  dsimp only
  rw [out_C, pay3, tile_eq, blk2]
  refine congrArg (· + _) (whole_dot (K := 3) (T := 1024) (by decide) (lhs (arg0 m c)) (rhs (arg1 m c)) (fun q => 1024 * q + r.val) (fun _ => 0 + d.val)
    (fun n h => (outsAt0 m c n h).2 (ix2 r d)) (fun n h h0 => ?_) (fun n h h0 hl => ?_) t.val t.isLt (by omega) ht)
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G3 m c = result (arg0 m c) (arg1 m c) (arg2 m c) := by
  funext i
  have h0 : (i 0).val < 8192 := (i 0).isLt
  have h1 : (i 1).val < 1024 := (i 1).isLt
  have hp : pt3Of i < cfg0.N := by rw [show cfg0.N = 24 from N_0]; show 3 * (1 * _ + 1 * _) + 2 < 24; omega
  unfold G3
  rw [dif_pos hp, ← outsAt0_sweep m c (pt3Of i) hp]
  refine (congrArg _ (eq_ix2 (n0 := 1024) (n1 := 1024) (loc3Of i))).trans ((outs_eq m c ⟨pt3Of i, hp⟩ ?_ _ _).trans ?_)
  · show (3 * (1 * _ + 1 * _) + 2) % 3 = 2; omega
  · unfold result arr2
    refine congrArg₂ (fun r d => dot (lhs (arg0 m c)) (rhs (arg1 m c)) 3072 r d + at2 (arg2 m c) r d) ?_ ?_
    · show 1024 * ((3 * (1 * ((i 0).val / 1024 - 0) + 1 * ((i 1).val / 1024 - 0)) + 2) / 3) + (i 0).val % 1024 = (i 0).val; omega
    · show 0 + (i 1).val % 1024 = (i 1).val; omega

/-! ## The reference -/

theorem reference_eq (X : FVec Ideal ⟨2, ![8192, 3072]⟩ .f32) (Y : FVec Ideal ⟨2, ![1024, 6144]⟩ .bf16)
    (Z : FVec Ideal ⟨2, ![8192, 1024]⟩ .f32) :
    addf Z (Host.dotGeneral Cert.UpX1RefIdeal.dot_S8192x3072_S1024x3072_S8192x1024_1_1_0_0_n_n none
      X (extf .f32 (extractStridedSlice _ ![0, 3072] Y Cert.UpX1RefIdeal.Gen.slices_S1024x6144_S1024x3072_0_3072) (by decide))) = result X Y Z := by
  funext i
  refine (congrArg _ (eq_ix2 (n0 := 8192) (n1 := 1024) i)).trans ?_
  pointwise
  exact (add_comm _ _).trans (congrArg₂ (· + ·)
    (dot_of_fin _ _ _ _ _ fun k => congrArg₂ (· * ·) (eq_at2 X _ _ _ rfl rfl) (eq_at2 Y _ _ _ rfl rfl))
    (eq_at2 Z _ _ _ rfl rfl))

theorem reference_frame : Cert.quiescent_UpX1RefIdeal := fun m ρ _ =>
  (θ_run Cert.UpX1RefIdeal.defs _ _).mono (fun r h => ⟨fun c => (h c).2, sem_eq_zero_of_no_sems (by decide) r.2⟩)
    (Cert.UpX1RefIdeal.Value.run (F := Ideal) m ρ)

theorem algebraic : Cert.algebraic_UpX1Ideal_UpX1RefIdeal := by
  intro m ρ m' ρ' _ hagree
  refine ⟨fun c => result (arg0 m c) (arg1 m c) (arg2 m c), ?_, ?_⟩
  · exact (θ_run defs _ _).mono (fun r h c => ⟨(h c).1.trans (final m c), (h c).2⟩) (run (F := Ideal) m ρ)
  · refine (θ_run Cert.UpX1RefIdeal.defs _ _).mono (fun r h c => ?_) (Cert.UpX1RefIdeal.Value.run (F := Ideal) m' ρ')
    obtain ⟨a0, a1, a2⟩ := hagree c
    have e := (h c).1.trans (reference_eq _ _ _)
    rw [a0, a1, a2] at e
    exact ⟨e, (h c).2⟩

end Cert.Proof.UpX1

end
-- ==== Proof.UpW.lean ====
/- Hand-written: A HALF OF THE UP-PROJECTION'S WEIGHT GRADIENT (`d_ffn_up_w0`, and `d_ffn_up_w1` of the same text): a product with the first operand transposed, each 1024 by
   1024 block of the result summed over eight tiles of the contracted axis in a scratch block. -/
module

public import proofs.«01_k».proof.Defs
public import proofs.«01_k».proof.Proof.Product
public import proofs.«01_k».proof.Proof.Gen.UpWIdeal.Value
public import proofs.«01_k».proof.Proof.Gen.UpWRefIdeal.Run
public import Idealize.ShloMosaic.Lib.Quiescent

@[expose] public section

set_option maxRecDepth 16384

noncomputable section

namespace Cert.Proof.UpW

open Cert.UpWIdeal Cert.UpWIdeal.Gen Cert.UpWIdeal.Value Idealize.ShloMosaic Idealize.ShloMosaic.TcCoe Idealize.SL.Sem
open scoped BigOperators

/-! ## What a point leaves -/

theorem pay1 (x : Vec Ideal S1024x1024 .bf16) (y : Vec Ideal S1024x1024 .f32) (r d : Fin 1024) :
    k0_pay1 (F := Ideal) x y (ix2 r d) = tileTN x y r d := by
  unfold k0_pay1 tileTN
  pointwise

theorem pay2 (o : Vec Ideal S1024x1024 .f32) (x : Vec Ideal S1024x1024 .bf16) (y : Vec Ideal S1024x1024 .f32) (r d : Fin 1024) :
    k0_pay2 (F := Ideal) o x y (ix2 r d) = o (ix2 r d) + tileTN x y r d := by
  unfold k0_pay2 tileTN
  pointwise

theorem pay3 (o : Vec Ideal S1024x1024 .f32) (x : Vec Ideal S1024x1024 .bf16) (y : Vec Ideal S1024x1024 .f32) (r d : Fin 1024) :
    k0_pay3 (F := Ideal) o x y (ix2 r d) = o (ix2 r d) + tileTN x y r d := by
  unfold k0_pay3 tileTN
  pointwise

section Cases

variable (c : Dev nD) (i : grid0.Coords)
  (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1024x1024 .f32) (h6 : a6.IsWhole)
  (x : Vec Ideal S1024x1024 .bf16) (y : Vec Ideal S1024x1024 .f32) (o : Vec Ideal S1024x1024 .f32)

theorem scratch_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 hc0 hc1 hc2 x y o = k0_pay2 o x y := by
  unfold sout0_B_0
  rw [View.read_writes_eq_canon _ _ _ (scover0_B_0 c i a3 h3 a4 h4 a5 h5 a6 h6 hc0 hc1 hc2 x y o)]
  unfold kernelRun0_B
  dsimp only
  sl_unfold_words
  rw [View.canon_unit_zero zero_pair]
  simp only [View.readAt_eq_ld, h3.read_unread, h4.read_unread, h6.read_unread, View.ld_unit_zero (S := S1024x1024) zero_pair]

theorem out_C (hc0 : ¬cond0_0 i) (hc1 : ¬cond0_1 i) (hc2 : cond0_2 i) :
    out0_C_2 c i a3 h3 a4 h4 a5 h5 a6 h6 hc0 hc1 hc2 x y o = k0_pay3 o x y := by
  unfold out0_C_2
  rw [View.read_writes_eq_canon _ _ _ (cover0_C_2 c i a3 h3 a4 h4 a5 h5 a6 h6 hc0 hc1 hc2 x y o)]
  unfold kernelRun0_C
  dsimp only
  sl_unfold_words
  rw [View.canon_unit_zero zero_pair]
  simp only [View.readAt_eq_ld, h3.read_unread, h4.read_unread, h6.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := fun r k => at2 X k r
abbrev rhs (Y : (⟨2, ![8192, 3072]⟩ : Shape).Idx → EReal) : ℕ → ℕ → EReal := at2 Y

/-- The result's array. -/
def result (X : (⟨2, ![8192, 1024]⟩ : Shape).Idx → EReal) (Y : (⟨2, ![8192, 3072]⟩ : Shape).Idx → EReal) :
    (⟨2, ![1024, 3072]⟩ : Shape).Idx → EReal := arr2 (dot (lhs X) (rhs Y) 8192)

abbrev arg0 : (⟨2, ![8192, 1024]⟩ : Shape).Idx → EReal := m ((c : Thread nD τ).loc main_arg0)
abbrev arg1 : (⟨2, ![8192, 3072]⟩ : Shape).Idx → EReal := m ((c : Thread nD τ).loc main_arg1)

/-! ## The blocks -/

theorem ix0_0 : ∀ t : Fin cfg0.N, win0_0.index t (0 : Fin 2) = t.val % 8 ∧ win0_0.index t (1 : Fin 2) = 0 :=
  (by decide +kernel : ∀ t : Fin grid0.N, _)
theorem ix0_1 : ∀ t : Fin cfg0.N, win0_1.index t (0 : Fin 2) = t.val % 8 ∧ win0_1.index t (1 : Fin 2) = t.val / 8 :=
  (by decide +kernel : ∀ t : Fin grid0.N, _)

theorem blk0 (t : Fin cfg0.N) (k r : Fin 1024) : (iblk m c 0 t : Vec Ideal S1024x1024 .bf16) (ix2 k r)
    = lhs (arg0 m c) (0 + r.val) (1024 * (t.val % 8) + k.val) := by
  obtain ⟨e0, e1⟩ := ix0_0 t
  refine eq_at2 (arg0 m c) (((cfg0.win 0).blk t).view.emb (ix2 k r)) _ _ ?_ ?_
  · show win0_0.index t (0 : Fin 2) * 1024 + 1 * k.val = _; omega
  · show win0_0.index t (1 : Fin 2) * 1024 + 1 * r.val = _; omega

theorem blk1 (t : Fin cfg0.N) (k d : Fin 1024) : (iblk m c 1 t : Vec Ideal S1024x1024 .f32) (ix2 k d)
    = rhs (arg1 m c) (1024 * (t.val % 8) + k.val) (1024 * (t.val / 8) + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

theorem tile_eq (t : Fin cfg0.N) (r d : Fin 1024) : tileTN (iblk m c 0 t) (iblk m c 1 t) r d
    = dotTile (lhs (arg0 m c)) (rhs (arg1 m c)) 1024 (t.val % 8) (0 + r.val) (1024 * (t.val / 8) + d.val) :=
  tileTN_eq (blk0 m c t) (blk1 m c t) r d

/-- A block's last point leaves the product's entries. -/
theorem outs_eq (t : Fin cfg0.N) (ht : t.val % 8 = 7) (r d : Fin 1024) : (outsAt0 m c t.val t.isLt).1 (ix2 r d)
    = dot (lhs (arg0 m c)) (rhs (arg1 m c)) 8192 (0 + r.val) (1024 * (t.val / 8) + d.val) := by
  rw [outsAt0_C m c t (by omega) (by omega) ht]
  dsimp only
  rw [out_C, pay3, tile_eq]
  refine whole_dot (K := 8) (T := 1024) (by decide) (lhs (arg0 m c)) (rhs (arg1 m c)) (fun _ => 0 + r.val) (fun q => 1024 * q + d.val)
    (fun n h => (outsAt0 m c n h).2 (ix2 r d)) (fun n h h0 => ?_) (fun n h h0 hl => ?_) t.val t.isLt (by omega) ht
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G2 m c = result (arg0 m c) (arg1 m c) := by
  funext i
  have h0 : (i 0).val < 1024 := (i 0).isLt
  have h1 : (i 1).val < 3072 := (i 1).isLt
  have hp : pt2Of i < cfg0.N := by rw [show cfg0.N = 24 from N_0]; show 8 * (3 * _ + 1 * _) + 7 < 24; omega
  unfold G2
  rw [dif_pos hp, ← outsAt0_sweep m c (pt2Of i) hp]
  refine (congrArg _ (eq_ix2 (n0 := 1024) (n1 := 1024) (loc2Of i))).trans ((outs_eq m c ⟨pt2Of i, hp⟩ ?_ _ _).trans ?_)
  · show (8 * (3 * _ + 1 * _) + 7) % 8 = 7; omega
  · unfold result arr2
    refine congrArg₂ (dot _ _ 8192) ?_ ?_
    · show 0 + (i 0).val % 1024 = (i 0).val; omega
    · show 1024 * ((8 * (3 * ((i 0).val / 1024 - 0) + 1 * ((i 1).val / 1024 - 0)) + 7) / 8) + (i 1).val % 1024 = (i 1).val; omega

/-! ## The reference -/

theorem reference_eq (X : FVec Ideal ⟨2, ![8192, 1024]⟩ .bf16) (Y : FVec Ideal ⟨2, ![8192, 3072]⟩ .f32) :
    transpose _ [1, 0] (Host.dotGeneral Cert.UpWRefIdeal.dot_S8192x3072_S8192x1024_S3072x1024_0_0_1_1_n_n none
      Y (extf .f32 X (by decide))) Cert.UpWRefIdeal.Gen.transposes_S3072x1024_S1024x3072_1_0
      = result X Y := by
  funext i
  refine (congrArg _ (eq_ix2 (n0 := 1024) (n1 := 3072) i)).trans ?_
  pointwise
  exact dot_of_fin _ _ _ _ _ fun k => (mul_comm _ _).trans
    (congrArg₂ (· * ·) (eq_at2 X _ _ _ rfl rfl) (eq_at2 Y _ _ _ rfl rfl))

theorem reference_frame : Cert.quiescent_UpWRefIdeal := fun m ρ _ =>
  (θ_run Cert.UpWRefIdeal.defs _ _).mono (fun r h => ⟨fun c => (h c).2, sem_eq_zero_of_no_sems (by decide) r.2⟩)
    (Cert.UpWRefIdeal.Value.run (F := Ideal) m ρ)

theorem algebraic : Cert.algebraic_UpWIdeal_UpWRefIdeal := by
  intro m ρ m' ρ' _ hagree
  refine ⟨fun c => result (arg0 m c) (arg1 m c), ?_, ?_⟩
  · exact (θ_run defs _ _).mono (fun r h c => ⟨(h c).1.trans (final m c), (h c).2⟩) (run (F := Ideal) m ρ)
  · refine (θ_run Cert.UpWRefIdeal.defs _ _).mono (fun r h c => ?_) (Cert.UpWRefIdeal.Value.run (F := Ideal) m' ρ')
    obtain ⟨a0, a1⟩ := hagree c
    have e := (h c).1.trans (reference_eq _ _)
    rw [a0, a1] at e
    exact ⟨e, (h c).2⟩

end Cert.Proof.UpW

end
-- ==== Proof.DownX.lean ====
/- Hand-written: THE DOWN-PROJECTION'S INPUT GRADIENT (`d_ffn_down_x`): a product with the second operand transposed, the
   contracted axis one tile long, so that each grid point leaves one finished 1024 by 1024 block of the result. -/
module

public import proofs.«01_k».proof.Defs
public import proofs.«01_k».proof.Proof.Product
public import proofs.«01_k».proof.Proof.Gen.DownXIdeal.Value
public import proofs.«01_k».proof.Proof.Gen.DownXRefIdeal.Run
public import Idealize.ShloMosaic.Lib.Quiescent

@[expose] public section

set_option maxRecDepth 16384

noncomputable section

namespace Cert.Proof.DownX

open Cert.DownXIdeal Cert.DownXIdeal.Gen Cert.DownXIdeal.Value Idealize.ShloMosaic Idealize.ShloMosaic.TcCoe Idealize.SL.Sem
open scoped BigOperators

/-! ## What a point leaves -/

theorem out_apply (x : Vec Ideal S1024x1024 .f32) (y : Vec Ideal S1024x1024 .bf16) (r d : Fin 1024) :
    out0_2 (F := Ideal) x y (ix2 r d) = tileNT x y r d := by
  unfold out0_2
  rw [View.canon_unit_zero zero_pair]
  simp only [View.ld_unit_zero (S := S1024x1024) zero_pair]
  unfold k0_pay1 tileNT
  pointwise

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := at2 X
abbrev rhs (Y : (⟨2, ![3072, 1024]⟩ : Shape).Idx → EReal) : ℕ → ℕ → EReal := fun k j => at2 Y j k

/-- The result's array. -/
def result (X : (⟨2, ![8192, 1024]⟩ : Shape).Idx → EReal) (Y : (⟨2, ![3072, 1024]⟩ : Shape).Idx → EReal) :
    (⟨2, ![8192, 3072]⟩ : Shape).Idx → EReal := arr2 (dot (lhs X) (rhs Y) 1024)

abbrev arg0 : (⟨2, ![8192, 1024]⟩ : Shape).Idx → EReal := m ((c : Thread nD τ).loc main_arg0)
abbrev arg1 : (⟨2, ![3072, 1024]⟩ : Shape).Idx → EReal := m ((c : Thread nD τ).loc main_arg1)

/-! ## The blocks -/

theorem ix0_0 : ∀ t : Fin cfg0.N, win0_0.index t (0 : Fin 2) = t.val / 3 ∧ win0_0.index t (1 : Fin 2) = 0 :=
  (by decide +kernel : ∀ t : Fin grid0.N, _)
theorem ix0_1 : ∀ t : Fin cfg0.N, win0_1.index t (0 : Fin 2) = t.val % 3 ∧ win0_1.index t (1 : Fin 2) = 0 :=
  (by decide +kernel : ∀ t : Fin grid0.N, _)
theorem ix0_2 : ∀ t : Fin cfg0.N, win0_2.index t (0 : Fin 2) = t.val / 3 ∧ win0_2.index t (1 : Fin 2) = t.val % 3 :=
  (by decide +kernel : ∀ t : Fin grid0.N, _)

theorem blk0 (t : Fin cfg0.N) (r k : Fin 1024) : (iblk m c 0 t : Vec Ideal S1024x1024 .f32) (ix2 r k)
    = lhs (arg0 m c) (1024 * (t.val / 3) + r.val) (1024 * 0 + k.val) := by
  obtain ⟨e0, e1⟩ := ix0_0 t
  refine eq_at2 (arg0 m c) (((cfg0.win 0).blk t).view.emb (ix2 r k)) _ _ ?_ ?_
  · show win0_0.index t (0 : Fin 2) * 1024 + 1 * r.val = _; omega
  · show win0_0.index t (1 : Fin 2) * 1024 + 1 * k.val = _; omega

theorem blk1 (t : Fin cfg0.N) (d k : Fin 1024) : (iblk m c 1 t : Vec Ideal S1024x1024 .bf16) (ix2 d k)
    = rhs (arg1 m c) (1024 * 0 + k.val) (1024 * (t.val % 3) + d.val) := by
  obtain ⟨e0, e1⟩ := ix0_1 t
  refine eq_at2 (arg1 m c) (((cfg0.win 1).blk t).view.emb (ix2 d k)) _ _ ?_ ?_
  · show win0_1.index t (0 : Fin 2) * 1024 + 1 * d.val = _; omega
  · show win0_1.index t (1 : Fin 2) * 1024 + 1 * k.val = _; omega

/-- A point leaves the product's entries. -/
theorem outs_eq (t : Fin cfg0.N) (r d : Fin 1024) : out0_2 (iblk m c 0 t) (iblk m c 1 t) (ix2 r d)
    = dot (lhs (arg0 m c)) (rhs (arg1 m c)) 1024 (1024 * (t.val / 3) + r.val) (1024 * (t.val % 3) + d.val) := by
  rw [out_apply, tileNT_eq (blk0 m c t) (blk1 m c t), dotTile_zero]

theorem final : (dats m 0 c).arrAt 2 cfg0.N = result (arg0 m c) (arg1 m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = result (arg0 m c) (arg1 m c) (((cfg0.win 2).blk t).view.emb j)
    refine (congrArg (out0_2 (iblk m c 0 t) (iblk m c 1 t)) (eq_ix2 (n0 := 1024) (n1 := 1024) j)).trans
      ((outs_eq m c t (j 0) (j 1)).trans ?_)
    unfold result arr2
    refine congrArg₂ (dot _ _ 1024) ?_ ?_
    · show _ = win0_2.index t (0 : Fin 2) * 1024 + 1 * (j 0).val; omega
    · show _ = win0_2.index t (1 : Fin 2) * 1024 + 1 * (j 1).val; omega
  · have h0 : (i 0).val < 8192 := (i 0).isLt
    have h1 : (i 1).val < 3072 := (i 1).isLt
    let t : Fin cfg0.N := ⟨(i 0).val / 1024 * 3 + (i 1).val / 1024, by rw [show cfg0.N = 24 from N_0]; omega⟩
    have ht : t.val = (i 0).val / 1024 * 3 + (i 1).val / 1024 := rfl
    obtain ⟨e0, e1⟩ := ix0_2 t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The reference -/

theorem reference_eq (X : FVec Ideal ⟨2, ![8192, 1024]⟩ .f32) (Y : FVec Ideal ⟨2, ![3072, 1024]⟩ .bf16) :
    Host.dotGeneral Cert.DownXRefIdeal.dot_S8192x1024_S3072x1024_S8192x3072_1_1_0_0_n_n none
      X (extf .f32 Y (by decide)) = result X Y := by
  funext i
  refine (congrArg _ (eq_ix2 (n0 := 8192) (n1 := 3072) i)).trans ?_
  pointwise
  exact dot_of_fin _ _ _ _ _ fun k => congrArg₂ (· * ·) (eq_at2 X _ _ _ rfl rfl) (eq_at2 Y _ _ _ rfl rfl)

theorem reference_frame : Cert.quiescent_DownXRefIdeal := fun m ρ _ =>
  (θ_run Cert.DownXRefIdeal.defs _ _).mono (fun r h => ⟨fun c => (h c).2, sem_eq_zero_of_no_sems (by decide) r.2⟩)
    (Cert.DownXRefIdeal.Value.run (F := Ideal) m ρ)

theorem algebraic : Cert.algebraic_DownXIdeal_DownXRefIdeal := by
  intro m ρ m' ρ' _ hagree
  refine ⟨fun c => result (arg0 m c) (arg1 m c), ?_, ?_⟩
  · exact (θ_run defs _ _).mono (fun r h c => ⟨(h c).1.trans (final m c), (h c).2⟩) (run_blocks (F := Ideal) m ρ)
  · refine (θ_run Cert.DownXRefIdeal.defs _ _).mono (fun r h c => ?_) (Cert.DownXRefIdeal.Value.run (F := Ideal) m' ρ')
    obtain ⟨a0, a1⟩ := hagree c
    have e := (h c).1.trans (reference_eq _ _)
    rw [a0, a1] at e
    exact ⟨e, (h c).2⟩

end Cert.Proof.DownX

end
-- ==== Proof.DownW.lean ====
/- Hand-written: THE DOWN-PROJECTION'S WEIGHT GRADIENT (`d_ffn_down_w`): a product with the first operand transposed, each 1024 by
   1024 block of the result summed over eight tiles of the contracted axis in a scratch block. -/
module

public import proofs.«01_k».proof.Defs
public import proofs.«01_k».proof.Proof.Product
public import proofs.«01_k».proof.Proof.Gen.DownWIdeal.Value
public import proofs.«01_k».proof.Proof.Gen.DownWRefIdeal.Run
public import Idealize.ShloMosaic.Lib.Quiescent

@[expose] public section

set_option maxRecDepth 16384

noncomputable section

namespace Cert.Proof.DownW

open Cert.DownWIdeal Cert.DownWIdeal.Gen Cert.DownWIdeal.Value Idealize.ShloMosaic Idealize.ShloMosaic.TcCoe Idealize.SL.Sem
open scoped BigOperators

/-! ## What a point leaves -/

theorem pay1 (x : Vec Ideal S1024x1024 .bf16) (y : Vec Ideal S1024x1024 .f32) (r d : Fin 1024) :
    k0_pay1 (F := Ideal) x y (ix2 r d) = tileTN x y r d := by
  unfold k0_pay1 tileTN
  pointwise

theorem pay2 (o : Vec Ideal S1024x1024 .f32) (x : Vec Ideal S1024x1024 .bf16) (y : Vec Ideal S1024x1024 .f32) (r d : Fin 1024) :
    k0_pay2 (F := Ideal) o x y (ix2 r d) = o (ix2 r d) + tileTN x y r d := by
  unfold k0_pay2 tileTN
  pointwise

theorem pay3 (o : Vec Ideal S1024x1024 .f32) (x : Vec Ideal S1024x1024 .bf16) (y : Vec Ideal S1024x1024 .f32) (r d : Fin 1024) :
    k0_pay3 (F := Ideal) o x y (ix2 r d) = o (ix2 r d) + tileTN x y r d := by
  unfold k0_pay3 tileTN
  pointwise

section Cases

variable (c : Dev nD) (i : grid0.Coords)
  (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1024x1024 .f32) (h6 : a6.IsWhole)
  (x : Vec Ideal S1024x1024 .bf16) (y : Vec Ideal S1024x1024 .f32) (o : Vec Ideal S1024x1024 .f32)

theorem scratch_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 hc0 hc1 hc2 x y o = k0_pay2 o x y := by
  unfold sout0_B_0
  rw [View.read_writes_eq_canon _ _ _ (scover0_B_0 c i a3 h3 a4 h4 a5 h5 a6 h6 hc0 hc1 hc2 x y o)]
  unfold kernelRun0_B
  dsimp only
  sl_unfold_words
  rw [View.canon_unit_zero zero_pair]
  simp only [View.readAt_eq_ld, h3.read_unread, h4.read_unread, h6.read_unread, View.ld_unit_zero (S := S1024x1024) zero_pair]

theorem out_C (hc0 : ¬cond0_0 i) (hc1 : ¬cond0_1 i) (hc2 : cond0_2 i) :
    out0_C_2 c i a3 h3 a4 h4 a5 h5 a6 h6 hc0 hc1 hc2 x y o = k0_pay3 o x y := by
  unfold out0_C_2
  rw [View.read_writes_eq_canon _ _ _ (cover0_C_2 c i a3 h3 a4 h4 a5 h5 a6 h6 hc0 hc1 hc2 x y o)]
  unfold kernelRun0_C
  dsimp only
  sl_unfold_words
  rw [View.canon_unit_zero zero_pair]
  simp only [View.readAt_eq_ld, h3.read_unread, h4.read_unread, h6.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 3072]⟩ : Shape).Idx → EReal) : ℕ → ℕ → EReal := fun r k => at2 X k r
abbrev rhs (Y : (⟨2, ![8192, 1024]⟩ : Shape).Idx → EReal) : ℕ → ℕ → EReal := at2 Y

/-- The result's array. -/
def result (X : (⟨2, ![8192, 3072]⟩ : Shape).Idx → EReal) (Y : (⟨2, ![8192, 1024]⟩ : Shape).Idx → EReal) :
    (⟨2, ![3072, 1024]⟩ : Shape).Idx → EReal := arr2 (dot (lhs X) (rhs Y) 8192)

abbrev arg0 : (⟨2, ![8192, 3072]⟩ : Shape).Idx → EReal := m ((c : Thread nD τ).loc main_arg0)
abbrev arg1 : (⟨2, ![8192, 1024]⟩ : Shape).Idx → EReal := m ((c : Thread nD τ).loc main_arg1)

/-! ## The blocks -/

theorem ix0_0 : ∀ t : Fin cfg0.N, win0_0.index t (0 : Fin 2) = t.val % 8 ∧ win0_0.index t (1 : Fin 2) = t.val / 8 :=
  (by decide +kernel : ∀ t : Fin grid0.N, _)
theorem ix0_1 : ∀ t : Fin cfg0.N, win0_1.index t (0 : Fin 2) = t.val % 8 ∧ win0_1.index t (1 : Fin 2) = 0 :=
  (by decide +kernel : ∀ t : Fin grid0.N, _)

theorem blk0 (t : Fin cfg0.N) (k r : Fin 1024) : (iblk m c 0 t : Vec Ideal S1024x1024 .bf16) (ix2 k r)
    = lhs (arg0 m c) (1024 * (t.val / 8) + r.val) (1024 * (t.val % 8) + k.val) := by
  obtain ⟨e0, e1⟩ := ix0_0 t
  refine eq_at2 (arg0 m c) (((cfg0.win 0).blk t).view.emb (ix2 k r)) _ _ ?_ ?_
  · show win0_0.index t (0 : Fin 2) * 1024 + 1 * k.val = _; omega
  · show win0_0.index t (1 : Fin 2) * 1024 + 1 * r.val = _; omega

theorem blk1 (t : Fin cfg0.N) (k d : Fin 1024) : (iblk m c 1 t : Vec Ideal S1024x1024 .f32) (ix2 k d)
    = rhs (arg1 m c) (1024 * (t.val % 8) + k.val) (0 + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

theorem tile_eq (t : Fin cfg0.N) (r d : Fin 1024) : tileTN (iblk m c 0 t) (iblk m c 1 t) r d
    = dotTile (lhs (arg0 m c)) (rhs (arg1 m c)) 1024 (t.val % 8) (1024 * (t.val / 8) + r.val) (0 + d.val) :=
  tileTN_eq (blk0 m c t) (blk1 m c t) r d

/-- A block's last point leaves the product's entries. -/
theorem outs_eq (t : Fin cfg0.N) (ht : t.val % 8 = 7) (r d : Fin 1024) : (outsAt0 m c t.val t.isLt).1 (ix2 r d)
    = dot (lhs (arg0 m c)) (rhs (arg1 m c)) 8192 (1024 * (t.val / 8) + r.val) (0 + d.val) := by
  rw [outsAt0_C m c t (by omega) (by omega) ht]
  dsimp only
  rw [out_C, pay3, tile_eq]
  refine whole_dot (K := 8) (T := 1024) (by decide) (lhs (arg0 m c)) (rhs (arg1 m c)) (fun q => 1024 * q + r.val) (fun _ => 0 + d.val)
    (fun n h => (outsAt0 m c n h).2 (ix2 r d)) (fun n h h0 => ?_) (fun n h h0 hl => ?_) t.val t.isLt (by omega) ht
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G2 m c = result (arg0 m c) (arg1 m c) := by
  funext i
  have h0 : (i 0).val < 3072 := (i 0).isLt
  have h1 : (i 1).val < 1024 := (i 1).isLt
  have hp : pt2Of i < cfg0.N := by rw [show cfg0.N = 24 from N_0]; show 8 * (1 * _ + 1 * _) + 7 < 24; omega
  unfold G2
  rw [dif_pos hp, ← outsAt0_sweep m c (pt2Of i) hp]
  refine (congrArg _ (eq_ix2 (n0 := 1024) (n1 := 1024) (loc2Of i))).trans ((outs_eq m c ⟨pt2Of i, hp⟩ ?_ _ _).trans ?_)
  · show (8 * (1 * _ + 1 * _) + 7) % 8 = 7; omega
  · unfold result arr2
    refine congrArg₂ (dot _ _ 8192) ?_ ?_
    · show 1024 * ((8 * (1 * ((i 0).val / 1024 - 0) + 1 * ((i 1).val / 1024 - 0)) + 7) / 8) + (i 0).val % 1024 = (i 0).val; omega
    · show 0 + (i 1).val % 1024 = (i 1).val; omega

/-! ## The reference -/

theorem reference_eq (X : FVec Ideal ⟨2, ![8192, 3072]⟩ .bf16) (Y : FVec Ideal ⟨2, ![8192, 1024]⟩ .f32) :
    transpose _ [1, 0] (Host.dotGeneral Cert.DownWRefIdeal.dot_S8192x1024_S8192x3072_S1024x3072_0_0_1_1_n_n none
      Y (extf .f32 X (by decide))) Cert.DownWRefIdeal.Gen.transposes_S1024x3072_S3072x1024_1_0
      = result X Y := by
  funext i
  refine (congrArg _ (eq_ix2 (n0 := 3072) (n1 := 1024) i)).trans ?_
  pointwise
  exact dot_of_fin _ _ _ _ _ fun k => (mul_comm _ _).trans
    (congrArg₂ (· * ·) (eq_at2 X _ _ _ rfl rfl) (eq_at2 Y _ _ _ rfl rfl))

theorem reference_frame : Cert.quiescent_DownWRefIdeal := fun m ρ _ =>
  (θ_run Cert.DownWRefIdeal.defs _ _).mono (fun r h => ⟨fun c => (h c).2, sem_eq_zero_of_no_sems (by decide) r.2⟩)
    (Cert.DownWRefIdeal.Value.run (F := Ideal) m ρ)

theorem algebraic : Cert.algebraic_DownWIdeal_DownWRefIdeal := by
  intro m ρ m' ρ' _ hagree
  refine ⟨fun c => result (arg0 m c) (arg1 m c), ?_, ?_⟩
  · exact (θ_run defs _ _).mono (fun r h c => ⟨(h c).1.trans (final m c), (h c).2⟩) (run (F := Ideal) m ρ)
  · refine (θ_run Cert.DownWRefIdeal.defs _ _).mono (fun r h c => ?_) (Cert.DownWRefIdeal.Value.run (F := Ideal) m' ρ')
    obtain ⟨a0, a1⟩ := hagree c
    have e := (h c).1.trans (reference_eq _ _)
    rw [a0, a1] at e
    exact ⟨e, (h c).2⟩

end Cert.Proof.DownW

end
-- ==== Proof.OutX.lean ====
/- Hand-written: A SQUARE PROJECTION'S INPUT GRADIENT (`d_out_proj_x`, and `d_xa_o_x`, `d_xa_q_x` of the same text): a product with the second operand transposed, the
   contracted axis one tile long, so that each grid point leaves one finished 1024 by 1024 block of the result. -/
module

public import proofs.«01_k».proof.Defs
public import proofs.«01_k».proof.Proof.Product
public import proofs.«01_k».proof.Proof.Gen.OutXIdeal.Value
public import proofs.«01_k».proof.Proof.Gen.OutXRefIdeal.Run
public import Idealize.ShloMosaic.Lib.Quiescent

@[expose] public section

set_option maxRecDepth 16384

noncomputable section

namespace Cert.Proof.OutX

open Cert.OutXIdeal Cert.OutXIdeal.Gen Cert.OutXIdeal.Value Idealize.ShloMosaic Idealize.ShloMosaic.TcCoe Idealize.SL.Sem
open scoped BigOperators

/-! ## What a point leaves -/

theorem out_apply (x : Vec Ideal S1024x1024 .f32) (y : Vec Ideal S1024x1024 .bf16) (r d : Fin 1024) :
    out0_2 (F := Ideal) x y (ix2 r d) = tileNT x y r d := by
  unfold out0_2
  rw [View.canon_unit_zero zero_pair]
  simp only [View.ld_unit_zero (S := S1024x1024) zero_pair]
  unfold k0_pay1 tileNT
  pointwise

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := at2 X
abbrev rhs (Y : (⟨2, ![1024, 1024]⟩ : Shape).Idx → EReal) : ℕ → ℕ → EReal := fun k j => at2 Y j k

/-- The result's array. -/
def result (X : (⟨2, ![8192, 1024]⟩ : Shape).Idx → EReal) (Y : (⟨2, ![1024, 1024]⟩ : Shape).Idx → EReal) :
    (⟨2, ![8192, 1024]⟩ : Shape).Idx → EReal := arr2 (dot (lhs X) (rhs Y) 1024)

abbrev arg0 : (⟨2, ![8192, 1024]⟩ : Shape).Idx → EReal := m ((c : Thread nD τ).loc main_arg0)
abbrev arg1 : (⟨2, ![1024, 1024]⟩ : Shape).Idx → EReal := m ((c : Thread nD τ).loc main_arg1)

/-! ## The blocks -/

theorem ix0_0 : ∀ t : Fin cfg0.N, win0_0.index t (0 : Fin 2) = t.val ∧ win0_0.index t (1 : Fin 2) = 0 :=
  (by decide +kernel : ∀ t : Fin grid0.N, _)
theorem ix0_1 : ∀ t : Fin cfg0.N, win0_1.index t (0 : Fin 2) = 0 ∧ win0_1.index t (1 : Fin 2) = 0 :=
  (by decide +kernel : ∀ t : Fin grid0.N, _)
theorem ix0_2 : ∀ t : Fin cfg0.N, win0_2.index t (0 : Fin 2) = t.val ∧ win0_2.index t (1 : Fin 2) = 0 :=
  (by decide +kernel : ∀ t : Fin grid0.N, _)

theorem blk0 (t : Fin cfg0.N) (r k : Fin 1024) : (iblk m c 0 t : Vec Ideal S1024x1024 .f32) (ix2 r k)
    = lhs (arg0 m c) (1024 * t.val + r.val) (1024 * 0 + k.val) := by
  obtain ⟨e0, e1⟩ := ix0_0 t
  refine eq_at2 (arg0 m c) (((cfg0.win 0).blk t).view.emb (ix2 r k)) _ _ ?_ ?_
  · show win0_0.index t (0 : Fin 2) * 1024 + 1 * r.val = _; omega
  · show win0_0.index t (1 : Fin 2) * 1024 + 1 * k.val = _; omega

theorem blk1 (t : Fin cfg0.N) (d k : Fin 1024) : (iblk m c 1 t : Vec Ideal S1024x1024 .bf16) (ix2 d k)
    = rhs (arg1 m c) (1024 * 0 + k.val) (0 + d.val) := by
  obtain ⟨e0, e1⟩ := ix0_1 t
  refine eq_at2 (arg1 m c) (((cfg0.win 1).blk t).view.emb (ix2 d k)) _ _ ?_ ?_
  · show win0_1.index t (0 : Fin 2) * 1024 + 1 * d.val = _; omega
  · show win0_1.index t (1 : Fin 2) * 1024 + 1 * k.val = _; omega

/-- A point leaves the product's entries. -/
theorem outs_eq (t : Fin cfg0.N) (r d : Fin 1024) : out0_2 (iblk m c 0 t) (iblk m c 1 t) (ix2 r d)
    = dot (lhs (arg0 m c)) (rhs (arg1 m c)) 1024 (1024 * t.val + r.val) (0 + d.val) := by
  rw [out_apply, tileNT_eq (blk0 m c t) (blk1 m c t), dotTile_zero]

theorem final : (dats m 0 c).arrAt 2 cfg0.N = result (arg0 m c) (arg1 m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = result (arg0 m c) (arg1 m c) (((cfg0.win 2).blk t).view.emb j)
    refine (congrArg (out0_2 (iblk m c 0 t) (iblk m c 1 t)) (eq_ix2 (n0 := 1024) (n1 := 1024) j)).trans
      ((outs_eq m c t (j 0) (j 1)).trans ?_)
    unfold result arr2
    refine congrArg₂ (dot _ _ 1024) ?_ ?_
    · show _ = win0_2.index t (0 : Fin 2) * 1024 + 1 * (j 0).val; omega
    · show _ = win0_2.index t (1 : Fin 2) * 1024 + 1 * (j 1).val; omega
  · have h0 : (i 0).val < 8192 := (i 0).isLt
    have h1 : (i 1).val < 1024 := (i 1).isLt
    let t : Fin cfg0.N := ⟨(i 0).val / 1024, by rw [show cfg0.N = 8 from N_0]; omega⟩
    have ht : t.val = (i 0).val / 1024 := rfl
    obtain ⟨e0, e1⟩ := ix0_2 t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The reference -/

theorem reference_eq (X : FVec Ideal ⟨2, ![8192, 1024]⟩ .f32) (Y : FVec Ideal ⟨2, ![1024, 1024]⟩ .bf16) :
    Host.dotGeneral Cert.OutXRefIdeal.dot_S8192x1024_S1024x1024_S8192x1024_1_1_0_0_n_n none
      X (extf .f32 Y (by decide)) = result X Y := by
  funext i
  refine (congrArg _ (eq_ix2 (n0 := 8192) (n1 := 1024) i)).trans ?_
  pointwise
  exact dot_of_fin _ _ _ _ _ fun k => congrArg₂ (· * ·) (eq_at2 X _ _ _ rfl rfl) (eq_at2 Y _ _ _ rfl rfl)

theorem reference_frame : Cert.quiescent_OutXRefIdeal := fun m ρ _ =>
  (θ_run Cert.OutXRefIdeal.defs _ _).mono (fun r h => ⟨fun c => (h c).2, sem_eq_zero_of_no_sems (by decide) r.2⟩)
    (Cert.OutXRefIdeal.Value.run (F := Ideal) m ρ)

theorem algebraic : Cert.algebraic_OutXIdeal_OutXRefIdeal := by
  intro m ρ m' ρ' _ hagree
  refine ⟨fun c => result (arg0 m c) (arg1 m c), ?_, ?_⟩
  · exact (θ_run defs _ _).mono (fun r h c => ⟨(h c).1.trans (final m c), (h c).2⟩) (run_blocks (F := Ideal) m ρ)
  · refine (θ_run Cert.OutXRefIdeal.defs _ _).mono (fun r h c => ?_) (Cert.OutXRefIdeal.Value.run (F := Ideal) m' ρ')
    obtain ⟨a0, a1⟩ := hagree c
    have e := (h c).1.trans (reference_eq _ _)
    rw [a0, a1] at e
    exact ⟨e, (h c).2⟩

end Cert.Proof.OutX

end
-- ==== Proof.OutW.lean ====
/- Hand-written: A SQUARE PROJECTION'S WEIGHT GRADIENT (`d_out_proj_w`, and `d_xa_o_w`, `d_xa_q_w` of the same text): a product with the first operand transposed, each 1024 by
   1024 block of the result summed over eight tiles of the contracted axis in a scratch block. -/
module

public import proofs.«01_k».proof.Defs
public import proofs.«01_k».proof.Proof.Product
public import proofs.«01_k».proof.Proof.Gen.OutWIdeal.Value
public import proofs.«01_k».proof.Proof.Gen.OutWRefIdeal.Run
public import Idealize.ShloMosaic.Lib.Quiescent

@[expose] public section

set_option maxRecDepth 16384

noncomputable section

namespace Cert.Proof.OutW

open Cert.OutWIdeal Cert.OutWIdeal.Gen Cert.OutWIdeal.Value Idealize.ShloMosaic Idealize.ShloMosaic.TcCoe Idealize.SL.Sem
open scoped BigOperators

/-! ## What a point leaves -/

theorem pay1 (x : Vec Ideal S1024x1024 .bf16) (y : Vec Ideal S1024x1024 .f32) (r d : Fin 1024) :
    k0_pay1 (F := Ideal) x y (ix2 r d) = tileTN x y r d := by
  unfold k0_pay1 tileTN
  pointwise

theorem pay2 (o : Vec Ideal S1024x1024 .f32) (x : Vec Ideal S1024x1024 .bf16) (y : Vec Ideal S1024x1024 .f32) (r d : Fin 1024) :
    k0_pay2 (F := Ideal) o x y (ix2 r d) = o (ix2 r d) + tileTN x y r d := by
  unfold k0_pay2 tileTN
  pointwise

theorem pay3 (o : Vec Ideal S1024x1024 .f32) (x : Vec Ideal S1024x1024 .bf16) (y : Vec Ideal S1024x1024 .f32) (r d : Fin 1024) :
    k0_pay3 (F := Ideal) o x y (ix2 r d) = o (ix2 r d) + tileTN x y r d := by
  unfold k0_pay3 tileTN
  pointwise

section Cases

variable (c : Dev nD) (i : grid0.Coords)
  (a3 : Memref sig .tc .vmem S1024x1024 .bf16) (h3 : a3.IsWhole) (a4 : Memref sig .tc .vmem S1024x1024 .f32) (h4 : a4.IsWhole)
  (a5 : Memref sig .tc .vmem S1024x1024 .f32) (h5 : a5.IsWhole) (a6 : Memref sig .tc .vmem S1024x1024 .f32) (h6 : a6.IsWhole)
  (x : Vec Ideal S1024x1024 .bf16) (y : Vec Ideal S1024x1024 .f32) (o : Vec Ideal S1024x1024 .f32)

theorem scratch_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 hc0 hc1 hc2 x y o = k0_pay2 o x y := by
  unfold sout0_B_0
  rw [View.read_writes_eq_canon _ _ _ (scover0_B_0 c i a3 h3 a4 h4 a5 h5 a6 h6 hc0 hc1 hc2 x y o)]
  unfold kernelRun0_B
  dsimp only
  sl_unfold_words
  rw [View.canon_unit_zero zero_pair]
  simp only [View.readAt_eq_ld, h3.read_unread, h4.read_unread, h6.read_unread, View.ld_unit_zero (S := S1024x1024) zero_pair]

theorem out_C (hc0 : ¬cond0_0 i) (hc1 : ¬cond0_1 i) (hc2 : cond0_2 i) :
    out0_C_2 c i a3 h3 a4 h4 a5 h5 a6 h6 hc0 hc1 hc2 x y o = k0_pay3 o x y := by
  unfold out0_C_2
  rw [View.read_writes_eq_canon _ _ _ (cover0_C_2 c i a3 h3 a4 h4 a5 h5 a6 h6 hc0 hc1 hc2 x y o)]
  unfold kernelRun0_C
  dsimp only
  sl_unfold_words
  rw [View.canon_unit_zero zero_pair]
  simp only [View.readAt_eq_ld, h3.read_unread, h4.read_unread, h6.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := fun r k => at2 X k r
abbrev rhs (Y : (⟨2, ![8192, 1024]⟩ : Shape).Idx → EReal) : ℕ → ℕ → EReal := at2 Y

/-- The result's array. -/
def result (X : (⟨2, ![8192, 1024]⟩ : Shape).Idx → EReal) (Y : (⟨2, ![8192, 1024]⟩ : Shape).Idx → EReal) :
    (⟨2, ![1024, 1024]⟩ : Shape).Idx → EReal := arr2 (dot (lhs X) (rhs Y) 8192)

abbrev arg0 : (⟨2, ![8192, 1024]⟩ : Shape).Idx → EReal := m ((c : Thread nD τ).loc main_arg0)
abbrev arg1 : (⟨2, ![8192, 1024]⟩ : Shape).Idx → EReal := m ((c : Thread nD τ).loc main_arg1)

/-! ## The blocks -/

theorem ix0_0 : ∀ t : Fin cfg0.N, win0_0.index t (0 : Fin 2) = t.val % 8 ∧ win0_0.index t (1 : Fin 2) = 0 :=
  (by decide +kernel : ∀ t : Fin grid0.N, _)
theorem ix0_1 : ∀ t : Fin cfg0.N, win0_1.index t (0 : Fin 2) = t.val % 8 ∧ win0_1.index t (1 : Fin 2) = t.val / 8 :=
  (by decide +kernel : ∀ t : Fin grid0.N, _)

theorem blk0 (t : Fin cfg0.N) (k r : Fin 1024) : (iblk m c 0 t : Vec Ideal S1024x1024 .bf16) (ix2 k r)
    = lhs (arg0 m c) (0 + r.val) (1024 * (t.val % 8) + k.val) := by
  obtain ⟨e0, e1⟩ := ix0_0 t
  refine eq_at2 (arg0 m c) (((cfg0.win 0).blk t).view.emb (ix2 k r)) _ _ ?_ ?_
  · show win0_0.index t (0 : Fin 2) * 1024 + 1 * k.val = _; omega
  · show win0_0.index t (1 : Fin 2) * 1024 + 1 * r.val = _; omega

theorem blk1 (t : Fin cfg0.N) (k d : Fin 1024) : (iblk m c 1 t : Vec Ideal S1024x1024 .f32) (ix2 k d)
    = rhs (arg1 m c) (1024 * (t.val % 8) + k.val) (1024 * (t.val / 8) + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

theorem tile_eq (t : Fin cfg0.N) (r d : Fin 1024) : tileTN (iblk m c 0 t) (iblk m c 1 t) r d
    = dotTile (lhs (arg0 m c)) (rhs (arg1 m c)) 1024 (t.val % 8) (0 + r.val) (1024 * (t.val / 8) + d.val) :=
  tileTN_eq (blk0 m c t) (blk1 m c t) r d

/-- A block's last point leaves the product's entries. -/
theorem outs_eq (t : Fin cfg0.N) (ht : t.val % 8 = 7) (r d : Fin 1024) : (outsAt0 m c t.val t.isLt).1 (ix2 r d)
    = dot (lhs (arg0 m c)) (rhs (arg1 m c)) 8192 (0 + r.val) (1024 * (t.val / 8) + d.val) := by
  rw [outsAt0_C m c t (by omega) (by omega) ht]
  dsimp only
  rw [out_C, pay3, tile_eq]
  refine whole_dot (K := 8) (T := 1024) (by decide) (lhs (arg0 m c)) (rhs (arg1 m c)) (fun _ => 0 + r.val) (fun q => 1024 * q + d.val)
    (fun n h => (outsAt0 m c n h).2 (ix2 r d)) (fun n h h0 => ?_) (fun n h h0 hl => ?_) t.val t.isLt (by omega) ht
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G2 m c = result (arg0 m c) (arg1 m c) := by
  funext i
  have h0 : (i 0).val < 1024 := (i 0).isLt
  have h1 : (i 1).val < 1024 := (i 1).isLt
  have hp : pt2Of i < cfg0.N := by rw [show cfg0.N = 8 from N_0]; show 8 * (1 * _ + 1 * _) + 7 < 8; omega
  unfold G2
  rw [dif_pos hp, ← outsAt0_sweep m c (pt2Of i) hp]
  refine (congrArg _ (eq_ix2 (n0 := 1024) (n1 := 1024) (loc2Of i))).trans ((outs_eq m c ⟨pt2Of i, hp⟩ ?_ _ _).trans ?_)
  · show (8 * (1 * _ + 1 * _) + 7) % 8 = 7; omega
  · unfold result arr2
    refine congrArg₂ (dot _ _ 8192) ?_ ?_
    · show 0 + (i 0).val % 1024 = (i 0).val; omega
    · show 1024 * ((8 * (1 * ((i 0).val / 1024 - 0) + 1 * ((i 1).val / 1024 - 0)) + 7) / 8) + (i 1).val % 1024 = (i 1).val; omega

/-! ## The reference -/

theorem reference_eq (X : FVec Ideal ⟨2, ![8192, 1024]⟩ .bf16) (Y : FVec Ideal ⟨2, ![8192, 1024]⟩ .f32) :
    transpose _ [1, 0] (Host.dotGeneral Cert.OutWRefIdeal.dot_S8192x1024_S8192x1024_S1024x1024_0_0_1_1_n_n none
      Y (extf .f32 X (by decide))) Cert.OutWRefIdeal.Gen.transposes_S1024x1024_S1024x1024_1_0
      = result X Y := by
  funext i
  refine (congrArg _ (eq_ix2 (n0 := 1024) (n1 := 1024) i)).trans ?_
  pointwise
  exact dot_of_fin _ _ _ _ _ fun k => (mul_comm _ _).trans
    (congrArg₂ (· * ·) (eq_at2 X _ _ _ rfl rfl) (eq_at2 Y _ _ _ rfl rfl))

theorem reference_frame : Cert.quiescent_OutWRefIdeal := fun m ρ _ =>
  (θ_run Cert.OutWRefIdeal.defs _ _).mono (fun r h => ⟨fun c => (h c).2, sem_eq_zero_of_no_sems (by decide) r.2⟩)
    (Cert.OutWRefIdeal.Value.run (F := Ideal) m ρ)

theorem algebraic : Cert.algebraic_OutWIdeal_OutWRefIdeal := by
  intro m ρ m' ρ' _ hagree
  refine ⟨fun c => result (arg0 m c) (arg1 m c), ?_, ?_⟩
  · exact (θ_run defs _ _).mono (fun r h c => ⟨(h c).1.trans (final m c), (h c).2⟩) (run (F := Ideal) m ρ)
  · refine (θ_run Cert.OutWRefIdeal.defs _ _).mono (fun r h c => ?_) (Cert.OutWRefIdeal.Value.run (F := Ideal) m' ρ')
    obtain ⟨a0, a1⟩ := hagree c
    have e := (h c).1.trans (reference_eq _ _)
    rw [a0, a1] at e
    exact ⟨e, (h c).2⟩

end Cert.Proof.OutW

end
-- ==== Proof.KvX.lean ====
/- Hand-written: THE KEYS' AND VALUES' PROJECTION'S INPUT GRADIENT (`d_xa_kv_x`): a product with the second operand transposed, its one
   512 by 1024 block summed over two tiles of the contracted axis, the first kept in a scratch block and the second added to it. -/
module

public import proofs.«01_k».proof.Defs
public import proofs.«01_k».proof.Proof.Product
public import proofs.«01_k».proof.Proof.Gen.KvXIdeal.Value
public import proofs.«01_k».proof.Proof.Gen.KvXRefIdeal.Run
public import Idealize.ShloMosaic.Lib.Quiescent

@[expose] public section

set_option maxRecDepth 16384

noncomputable section

namespace Cert.Proof.KvX

open Cert.KvXIdeal Cert.KvXIdeal.Gen Cert.KvXIdeal.Value Idealize.ShloMosaic Idealize.ShloMosaic.TcCoe Idealize.SL.Sem
open scoped BigOperators

/-! ## What a point leaves -/

theorem pay1 (x : Vec Ideal S512x1024 .f32) (y : Vec Ideal S1024x1024 .bf16) (r : Fin 512) (d : Fin 1024) :
    k0_pay1 (F := Ideal) x y (ix2 r d) = tileNT x y r d := by
  unfold k0_pay1 tileNT
  pointwise

theorem pay3 (o x : Vec Ideal S512x1024 .f32) (y : Vec Ideal S1024x1024 .bf16) (r : Fin 512) (d : Fin 1024) :
    k0_pay3 (F := Ideal) o x y (ix2 r d) = o (ix2 r d) + tileNT x y r d := by
  unfold k0_pay3 tileNT
  pointwise

section Cases

variable (c : Dev nD) (i : grid0.Coords)
  (a3 : Memref sig .tc .vmem S512x1024 .f32) (h3 : a3.IsWhole) (a4 : Memref sig .tc .vmem S1024x1024 .bf16) (h4 : a4.IsWhole)
  (a5 : Memref sig .tc .vmem S512x1024 .f32) (h5 : a5.IsWhole) (a6 : Memref sig .tc .vmem S512x1024 .f32) (h6 : a6.IsWhole)
  (x : Vec Ideal S512x1024 .f32) (y : Vec Ideal S1024x1024 .bf16) (o : Vec Ideal S512x1024 .f32)

theorem scratch_A (hc0 : cond0_0 i) (hc1 : ¬cond0_1 i) (hc2 : ¬cond0_2 i) :
    sout0_A_0 c i a3 h3 a4 h4 a5 h5 a6 h6 hc0 hc1 hc2 x y = k0_pay1 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero zero_pair]
  simp only [View.readAt_eq_ld, h3.read_unread, h4.read_unread, View.ld_unit_zero (S := S512x1024) zero_pair,
    View.ld_unit_zero (S := S1024x1024) zero_pair]

theorem out_B (hc0 : ¬cond0_0 i) (hc1 : ¬cond0_1 i) (hc2 : cond0_2 i) :
    out0_B_2 c i a3 h3 a4 h4 a5 h5 a6 h6 hc0 hc1 hc2 x y o = k0_pay3 o x y := by
  unfold out0_B_2
  rw [View.read_writes_eq_canon _ _ _ (cover0_B_2 c i a3 h3 a4 h4 a5 h5 a6 h6 hc0 hc1 hc2 x y o)]
  unfold kernelRun0_B
  dsimp only
  sl_unfold_words
  rw [View.canon_unit_zero zero_pair]
  simp only [View.readAt_eq_ld, h3.read_unread, h4.read_unread, h6.read_unread, View.ld_unit_zero (S := S512x1024) zero_pair,
    View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![512, 2048]⟩ : Shape).Idx → EReal) : ℕ → ℕ → EReal := at2 X
abbrev rhs (Y : (⟨2, ![1024, 2048]⟩ : Shape).Idx → EReal) : ℕ → ℕ → EReal := fun k j => at2 Y j k

/-- The result's array. -/
def result (X : (⟨2, ![512, 2048]⟩ : Shape).Idx → EReal) (Y : (⟨2, ![1024, 2048]⟩ : Shape).Idx → EReal) :
    (⟨2, ![512, 1024]⟩ : Shape).Idx → EReal := arr2 (dot (lhs X) (rhs Y) 2048)

abbrev arg0 : (⟨2, ![512, 2048]⟩ : Shape).Idx → EReal := m ((c : Thread nD τ).loc main_arg0)
abbrev arg1 : (⟨2, ![1024, 2048]⟩ : Shape).Idx → EReal := m ((c : Thread nD τ).loc main_arg1)

/-! ## The blocks -/

theorem ix0_0 : ∀ t : Fin cfg0.N, win0_0.index t (0 : Fin 2) = 0 ∧ win0_0.index t (1 : Fin 2) = t.val % 2 :=
  (by decide +kernel : ∀ t : Fin grid0.N, _)
theorem ix0_1 : ∀ t : Fin cfg0.N, win0_1.index t (0 : Fin 2) = 0 ∧ win0_1.index t (1 : Fin 2) = t.val % 2 :=
  (by decide +kernel : ∀ t : Fin grid0.N, _)

theorem blk0 (t : Fin cfg0.N) (r : Fin 512) (d : Fin 1024) : (iblk m c 0 t : Vec Ideal S512x1024 .f32) (ix2 r d)
    = lhs (arg0 m c) (0 + r.val) (1024 * (t.val % 2) + d.val) := by
  obtain ⟨e0, e1⟩ := ix0_0 t
  refine eq_at2 (arg0 m c) (((cfg0.win 0).blk t).view.emb (ix2 r d)) _ _ ?_ ?_
  · show win0_0.index t (0 : Fin 2) * 512 + 1 * r.val = _; omega
  · show win0_0.index t (1 : Fin 2) * 1024 + 1 * d.val = _; omega

theorem blk1 (t : Fin cfg0.N) (r d : Fin 1024) : (iblk m c 1 t : Vec Ideal S1024x1024 .bf16) (ix2 r d)
    = rhs (arg1 m c) (1024 * (t.val % 2) + d.val) (0 + r.val) := by
  obtain ⟨e0, e1⟩ := ix0_1 t
  refine eq_at2 (arg1 m c) (((cfg0.win 1).blk t).view.emb (ix2 r d)) _ _ ?_ ?_
  · show win0_1.index t (0 : Fin 2) * 1024 + 1 * r.val = _; omega
  · show win0_1.index t (1 : Fin 2) * 1024 + 1 * d.val = _; omega

theorem tile_eq (t : Fin cfg0.N) (r : Fin 512) (d : Fin 1024) : tileNT (iblk m c 0 t) (iblk m c 1 t) r d
    = dotTile (lhs (arg0 m c)) (rhs (arg1 m c)) 1024 (t.val % 2) (0 + r.val) (0 + d.val) :=
  tileNT_eq (blk0 m c t) (blk1 m c t) r d

/-- The last point leaves the product's entries. -/
theorem outs_eq (t : Fin cfg0.N) (ht : t.val % 2 = 1) (r : Fin 512) (d : Fin 1024) : (outsAt0 m c t.val t.isLt).1 (ix2 r d)
    = dot (lhs (arg0 m c)) (rhs (arg1 m c)) 2048 (0 + r.val) (0 + d.val) := by
  rw [outsAt0_B m c t (by omega) ht]
  dsimp only
  rw [out_B, pay3, tile_eq]
  refine whole_dot (K := 2) (T := 1024) (by decide) (lhs (arg0 m c)) (rhs (arg1 m c)) (fun _ => 0 + r.val) (fun _ => 0 + d.val)
    (fun n h => (outsAt0 m c n h).2 (ix2 r d)) (fun n h h0 => ?_) (fun n h h0 hl => ?_) t.val t.isLt (by omega) ht
  · have e := outsAt0_A m c ⟨n, h⟩ h0 (by dsimp only; omega)
    dsimp only at e
    rw [e]
    dsimp only
    rw [scratch_A, pay1, tile_eq]
  · omega

theorem final : G2 m c = result (arg0 m c) (arg1 m c) := by
  funext i
  have h0 : (i 0).val < 512 := (i 0).isLt
  have h1 : (i 1).val < 1024 := (i 1).isLt
  have hp : pt2Of i < cfg0.N := by rw [show cfg0.N = 2 from N_0]; show 2 * (1 * _ + 1 * _) + 1 < 2; omega
  unfold G2
  rw [dif_pos hp, ← outsAt0_sweep m c (pt2Of i) hp]
  refine (congrArg _ (eq_ix2 (n0 := 512) (n1 := 1024) (loc2Of i))).trans ((outs_eq m c ⟨pt2Of i, hp⟩ ?_ _ _).trans ?_)
  · show (2 * (1 * _ + 1 * _) + 1) % 2 = 1; omega
  · unfold result arr2
    refine congrArg₂ (dot (lhs (arg0 m c)) (rhs (arg1 m c)) 2048) ?_ ?_
    · show 0 + (i 0).val % 512 = (i 0).val; omega
    · show 0 + (i 1).val % 1024 = (i 1).val; omega

/-! ## The reference -/

theorem reference_eq (X : FVec Ideal ⟨2, ![512, 2048]⟩ .f32) (Y : FVec Ideal ⟨2, ![1024, 2048]⟩ .bf16) :
    Host.dotGeneral Cert.KvXRefIdeal.dot_S512x2048_S1024x2048_S512x1024_1_1_0_0_n_n none X (extf .f32 Y (by decide)) = result X Y := by
  funext i
  refine (congrArg _ (eq_ix2 (n0 := 512) (n1 := 1024) i)).trans ?_
  pointwise
  exact dot_of_fin _ _ _ _ _ fun k => congrArg₂ (· * ·) (eq_at2 X _ _ _ rfl rfl) (eq_at2 Y _ _ _ rfl rfl)

theorem reference_frame : Cert.quiescent_KvXRefIdeal := fun m ρ _ =>
  (θ_run Cert.KvXRefIdeal.defs _ _).mono (fun r h => ⟨fun c => (h c).2, sem_eq_zero_of_no_sems (by decide) r.2⟩)
    (Cert.KvXRefIdeal.Value.run (F := Ideal) m ρ)

theorem algebraic : Cert.algebraic_KvXIdeal_KvXRefIdeal := by
  intro m ρ m' ρ' _ hagree
  refine ⟨fun c => result (arg0 m c) (arg1 m c), ?_, ?_⟩
  · exact (θ_run defs _ _).mono (fun r h c => ⟨(h c).1.trans (final m c), (h c).2⟩) (run (F := Ideal) m ρ)
  · refine (θ_run Cert.KvXRefIdeal.defs _ _).mono (fun r h c => ?_) (Cert.KvXRefIdeal.Value.run (F := Ideal) m' ρ')
    obtain ⟨a0, a1⟩ := hagree c
    have e := (h c).1.trans (reference_eq _ _)
    rw [a0, a1] at e
    exact ⟨e, (h c).2⟩

end Cert.Proof.KvX

end
-- ==== Proof.KvW.lean ====
/- Hand-written: THE KEYS' AND VALUES' PROJECTION'S WEIGHT GRADIENT (`d_xa_kv_w`): a product with the first operand transposed, the
   contracted axis one tile long, so that each grid point leaves one finished 1024 by 1024 block of the result. -/
module

public import proofs.«01_k».proof.Defs
public import proofs.«01_k».proof.Proof.Product
public import proofs.«01_k».proof.Proof.Gen.KvWIdeal.Value
public import proofs.«01_k».proof.Proof.Gen.KvWRefIdeal.Run
public import Idealize.ShloMosaic.Lib.Quiescent

@[expose] public section

set_option maxRecDepth 16384

noncomputable section

namespace Cert.Proof.KvW

open Cert.KvWIdeal Cert.KvWIdeal.Gen Cert.KvWIdeal.Value Idealize.ShloMosaic Idealize.ShloMosaic.TcCoe Idealize.SL.Sem
open scoped BigOperators

/-! ## What a point leaves -/

theorem out_apply (x : Vec Ideal S512x1024 .bf16) (y : Vec Ideal S512x1024 .f32) (r : Fin 1024) (d : Fin 1024) :
    out0_2 (F := Ideal) x y (ix2 r d) = tileTN x y r d := by
  unfold out0_2
  rw [View.canon_unit_zero zero_pair]
  simp only [View.ld_unit_zero (S := S512x1024) zero_pair]
  unfold k0_pay1 tileTN
  pointwise

variable (m : (ℓ : Loc nD τ sig) → Buf (Elt Ideal) ℓ) (ρ : Dev nD → PrngReg) (c : Dev nD)

/-- The first operand at row, contracted index; the second at contracted index, column. -/
abbrev lhs (X : (⟨2, ![512, 1024]⟩ : Shape).Idx → EReal) : ℕ → ℕ → EReal := fun r k => at2 X k r
abbrev rhs (Y : (⟨2, ![512, 2048]⟩ : Shape).Idx → EReal) : ℕ → ℕ → EReal := at2 Y

/-- The result's array. -/
def result (X : (⟨2, ![512, 1024]⟩ : Shape).Idx → EReal) (Y : (⟨2, ![512, 2048]⟩ : Shape).Idx → EReal) :
    (⟨2, ![1024, 2048]⟩ : Shape).Idx → EReal := arr2 (dot (lhs X) (rhs Y) 512)

abbrev arg0 : (⟨2, ![512, 1024]⟩ : Shape).Idx → EReal := m ((c : Thread nD τ).loc main_arg0)
abbrev arg1 : (⟨2, ![512, 2048]⟩ : Shape).Idx → EReal := m ((c : Thread nD τ).loc main_arg1)

/-! ## The blocks -/

theorem ix0_0 : ∀ t : Fin cfg0.N, win0_0.index t (0 : Fin 2) = 0 ∧ win0_0.index t (1 : Fin 2) = 0 :=
  (by decide +kernel : ∀ t : Fin grid0.N, _)
theorem ix0_1 : ∀ t : Fin cfg0.N, win0_1.index t (0 : Fin 2) = 0 ∧ win0_1.index t (1 : Fin 2) = t.val :=
  (by decide +kernel : ∀ t : Fin grid0.N, _)
theorem ix0_2 : ∀ t : Fin cfg0.N, win0_2.index t (0 : Fin 2) = 0 ∧ win0_2.index t (1 : Fin 2) = t.val :=
  (by decide +kernel : ∀ t : Fin grid0.N, _)

theorem blk0 (t : Fin cfg0.N) (k : Fin 512) (r : Fin 1024) : (iblk m c 0 t : Vec Ideal S512x1024 .bf16) (ix2 k r)
    = lhs (arg0 m c) (0 + r.val) (512 * 0 + k.val) := by
  obtain ⟨e0, e1⟩ := ix0_0 t
  refine eq_at2 (arg0 m c) (((cfg0.win 0).blk t).view.emb (ix2 k r)) _ _ ?_ ?_
  · show win0_0.index t (0 : Fin 2) * 512 + 1 * k.val = _; omega
  · show win0_0.index t (1 : Fin 2) * 1024 + 1 * r.val = _; omega

theorem blk1 (t : Fin cfg0.N) (k : Fin 512) (d : Fin 1024) : (iblk m c 1 t : Vec Ideal S512x1024 .f32) (ix2 k d)
    = rhs (arg1 m c) (512 * 0 + k.val) (1024 * t.val + d.val) := by
  obtain ⟨e0, e1⟩ := ix0_1 t
  refine eq_at2 (arg1 m c) (((cfg0.win 1).blk t).view.emb (ix2 k d)) _ _ ?_ ?_
  · show win0_1.index t (0 : Fin 2) * 512 + 1 * k.val = _; omega
  · show win0_1.index t (1 : Fin 2) * 1024 + 1 * d.val = _; omega

/-- A point leaves the product's entries. -/
theorem outs_eq (t : Fin cfg0.N) (r : Fin 1024) (d : Fin 1024) : out0_2 (iblk m c 0 t) (iblk m c 1 t) (ix2 r d)
    = dot (lhs (arg0 m c)) (rhs (arg1 m c)) 512 (0 + r.val) (1024 * t.val + d.val) := by
  rw [out_apply, tileTN_eq (blk0 m c t) (blk1 m c t), dotTile_zero]

theorem final : (dats m 0 c).arrAt 2 cfg0.N = result (arg0 m c) (arg1 m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = result (arg0 m c) (arg1 m c) (((cfg0.win 2).blk t).view.emb j)
    refine (congrArg (out0_2 (iblk m c 0 t) (iblk m c 1 t)) (eq_ix2 (n0 := 1024) (n1 := 1024) j)).trans
      ((outs_eq m c t (j 0) (j 1)).trans ?_)
    unfold result arr2
    refine congrArg₂ (dot _ _ 512) ?_ ?_
    · show _ = win0_2.index t (0 : Fin 2) * 1024 + 1 * (j 0).val; omega
    · show _ = win0_2.index t (1 : Fin 2) * 1024 + 1 * (j 1).val; omega
  · have h0 : (i 0).val < 1024 := (i 0).isLt
    have h1 : (i 1).val < 2048 := (i 1).isLt
    let t : Fin cfg0.N := ⟨(i 1).val / 1024, by rw [show cfg0.N = 2 from N_0]; omega⟩
    have ht : t.val = (i 1).val / 1024 := rfl
    obtain ⟨e0, e1⟩ := ix0_2 t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The reference -/

theorem reference_eq (X : FVec Ideal ⟨2, ![512, 1024]⟩ .bf16) (Y : FVec Ideal ⟨2, ![512, 2048]⟩ .f32) :
    transpose _ [1, 0] (Host.dotGeneral Cert.KvWRefIdeal.dot_S512x2048_S512x1024_S2048x1024_0_0_1_1_n_n none
      Y (extf .f32 X (by decide))) Cert.KvWRefIdeal.Gen.transposes_S2048x1024_S1024x2048_1_0 = result X Y := by
  funext i
  refine (congrArg _ (eq_ix2 (n0 := 1024) (n1 := 2048) i)).trans ?_
  pointwise
  exact dot_of_fin _ _ _ _ _ fun k => (mul_comm _ _).trans
    (congrArg₂ (· * ·) (eq_at2 X _ _ _ rfl rfl) (eq_at2 Y _ _ _ rfl rfl))

theorem reference_frame : Cert.quiescent_KvWRefIdeal := fun m ρ _ =>
  (θ_run Cert.KvWRefIdeal.defs _ _).mono (fun r h => ⟨fun c => (h c).2, sem_eq_zero_of_no_sems (by decide) r.2⟩)
    (Cert.KvWRefIdeal.Value.run (F := Ideal) m ρ)

theorem algebraic : Cert.algebraic_KvWIdeal_KvWRefIdeal := by
  intro m ρ m' ρ' _ hagree
  refine ⟨fun c => result (arg0 m c) (arg1 m c), ?_, ?_⟩
  · exact (θ_run defs _ _).mono (fun r h c => ⟨(h c).1.trans (final m c), (h c).2⟩) (run_blocks (F := Ideal) m ρ)
  · refine (θ_run Cert.KvWRefIdeal.defs _ _).mono (fun r h c => ?_) (Cert.KvWRefIdeal.Value.run (F := Ideal) m' ρ')
    obtain ⟨a0, a1⟩ := hagree c
    have e := (h c).1.trans (reference_eq _ _)
    rw [a0, a1] at e
    exact ⟨e, (h c).2⟩

end Cert.Proof.KvW

end
-- ==== Proof.InF.lean ====
/- Hand-written: THE INPUT PROJECTION (`in_proj`): a product whose contracted axis is one tile long, so that each grid point
   leaves one finished 1024 by 1024 block of the result. -/
module

public import proofs.«01_k».proof.Defs
public import proofs.«01_k».proof.Proof.Product
public import proofs.«01_k».proof.Proof.Gen.InFIdeal.Value
public import proofs.«01_k».proof.Proof.Gen.InFRefIdeal.Run
public import Idealize.ShloMosaic.Lib.Quiescent

@[expose] public section

set_option maxRecDepth 16384

noncomputable section

namespace Cert.Proof.InF

open Cert.InFIdeal Cert.InFIdeal.Gen Cert.InFIdeal.Value Idealize.ShloMosaic Idealize.ShloMosaic.TcCoe Idealize.SL.Sem
open scoped BigOperators

/-! ## What a point leaves -/

theorem out_apply (x : Vec Ideal S1024x1024 .bf16) (y : Vec Ideal S1024x1024 .bf16) (r : Fin 1024) (d : Fin 1024) :
    out0_2 (F := Ideal) x y (ix2 r d) = tileNN x y r d := by
  unfold out0_2
  rw [View.canon_unit_zero zero_pair]
  simp only [View.ld_unit_zero (S := S1024x1024) zero_pair]
  unfold k0_pay1 tileNN
  pointwise

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := at2 X
abbrev rhs (Y : (⟨2, ![1024, 7168]⟩ : Shape).Idx → EReal) : ℕ → ℕ → EReal := at2 Y

/-- The result's array. -/
def result (X : (⟨2, ![8192, 1024]⟩ : Shape).Idx → EReal) (Y : (⟨2, ![1024, 7168]⟩ : Shape).Idx → EReal) :
    (⟨2, ![8192, 7168]⟩ : Shape).Idx → EReal := arr2 (dot (lhs X) (rhs Y) 1024)

abbrev arg0 : (⟨2, ![8192, 1024]⟩ : Shape).Idx → EReal := m ((c : Thread nD τ).loc main_arg0)
abbrev arg1 : (⟨2, ![1024, 7168]⟩ : Shape).Idx → EReal := m ((c : Thread nD τ).loc main_arg1)

/-! ## The blocks -/

theorem ix0_0 : ∀ t : Fin cfg0.N, win0_0.index t (0 : Fin 2) = t.val / 7 ∧ win0_0.index t (1 : Fin 2) = 0 :=
  (by decide +kernel : ∀ t : Fin grid0.N, _)
theorem ix0_1 : ∀ t : Fin cfg0.N, win0_1.index t (0 : Fin 2) = 0 ∧ win0_1.index t (1 : Fin 2) = t.val % 7 :=
  (by decide +kernel : ∀ t : Fin grid0.N, _)
theorem ix0_2 : ∀ t : Fin cfg0.N, win0_2.index t (0 : Fin 2) = t.val / 7 ∧ win0_2.index t (1 : Fin 2) = t.val % 7 :=
  (by decide +kernel : ∀ t : Fin grid0.N, _)

theorem blk0 (t : Fin cfg0.N) (r : Fin 1024) (k : Fin 1024) : (iblk m c 0 t : Vec Ideal S1024x1024 .bf16) (ix2 r k)
    = lhs (arg0 m c) (1024 * (t.val / 7) + r.val) (1024 * 0 + k.val) := by
  obtain ⟨e0, e1⟩ := ix0_0 t
  refine eq_at2 (arg0 m c) (((cfg0.win 0).blk t).view.emb (ix2 r k)) _ _ ?_ ?_
  · show win0_0.index t (0 : Fin 2) * 1024 + 1 * r.val = _; omega
  · show win0_0.index t (1 : Fin 2) * 1024 + 1 * k.val = _; omega

theorem blk1 (t : Fin cfg0.N) (k : Fin 1024) (d : Fin 1024) : (iblk m c 1 t : Vec Ideal S1024x1024 .bf16) (ix2 k d)
    = rhs (arg1 m c) (1024 * 0 + k.val) (1024 * (t.val % 7) + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

/-- A point leaves the product's entries. -/
theorem outs_eq (t : Fin cfg0.N) (r : Fin 1024) (d : Fin 1024) : out0_2 (iblk m c 0 t) (iblk m c 1 t) (ix2 r d)
    = dot (lhs (arg0 m c)) (rhs (arg1 m c)) 1024 (1024 * (t.val / 7) + r.val) (1024 * (t.val % 7) + d.val) := by
  rw [out_apply, tileNN_eq (blk0 m c t) (blk1 m c t), dotTile_zero]

theorem final : (dats m 0 c).arrAt 2 cfg0.N = result (arg0 m c) (arg1 m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = result (arg0 m c) (arg1 m c) (((cfg0.win 2).blk t).view.emb j)
    refine (congrArg (out0_2 (iblk m c 0 t) (iblk m c 1 t)) (eq_ix2 (n0 := 1024) (n1 := 1024) j)).trans
      ((outs_eq m c t (j 0) (j 1)).trans ?_)
    unfold result arr2
    refine congrArg₂ (dot _ _ 1024) ?_ ?_
    · show _ = win0_2.index t (0 : Fin 2) * 1024 + 1 * (j 0).val; omega
    · show _ = win0_2.index t (1 : Fin 2) * 1024 + 1 * (j 1).val; omega
  · have h0 : (i 0).val < 8192 := (i 0).isLt
    have h1 : (i 1).val < 7168 := (i 1).isLt
    let t : Fin cfg0.N := ⟨(i 0).val / 1024 * 7 + (i 1).val / 1024, by rw [show cfg0.N = 56 from N_0]; omega⟩
    have ht : t.val = (i 0).val / 1024 * 7 + (i 1).val / 1024 := rfl
    obtain ⟨e0, e1⟩ := ix0_2 t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The reference -/

theorem reference_eq (X : FVec Ideal ⟨2, ![8192, 1024]⟩ .bf16) (Y : FVec Ideal ⟨2, ![1024, 7168]⟩ .bf16) :
    Host.dotGeneral Cert.InFRefIdeal.dot_S8192x1024_S1024x7168_S8192x7168_1_0_0_1_n_n none
      (extf .f32 X (by decide)) (extf .f32 Y (by decide)) = result X Y := by
  funext i
  refine (congrArg _ (eq_ix2 (n0 := 8192) (n1 := 7168) i)).trans ?_
  pointwise
  exact dot_of_fin _ _ _ _ _ fun k => congrArg₂ (· * ·) (eq_at2 X _ _ _ rfl rfl) (eq_at2 Y _ _ _ rfl rfl)

theorem reference_frame : Cert.quiescent_InFRefIdeal := fun m ρ _ =>
  (θ_run Cert.InFRefIdeal.defs _ _).mono (fun r h => ⟨fun c => (h c).2, sem_eq_zero_of_no_sems (by decide) r.2⟩)
    (Cert.InFRefIdeal.Value.run (F := Ideal) m ρ)

theorem algebraic : Cert.algebraic_InFIdeal_InFRefIdeal := by
  intro m ρ m' ρ' _ hagree
  refine ⟨fun c => result (arg0 m c) (arg1 m c), ?_, ?_⟩
  · exact (θ_run defs _ _).mono (fun r h c => ⟨(h c).1.trans (final m c), (h c).2⟩) (run_blocks (F := Ideal) m ρ)
  · refine (θ_run Cert.InFRefIdeal.defs _ _).mono (fun r h c => ?_) (Cert.InFRefIdeal.Value.run (F := Ideal) m' ρ')
    obtain ⟨a0, a1⟩ := hagree c
    have e := (h c).1.trans (reference_eq _ _)
    rw [a0, a1] at e
    exact ⟨e, (h c).2⟩

end Cert.Proof.InF

end
-- ==== Proof.UpF.lean ====
/- Hand-written: THE UP-PROJECTION (`ffn_up`): a product whose contracted axis is one tile long, so that each grid point leaves one
   finished 1024 by 1024 block of the result. -/
module

public import proofs.«01_k».proof.Defs
public import proofs.«01_k».proof.Proof.Product
public import proofs.«01_k».proof.Proof.Gen.UpFIdeal.Value
public import proofs.«01_k».proof.Proof.Gen.UpFRefIdeal.Run
public import Idealize.ShloMosaic.Lib.Quiescent

@[expose] public section

set_option maxRecDepth 16384

noncomputable section

namespace Cert.Proof.UpF

open Cert.UpFIdeal Cert.UpFIdeal.Gen Cert.UpFIdeal.Value Idealize.ShloMosaic Idealize.ShloMosaic.TcCoe Idealize.SL.Sem
open scoped BigOperators

/-! ## What a point leaves -/

theorem out_apply (x : Vec Ideal S1024x1024 .bf16) (y : Vec Ideal S1024x1024 .bf16) (r : Fin 1024) (d : Fin 1024) :
    out0_2 (F := Ideal) x y (ix2 r d) = tileNN x y r d := by
  unfold out0_2
  rw [View.canon_unit_zero zero_pair]
  simp only [View.ld_unit_zero (S := S1024x1024) zero_pair]
  unfold k0_pay1 tileNN
  pointwise

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := at2 X
abbrev rhs (Y : (⟨2, ![1024, 6144]⟩ : Shape).Idx → EReal) : ℕ → ℕ → EReal := at2 Y

/-- The result's array. -/
def result (X : (⟨2, ![8192, 1024]⟩ : Shape).Idx → EReal) (Y : (⟨2, ![1024, 6144]⟩ : Shape).Idx → EReal) :
    (⟨2, ![8192, 6144]⟩ : Shape).Idx → EReal := arr2 (dot (lhs X) (rhs Y) 1024)

abbrev arg0 : (⟨2, ![8192, 1024]⟩ : Shape).Idx → EReal := m ((c : Thread nD τ).loc main_arg0)
abbrev arg1 : (⟨2, ![1024, 6144]⟩ : Shape).Idx → EReal := m ((c : Thread nD τ).loc main_arg1)

/-! ## The blocks -/

theorem ix0_0 : ∀ t : Fin cfg0.N, win0_0.index t (0 : Fin 2) = t.val / 6 ∧ win0_0.index t (1 : Fin 2) = 0 :=
  (by decide +kernel : ∀ t : Fin grid0.N, _)
theorem ix0_1 : ∀ t : Fin cfg0.N, win0_1.index t (0 : Fin 2) = 0 ∧ win0_1.index t (1 : Fin 2) = t.val % 6 :=
  (by decide +kernel : ∀ t : Fin grid0.N, _)
theorem ix0_2 : ∀ t : Fin cfg0.N, win0_2.index t (0 : Fin 2) = t.val / 6 ∧ win0_2.index t (1 : Fin 2) = t.val % 6 :=
  (by decide +kernel : ∀ t : Fin grid0.N, _)

theorem blk0 (t : Fin cfg0.N) (r : Fin 1024) (k : Fin 1024) : (iblk m c 0 t : Vec Ideal S1024x1024 .bf16) (ix2 r k)
    = lhs (arg0 m c) (1024 * (t.val / 6) + r.val) (1024 * 0 + k.val) := by
  obtain ⟨e0, e1⟩ := ix0_0 t
  refine eq_at2 (arg0 m c) (((cfg0.win 0).blk t).view.emb (ix2 r k)) _ _ ?_ ?_
  · show win0_0.index t (0 : Fin 2) * 1024 + 1 * r.val = _; omega
  · show win0_0.index t (1 : Fin 2) * 1024 + 1 * k.val = _; omega

theorem blk1 (t : Fin cfg0.N) (k : Fin 1024) (d : Fin 1024) : (iblk m c 1 t : Vec Ideal S1024x1024 .bf16) (ix2 k d)
    = rhs (arg1 m c) (1024 * 0 + k.val) (1024 * (t.val % 6) + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

/-- A point leaves the product's entries. -/
theorem outs_eq (t : Fin cfg0.N) (r : Fin 1024) (d : Fin 1024) : out0_2 (iblk m c 0 t) (iblk m c 1 t) (ix2 r d)
    = dot (lhs (arg0 m c)) (rhs (arg1 m c)) 1024 (1024 * (t.val / 6) + r.val) (1024 * (t.val % 6) + d.val) := by
  rw [out_apply, tileNN_eq (blk0 m c t) (blk1 m c t), dotTile_zero]

theorem final : (dats m 0 c).arrAt 2 cfg0.N = result (arg0 m c) (arg1 m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = result (arg0 m c) (arg1 m c) (((cfg0.win 2).blk t).view.emb j)
    refine (congrArg (out0_2 (iblk m c 0 t) (iblk m c 1 t)) (eq_ix2 (n0 := 1024) (n1 := 1024) j)).trans
      ((outs_eq m c t (j 0) (j 1)).trans ?_)
    unfold result arr2
    refine congrArg₂ (dot _ _ 1024) ?_ ?_
    · show _ = win0_2.index t (0 : Fin 2) * 1024 + 1 * (j 0).val; omega
    · show _ = win0_2.index t (1 : Fin 2) * 1024 + 1 * (j 1).val; omega
  · have h0 : (i 0).val < 8192 := (i 0).isLt
    have h1 : (i 1).val < 6144 := (i 1).isLt
    let t : Fin cfg0.N := ⟨(i 0).val / 1024 * 6 + (i 1).val / 1024, by rw [show cfg0.N = 48 from N_0]; omega⟩
    have ht : t.val = (i 0).val / 1024 * 6 + (i 1).val / 1024 := rfl
    obtain ⟨e0, e1⟩ := ix0_2 t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The reference -/

theorem reference_eq (X : FVec Ideal ⟨2, ![8192, 1024]⟩ .bf16) (Y : FVec Ideal ⟨2, ![1024, 6144]⟩ .bf16) :
    Host.dotGeneral Cert.UpFRefIdeal.dot_S8192x1024_S1024x6144_S8192x6144_1_0_0_1_n_n none
      (extf .f32 X (by decide)) (extf .f32 Y (by decide)) = result X Y := by
  funext i
  refine (congrArg _ (eq_ix2 (n0 := 8192) (n1 := 6144) i)).trans ?_
  pointwise
  exact dot_of_fin _ _ _ _ _ fun k => congrArg₂ (· * ·) (eq_at2 X _ _ _ rfl rfl) (eq_at2 Y _ _ _ rfl rfl)

theorem reference_frame : Cert.quiescent_UpFRefIdeal := fun m ρ _ =>
  (θ_run Cert.UpFRefIdeal.defs _ _).mono (fun r h => ⟨fun c => (h c).2, sem_eq_zero_of_no_sems (by decide) r.2⟩)
    (Cert.UpFRefIdeal.Value.run (F := Ideal) m ρ)

theorem algebraic : Cert.algebraic_UpFIdeal_UpFRefIdeal := by
  intro m ρ m' ρ' _ hagree
  refine ⟨fun c => result (arg0 m c) (arg1 m c), ?_, ?_⟩
  · exact (θ_run defs _ _).mono (fun r h c => ⟨(h c).1.trans (final m c), (h c).2⟩) (run_blocks (F := Ideal) m ρ)
  · refine (θ_run Cert.UpFRefIdeal.defs _ _).mono (fun r h c => ?_) (Cert.UpFRefIdeal.Value.run (F := Ideal) m' ρ')
    obtain ⟨a0, a1⟩ := hagree c
    have e := (h c).1.trans (reference_eq _ _)
    rw [a0, a1] at e
    exact ⟨e, (h c).2⟩

end Cert.Proof.UpF

end
-- ==== Proof.DownF.lean ====
/- Hand-written: THE FEED-FORWARD DOWN-PROJECTION ADDED TO ITS THIRD ARGUMENT (`ffn_down`): a product, each 1024 by 1024 block of the result
   summed over three tiles of the contracted axis in a scratch block, to which the last point adds the block of the third argument. -/
module

public import proofs.«01_k».proof.Defs
public import proofs.«01_k».proof.Proof.Product
public import proofs.«01_k».proof.Proof.Gen.DownFIdeal.Value
public import proofs.«01_k».proof.Proof.Gen.DownFRefIdeal.Run
public import Idealize.ShloMosaic.Lib.Quiescent

@[expose] public section

set_option maxRecDepth 16384

noncomputable section

namespace Cert.Proof.DownF

open Cert.DownFIdeal Cert.DownFIdeal.Gen Cert.DownFIdeal.Value Idealize.ShloMosaic Idealize.ShloMosaic.TcCoe Idealize.SL.Sem
open scoped BigOperators

/-! ## What a point leaves -/

theorem pay1 (x : Vec Ideal S1024x1024 .bf16) (y : Vec Ideal S1024x1024 .bf16) (r d : Fin 1024) :
    k0_pay1 (F := Ideal) x y (ix2 r d) = tileNN x y r d := by
  unfold k0_pay1 tileNN
  pointwise

theorem pay2 (o : Vec Ideal S1024x1024 .f32) (x : Vec Ideal S1024x1024 .bf16) (y : Vec Ideal S1024x1024 .bf16) (r d : Fin 1024) :
    k0_pay2 (F := Ideal) o x y (ix2 r d) = o (ix2 r d) + tileNN x y r d := by
  unfold k0_pay2 tileNN
  pointwise

theorem pay3 (o : Vec Ideal S1024x1024 .f32) (x : Vec Ideal S1024x1024 .bf16) (y : Vec Ideal S1024x1024 .bf16)
    (z : Vec Ideal S1024x1024 .f32) (r d : Fin 1024) :
    k0_pay3 (F := Ideal) o x y z (ix2 r d) = o (ix2 r d) + tileNN x y r d + z (ix2 r d) := by
  unfold k0_pay3 tileNN
  pointwise

section Cases

variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec Ideal S1024x1024 .bf16) (y : Vec Ideal S1024x1024 .bf16) (z o : Vec Ideal S1024x1024 .f32)

theorem scratch_A (hc0 : cond0_0 i) (hc1 : ¬cond0_1 i) (hc2 : ¬cond0_2 i) :
    sout0_A_0 c i a3 h3 a4 h4 a5 h5 a6 h6 a7 h7 hc0 hc1 hc2 x y z = k0_pay1 x y := by
  unfold sout0_A_0
  rw [View.read_writes_eq_canon _ _ _ (scover0_A_0 c i a3 h3 a4 h4 a5 h5 a6 h6 a7 h7 hc0 hc1 hc2 x y z)]
  unfold kernelRun0_A
  dsimp only
  sl_unfold_words
  rw [View.canon_unit_zero zero_pair]
  simp only [View.readAt_eq_ld, h3.read_unread, h4.read_unread, View.ld_unit_zero (S := S1024x1024) zero_pair]

theorem scratch_B (hc0 : ¬cond0_0 i) (hc1 : cond0_1 i) (hc2 : ¬cond0_2 i) :
    sout0_B_0 c i a3 h3 a4 h4 a5 h5 a6 h6 a7 h7 hc0 hc1 hc2 x y z o = k0_pay2 o x y := by
  unfold sout0_B_0
  rw [View.read_writes_eq_canon _ _ _ (scover0_B_0 c i a3 h3 a4 h4 a5 h5 a6 h6 a7 h7 hc0 hc1 hc2 x y z o)]
  unfold kernelRun0_B
  dsimp only
  sl_unfold_words
  rw [View.canon_unit_zero zero_pair]
  simp only [View.readAt_eq_ld, h3.read_unread, h4.read_unread, h5.read_unread, h7.read_unread, View.ld_unit_zero (S := S1024x1024) zero_pair]

theorem out_C (hc0 : ¬cond0_0 i) (hc1 : ¬cond0_1 i) (hc2 : cond0_2 i) :
    out0_C_3 c i a3 h3 a4 h4 a5 h5 a6 h6 a7 h7 hc0 hc1 hc2 x y z o = k0_pay3 o x y z := by
  unfold out0_C_3
  rw [View.read_writes_eq_canon _ _ _ (cover0_C_3 c i a3 h3 a4 h4 a5 h5 a6 h6 a7 h7 hc0 hc1 hc2 x y z o)]
  unfold kernelRun0_C
  dsimp only
  sl_unfold_words
  rw [View.canon_unit_zero zero_pair]
  simp only [View.readAt_eq_ld, h3.read_unread, h4.read_unread, h5.read_unread, h7.read_unread, View.ld_unit_zero (S := S1024x1024) zero_pair]

end Cases

variable (m : (ℓ : Loc nD τ sig) → Buf (Elt Ideal) ℓ) (ρ : Dev nD → PrngReg) (c : Dev nD)

/-- The first operand at row, contracted index; the second at contracted index, column. -/
abbrev lhs (X : (⟨2, ![8192, 3072]⟩ : Shape).Idx → EReal) : ℕ → ℕ → EReal := at2 X
abbrev rhs (Y : (⟨2, ![3072, 1024]⟩ : Shape).Idx → EReal) : ℕ → ℕ → EReal := at2 Y

/-- The result's array. -/
def result (X : (⟨2, ![8192, 3072]⟩ : Shape).Idx → EReal) (Y : (⟨2, ![3072, 1024]⟩ : Shape).Idx → EReal)
    (Z : (⟨2, ![8192, 1024]⟩ : Shape).Idx → EReal) : (⟨2, ![8192, 1024]⟩ : Shape).Idx → EReal :=
  arr2 fun r d => dot (lhs X) (rhs Y) 3072 r d + at2 Z r d

abbrev arg0 : (⟨2, ![8192, 3072]⟩ : Shape).Idx → EReal := m ((c : Thread nD τ).loc main_arg0)
abbrev arg1 : (⟨2, ![3072, 1024]⟩ : Shape).Idx → EReal := m ((c : Thread nD τ).loc main_arg1)
abbrev arg2 : (⟨2, ![8192, 1024]⟩ : Shape).Idx → EReal := m ((c : Thread nD τ).loc main_arg2)

/-! ## The blocks -/

theorem ix0_0 : ∀ t : Fin cfg0.N, win0_0.index t (0 : Fin 2) = t.val / 3 ∧ win0_0.index t (1 : Fin 2) = t.val % 3 :=
  (by decide +kernel : ∀ t : Fin grid0.N, _)
theorem ix0_1 : ∀ t : Fin cfg0.N, win0_1.index t (0 : Fin 2) = t.val % 3 ∧ win0_1.index t (1 : Fin 2) = 0 :=
  (by decide +kernel : ∀ t : Fin grid0.N, _)

theorem ix0_2 : ∀ t : Fin cfg0.N, win0_2.index t (0 : Fin 2) = t.val / 3 ∧ win0_2.index t (1 : Fin 2) = 0 :=
  (by decide +kernel : ∀ t : Fin grid0.N, _)

theorem blk0 (t : Fin cfg0.N) (r d : Fin 1024) : (iblk m c 0 t : Vec Ideal S1024x1024 .bf16) (ix2 r d)
    = lhs (arg0 m c) (1024 * (t.val / 3) + r.val) (1024 * (t.val % 3) + d.val) := by
  obtain ⟨e0, e1⟩ := ix0_0 t
  refine eq_at2 (arg0 m c) (((cfg0.win 0).blk t).view.emb (ix2 r d)) _ _ ?_ ?_
  · show win0_0.index t (0 : Fin 2) * 1024 + 1 * r.val = _; omega
  · show win0_0.index t (1 : Fin 2) * 1024 + 1 * d.val = _; omega

theorem blk1 (t : Fin cfg0.N) (r d : Fin 1024) : (iblk m c 1 t : Vec Ideal S1024x1024 .bf16) (ix2 r d)
    = rhs (arg1 m c) (1024 * (t.val % 3) + r.val) (0 + d.val) := by
  obtain ⟨e0, e1⟩ := ix0_1 t
  refine eq_at2 (arg1 m c) (((cfg0.win 1).blk t).view.emb (ix2 r d)) _ _ ?_ ?_
  · show win0_1.index t (0 : Fin 2) * 1024 + 1 * r.val = _; omega
  · show win0_1.index t (1 : Fin 2) * 1024 + 1 * d.val = _; omega

theorem blk2 (t : Fin cfg0.N) (r d : Fin 1024) : (iblk m c 2 t : Vec Ideal S1024x1024 .f32) (ix2 r d)
    = at2 (arg2 m c) (1024 * (t.val / 3) + r.val) (0 + d.val) := by
  obtain ⟨e0, e1⟩ := ix0_2 t
  refine eq_at2 (arg2 m c) (((cfg0.win 2).blk t).view.emb (ix2 r d)) _ _ ?_ ?_
  · show win0_2.index t (0 : Fin 2) * 1024 + 1 * r.val = _; omega
  · show win0_2.index t (1 : Fin 2) * 1024 + 1 * d.val = _; omega

theorem tile_eq (t : Fin cfg0.N) (r d : Fin 1024) : tileNN (iblk m c 0 t) (iblk m c 1 t) r d
    = dotTile (lhs (arg0 m c)) (rhs (arg1 m c)) 1024 (t.val % 3) (1024 * (t.val / 3) + r.val) (0 + d.val) :=
  tileNN_eq (blk0 m c t) (blk1 m c t) r d

/-- A block's last point leaves the product's entries. -/
theorem outs_eq (t : Fin cfg0.N) (ht : t.val % 3 = 2) (r d : Fin 1024) : (outsAt0 m c t.val t.isLt).1 (ix2 r d)
    = dot (lhs (arg0 m c)) (rhs (arg1 m c)) 3072 (1024 * (t.val / 3) + r.val) (0 + d.val)
      + at2 (arg2 m c) (1024 * (t.val / 3) + r.val) (0 + d.val) := by
  rw [outsAt0_C m c t (by omega) (by omega) ht]
  dsimp only
  rw [out_C, pay3, tile_eq, blk2]
  refine congrArg (· + _) (whole_dot (K := 3) (T := 1024) (by decide) (lhs (arg0 m c)) (rhs (arg1 m c)) (fun q => 1024 * q + r.val) (fun _ => 0 + d.val)
    (fun n h => (outsAt0 m c n h).2 (ix2 r d)) (fun n h h0 => ?_) (fun n h h0 hl => ?_) t.val t.isLt (by omega) ht)
  · have e := outsAt0_A m c ⟨n, h⟩ h0 (by dsimp only; omega) (by dsimp only; omega)
    dsimp only at e
    rw [e]
    dsimp only
    rw [scratch_A, pay1, tile_eq]
  · have e := outsAt0_B m c ⟨n, h⟩ h0 (by dsimp only; omega) (by dsimp only; omega)
    dsimp only at e
    rw [e]
    dsimp only
    rw [scratch_B, pay2, tile_eq]

theorem final : G3 m c = result (arg0 m c) (arg1 m c) (arg2 m c) := by
  funext i
  have h0 : (i 0).val < 8192 := (i 0).isLt
  have h1 : (i 1).val < 1024 := (i 1).isLt
  have hp : pt3Of i < cfg0.N := by rw [show cfg0.N = 24 from N_0]; show 3 * (1 * _ + 1 * _) + 2 < 24; omega
  unfold G3
  rw [dif_pos hp, ← outsAt0_sweep m c (pt3Of i) hp]
  refine (congrArg _ (eq_ix2 (n0 := 1024) (n1 := 1024) (loc3Of i))).trans ((outs_eq m c ⟨pt3Of i, hp⟩ ?_ _ _).trans ?_)
  · show (3 * (1 * _ + 1 * _) + 2) % 3 = 2; omega
  · unfold result arr2
    refine congrArg₂ (fun r d => dot (lhs (arg0 m c)) (rhs (arg1 m c)) 3072 r d + at2 (arg2 m c) r d) ?_ ?_
    · show 1024 * ((3 * (1 * ((i 0).val / 1024 - 0) + 1 * ((i 1).val / 1024 - 0)) + 2) / 3) + (i 0).val % 1024 = (i 0).val; omega
    · show 0 + (i 1).val % 1024 = (i 1).val; omega

/-! ## The reference -/

theorem reference_eq (X : FVec Ideal ⟨2, ![8192, 3072]⟩ .bf16) (Y : FVec Ideal ⟨2, ![3072, 1024]⟩ .bf16)
    (Z : FVec Ideal ⟨2, ![8192, 1024]⟩ .f32) :
    addf Z (Host.dotGeneral Cert.DownFRefIdeal.dot_S8192x3072_S3072x1024_S8192x1024_1_0_0_1_n_n none
      (extf .f32 X (by decide)) (extf .f32 Y (by decide))) = result X Y Z := by
  funext i
  refine (congrArg _ (eq_ix2 (n0 := 8192) (n1 := 1024) i)).trans ?_
  pointwise
  exact (add_comm _ _).trans (congrArg₂ (· + ·)
    (dot_of_fin _ _ _ _ _ fun k => congrArg₂ (· * ·) (eq_at2 X _ _ _ rfl rfl) (eq_at2 Y _ _ _ rfl rfl))
    (eq_at2 Z _ _ _ rfl rfl))

theorem reference_frame : Cert.quiescent_DownFRefIdeal := fun m ρ _ =>
  (θ_run Cert.DownFRefIdeal.defs _ _).mono (fun r h => ⟨fun c => (h c).2, sem_eq_zero_of_no_sems (by decide) r.2⟩)
    (Cert.DownFRefIdeal.Value.run (F := Ideal) m ρ)

theorem algebraic : Cert.algebraic_DownFIdeal_DownFRefIdeal := by
  intro m ρ m' ρ' _ hagree
  refine ⟨fun c => result (arg0 m c) (arg1 m c) (arg2 m c), ?_, ?_⟩
  · exact (θ_run defs _ _).mono (fun r h c => ⟨(h c).1.trans (final m c), (h c).2⟩) (run (F := Ideal) m ρ)
  · refine (θ_run Cert.DownFRefIdeal.defs _ _).mono (fun r h c => ?_) (Cert.DownFRefIdeal.Value.run (F := Ideal) m' ρ')
    obtain ⟨a0, a1, a2⟩ := hagree c
    have e := (h c).1.trans (reference_eq _ _ _)
    rw [a0, a1, a2] at e
    exact ⟨e, (h c).2⟩

end Cert.Proof.DownF

end
-- ==== Proof.OutF.lean ====
/- Hand-written: A SQUARE PROJECTION ADDED TO ITS THIRD ARGUMENT (`out_proj`, and `xa_o` of the same text): a product whose contracted
   axis is one tile long, so that each grid point leaves one finished 1024 by 1024 block of the result. -/
module

public import proofs.«01_k».proof.Defs
public import proofs.«01_k».proof.Proof.Product
public import proofs.«01_k».proof.Proof.Gen.OutFIdeal.Value
public import proofs.«01_k».proof.Proof.Gen.OutFRefIdeal.Run
public import Idealize.ShloMosaic.Lib.Quiescent

@[expose] public section

set_option maxRecDepth 16384

noncomputable section

namespace Cert.Proof.OutF

open Cert.OutFIdeal Cert.OutFIdeal.Gen Cert.OutFIdeal.Value Idealize.ShloMosaic Idealize.ShloMosaic.TcCoe Idealize.SL.Sem
open scoped BigOperators

/-! ## What a point leaves -/

theorem out_apply (x : Vec Ideal S1024x1024 .bf16) (y : Vec Ideal S1024x1024 .bf16)
    (z : Vec Ideal S1024x1024 .f32) (r : Fin 1024) (d : Fin 1024) :
    out0_3 (F := Ideal) x y z (ix2 r d) = tileNN x y r d + z (ix2 r d) := by
  unfold out0_3
  rw [View.canon_unit_zero zero_pair]
  simp only [View.ld_unit_zero (S := S1024x1024) zero_pair]
  unfold k0_pay1 tileNN
  pointwise

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := at2 X
abbrev rhs (Y : (⟨2, ![1024, 1024]⟩ : Shape).Idx → EReal) : ℕ → ℕ → EReal := at2 Y

/-- The result's array. -/
def result (X : (⟨2, ![8192, 1024]⟩ : Shape).Idx → EReal) (Y : (⟨2, ![1024, 1024]⟩ : Shape).Idx → EReal)
    (Z : (⟨2, ![8192, 1024]⟩ : Shape).Idx → EReal) : (⟨2, ![8192, 1024]⟩ : Shape).Idx → EReal :=
  arr2 fun r d => dot (lhs X) (rhs Y) 1024 r d + at2 Z r d

abbrev arg0 : (⟨2, ![8192, 1024]⟩ : Shape).Idx → EReal := m ((c : Thread nD τ).loc main_arg0)
abbrev arg1 : (⟨2, ![1024, 1024]⟩ : Shape).Idx → EReal := m ((c : Thread nD τ).loc main_arg1)
abbrev arg2 : (⟨2, ![8192, 1024]⟩ : Shape).Idx → EReal := m ((c : Thread nD τ).loc main_arg2)

/-! ## The blocks -/

theorem ix0_0 : ∀ t : Fin cfg0.N, win0_0.index t (0 : Fin 2) = t.val ∧ win0_0.index t (1 : Fin 2) = 0 :=
  (by decide +kernel : ∀ t : Fin grid0.N, _)
theorem ix0_1 : ∀ t : Fin cfg0.N, win0_1.index t (0 : Fin 2) = 0 ∧ win0_1.index t (1 : Fin 2) = 0 :=
  (by decide +kernel : ∀ t : Fin grid0.N, _)
theorem ix0_2 : ∀ t : Fin cfg0.N, win0_2.index t (0 : Fin 2) = t.val ∧ win0_2.index t (1 : Fin 2) = 0 :=
  (by decide +kernel : ∀ t : Fin grid0.N, _)
theorem ix0_3 : ∀ t : Fin cfg0.N, win0_3.index t (0 : Fin 2) = t.val ∧ win0_3.index t (1 : Fin 2) = 0 :=
  (by decide +kernel : ∀ t : Fin grid0.N, _)

theorem blk0 (t : Fin cfg0.N) (r : Fin 1024) (k : Fin 1024) : (iblk m c 0 t : Vec Ideal S1024x1024 .bf16) (ix2 r k)
    = lhs (arg0 m c) (1024 * t.val + r.val) (1024 * 0 + k.val) := by
  obtain ⟨e0, e1⟩ := ix0_0 t
  refine eq_at2 (arg0 m c) (((cfg0.win 0).blk t).view.emb (ix2 r k)) _ _ ?_ ?_
  · show win0_0.index t (0 : Fin 2) * 1024 + 1 * r.val = _; omega
  · show win0_0.index t (1 : Fin 2) * 1024 + 1 * k.val = _; omega

theorem blk1 (t : Fin cfg0.N) (k : Fin 1024) (d : Fin 1024) : (iblk m c 1 t : Vec Ideal S1024x1024 .bf16) (ix2 k d)
    = rhs (arg1 m c) (1024 * 0 + k.val) (0 + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

theorem blk2 (t : Fin cfg0.N) (r : Fin 1024) (d : Fin 1024) : (iblk m c 2 t : Vec Ideal S1024x1024 .f32) (ix2 r d)
    = at2 (arg2 m c) (1024 * t.val + r.val) (0 + d.val) := by
  obtain ⟨e0, e1⟩ := ix0_2 t
  refine eq_at2 (arg2 m c) (((cfg0.win 2).blk t).view.emb (ix2 r d)) _ _ ?_ ?_
  · show win0_2.index t (0 : Fin 2) * 1024 + 1 * r.val = _; omega
  · show win0_2.index t (1 : Fin 2) * 1024 + 1 * d.val = _; omega

/-- A point leaves the product's entries. -/
theorem outs_eq (t : Fin cfg0.N) (r : Fin 1024) (d : Fin 1024) : out0_3 (iblk m c 0 t) (iblk m c 1 t) (iblk m c 2 t) (ix2 r d)
    = dot (lhs (arg0 m c)) (rhs (arg1 m c)) 1024 (1024 * t.val + r.val) (0 + d.val)
      + at2 (arg2 m c) (1024 * t.val + r.val) (0 + d.val) := by
  rw [out_apply, tileNN_eq (blk0 m c t) (blk1 m c t), dotTile_zero, blk2]

theorem final : (dats m 0 c).arrAt 3 cfg0.N = result (arg0 m c) (arg1 m c) (arg2 m c) := by
  refine (dats m 0 c).arrAt_eq_of_cover 3 _ (fun t _ => ?_) (fun i => ?_)
  · rw [flushed3 m c t]
    funext j
    obtain ⟨e0, e1⟩ := ix0_3 t
    show out0_3 (iblk m c 0 t) (iblk m c 1 t) (iblk m c 2 t) j = result (arg0 m c) (arg1 m c) (arg2 m c) (((cfg0.win 3).blk t).view.emb j)
    refine (congrArg (out0_3 (iblk m c 0 t) (iblk m c 1 t) (iblk m c 2 t)) (eq_ix2 (n0 := 1024) (n1 := 1024) j)).trans
      ((outs_eq m c t (j 0) (j 1)).trans ?_)
    unfold result arr2
    refine congrArg₂ (fun r d => dot (lhs (arg0 m c)) (rhs (arg1 m c)) 1024 r d + at2 (arg2 m c) r d) ?_ ?_
    · show _ = win0_3.index t (0 : Fin 2) * 1024 + 1 * (j 0).val; omega
    · show _ = win0_3.index t (1 : Fin 2) * 1024 + 1 * (j 1).val; omega
  · have h0 : (i 0).val < 8192 := (i 0).isLt
    have h1 : (i 1).val < 1024 := (i 1).isLt
    let t : Fin cfg0.N := ⟨(i 0).val / 1024, by rw [show cfg0.N = 8 from N_0]; omega⟩
    have ht : t.val = (i 0).val / 1024 := rfl
    obtain ⟨e0, e1⟩ := ix0_3 t
    refine ⟨t, flush0_3 t, ?_⟩
    show i ∈ ((View.whole main_v0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 1024 ≤ (i 1).val ∧ (i 1).val < win0_3.index t (1 : Fin 2) * 1024 + 1024; omega

/-! ## The reference -/

theorem reference_eq (X : FVec Ideal ⟨2, ![8192, 1024]⟩ .bf16) (Y : FVec Ideal ⟨2, ![1024, 1024]⟩ .bf16)
    (Z : FVec Ideal ⟨2, ![8192, 1024]⟩ .f32) :
    addf Z (Host.dotGeneral Cert.OutFRefIdeal.dot_S8192x1024_S1024x1024_S8192x1024_1_0_0_1_n_n none
      (extf .f32 X (by decide)) (extf .f32 Y (by decide))) = result X Y Z := by
  funext i
  refine (congrArg _ (eq_ix2 (n0 := 8192) (n1 := 1024) i)).trans ?_
  pointwise
  exact (add_comm _ _).trans (congrArg₂ (· + ·)
    (dot_of_fin _ _ _ _ _ fun k => congrArg₂ (· * ·) (eq_at2 X _ _ _ rfl rfl) (eq_at2 Y _ _ _ rfl rfl))
    (eq_at2 Z _ _ _ rfl rfl))

theorem reference_frame : Cert.quiescent_OutFRefIdeal := fun m ρ _ =>
  (θ_run Cert.OutFRefIdeal.defs _ _).mono (fun r h => ⟨fun c => (h c).2, sem_eq_zero_of_no_sems (by decide) r.2⟩)
    (Cert.OutFRefIdeal.Value.run (F := Ideal) m ρ)

theorem algebraic : Cert.algebraic_OutFIdeal_OutFRefIdeal := by
  intro m ρ m' ρ' _ hagree
  refine ⟨fun c => result (arg0 m c) (arg1 m c) (arg2 m c), ?_, ?_⟩
  · exact (θ_run defs _ _).mono (fun r h c => ⟨(h c).1.trans (final m c), (h c).2⟩) (run_blocks (F := Ideal) m ρ)
  · refine (θ_run Cert.OutFRefIdeal.defs _ _).mono (fun r h c => ?_) (Cert.OutFRefIdeal.Value.run (F := Ideal) m' ρ')
    obtain ⟨a0, a1, a2⟩ := hagree c
    have e := (h c).1.trans (reference_eq _ _ _)
    rw [a0, a1, a2] at e
    exact ⟨e, (h c).2⟩

end Cert.Proof.OutF

end
-- ==== Proof.QF.lean ====
/- Hand-written: THE QUERIES' PROJECTION (`xa_q`): a product whose contracted axis is one tile long, so that each grid point leaves one
   finished 1024 by 1024 block of the result, stored in bfloat16. -/
module

public import proofs.«01_k».proof.Defs
public import proofs.«01_k».proof.Proof.Product
public import proofs.«01_k».proof.Proof.Gen.QFIdeal.Value
public import proofs.«01_k».proof.Proof.Gen.QFRefIdeal.Run
public import Idealize.ShloMosaic.Lib.Quiescent

@[expose] public section

set_option maxRecDepth 16384

noncomputable section

namespace Cert.Proof.QF

open Cert.QFIdeal Cert.QFIdeal.Gen Cert.QFIdeal.Value Idealize.ShloMosaic Idealize.ShloMosaic.TcCoe Idealize.SL.Sem
open scoped BigOperators

/-! ## What a point leaves -/

theorem out_apply (x : Vec Ideal S1024x1024 .bf16) (y : Vec Ideal S1024x1024 .bf16) (r : Fin 1024) (d : Fin 1024) :
    out0_2 (F := Ideal) x y (ix2 r d) = tileNN x y r d := by
  unfold out0_2
  rw [View.canon_unit_zero zero_pair]
  simp only [View.ld_unit_zero (S := S1024x1024) zero_pair]
  unfold k0_pay1 tileNN
  pointwise

variable (m : (ℓ : Loc nD τ sig) → Buf (Elt Ideal) ℓ) (ρ : Dev nD → PrngReg) (c : Dev nD)

/-- The first operand at row, contracted index; the second at contracted index, column. -/
abbrev lhs (X : (⟨2, ![8192, 1024]⟩ : Shape).Idx → EReal) : ℕ → ℕ → EReal := at2 X
abbrev rhs (Y : (⟨2, ![1024, 1024]⟩ : Shape).Idx → EReal) : ℕ → ℕ → EReal := at2 Y

/-- The result's array. -/
def result (X : (⟨2, ![8192, 1024]⟩ : Shape).Idx → EReal) (Y : (⟨2, ![1024, 1024]⟩ : Shape).Idx → EReal) :
    (⟨2, ![8192, 1024]⟩ : Shape).Idx → EReal := arr2 (dot (lhs X) (rhs Y) 1024)

abbrev arg0 : (⟨2, ![8192, 1024]⟩ : Shape).Idx → EReal := m ((c : Thread nD τ).loc main_arg0)
abbrev arg1 : (⟨2, ![1024, 1024]⟩ : Shape).Idx → EReal := m ((c : Thread nD τ).loc main_arg1)

/-! ## The blocks -/

theorem ix0_0 : ∀ t : Fin cfg0.N, win0_0.index t (0 : Fin 2) = t.val ∧ win0_0.index t (1 : Fin 2) = 0 :=
  (by decide +kernel : ∀ t : Fin grid0.N, _)
theorem ix0_1 : ∀ t : Fin cfg0.N, win0_1.index t (0 : Fin 2) = 0 ∧ win0_1.index t (1 : Fin 2) = 0 :=
  (by decide +kernel : ∀ t : Fin grid0.N, _)
theorem ix0_2 : ∀ t : Fin cfg0.N, win0_2.index t (0 : Fin 2) = t.val ∧ win0_2.index t (1 : Fin 2) = 0 :=
  (by decide +kernel : ∀ t : Fin grid0.N, _)

theorem blk0 (t : Fin cfg0.N) (r : Fin 1024) (k : Fin 1024) : (iblk m c 0 t : Vec Ideal S1024x1024 .bf16) (ix2 r k)
    = lhs (arg0 m c) (1024 * t.val + r.val) (1024 * 0 + k.val) := by
  obtain ⟨e0, e1⟩ := ix0_0 t
  refine eq_at2 (arg0 m c) (((cfg0.win 0).blk t).view.emb (ix2 r k)) _ _ ?_ ?_
  · show win0_0.index t (0 : Fin 2) * 1024 + 1 * r.val = _; omega
  · show win0_0.index t (1 : Fin 2) * 1024 + 1 * k.val = _; omega

theorem blk1 (t : Fin cfg0.N) (k : Fin 1024) (d : Fin 1024) : (iblk m c 1 t : Vec Ideal S1024x1024 .bf16) (ix2 k d)
    = rhs (arg1 m c) (1024 * 0 + k.val) (0 + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

/-- A point leaves the product's entries. -/
theorem outs_eq (t : Fin cfg0.N) (r : Fin 1024) (d : Fin 1024) : out0_2 (iblk m c 0 t) (iblk m c 1 t) (ix2 r d)
    = dot (lhs (arg0 m c)) (rhs (arg1 m c)) 1024 (1024 * t.val + r.val) (0 + d.val) := by
  rw [out_apply, tileNN_eq (blk0 m c t) (blk1 m c t), dotTile_zero]

theorem final : (dats m 0 c).arrAt 2 cfg0.N = result (arg0 m c) (arg1 m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = result (arg0 m c) (arg1 m c) (((cfg0.win 2).blk t).view.emb j)
    refine (congrArg (out0_2 (iblk m c 0 t) (iblk m c 1 t)) (eq_ix2 (n0 := 1024) (n1 := 1024) j)).trans
      ((outs_eq m c t (j 0) (j 1)).trans ?_)
    unfold result arr2
    refine congrArg₂ (dot _ _ 1024) ?_ ?_
    · show _ = win0_2.index t (0 : Fin 2) * 1024 + 1 * (j 0).val; omega
    · show _ = win0_2.index t (1 : Fin 2) * 1024 + 1 * (j 1).val; omega
  · have h0 : (i 0).val < 8192 := (i 0).isLt
    have h1 : (i 1).val < 1024 := (i 1).isLt
    let t : Fin cfg0.N := ⟨(i 0).val / 1024, by rw [show cfg0.N = 8 from N_0]; omega⟩
    have ht : t.val = (i 0).val / 1024 := rfl
    obtain ⟨e0, e1⟩ := ix0_2 t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 1024 ≤ (i 1).val ∧ (i 1).val < win0_2.index t (1 : Fin 2) * 1024 + 1024; omega

/-! ## The reference -/

theorem reference_eq (X : FVec Ideal ⟨2, ![8192, 1024]⟩ .bf16) (Y : FVec Ideal ⟨2, ![1024, 1024]⟩ .bf16) :
    truncf .bf16 (Host.dotGeneral Cert.QFRefIdeal.dot_S8192x1024_S1024x1024_S8192x1024_1_0_0_1_n_n none
      (extf .f32 X (by decide)) (extf .f32 Y (by decide))) (by decide) = result X Y := by
  funext i
  refine (congrArg _ (eq_ix2 (n0 := 8192) (n1 := 1024) i)).trans ?_
  pointwise
  exact dot_of_fin _ _ _ _ _ fun k => congrArg₂ (· * ·) (eq_at2 X _ _ _ rfl rfl) (eq_at2 Y _ _ _ rfl rfl)

theorem reference_frame : Cert.quiescent_QFRefIdeal := fun m ρ _ =>
  (θ_run Cert.QFRefIdeal.defs _ _).mono (fun r h => ⟨fun c => (h c).2, sem_eq_zero_of_no_sems (by decide) r.2⟩)
    (Cert.QFRefIdeal.Value.run (F := Ideal) m ρ)

theorem algebraic : Cert.algebraic_QFIdeal_QFRefIdeal := by
  intro m ρ m' ρ' _ hagree
  refine ⟨fun c => result (arg0 m c) (arg1 m c), ?_, ?_⟩
  · exact (θ_run defs _ _).mono (fun r h c => ⟨(h c).1.trans (final m c), (h c).2⟩) (run_blocks (F := Ideal) m ρ)
  · refine (θ_run Cert.QFRefIdeal.defs _ _).mono (fun r h c => ?_) (Cert.QFRefIdeal.Value.run (F := Ideal) m' ρ')
    obtain ⟨a0, a1⟩ := hagree c
    have e := (h c).1.trans (reference_eq _ _)
    rw [a0, a1] at e
    exact ⟨e, (h c).2⟩

end Cert.Proof.QF

end
-- ==== Proof.KvF.lean ====
/- Hand-written: THE KEYS' AND VALUES' PROJECTION (`xa_kv`): a product whose contracted axis is one tile long, so that each grid point
   leaves one finished 512 by 1024 block of the result. -/
module

public import proofs.«01_k».proof.Defs
public import proofs.«01_k».proof.Proof.Product
public import proofs.«01_k».proof.Proof.Gen.KvFIdeal.Value
public import proofs.«01_k».proof.Proof.Gen.KvFRefIdeal.Run
public import Idealize.ShloMosaic.Lib.Quiescent

@[expose] public section

set_option maxRecDepth 16384

noncomputable section

namespace Cert.Proof.KvF

open Cert.KvFIdeal Cert.KvFIdeal.Gen Cert.KvFIdeal.Value Idealize.ShloMosaic Idealize.ShloMosaic.TcCoe Idealize.SL.Sem
open scoped BigOperators

/-! ## What a point leaves -/

theorem out_apply (x : Vec Ideal S512x1024 .bf16) (y : Vec Ideal S1024x1024 .bf16) (r : Fin 512) (d : Fin 1024) :
    out0_2 (F := Ideal) x y (ix2 r d) = tileNN x y r d := by
  unfold out0_2
  rw [View.canon_unit_zero zero_pair]
  simp only [View.ld_unit_zero (S := S1024x1024) zero_pair]
  unfold k0_pay1 tileNN
  pointwise

variable (m : (ℓ : Loc nD τ sig) → Buf (Elt Ideal) ℓ) (ρ : Dev nD → PrngReg) (c : Dev nD)

/-- The first operand at row, contracted index; the second at contracted index, column. -/
abbrev lhs (X : (⟨2, ![512, 1024]⟩ : Shape).Idx → EReal) : ℕ → ℕ → EReal := at2 X
abbrev rhs (Y : (⟨2, ![1024, 2048]⟩ : Shape).Idx → EReal) : ℕ → ℕ → EReal := at2 Y

/-- The result's array. -/
def result (X : (⟨2, ![512, 1024]⟩ : Shape).Idx → EReal) (Y : (⟨2, ![1024, 2048]⟩ : Shape).Idx → EReal) :
    (⟨2, ![512, 2048]⟩ : Shape).Idx → EReal := arr2 (dot (lhs X) (rhs Y) 1024)

abbrev arg0 : (⟨2, ![512, 1024]⟩ : Shape).Idx → EReal := m ((c : Thread nD τ).loc main_arg0)
abbrev arg1 : (⟨2, ![1024, 2048]⟩ : Shape).Idx → EReal := m ((c : Thread nD τ).loc main_arg1)

/-! ## The blocks -/

theorem ix0_0 : ∀ t : Fin cfg0.N, win0_0.index t (0 : Fin 2) = 0 ∧ win0_0.index t (1 : Fin 2) = 0 :=
  (by decide +kernel : ∀ t : Fin grid0.N, _)
theorem ix0_1 : ∀ t : Fin cfg0.N, win0_1.index t (0 : Fin 2) = 0 ∧ win0_1.index t (1 : Fin 2) = t.val :=
  (by decide +kernel : ∀ t : Fin grid0.N, _)
theorem ix0_2 : ∀ t : Fin cfg0.N, win0_2.index t (0 : Fin 2) = 0 ∧ win0_2.index t (1 : Fin 2) = t.val :=
  (by decide +kernel : ∀ t : Fin grid0.N, _)

theorem blk0 (t : Fin cfg0.N) (r : Fin 512) (k : Fin 1024) : (iblk m c 0 t : Vec Ideal S512x1024 .bf16) (ix2 r k)
    = lhs (arg0 m c) (0 + r.val) (1024 * 0 + k.val) := by
  obtain ⟨e0, e1⟩ := ix0_0 t
  refine eq_at2 (arg0 m c) (((cfg0.win 0).blk t).view.emb (ix2 r k)) _ _ ?_ ?_
  · show win0_0.index t (0 : Fin 2) * 512 + 1 * r.val = _; omega
  · show win0_0.index t (1 : Fin 2) * 1024 + 1 * k.val = _; omega

theorem blk1 (t : Fin cfg0.N) (k : Fin 1024) (d : Fin 1024) : (iblk m c 1 t : Vec Ideal S1024x1024 .bf16) (ix2 k d)
    = rhs (arg1 m c) (1024 * 0 + k.val) (1024 * t.val + d.val) := by
  obtain ⟨e0, e1⟩ := ix0_1 t
  refine eq_at2 (arg1 m c) (((cfg0.win 1).blk t).view.emb (ix2 k d)) _ _ ?_ ?_
  · show win0_1.index t (0 : Fin 2) * 1024 + 1 * k.val = _; omega
  · show win0_1.index t (1 : Fin 2) * 1024 + 1 * d.val = _; omega

/-- A point leaves the product's entries. -/
theorem outs_eq (t : Fin cfg0.N) (r : Fin 512) (d : Fin 1024) : out0_2 (iblk m c 0 t) (iblk m c 1 t) (ix2 r d)
    = dot (lhs (arg0 m c)) (rhs (arg1 m c)) 1024 (0 + r.val) (1024 * t.val + d.val) := by
  rw [out_apply, tileNN_eq (blk0 m c t) (blk1 m c t), dotTile_zero]

theorem final : (dats m 0 c).arrAt 2 cfg0.N = result (arg0 m c) (arg1 m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = result (arg0 m c) (arg1 m c) (((cfg0.win 2).blk t).view.emb j)
    refine (congrArg (out0_2 (iblk m c 0 t) (iblk m c 1 t)) (eq_ix2 (n0 := 512) (n1 := 1024) j)).trans
      ((outs_eq m c t (j 0) (j 1)).trans ?_)
    unfold result arr2
    refine congrArg₂ (dot _ _ 1024) ?_ ?_
    · show _ = win0_2.index t (0 : Fin 2) * 512 + 1 * (j 0).val; omega
    · show _ = win0_2.index t (1 : Fin 2) * 1024 + 1 * (j 1).val; omega
  · have h0 : (i 0).val < 512 := (i 0).isLt
    have h1 : (i 1).val < 2048 := (i 1).isLt
    let t : Fin cfg0.N := ⟨(i 1).val / 1024, by rw [show cfg0.N = 2 from N_0]; omega⟩
    have ht : t.val = (i 1).val / 1024 := rfl
    obtain ⟨e0, e1⟩ := ix0_2 t
    refine ⟨t, flush0_2 t, ?_⟩
    show i ∈ ((View.whole main_v0).slice (win0_2.rect t)).set
    rw [View.set_slice_whole, Rect.mem_set_unit]
    intro a
    match a with
    | ⟨0, _⟩ => show win0_2.index t (0 : Fin 2) * 512 ≤ (i 0).val ∧ (i 0).val < win0_2.index t (0 : Fin 2) * 512 + 512; omega
    | ⟨1, _⟩ => show win0_2.index t (1 : Fin 2) * 1024 ≤ (i 1).val ∧ (i 1).val < win0_2.index t (1 : Fin 2) * 1024 + 1024; omega

/-! ## The reference -/

theorem reference_eq (X : FVec Ideal ⟨2, ![512, 1024]⟩ .bf16) (Y : FVec Ideal ⟨2, ![1024, 2048]⟩ .bf16) :
    Host.dotGeneral Cert.KvFRefIdeal.dot_S512x1024_S1024x2048_S512x2048_1_0_0_1_n_n none
      (extf .f32 X (by decide)) (extf .f32 Y (by decide)) = result X Y := by
  funext i
  refine (congrArg _ (eq_ix2 (n0 := 512) (n1 := 2048) i)).trans ?_
  pointwise
  exact dot_of_fin _ _ _ _ _ fun k => congrArg₂ (· * ·) (eq_at2 X _ _ _ rfl rfl) (eq_at2 Y _ _ _ rfl rfl)

theorem reference_frame : Cert.quiescent_KvFRefIdeal := fun m ρ _ =>
  (θ_run Cert.KvFRefIdeal.defs _ _).mono (fun r h => ⟨fun c => (h c).2, sem_eq_zero_of_no_sems (by decide) r.2⟩)
    (Cert.KvFRefIdeal.Value.run (F := Ideal) m ρ)

theorem algebraic : Cert.algebraic_KvFIdeal_KvFRefIdeal := by
  intro m ρ m' ρ' _ hagree
  refine ⟨fun c => result (arg0 m c) (arg1 m c), ?_, ?_⟩
  · exact (θ_run defs _ _).mono (fun r h c => ⟨(h c).1.trans (final m c), (h c).2⟩) (run_blocks (F := Ideal) m ρ)
  · refine (θ_run Cert.KvFRefIdeal.defs _ _).mono (fun r h c => ?_) (Cert.KvFRefIdeal.Value.run (F := Ideal) m' ρ')
    obtain ⟨a0, a1⟩ := hagree c
    have e := (h c).1.trans (reference_eq _ _)
    rw [a0, a1] at e
    exact ⟨e, (h c).2⟩

end Cert.Proof.KvF

end
-- ==== Proof.Merge.lean ====
/- Hand-written: THE MERGE OF THE THREE BRANCHES, entry by entry. A row's result is the sum over the branches of a gate times a product
   of the branch's row with its matrix; the first branch's row is an activation times the local branch's output (`branch`), a
   gate the logistic function of a projection plus a bias (`gate`). The functions here are of one row and column, written in
   the order of operations that both the kernel and the reference have. -/
module

public import proofs.«01_k».proof.Proof.Product

@[expose] public section

noncomputable section

namespace Cert.Proof.Merge

open Idealize.ShloMosaic

/-- The three constants of the activation: one half, the square root of two over pi, and the cubic term's factor. -/
abbrev half : EReal := Ideal.ofBits .f32 0x3F000000#32
abbrev root : EReal := Ideal.ofBits .f32 0x3F4C422A#32
abbrev cubic : EReal := Ideal.ofBits .f32 0x3D372713#32

/-- The activation's hyperbolic tangent, the factor it multiplies its argument by, and the first branch's entry. -/
def bend (g : EReal) : EReal := Ideal.tanh (root * (g + cubic * (g * g * g)))
def factor (g : EReal) : EReal := half * (1 + bend g)
def branch (h g : EReal) : EReal := h * (g * factor g)

/-- A gate: the logistic function of a projection plus a bias. -/
def gate (g b : EReal) : EReal := Ideal.logistic (g + b)

/-- What the merge reads: the local branch's output and its activation's argument, the two other branches' outputs, the three
    gates' projections, the three matrices and the three biases. -/
structure Args where
  (ha ga yb yc g0 g1 g2 w0 w1 w2 b0 b1 b2 : ℕ → ℕ → EReal)

variable (x : Args)

def Args.ya (r k : ℕ) : EReal := branch (x.ha r k) (x.ga r k)
def Args.s0 (r c : ℕ) : EReal := gate (x.g0 r c) (x.b0 0 c)
def Args.s1 (r c : ℕ) : EReal := gate (x.g1 r c) (x.b1 0 c)
def Args.s2 (r c : ℕ) : EReal := gate (x.g2 r c) (x.b2 0 c)

/-- The merged entry. -/
def Args.merged (r c : ℕ) : EReal :=
  x.s0 r c * dot x.ya x.w0 512 r c + x.s1 r c * dot x.yb x.w1 512 r c + x.s2 r c * dot x.yc x.w2 512 r c

/-! ## The host's arrays: a gate, the activation's tangent, its factor and the first branch, as both references print them -/

section Host

variable (H : FVec Ideal ⟨2, ![8192, 512]⟩ .f32) (P : FVec Ideal ⟨2, ![8192, 7168]⟩ .f32) (B : FVec Ideal ⟨2, ![1, 1024]⟩ .f32)

abbrev wide : Shape := ⟨2, ![8192, 1024]⟩
abbrev narrow : Shape := ⟨2, ![8192, 512]⟩

/-- One bit pattern, everywhere. -/
abbrev every (s : Shape) (h : (⟨0, ![]⟩ : Shape).BroadcastsInDim s ![]) (w : BitVec 32) : FVec Ideal s .f32 :=
  broadcastInDim s ![] h (constant ⟨0, ![]⟩ .f32 w)

def hostGate (o : ℕ) (h : (⟨2, ![8192, 7168]⟩ : Shape).Slices ![0, o] wide) : FVec Ideal wide .f32 :=
  Host.divf (every wide (by decide) 0x3F800000#32) (addf (every wide (by decide) 0x3F800000#32)
    (Host.exp (Host.negf (addf (extractStridedSlice wide ![0, o] P h) (broadcastInDim wide ![0, 1] (by decide) B)))))

abbrev hostArg : FVec Ideal narrow .f32 := extractStridedSlice narrow ![0, 3584] P (by decide)

def hostBend : FVec Ideal narrow .f32 :=
  Host.tanh (mulf (every narrow (by decide) 0x3F4C422A#32) (addf (hostArg P) (mulf (every narrow (by decide) 0x3D372713#32)
    (mulf (mulf (hostArg P) (hostArg P)) (hostArg P)))))

def hostFactor : FVec Ideal narrow .f32 :=
  mulf (every narrow (by decide) 0x3F000000#32) (addf (every narrow (by decide) 0x3F800000#32) (hostBend P))

def hostBranch : FVec Ideal narrow .f32 := mulf H (mulf (hostArg P) (hostFactor P))

theorem hostGate_apply (o : ℕ) (h) (r : Fin 8192) (d : Fin 1024) :
    hostGate P B o h (ix2 r d) = gate (at2 P r.val (o + d.val)) (at2 B 0 d.val) := by
  unfold hostGate
  pointwise
  exact congrArg₂ gate (eq_at2 P _ _ _ rfl rfl) (eq_at2 B _ _ _ rfl rfl)

theorem hostArg_apply (r : Fin 8192) (k : Fin 512) : hostArg P (ix2 r k) = at2 P r.val (3584 + k.val) := by
  pointwise
  exact eq_at2 P _ _ _ rfl rfl

theorem hostBend_apply (r : Fin 8192) (k : Fin 512) : hostBend P (ix2 r k) = bend (at2 P r.val (3584 + k.val)) := by
  rw [← hostArg_apply]
  unfold hostBend bend
  pointwise

theorem hostFactor_apply (r : Fin 8192) (k : Fin 512) : hostFactor P (ix2 r k) = factor (at2 P r.val (3584 + k.val)) := by
  unfold hostFactor factor
  rw [← hostBend_apply]
  pointwise

theorem hostBranch_apply (r : Fin 8192) (k : Fin 512) :
    hostBranch H P (ix2 r k) = branch (at2 H r.val k.val) (at2 P r.val (3584 + k.val)) := by
  unfold hostBranch branch
  rw [← hostFactor_apply, ← hostArg_apply, ← eq_at2 H (ix2 r k) r.val k.val rfl rfl]
  pointwise

end Host

end Cert.Proof.Merge

end
-- ==== Proof.MergeF.lean ====
/- Hand-written: THE MERGE OF THE THREE BRANCHES (`merge`). Every grid point leaves 256 finished rows. -/
module

public import proofs.«01_k».proof.Defs
public import proofs.«01_k».proof.Proof.Merge
public import proofs.«01_k».proof.Proof.Gen.MergeFIdeal.Value
public import proofs.«01_k».proof.Proof.Gen.MergeFRefIdeal.Run
public import Idealize.ShloMosaic.Lib.Quiescent

@[expose] public section

set_option maxRecDepth 16384

noncomputable section

namespace Cert.Proof.MergeF

open Cert.MergeFIdeal Cert.MergeFIdeal.Gen Cert.MergeFIdeal.Value Idealize.ShloMosaic Idealize.ShloMosaic.TcCoe Idealize.SL.Sem
open Cert.Proof.Merge
open scoped BigOperators

/-! ## What a point leaves -/

theorem out_apply (h g yb yc : Vec Ideal S256x512 .f32) (g0 g1 g2 : Vec Ideal S256x1024 .f32) (w0 w1 w2 : Vec Ideal S512x1024 .f32)
    (b0 b1 b2 : Vec Ideal S1x1024 .f32) (r : Fin 256) (d : Fin 1024) :
    out0_13 (F := Ideal) h g yb yc g0 g1 g2 w0 w1 w2 b0 b1 b2 (ix2 r d)
      = gate (g0 (ix2 r d)) (b0 (ix2 (0 : Fin 1) d)) * tileNN (fun i => branch (h i) (g i)) w0 r d
        + gate (g1 (ix2 r d)) (b1 (ix2 (0 : Fin 1) d)) * tileNN yb w1 r d
        + gate (g2 (ix2 r d)) (b2 (ix2 (0 : Fin 1) d)) * tileNN yc w2 r d := by
  unfold out0_13
  rw [View.canon_unit_zero zero_pair]
  simp only [View.ld_unit_zero (S := S256x512) zero_pair, View.ld_unit_zero (S := S256x1024) zero_pair,
    View.ld_unit_zero (S := S512x1024) zero_pair, View.ld_unit_zero (S := S1x1024) zero_pair]
  unfold k0_pay1 k0_pay2 k0_pay3 tileNN gate branch factor bend
  pointwise

variable (m : (ℓ : Loc nD τ sig) → Buf (Elt Ideal) ℓ) (ρ : Dev nD → PrngReg) (c : Dev nD)

abbrev rows512 : Type := FVec Ideal ⟨2, ![8192, 512]⟩ .f32
abbrev matrix : Type := FVec Ideal ⟨2, ![512, 1024]⟩ .f32
abbrev bias : Type := FVec Ideal ⟨2, ![1, 1024]⟩ .f32

/-- The call's arguments as the merge reads them: the activation's argument and the gates' projections are columns of one array. -/
def args (H : rows512) (P : FVec Ideal ⟨2, ![8192, 7168]⟩ .f32) (YB YC : rows512) (W0 W1 W2 : matrix) (B0 B1 B2 : bias) : Args where
  ha := at2 H
  ga r k := at2 P r (3584 + k)
  yb := at2 YB
  yc := at2 YC
  g0 := at2 P
  g1 r k := at2 P r (1024 + k)
  g2 r k := at2 P r (2048 + k)
  w0 := at2 W0
  w1 := at2 W1
  w2 := at2 W2
  b0 := at2 B0
  b1 := at2 B1
  b2 := at2 B2

abbrev memArgs : Args := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The blocks: point `t` reads rows `256 t` onward of the branches and of the gates' columns, and the whole matrices and biases -/

theorem ix_rows : ∀ t : Fin cfg0.N, (win0_0.index t (0 : Fin 2) = t.val ∧ win0_0.index t (1 : Fin 2) = 0)
    ∧ (win0_1.index t (0 : Fin 2) = t.val ∧ win0_1.index t (1 : Fin 2) = 7)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 1)
    ∧ (win0_6.index t (0 : Fin 2) = t.val ∧ win0_6.index t (1 : Fin 2) = 2)
    ∧ (win0_13.index t (0 : Fin 2) = t.val ∧ win0_13.index t (1 : Fin 2) = 0) :=
  (by decide +kernel : ∀ t : Fin grid0.N, _)

theorem ix_whole : ∀ t : Fin cfg0.N, (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- A block's entry, from the block's index and extents. -/
theorem entry {a b p q : ℕ} [NeZero a] [NeZero b] (X : (⟨2, ![a, b]⟩ : Shape).Idx → EReal) (j : (⟨2, ![a, b]⟩ : Shape).Idx)
    (u v x y : ℕ) (r : Fin p) (k : Fin q) (h0 : (j 0).val = u * p + 1 * r.val) (h1 : (j 1).val = v * q + 1 * k.val)
    (hx : u * p + 1 * r.val = x) (hy : v * q + 1 * k.val = y) : X j = at2 X x y :=
  eq_at2 X j _ _ (h0.trans hx) (h1.trans hy)

theorem blk0 (t : Fin cfg0.N) (r : Fin 256) (k : Fin 512) : (iblk m c 0 t : Vec Ideal S256x512 .f32) (ix2 r k)
    = at2 (m ((c : Thread nD τ).loc main_arg0) : rows512) (256 * t.val + r.val) k.val :=
  entry (m ((c : Thread nD τ).loc main_arg0)) (((cfg0.win 0).blk t).view.emb (ix2 r k)) (win0_0.index t (0 : Fin 2))
    (win0_0.index t (1 : Fin 2)) (256 * t.val + r.val) k.val r k rfl rfl (by
      have e := (ix_rows t).1.1; rw [e]; omega) (by have e := (ix_rows t).1.2; rw [e]; omega)

theorem blk1 (t : Fin cfg0.N) (r : Fin 256) (k : Fin 512) : (iblk m c 1 t : Vec Ideal S256x512 .f32) (ix2 r k)
    = at2 (m ((c : Thread nD τ).loc main_arg1) : (FVec Ideal ⟨2, ![8192, 7168]⟩ .f32)) (256 * t.val + r.val) (3584 + k.val) :=
  entry (m ((c : Thread nD τ).loc main_arg1)) (((cfg0.win 1).blk t).view.emb (ix2 r k)) (win0_1.index t (0 : Fin 2))
    (win0_1.index t (1 : Fin 2)) (256 * t.val + r.val) (3584 + k.val) r k rfl rfl (by
      have e := (ix_rows t).2.1.1; rw [e]; omega) (by have e := (ix_rows t).2.1.2; rw [e]; omega)

theorem blk2 (t : Fin cfg0.N) (r : Fin 256) (k : Fin 512) : (iblk m c 2 t : Vec Ideal S256x512 .f32) (ix2 r k)
    = at2 (m ((c : Thread nD τ).loc main_arg2) : rows512) (256 * t.val + r.val) k.val :=
  entry (m ((c : Thread nD τ).loc main_arg2)) (((cfg0.win 2).blk t).view.emb (ix2 r k)) (win0_2.index t (0 : Fin 2))
    (win0_2.index t (1 : Fin 2)) (256 * t.val + r.val) k.val r k rfl rfl (by
      have e := (ix_rows t).2.2.1.1; rw [e]; omega) (by have e := (ix_rows t).2.2.1.2; rw [e]; omega)

theorem blk3 (t : Fin cfg0.N) (r : Fin 256) (k : Fin 512) : (iblk m c 3 t : Vec Ideal S256x512 .f32) (ix2 r k)
    = at2 (m ((c : Thread nD τ).loc main_arg3) : rows512) (256 * t.val + r.val) k.val :=
  entry (m ((c : Thread nD τ).loc main_arg3)) (((cfg0.win 3).blk t).view.emb (ix2 r k)) (win0_3.index t (0 : Fin 2))
    (win0_3.index t (1 : Fin 2)) (256 * t.val + r.val) k.val r k rfl rfl (by
      have e := (ix_rows t).2.2.2.1.1; rw [e]; omega) (by have e := (ix_rows t).2.2.2.1.2; rw [e]; omega)

theorem blk4 (t : Fin cfg0.N) (r : Fin 256) (k : Fin 1024) : (iblk m c 4 t : Vec Ideal S256x1024 .f32) (ix2 r k)
    = at2 (m ((c : Thread nD τ).loc main_arg1) : (FVec Ideal ⟨2, ![8192, 7168]⟩ .f32)) (256 * t.val + r.val) k.val :=
  entry (m ((c : Thread nD τ).loc main_arg1)) (((cfg0.win 4).blk t).view.emb (ix2 r k)) (win0_4.index t (0 : Fin 2))
    (win0_4.index t (1 : Fin 2)) (256 * t.val + r.val) k.val r k rfl rfl (by
      have e := (ix_rows t).2.2.2.2.1.1; rw [e]; omega) (by have e := (ix_rows t).2.2.2.2.1.2; rw [e]; omega)

theorem blk5 (t : Fin cfg0.N) (r : Fin 256) (k : Fin 1024) : (iblk m c 5 t : Vec Ideal S256x1024 .f32) (ix2 r k)
    = at2 (m ((c : Thread nD τ).loc main_arg1) : (FVec Ideal ⟨2, ![8192, 7168]⟩ .f32)) (256 * t.val + r.val) (1024 + k.val) :=
  entry (m ((c : Thread nD τ).loc main_arg1)) (((cfg0.win 5).blk t).view.emb (ix2 r k)) (win0_5.index t (0 : Fin 2))
    (win0_5.index t (1 : Fin 2)) (256 * t.val + r.val) (1024 + k.val) r k rfl rfl (by
      have e := (ix_rows t).2.2.2.2.2.1.1; rw [e]; omega) (by have e := (ix_rows t).2.2.2.2.2.1.2; rw [e]; omega)

theorem blk6 (t : Fin cfg0.N) (r : Fin 256) (k : Fin 1024) : (iblk m c 6 t : Vec Ideal S256x1024 .f32) (ix2 r k)
    = at2 (m ((c : Thread nD τ).loc main_arg1) : (FVec Ideal ⟨2, ![8192, 7168]⟩ .f32)) (256 * t.val + r.val) (2048 + k.val) :=
  entry (m ((c : Thread nD τ).loc main_arg1)) (((cfg0.win 6).blk t).view.emb (ix2 r k)) (win0_6.index t (0 : Fin 2))
    (win0_6.index t (1 : Fin 2)) (256 * t.val + r.val) (2048 + k.val) r k rfl rfl (by
      have e := (ix_rows t).2.2.2.2.2.2.1.1; rw [e]; omega) (by have e := (ix_rows t).2.2.2.2.2.2.1.2; rw [e]; omega)

theorem blk7 (t : Fin cfg0.N) (k : Fin 512) (d : Fin 1024) : (iblk m c 7 t : Vec Ideal S512x1024 .f32) (ix2 k d)
    = at2 (m ((c : Thread nD τ).loc main_arg4) : matrix) k.val d.val :=
  entry (m ((c : Thread nD τ).loc main_arg4)) (((cfg0.win 7).blk t).view.emb (ix2 k d)) (win0_7.index t (0 : Fin 2))
    (win0_7.index t (1 : Fin 2)) k.val d.val k d rfl rfl (by
      have e := (ix_whole t).1.1; rw [e]; omega) (by have e := (ix_whole t).1.2; rw [e]; omega)

theorem blk8 (t : Fin cfg0.N) (k : Fin 512) (d : Fin 1024) : (iblk m c 8 t : Vec Ideal S512x1024 .f32) (ix2 k d)
    = at2 (m ((c : Thread nD τ).loc main_arg5) : matrix) k.val d.val :=
  entry (m ((c : Thread nD τ).loc main_arg5)) (((cfg0.win 8).blk t).view.emb (ix2 k d)) (win0_8.index t (0 : Fin 2))
    (win0_8.index t (1 : Fin 2)) k.val d.val k d rfl rfl (by
      have e := (ix_whole t).2.1.1; rw [e]; omega) (by have e := (ix_whole t).2.1.2; rw [e]; omega)

theorem blk9 (t : Fin cfg0.N) (k : Fin 512) (d : Fin 1024) : (iblk m c 9 t : Vec Ideal S512x1024 .f32) (ix2 k d)
    = at2 (m ((c : Thread nD τ).loc main_arg6) : matrix) k.val d.val :=
  entry (m ((c : Thread nD τ).loc main_arg6)) (((cfg0.win 9).blk t).view.emb (ix2 k d)) (win0_9.index t (0 : Fin 2))
    (win0_9.index t (1 : Fin 2)) k.val d.val k d rfl rfl (by
      have e := (ix_whole t).2.2.1.1; rw [e]; omega) (by have e := (ix_whole t).2.2.1.2; rw [e]; omega)

theorem blk10 (t : Fin cfg0.N) (d : Fin 1024) : (iblk m c 10 t : Vec Ideal S1x1024 .f32) (ix2 (0 : Fin 1) d)
    = at2 (m ((c : Thread nD τ).loc main_arg7) : bias) 0 d.val :=
  entry (m ((c : Thread nD τ).loc main_arg7)) (((cfg0.win 10).blk t).view.emb (ix2 (0 : Fin 1) d)) (win0_10.index t (0 : Fin 2))
    (win0_10.index t (1 : Fin 2)) 0 d.val (0 : Fin 1) d rfl rfl (by
      have e := (ix_whole t).2.2.2.1.1; rw [e]; omega) (by have e := (ix_whole t).2.2.2.1.2; rw [e]; omega)

theorem blk11 (t : Fin cfg0.N) (d : Fin 1024) : (iblk m c 11 t : Vec Ideal S1x1024 .f32) (ix2 (0 : Fin 1) d)
    = at2 (m ((c : Thread nD τ).loc main_arg8) : bias) 0 d.val :=
  entry (m ((c : Thread nD τ).loc main_arg8)) (((cfg0.win 11).blk t).view.emb (ix2 (0 : Fin 1) d)) (win0_11.index t (0 : Fin 2))
    (win0_11.index t (1 : Fin 2)) 0 d.val (0 : Fin 1) d rfl rfl (by
      have e := (ix_whole t).2.2.2.2.1.1; rw [e]; omega) (by have e := (ix_whole t).2.2.2.2.1.2; rw [e]; omega)

theorem blk12 (t : Fin cfg0.N) (d : Fin 1024) : (iblk m c 12 t : Vec Ideal S1x1024 .f32) (ix2 (0 : Fin 1) d)
    = at2 (m ((c : Thread nD τ).loc main_arg9) : bias) 0 d.val :=
  entry (m ((c : Thread nD τ).loc main_arg9)) (((cfg0.win 12).blk t).view.emb (ix2 (0 : Fin 1) d)) (win0_12.index t (0 : Fin 2))
    (win0_12.index t (1 : Fin 2)) 0 d.val (0 : Fin 1) d rfl rfl (by
      have e := (ix_whole t).2.2.2.2.2.1; rw [e]; omega) (by have e := (ix_whole t).2.2.2.2.2.2; rw [e]; omega)

/-- A product's tile of one row block, its contracted axis whole. -/
theorem product {x : Vec Ideal S256x512 .f32} {y : Vec Ideal S512x1024 .f32} (A B : ℕ → ℕ → EReal) (t : ℕ)
    (hx : ∀ (r : Fin 256) (k : Fin 512), x (ix2 r k) = A (256 * t + r.val) k.val)
    (hy : ∀ (k : Fin 512) (d : Fin 1024), y (ix2 k d) = B k.val d.val) (r : Fin 256) (d : Fin 1024) :
    tileNN x y r d = dot A B 512 (256 * t + r.val) d.val :=
  dot_of_fin A B _ _ _ fun k => congrArg₂ (· * ·) (hx r k) (hy k d)

/-- A point leaves the merged rows' entries. -/
theorem outs_eq (t : Fin cfg0.N) (r : Fin 256) (d : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r d)
      = (memArgs m c).merged (256 * t.val + r.val) d.val := by
  rw [out_apply, product (memArgs m c).ya (memArgs m c).w0 t.val
      (fun r k => congrArg₂ branch (blk0 m c t r k) (blk1 m c t r k))
      (blk7 m c t),
    product (memArgs m c).yb (memArgs m c).w1 t.val (blk2 m c t)
      (blk8 m c t),
    product (memArgs m c).yc (memArgs m c).w2 t.val (blk3 m c t)
      (blk9 m c t),
    blk4, blk5, blk6, blk10, blk11, blk12]
  rfl

theorem final : (dats m 0 c).arrAt 13 cfg0.N = (arr2 (memArgs m c).merged : (⟨2, ![8192, 1024]⟩ : Shape).Idx → EReal) := by
  refine (dats m 0 c).arrAt_eq_of_cover 13 _ (fun t _ => ?_) (fun i => ?_)
  · rw [flushed13 m c t]
    funext j
    obtain ⟨e0, e1⟩ := (ix_rows t).2.2.2.2.2.2.2
    refine (congrArg (out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t))
      (eq_ix2 (n0 := 256) (n1 := 1024) j)).trans ((outs_eq m c t (j 0) (j 1)).trans ?_)
    show _ = (memArgs m c).merged (win0_13.index t (0 : Fin 2) * 256 + 1 * (j 0).val) (win0_13.index t (1 : Fin 2) * 1024 + 1 * (j 1).val)
    refine congrArg₂ (memArgs m c).merged ?_ ?_
    · omega
    · omega
  · have h0 : (i 0).val < 8192 := (i 0).isLt
    have h1 : (i 1).val < 1024 := (i 1).isLt
    let t : Fin cfg0.N := ⟨(i 0).val / 256, by rw [show cfg0.N = 32 from N_0]; omega⟩
    have ht : t.val = (i 0).val / 256 := rfl
    obtain ⟨e0, e1⟩ := (ix_rows t).2.2.2.2.2.2.2
    refine ⟨t, flush0_13 t, ?_⟩
    show i ∈ ((View.whole main_v0).slice (win0_13.rect t)).set
    rw [View.set_slice_whole, Rect.mem_set_unit]
    intro a
    match a with
    | ⟨0, _⟩ => show win0_13.index t (0 : Fin 2) * 256 ≤ (i 0).val ∧ (i 0).val < win0_13.index t (0 : Fin 2) * 256 + 256; omega
    | ⟨1, _⟩ => show win0_13.index t (1 : Fin 2) * 1024 ≤ (i 1).val ∧ (i 1).val < win0_13.index t (1 : Fin 2) * 1024 + 1024; omega

/-! ## The reference -/

theorem reference_eq (H : rows512) (P : FVec Ideal ⟨2, ![8192, 7168]⟩ .f32) (YB YC : rows512) (W0 W1 W2 : matrix) (B0 B1 B2 : bias) :
    truncf .bf16 (addf (addf
      (mulf (hostGate P B0 0 (by decide)) (Host.dotGeneral Cert.MergeFRefIdeal.dot_S8192x512_S512x1024_S8192x1024_1_0_0_1_n_n none (hostBranch H P) W0))
      (mulf (hostGate P B1 1024 (by decide)) (Host.dotGeneral Cert.MergeFRefIdeal.dot_S8192x512_S512x1024_S8192x1024_1_0_0_1_n_n none YB W1)))
      (mulf (hostGate P B2 2048 (by decide)) (Host.dotGeneral Cert.MergeFRefIdeal.dot_S8192x512_S512x1024_S8192x1024_1_0_0_1_n_n none YC W2))) (by decide)
      = (arr2 (args H P YB YC W0 W1 W2 B0 B1 B2).merged : (⟨2, ![8192, 1024]⟩ : Shape).Idx → EReal) := by
  funext i
  obtain ⟨r, d, rfl⟩ : ∃ (r : Fin 8192) (d : Fin 1024), i = ix2 r d := ⟨i 0, i 1, eq_ix2 (n0 := 8192) (n1 := 1024) i⟩
  pointwise
  simp only [hostGate_apply, hostBranch_apply, Nat.zero_add]
  show _ = (args H P YB YC W0 W1 W2 B0 B1 B2).merged r.val d.val
  unfold Args.merged Args.s0 Args.s1 Args.s2
  refine congrArg₂ (· + ·) (congrArg₂ (· + ·) (congrArg₂ (· * ·) rfl ?_) (congrArg₂ (· * ·) rfl ?_)) (congrArg₂ (· * ·) rfl ?_)
  · exact dot_of_fin _ _ _ _ _ fun k => congrArg₂ (· * ·) rfl (eq_at2 W0 _ _ _ rfl rfl)
  · exact dot_of_fin _ _ _ _ _ fun k => congrArg₂ (· * ·) (eq_at2 YB _ _ _ rfl rfl) (eq_at2 W1 _ _ _ rfl rfl)
  · exact dot_of_fin _ _ _ _ _ fun k => congrArg₂ (· * ·) (eq_at2 YC _ _ _ rfl rfl) (eq_at2 W2 _ _ _ rfl rfl)

theorem reference_frame : Cert.quiescent_MergeFRefIdeal := fun m ρ _ =>
  (θ_run Cert.MergeFRefIdeal.defs _ _).mono (fun r h => ⟨fun c => (h c).2, sem_eq_zero_of_no_sems (by decide) r.2⟩)
    (Cert.MergeFRefIdeal.Value.run (F := Ideal) m ρ)

theorem algebraic : Cert.algebraic_MergeFIdeal_MergeFRefIdeal := by
  intro m ρ m' ρ' _ hagree
  refine ⟨fun c => (arr2 (memArgs m c).merged : (⟨2, ![8192, 1024]⟩ : Shape).Idx → EReal), ?_, ?_⟩
  · exact (θ_run defs _ _).mono (fun r h c => ⟨(h c).1.trans (final m c), (h c).2⟩) (run_blocks (F := Ideal) m ρ)
  · refine (θ_run Cert.MergeFRefIdeal.defs _ _).mono (fun r h c => ?_) (Cert.MergeFRefIdeal.Value.run (F := Ideal) m' ρ')
    obtain ⟨a0, a1, a2, a3, a4, a5, a6, a7, a8, a9⟩ := hagree c
    have e := (h c).1.trans (reference_eq _ _ _ _ _ _ _ _ _ _)
    rw [a0, a1, a2, a3, a4, a5, a6, a7, a8, a9] at e
    exact ⟨e, (h c).2⟩

end Cert.Proof.MergeF

end
-- ==== Proof.MergeBRun.lean ====
/- Hand-written: ONE POINT OF THE MERGE'S GRADIENT (`merge_bwd`), for any arithmetic: what the body leaves in the row blocks, and what it
   adds to the sums it keeps for the matrices and the biases. -/
module

public import proofs.«01_k».proof.Proof.Gen.MergeBIdeal.Frame.Runs
public import Idealize.ShloMosaic.Lib.Pipeline.Value

@[expose] public section

set_option maxRecDepth 16384

noncomputable section

namespace Cert.Proof.MergeB

open Cert.MergeBIdeal Cert.MergeBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point reads: 256 rows of the branches, of the gates' columns and of the cotangent; the matrices and the biases. -/
structure Blocks (F : FTy → Type) where
  h : Vec F S256x512 .f32
  g : Vec F S256x512 .f32
  yb : Vec F S256x512 .f32
  yc : Vec F S256x512 .f32
  g0 : Vec F S256x1024 .f32
  g1 : Vec F S256x1024 .f32
  g2 : Vec F S256x1024 .f32
  w0 : Vec F S512x1024 .f32
  w1 : Vec F S512x1024 .f32
  w2 : Vec F S512x1024 .f32
  b0 : Vec F S1x1024 .f32
  b1 : Vec F S1x1024 .f32
  b2 : Vec F S1x1024 .f32
  dm : Vec F S256x1024 .f32

/-- The sums kept over the points. -/
structure Sums (F : FTy → Type) where
  w0 : Vec F S512x1024 .f32
  w1 : Vec F S512x1024 .f32
  w2 : Vec F S512x1024 .f32
  b0 : Vec F S1x1024 .f32
  b1 : Vec F S1x1024 .f32
  b2 : Vec F S1x1024 .f32

def Sums.zero : Sums F := ⟨k0_pay36, k0_pay37, k0_pay38, k0_pay39, k0_pay40, k0_pay41⟩

namespace Blocks

variable (x : Blocks F)

def dha : Vec F S256x512 .f32 := k0_pay34 x.w0 (k0_pay7 x.g (k0_pay4 x.g)) (k0_pay9 x.g0 x.b0) (k0_pay15 x.dm)
def dga : Vec F S256x512 .f32 := k0_pay35 x.h x.g x.w0 (k0_pay3 x.g) (k0_pay5 x.g) (k0_pay6 (k0_pay4 x.g)) (k0_pay9 x.g0 x.b0) (k0_pay15 x.dm)
def dyb : Vec F S256x512 .f32 := k0_pay25 x.w1 (k0_pay24 x.g1 x.b1 x.dm)
def dyc : Vec F S256x512 .f32 := k0_pay18 x.g2 x.w2 x.b2 x.dm
def dg0 : Vec F S256x1024 .f32 := k0_pay32 (k0_pay10 x.g0 x.b0) (k0_pay11 x.h x.g x.w0 (k0_pay4 x.g)) (k0_pay15 x.dm)
def dg1 : Vec F S256x1024 .f32 := k0_pay27 (k0_pay13 x.g1 x.b1) (k0_pay23 x.yb x.w1 x.dm)
def dg2 : Vec F S256x1024 .f32 := k0_pay20 x.yc x.g2 x.w2 x.b2 x.dm

/-- The sums after the point. -/
def added (s : Sums F) : Sums F where
  w0 := k0_pay42 (k0_pay31 (k0_pay8 x.h x.g (k0_pay4 x.g)) (k0_pay9 x.g0 x.b0) (k0_pay15 x.dm)) s.w0
  w1 := k0_pay43 (k0_pay26 x.yb (k0_pay22 x.g1 x.b1 x.dm)) s.w1
  w2 := k0_pay44 (k0_pay19 x.yc x.g2 x.b2 x.dm) s.w2
  b0 := k0_pay45 (k0_pay33 (k0_pay10 x.g0 x.b0) (k0_pay11 x.h x.g x.w0 (k0_pay4 x.g)) (k0_pay15 x.dm)) s.b0
  b1 := k0_pay1 (k0_pay28 (k0_pay13 x.g1 x.b1) (k0_pay23 x.yb x.w1 x.dm)) s.b1
  b2 := k0_pay2 (k0_pay21 x.yc x.g2 x.w2 x.b2 x.dm) s.b2

end Blocks

/-- The sums a point starts from: zero at the first point, else what the point before left. -/
def start (i : grid0.Coords) (s : Sums F) : Sums F :=
  open Classical in if cond0_0 i then Sums.zero else s

theorem zero_at : (![0, 0] : Fin 2 → ℕ) = fun _ => 0 := funext (by decide)

/-- A buffer's contents after a last store of the whole of it. -/
theorem read_stored {S : Shape} {e : EltTy} (v : View sig .tc .vmem S e) (f : v.ty.Contents (Elt F)) {off : Fin S.rank → ℕ} (hz : off = fun _ => 0)
    (hb : ∀ a, off a + S.size a ≤ S.size a) (x : S.Idx → Elt F e) (L : List (View.Piece (Elt F) S e)) :
    v.read (Elt F) (v.writes (Elt F) f (⟨Rect.unit off S.size hb, x⟩ :: L)) = x := by
  subst hz
  rw [View.read_writes_eq_canon v f _ fun y => ⟨_, List.mem_cons_self, by
    show y ∈ (Rect.whole S).set; rw [Rect.set_whole]; exact Finset.mem_univ y⟩, View.canon_cons_unit_zero rfl]

/-- A whole load of a buffer that holds `x`. -/
theorem load_whole {S : Shape} {e : EltTy} (a : Memref sig .tc .vmem S e) (h : a.IsWhole) {off : Fin S.rank → ℕ} (hz : off = fun _ => 0)
    (hb : ∀ k, off k + S.size k ≤ S.size k) (x : S.Idx → Elt F e) :
    View.readAt (Elt F) a.view (Rect.unit off S.size hb).toLoadRect (h.unread x) = x := by
  rw [View.readAt_eq_ld, h.read_unread, View.ld_unit_zero hz]

theorem load_narrow (a : Memref sig .tc .vmem S256x512 .f32) (h : a.IsWhole) (hb) (x : Vec F S256x512 .f32) :
    View.readAt (Elt F) a.view (Rect.unit ![0, 0] ![256, 512] hb).toLoadRect (h.unread x) = x := load_whole (S := S256x512) a h zero_at hb x

theorem load_wide (a : Memref sig .tc .vmem S256x1024 .f32) (h : a.IsWhole) (hb) (x : Vec F S256x1024 .f32) :
    View.readAt (Elt F) a.view (Rect.unit ![0, 0] ![256, 1024] hb).toLoadRect (h.unread x) = x := load_whole (S := S256x1024) a h zero_at hb x

theorem load_matrix (a : Memref sig .tc .vmem S512x1024 .f32) (h : a.IsWhole) (hb) (x : Vec F S512x1024 .f32) :
    View.readAt (Elt F) a.view (Rect.unit ![0, 0] ![512, 1024] hb).toLoadRect (h.unread x) = x := load_whole (S := S512x1024) a h zero_at hb x

theorem load_row (a : Memref sig .tc .vmem S1x1024 .f32) (h : a.IsWhole) (hb) (x : Vec F S1x1024 .f32) :
    View.readAt (Elt F) a.view (Rect.unit ![0, 0] ![1, 1024] hb).toLoadRect (h.unread x) = x := load_whole (S := S1x1024) a h zero_at hb x

/-- A whole load of what was stored last. -/
theorem stored_matrix (v : View sig .tc .vmem S512x1024 .f32) (hb) (x : Vec F S512x1024 .f32) :
    v.readCov [⟨Rect.unit ![0, 0] ![512, 1024] hb, x⟩] (Rect.unit ![0, 0] ![512, 1024] hb).toLoadRect = x :=
  View.readCov_unit_zero (S := S512x1024) v zero_at hb x

theorem stored_row (v : View sig .tc .vmem S1x1024 .f32) (hb) (x : Vec F S1x1024 .f32) :
    v.readCov [⟨Rect.unit ![0, 0] ![1, 1024] hb, x⟩] (Rect.unit ![0, 0] ![1, 1024] hb).toLoadRect = x :=
  View.readCov_unit_zero (S := S1x1024) v zero_at hb x

section

variable (c : Dev nD) (i : grid0.Coords)
  (a1 : Memref sig .tc .vmem S256x512 .f32) (h1 : a1.IsWhole) (a2 : Memref sig .tc .vmem S256x512 .f32) (h2 : a2.IsWhole)
  (a3 : Memref sig .tc .vmem S256x512 .f32) (h3 : a3.IsWhole) (a4 : Memref sig .tc .vmem S256x512 .f32) (h4 : a4.IsWhole)
  (a5 : Memref sig .tc .vmem S256x1024 .f32) (h5 : a5.IsWhole) (a6 : Memref sig .tc .vmem S256x1024 .f32) (h6 : a6.IsWhole)
  (a7 : Memref sig .tc .vmem S256x1024 .f32) (h7 : a7.IsWhole) (a8 : Memref sig .tc .vmem S512x1024 .f32) (h8 : a8.IsWhole)
  (a9 : Memref sig .tc .vmem S512x1024 .f32) (h9 : a9.IsWhole) (a10 : Memref sig .tc .vmem S512x1024 .f32) (h10 : a10.IsWhole)
  (a11 : Memref sig .tc .vmem S1x1024 .f32) (h11 : a11.IsWhole) (a12 : Memref sig .tc .vmem S1x1024 .f32) (h12 : a12.IsWhole)
  (a13 : Memref sig .tc .vmem S1x1024 .f32) (h13 : a13.IsWhole) (a14 : Memref sig .tc .vmem S256x1024 .f32) (h14 : a14.IsWhole)
  (a15 : Memref sig .tc .vmem S256x512 .f32) (h15 : a15.IsWhole) (a16 : Memref sig .tc .vmem S256x512 .f32) (h16 : a16.IsWhole)
  (a17 : Memref sig .tc .vmem S256x512 .f32) (h17 : a17.IsWhole) (a18 : Memref sig .tc .vmem S256x512 .f32) (h18 : a18.IsWhole)
  (a19 : Memref sig .tc .vmem S256x1024 .f32) (h19 : a19.IsWhole) (a20 : Memref sig .tc .vmem S256x1024 .f32) (h20 : a20.IsWhole)
  (a21 : Memref sig .tc .vmem S256x1024 .f32) (h21 : a21.IsWhole) (a22 : Memref sig .tc .vmem S512x1024 .f32) (h22 : a22.IsWhole)
  (a23 : Memref sig .tc .vmem S512x1024 .f32) (h23 : a23.IsWhole) (a24 : Memref sig .tc .vmem S512x1024 .f32) (h24 : a24.IsWhole)
  (a25 : Memref sig .tc .vmem S1x1024 .f32) (h25 : a25.IsWhole) (a26 : Memref sig .tc .vmem S1x1024 .f32) (h26 : a26.IsWhole)
  (a27 : Memref sig .tc .vmem S1x1024 .f32) (h27 : a27.IsWhole) (x : Blocks F) (s : Sums F)

/-- The inputs' buffers, holding what the point reads. -/
def ins : sProp 𝕄 := iprop(owns (c : Thread nD τ) a1 fullShare x.h ∗ owns (c : Thread nD τ) a2 fullShare x.g
  ∗ owns (c : Thread nD τ) a3 fullShare x.yb ∗ owns (c : Thread nD τ) a4 fullShare x.yc ∗ owns (c : Thread nD τ) a5 fullShare x.g0
  ∗ owns (c : Thread nD τ) a6 fullShare x.g1 ∗ owns (c : Thread nD τ) a7 fullShare x.g2 ∗ owns (c : Thread nD τ) a8 fullShare x.w0
  ∗ owns (c : Thread nD τ) a9 fullShare x.w1 ∗ owns (c : Thread nD τ) a10 fullShare x.w2 ∗ owns (c : Thread nD τ) a11 fullShare x.b0
  ∗ owns (c : Thread nD τ) a12 fullShare x.b1 ∗ owns (c : Thread nD τ) a13 fullShare x.b2 ∗ owns (c : Thread nD τ) a14 fullShare x.dm)

/-- The row results' buffers, holding anything, -/
def free : sProp 𝕄 := iprop((∃ d, owns (c : Thread nD τ) a15 fullShare d) ∗ (∃ d, owns (c : Thread nD τ) a16 fullShare d)
  ∗ (∃ d, owns (c : Thread nD τ) a17 fullShare d) ∗ (∃ d, owns (c : Thread nD τ) a18 fullShare d) ∗ (∃ d, owns (c : Thread nD τ) a19 fullShare d)
  ∗ (∃ d, owns (c : Thread nD τ) a20 fullShare d) ∗ (∃ d, owns (c : Thread nD τ) a21 fullShare d))

/-- and holding what the point leaves. -/
def rows : sProp 𝕄 := iprop(owns (c : Thread nD τ) a15 fullShare x.dha ∗ owns (c : Thread nD τ) a16 fullShare x.dga
  ∗ owns (c : Thread nD τ) a17 fullShare x.dyb ∗ owns (c : Thread nD τ) a18 fullShare x.dyc ∗ owns (c : Thread nD τ) a19 fullShare x.dg0
  ∗ owns (c : Thread nD τ) a20 fullShare x.dg1 ∗ owns (c : Thread nD τ) a21 fullShare x.dg2)

/-- The sums' buffers. -/
def sums : sProp 𝕄 := iprop(owns (c : Thread nD τ) a22 fullShare s.w0 ∗ owns (c : Thread nD τ) a23 fullShare s.w1
  ∗ owns (c : Thread nD τ) a24 fullShare s.w2 ∗ owns (c : Thread nD τ) a25 fullShare s.b0 ∗ owns (c : Thread nD τ) a26 fullShare s.b1
  ∗ owns (c : Thread nD τ) a27 fullShare s.b2)

set_option maxHeartbeats 8000000 in
/-- The body's run. -/
theorem run (E : Set ℕ) (K : PUnit → sProp 𝕄) :
    iprop(ins c a1 a2 a3 a4 a5 a6 a7 a8 a9 a10 a11 a12 a13 a14 x ∗ free c a15 a16 a17 a18 a19 a20 a21
        ∗ sums c a22 a23 a24 a25 a26 a27 s
        ∗ (iprop(ins c a1 a2 a3 a4 a5 a6 a7 a8 a9 a10 a11 a12 a13 a14 x ∗ rows c a15 a16 a17 a18 a19 a20 a21 x
          ∗ sums c a22 a23 a24 a25 a26 a27 (x.added (start i s))) -∗ K ⟨⟩))
      ⊢ wp frame (wpE (defs₀ (F := F)) Variants.none c none) E (cc0_merge_bwd i a1 h1 a2 h2 a3 h3 a4 h4 a5 h5 a6 h6 a7 h7 a8 h8 a9 h9
        a10 h10 a11 h11 a12 h12 a13 h13 a14 h14 a15 h15 a16 h16 a17 h17 a18 h18 a19 h19 a20 h20 a21 h21 a22 h22 a23 h23 a24 h24 a25 h25
        a26 h26 a27 h27) K := by
  obtain ⟨x0, x1, x2, x3, x4, x5, x6, x7, x8, x9, x10, x11, x12, x13⟩ := x
  obtain ⟨s0, s1, s2, s3, s4, s5⟩ := s
  simp only [cc0_merge_bwd_eq_skeleton]
  unfold cc0_merge_bwd_skel
  simp only [k0_part1_eq_skeleton, k0_part2_eq_skeleton, k0_part3_eq_skeleton, k0_part4_eq_skeleton]
  unfold ins free rows sums owns
  dsimp only
  by_cases hc : cond0_0 i
  on_goal 1 => rw [show start i ⟨s0, s1, s2, s3, s4, s5⟩ = Sums.zero from if_pos hc]
  on_goal 2 => rw [show start i ⟨s0, s1, s2, s3, s4, s5⟩ = ⟨s0, s1, s2, s3, s4, s5⟩ from if_neg hc]
  all_goals
    iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
        ⟨%f9, %e9, H9⟩, ⟨%f10, %e10, H10⟩, ⟨%f11, %e11, H11⟩, ⟨%f12, %e12, H12⟩, ⟨%f13, %e13, H13⟩, ⟨%f14, %e14, H14⟩⟩,
      ⟨⟨%d15, %f15, -, H15⟩, ⟨%d16, %f16, -, H16⟩, ⟨%d17, %f17, -, H17⟩, ⟨%d18, %f18, -, H18⟩, ⟨%d19, %f19, -, H19⟩, ⟨%d20, %f20, -, H20⟩,
        ⟨%d21, %f21, -, H21⟩⟩,
      ⟨⟨%f22, %e22, H22⟩, ⟨%f23, %e23, H23⟩, ⟨%f24, %e24, H24⟩, ⟨%f25, %e25, H25⟩, ⟨%f26, %e26, H26⟩, ⟨%f27, %e27, H27⟩⟩, Hk⟩
    obtain rfl := h1.eq_unread e1; obtain rfl := h2.eq_unread e2; obtain rfl := h3.eq_unread e3; obtain rfl := h4.eq_unread e4
    obtain rfl := h5.eq_unread e5; obtain rfl := h6.eq_unread e6; obtain rfl := h7.eq_unread e7; obtain rfl := h8.eq_unread e8
    obtain rfl := h9.eq_unread e9; obtain rfl := h10.eq_unread e10; obtain rfl := h11.eq_unread e11; obtain rfl := h12.eq_unread e12
    obtain rfl := h13.eq_unread e13; obtain rfl := h14.eq_unread e14; obtain rfl := h22.eq_unread e22; obtain rfl := h23.eq_unread e23
    obtain rfl := h24.eq_unread e24; obtain rfl := h25.eq_unread e25; obtain rfl := h26.eq_unread e26; obtain rfl := h27.eq_unread e27
    sl_exec (disch := first | sl_exact hc)
    sl_step
    iapply Hk
    isplitl [H1 H2 H3 H4 H5 H6 H7 H8 H9 H10 H11 H12 H13 H14]
    · isplitl [H1]
      · iexists _; isplitr; swap; · iexact H1
        ipureintro; exact e1
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro; exact e4
      isplitl [H5]
      · iexists _; isplitr; swap; · iexact H5
        ipureintro; exact e5
      isplitl [H6]
      · iexists _; isplitr; swap; · iexact H6
        ipureintro; exact e6
      isplitl [H7]
      · iexists _; isplitr; swap; · iexact H7
        ipureintro; exact e7
      isplitl [H8]
      · iexists _; isplitr; swap; · iexact H8
        ipureintro; exact e8
      isplitl [H9]
      · iexists _; isplitr; swap; · iexact H9
        ipureintro; exact e9
      isplitl [H10]
      · iexists _; isplitr; swap; · iexact H10
        ipureintro; exact e10
      isplitl [H11]
      · iexists _; isplitr; swap; · iexact H11
        ipureintro; exact e11
      isplitl [H12]
      · iexists _; isplitr; swap; · iexact H12
        ipureintro; exact e12
      isplitl [H13]
      · iexists _; isplitr; swap; · iexact H13
        ipureintro; exact e13
      iexists _; isplitr; swap; · iexact H14
      ipureintro; exact e14
    isplitl [H15 H16 H17 H18 H19 H20 H21]
    · isplitl [H15]
      · iexists _; isplitr; swap; · iexact H15
        ipureintro; refine (read_stored _ _ zero_at _ _ _).trans ?_; sl_unfold_words; simp only [load_narrow, load_wide, load_matrix, load_row, stored_matrix, stored_row]; rfl
      isplitl [H16]
      · iexists _; isplitr; swap; · iexact H16
        ipureintro; refine (read_stored _ _ zero_at _ _ _).trans ?_; sl_unfold_words; simp only [load_narrow, load_wide, load_matrix, load_row, stored_matrix, stored_row]; rfl
      isplitl [H17]
      · iexists _; isplitr; swap; · iexact H17
        ipureintro; refine (read_stored _ _ zero_at _ _ _).trans ?_; sl_unfold_words; simp only [load_narrow, load_wide, load_matrix, load_row, stored_matrix, stored_row]; rfl
      isplitl [H18]
      · iexists _; isplitr; swap; · iexact H18
        ipureintro; refine (read_stored _ _ zero_at _ _ _).trans ?_; sl_unfold_words; simp only [load_narrow, load_wide, load_matrix, load_row, stored_matrix, stored_row]; rfl
      isplitl [H19]
      · iexists _; isplitr; swap; · iexact H19
        ipureintro; refine (read_stored _ _ zero_at _ _ _).trans ?_; sl_unfold_words; simp only [load_narrow, load_wide, load_matrix, load_row, stored_matrix, stored_row]; rfl
      isplitl [H20]
      · iexists _; isplitr; swap; · iexact H20
        ipureintro; refine (read_stored _ _ zero_at _ _ _).trans ?_; sl_unfold_words; simp only [load_narrow, load_wide, load_matrix, load_row, stored_matrix, stored_row]; rfl
      iexists _; isplitr; swap; · iexact H21
      ipureintro; refine (read_stored _ _ zero_at _ _ _).trans ?_; sl_unfold_words; simp only [load_narrow, load_wide, load_matrix, load_row, stored_matrix, stored_row]; rfl
    isplitl [H22]
    · iexists _; isplitr; swap; · iexact H22
      ipureintro; refine (read_stored _ _ zero_at _ _ _).trans ?_; sl_unfold_words; simp only [load_narrow, load_wide, load_matrix, load_row, stored_matrix, stored_row]; rfl
    isplitl [H23]
    · iexists _; isplitr; swap; · iexact H23
      ipureintro; refine (read_stored _ _ zero_at _ _ _).trans ?_; sl_unfold_words; simp only [load_narrow, load_wide, load_matrix, load_row, stored_matrix, stored_row]; rfl
    isplitl [H24]
    · iexists _; isplitr; swap; · iexact H24
      ipureintro; refine (read_stored _ _ zero_at _ _ _).trans ?_; sl_unfold_words; simp only [load_narrow, load_wide, load_matrix, load_row, stored_matrix, stored_row]; rfl
    isplitl [H25]
    · iexists _; isplitr; swap; · iexact H25
      ipureintro; refine (read_stored _ _ zero_at _ _ _).trans ?_; sl_unfold_words; simp only [load_narrow, load_wide, load_matrix, load_row, stored_matrix, stored_row]; rfl
    isplitl [H26]
    · iexists _; isplitr; swap; · iexact H26
      ipureintro; refine (read_stored _ _ zero_at _ _ _).trans ?_; sl_unfold_words; simp only [load_narrow, load_wide, load_matrix, load_row, stored_matrix, stored_row]; rfl
    iexists _; isplitr; swap; · iexact H27
    ipureintro; refine (read_stored _ _ zero_at _ _ _).trans ?_; sl_unfold_words; simp only [load_narrow, load_wide, load_matrix, load_row, stored_matrix, stored_row]; rfl

end

end Cert.Proof.MergeB

end
-- ==== Proof.MergeBRef.lean ====
/- Hand-written: THE MERGE'S GRADIENT, entry by entry, and the reference's arrays read at an entry. A branch here is its rows `y`, its
   matrix `w`, its gate's projection `g` and bias `b`; `dm` is the merged rows' cotangent. -/
module

public import proofs.«01_k».proof.Defs
public import proofs.«01_k».proof.Proof.Merge
public import proofs.«01_k».proof.Proof.Gen.MergeBRefIdeal.Run
public import Idealize.ShloMosaic.Lib.Quiescent

@[expose] public section

set_option maxRecDepth 16384

noncomputable section

namespace Cert.Proof.Merge

open Idealize.ShloMosaic Idealize.SL.Sem
open scoped BigOperators

section Entries

variable (y g b w dm : ℕ → ℕ → EReal)

/-- The cotangent times the branch's gate, -/
def scaled (r c : ℕ) : EReal := gate (g r c) (b 0 c) * dm r c

/-- the cotangent of the branch's rows, -/
def dBranch (r k : ℕ) : EReal := dot (scaled g b dm) (fun c k => w k c) 1024 r k

/-- of its gate's projection, -/
def dGate (r c : ℕ) : EReal := dm r c * dot y w 512 r c * (gate (g r c) (b 0 c) * (1 - gate (g r c) (b 0 c)))

/-- of its matrix, -/
def dMatrix (k c : ℕ) : EReal := dot (fun k r => y r k) (scaled g b dm) 8192 k c

/-- and of its gate's bias. -/
def dBias (i c : ℕ) : EReal := dot (fun _ _ => 1) (dGate y g b w dm) 8192 i c

end Entries

/-- The first branch's rows are a product: `d` goes on to the local branch's output, -/
def dLocal (g d : EReal) : EReal := d * (g * factor g)

/-- and to the activation's argument, through the tangent's argument (`dTanh`) and directly. -/
def dTanh (h g d : EReal) : EReal := root * (half * (g * (h * d)) * ((1 + bend g) * (1 - bend g)))
def dArg (h g d : EReal) : EReal :=
  h * d * factor g + dTanh h g d + g * g * (cubic * dTanh h g d) + g * (cubic * dTanh h g d * g) + cubic * dTanh h g d * g * g

/-! ## The reference's arrays -/

section Host

open Cert.MergeBRefIdeal

variable {y g b : ℕ → ℕ → EReal} (Y : FVec Ideal narrow .f32) (S : FVec Ideal wide .f32) (W : FVec Ideal ⟨2, ![512, 1024]⟩ .f32)
  (D : FVec Ideal wide .f32) (hY : ∀ (r : Fin 8192) (k : Fin 512), Y (ix2 r k) = y r.val k.val)
  (hS : ∀ (r : Fin 8192) (c : Fin 1024), S (ix2 r c) = gate (g r.val c.val) (b 0 c.val))

theorem cast_apply (h) (r : Fin 8192) (c : Fin 1024) : shapeCast wide D h (ix2 r c) = at2 D r.val c.val := by
  pointwise
  exact eq_at2 D _ _ _ rfl rfl

include hS in
theorem ref_scaled (h) (r : Fin 8192) (c : Fin 1024) : mulf S (shapeCast wide D h) (ix2 r c) = scaled g b (at2 D) r.val c.val :=
  congrArg₂ (· * ·) (hS r c) (cast_apply D h r c)

include hS in
theorem ref_dBranch (h) (r : Fin 8192) (k : Fin 512) :
    Host.dotGeneral dot_S8192x1024_S512x1024_S8192x512_1_1_0_0_n_n none (mulf S (shapeCast wide D h)) W (ix2 r k)
      = dBranch g b (at2 W) (at2 D) r.val k.val := by
  have e := ref_scaled (g := g) (b := b) S D hS h
  generalize mulf S (shapeCast wide D h) = Z at e
  pointwise
  exact dot_of_fin _ _ _ _ _ fun c => congrArg₂ (· * ·) (e r c) (eq_at2 W _ _ _ rfl rfl)

include hY hS in
theorem ref_dGate (h h1) (r : Fin 8192) (c : Fin 1024) :
    mulf (mulf (shapeCast wide D h) (Host.dotGeneral dot_S8192x512_S512x1024_S8192x1024_1_0_0_1_n_n none Y W))
      (mulf S (subf (every wide h1 0x3F800000#32) S)) (ix2 r c) = dGate y g b (at2 W) (at2 D) r.val c.val := by
  have e : mulf S (subf (every wide h1 0x3F800000#32) S) (ix2 r c)
      = gate (g r.val c.val) (b 0 c.val) * (1 - gate (g r.val c.val) (b 0 c.val)) := by rw [← hS]; pointwise
  refine congrArg₂ (· * ·) (congrArg₂ (· * ·) (cast_apply D h r c) ?_) e
  pointwise
  exact dot_of_fin _ _ _ _ _ fun k => congrArg₂ (· * ·) (hY r k) (eq_at2 W _ _ _ rfl rfl)

include hY hS in
theorem ref_dMatrix (h h2) :
    transpose ⟨2, ![512, 1024]⟩ [1, 0] (Host.dotGeneral dot_S8192x1024_S8192x512_S1024x512_0_0_1_1_n_n none (mulf S (shapeCast wide D h)) Y) h2
      = (arr2 (dMatrix y g b (at2 D)) : (⟨2, ![512, 1024]⟩ : Shape).Idx → EReal) := by
  have e := ref_scaled (g := g) (b := b) S D hS h
  generalize mulf S (shapeCast wide D h) = Z at e
  funext i
  obtain ⟨k, c, rfl⟩ : ∃ (k : Fin 512) (c : Fin 1024), i = ix2 k c := ⟨i 0, i 1, eq_ix2 (n0 := 512) (n1 := 1024) i⟩
  pointwise
  exact dot_of_fin (fun k r => y r k) (scaled g b (at2 D)) _ _ _ fun r => (congrArg₂ (· * ·) (e r c) (hY r k)).trans (mul_comm _ _)

theorem ref_dBias {f : ℕ → ℕ → EReal} (X : FVec Ideal wide .f32) (hX : ∀ (r : Fin 8192) (c : Fin 1024), X (ix2 r c) = f r.val c.val)
    (h3 : wide.ReducesTo [0] ⟨1, ![1024]⟩) (h4 h5) :
    shapeCast ⟨2, ![1, 1024]⟩ (Host.reduceAdd (t := ⟨1, ![1024]⟩) X (constant ⟨0, ![]⟩ .f32 0x00000000#32) h3 h4) h5
      = (arr2 (fun i c => dot (fun _ _ => 1) f 8192 i c) : (⟨2, ![1, 1024]⟩ : Shape).Idx → EReal) := by
  funext i
  obtain ⟨u, c, rfl⟩ : ∃ (u : Fin 1) (c : Fin 1024), i = ix2 u c := ⟨i 0, i 1, eq_ix2 (n0 := 1) (n1 := 1024) i⟩
  pointwise
  exact dot_of_fin (fun _ _ => 1) f u.val c.val _ fun r => (hX r c).trans (one_mul _).symm

end Host

section Local

variable (H : FVec Ideal narrow .f32) (P : FVec Ideal ⟨2, ![8192, 7168]⟩ .f32) (X : FVec Ideal narrow .f32) {d : ℕ → ℕ → EReal}
  (hX : ∀ (r : Fin 8192) (k : Fin 512), X (ix2 r k) = d r.val k.val)

/-- The cotangent of the activation's argument through the tangent's, as the reference has it. -/
def hostTanh : FVec Ideal narrow .f32 :=
  mulf (every narrow (by decide) 0x3F4C422A#32) (mulf (mulf (every narrow (by decide) 0x3F000000#32) (mulf (hostArg P) (mulf H X)))
    (mulf (addf (every narrow (by decide) 0x3F800000#32) (hostBend P)) (subf (every narrow (by decide) 0x3F800000#32) (hostBend P))))

def hostCubic : FVec Ideal narrow .f32 := mulf (every narrow (by decide) 0x3D372713#32) (hostTanh H P X)

include hX

theorem ref_dLocal (r : Fin 8192) (k : Fin 512) :
    mulf X (mulf (hostArg P) (hostFactor P)) (ix2 r k) = dLocal (at2 P r.val (3584 + k.val)) (d r.val k.val) :=
  congrArg₂ (· * ·) (hX r k) (congrArg₂ (· * ·) (hostArg_apply P r k) (hostFactor_apply P r k))

theorem hostTanh_apply (r : Fin 8192) (k : Fin 512) :
    hostTanh H P X (ix2 r k) = dTanh (at2 H r.val k.val) (at2 P r.val (3584 + k.val)) (d r.val k.val) := by
  unfold hostTanh dTanh
  rw [← hostBend_apply, ← hostArg_apply, ← hX, ← eq_at2 H (ix2 r k) r.val k.val rfl rfl]
  pointwise

theorem ref_dArg (r : Fin 8192) (k : Fin 512) :
    addf (addf (addf (addf (mulf (mulf H X) (hostFactor P)) (hostTanh H P X)) (mulf (mulf (hostArg P) (hostArg P)) (hostCubic H P X)))
      (mulf (hostArg P) (mulf (hostCubic H P X) (hostArg P)))) (mulf (mulf (hostCubic H P X) (hostArg P)) (hostArg P)) (ix2 r k)
      = dArg (at2 H r.val k.val) (at2 P r.val (3584 + k.val)) (d r.val k.val) := by
  unfold dArg hostCubic
  rw [← hostTanh_apply H P X hX, ← hostFactor_apply, ← hostArg_apply, ← hX, ← eq_at2 H (ix2 r k) r.val k.val rfl rfl]
  pointwise

end Local

/-- An array by its entries. -/
theorem eq_arr2 {a b : ℕ} (X : (⟨2, ![a, b]⟩ : Shape).Idx → EReal) (f : ℕ → ℕ → EReal)
    (h : ∀ (r : Fin a) (k : Fin b), X (ix2 r k) = f r.val k.val) : X = arr2 f := by
  funext i
  obtain ⟨r, k, rfl⟩ : ∃ (r : Fin a) (k : Fin b), i = ix2 r k := ⟨i 0, i 1, eq_ix2 i⟩
  exact h r k

theorem reference_frame : Cert.quiescent_MergeBRefIdeal := fun m ρ _ =>
  (θ_run Cert.MergeBRefIdeal.defs _ _).mono (fun r h => ⟨fun c => (h c).2.2.2.2.2.2.2.2.2.2.2.2.2, sem_eq_zero_of_no_sems (by decide) r.2⟩)
    (Cert.MergeBRefIdeal.Value.run (F := Ideal) m ρ)

end Cert.Proof.Merge

end
-- ==== Proof.MergeBTile.lean ====
/- Hand-written: ONE POINT OF THE MERGE'S GRADIENT, entry by entry: what it leaves in its rows and adds to its sums, over the extended
   reals, and what these are when the point's blocks are rows of whole arrays. -/
module

public import proofs.«01_k».proof.Proof.MergeBRun
public import proofs.«01_k».proof.Proof.MergeBRef

@[expose] public section

set_option maxRecDepth 16384

noncomputable section

namespace Cert.Proof.MergeB

open Cert.MergeBIdeal Cert.MergeBIdeal.Gen
open Idealize.ShloMosaic
open Cert.Proof.Merge
open scoped BigOperators

section Tile

variable (y : Vec Ideal S256x512 .f32) (g : Vec Ideal S256x1024 .f32) (b : Vec Ideal S1x1024 .f32) (w : Vec Ideal S512x1024 .f32)
  (dm : Vec Ideal S256x1024 .f32)

/-- A tile's gate, its cotangent times the gate, and its gate projection's cotangent. -/
def tgate (i : S256x1024.Idx) : EReal := gate (g i) (b (ix2 (0 : Fin 1) (i 1)))
def tscaled : Vec Ideal S256x1024 .f32 := fun i => tgate g b i * dm i
def tdGate (r : Fin 256) (c : Fin 1024) : EReal :=
  dm (ix2 r c) * tileNN y w r c * (tgate g b (ix2 r c) * (1 - tgate g b (ix2 r c)))

/-- The blocks are rows `256 t` onward of `Y`, `G` and `D`, and the whole of `B` and `W`. -/
structure Reads (t : ℕ) (Y G B W D : ℕ → ℕ → EReal) : Prop where
  y : ∀ (r : Fin 256) (k : Fin 512), y (ix2 r k) = Y (256 * t + r.val) k.val
  g : ∀ (r : Fin 256) (c : Fin 1024), g (ix2 r c) = G (256 * t + r.val) c.val
  b : ∀ c : Fin 1024, b (ix2 (0 : Fin 1) c) = B 0 c.val
  w : ∀ (k : Fin 512) (c : Fin 1024), w (ix2 k c) = W k.val c.val
  d : ∀ (r : Fin 256) (c : Fin 1024), dm (ix2 r c) = D (256 * t + r.val) c.val

variable {y g b w dm} {t : ℕ} {Y G B W D : ℕ → ℕ → EReal} (h : Reads y g b w dm t Y G B W D)

include h

theorem Reads.gate_eq (r : Fin 256) (c : Fin 1024) : tgate g b (ix2 r c) = gate (G (256 * t + r.val) c.val) (B 0 c.val) :=
  congrArg₂ gate (h.g r c) (h.b c)

theorem Reads.scaled_eq (r : Fin 256) (c : Fin 1024) : tscaled g b dm (ix2 r c) = scaled G B D (256 * t + r.val) c.val :=
  congrArg₂ (· * ·) (h.gate_eq r c) (h.d r c)

theorem Reads.dBranch_eq (r : Fin 256) (k : Fin 512) :
    tileNT (tscaled g b dm) w r k = dBranch G B W D (256 * t + r.val) k.val :=
  dot_of_fin (scaled G B D) (fun c k => W k c) _ _ _ fun c => congrArg₂ (· * ·) (h.scaled_eq r c) (h.w k c)

theorem Reads.dGate_eq (r : Fin 256) (c : Fin 1024) : tdGate y g b w dm r c = dGate Y G B W D (256 * t + r.val) c.val := by
  unfold tdGate dGate
  rw [h.gate_eq, h.d, show tileNN y w r c = dot Y W 512 (256 * t + r.val) c.val from
    dot_of_fin Y W _ _ _ fun k => congrArg₂ (· * ·) (h.y r k) (h.w k c)]

theorem Reads.dMatrix_eq (k : Fin 512) (c : Fin 1024) :
    tileTN y (tscaled g b dm) k c = dotTile (fun k r => Y r k) (scaled G B D) 256 t k.val c.val := by
  unfold tileTN dotTile
  rw [Finset.sum_range]
  exact Finset.sum_congr rfl fun r _ => congrArg₂ (· * ·) (h.y r k) (h.scaled_eq r c)

theorem Reads.dBias_eq (c : Fin 1024) :
    ∑ r : Fin 256, tdGate y g b w dm r c = dotTile (fun _ _ => 1) (dGate Y G B W D) 256 t 0 c.val := by
  unfold dotTile
  rw [Finset.sum_range]
  exact Finset.sum_congr rfl fun r _ => (h.dGate_eq r c).trans (one_mul _).symm

end Tile

variable (x : Blocks Ideal) (s : Sums Ideal)

/-- The first branch's rows. -/
def ya : Vec Ideal S256x512 .f32 := fun i => branch (x.h i) (x.g i)

section Gates

variable (g : Vec Ideal S256x1024 .f32) (b : Vec Ideal S1x1024 .f32) (r : Fin 256) (c : Fin 1024)

theorem gate0_apply : k0_pay9 g b (ix2 r c) = tgate g b (ix2 r c) := by unfold k0_pay9 tgate gate; pointwise
theorem gate1_apply : k0_pay12 g b (ix2 r c) = tgate g b (ix2 r c) := by unfold k0_pay12 tgate gate; pointwise
theorem gate2_apply : k0_pay14 g b (ix2 r c) = tgate g b (ix2 r c) := by unfold k0_pay14 tgate gate; pointwise

end Gates

theorem ya_apply (r : Fin 256) (k : Fin 512) : k0_pay8 x.h x.g (k0_pay4 x.g) (ix2 r k) = ya x (ix2 r k) := by
  unfold k0_pay8 k0_pay7 k0_pay6 k0_pay4 k0_pay3 ya branch factor bend
  pointwise

theorem dyb_apply (r : Fin 256) (k : Fin 512) : x.dyb (ix2 r k) = tileNT (tscaled x.g1 x.b1 x.dm) x.w1 r k := by
  unfold Blocks.dyb k0_pay25 k0_pay24 k0_pay22 k0_pay15 tileNT tscaled
  pointwise
  simp only [gate1_apply]

theorem dyc_apply (r : Fin 256) (k : Fin 512) : x.dyc (ix2 r k) = tileNT (tscaled x.g2 x.b2 x.dm) x.w2 r k := by
  unfold Blocks.dyc k0_pay18 k0_pay17 k0_pay16 tileNT tscaled
  pointwise
  simp only [gate2_apply]

theorem dya_apply (r : Fin 256) (k : Fin 512) :
    k0_pay30 x.w0 (k0_pay9 x.g0 x.b0) (k0_pay15 x.dm) (ix2 r k) = tileNT (tscaled x.g0 x.b0 x.dm) x.w0 r k := by
  unfold k0_pay30 k0_pay29 k0_pay15 tileNT tscaled
  pointwise
  simp only [gate0_apply]

theorem dha_apply (r : Fin 256) (k : Fin 512) :
    x.dha (ix2 r k) = dLocal (x.g (ix2 r k)) (tileNT (tscaled x.g0 x.b0 x.dm) x.w0 r k) := by
  rw [← dya_apply]
  unfold Blocks.dha k0_pay34 k0_pay7 k0_pay6 k0_pay4 k0_pay3 dLocal factor bend
  pointwise

theorem dga_apply (r : Fin 256) (k : Fin 512) :
    x.dga (ix2 r k) = dArg (x.h (ix2 r k)) (x.g (ix2 r k)) (tileNT (tscaled x.g0 x.b0 x.dm) x.w0 r k) := by
  rw [← dya_apply]
  unfold Blocks.dga k0_pay35 k0_pay6 k0_pay5 k0_pay4 k0_pay3 dArg dTanh factor bend
  pointwise

theorem dg0_apply (r : Fin 256) (c : Fin 1024) : x.dg0 (ix2 r c) = tdGate (ya x) x.g0 x.b0 x.w0 x.dm r c := by
  unfold Blocks.dg0 k0_pay32 k0_pay10 k0_pay11 k0_pay15 tdGate tileNN
  pointwise
  simp only [gate0_apply, ya_apply]

theorem dg1_apply (r : Fin 256) (c : Fin 1024) : x.dg1 (ix2 r c) = tdGate x.yb x.g1 x.b1 x.w1 x.dm r c := by
  unfold Blocks.dg1 k0_pay27 k0_pay13 k0_pay23 k0_pay15 tdGate tileNN
  pointwise
  simp only [gate1_apply]

theorem dg2_apply (r : Fin 256) (c : Fin 1024) : x.dg2 (ix2 r c) = tdGate x.yc x.g2 x.b2 x.w2 x.dm r c := by
  unfold Blocks.dg2 k0_pay20 k0_pay16 tdGate tileNN
  pointwise
  simp only [gate2_apply]

theorem added_w0 (k : Fin 512) (c : Fin 1024) :
    (x.added s).w0 (ix2 k c) = s.w0 (ix2 k c) + tileTN (ya x) (tscaled x.g0 x.b0 x.dm) k c := by
  unfold Blocks.added k0_pay42 k0_pay31 k0_pay29 k0_pay15 tileTN tscaled
  pointwise
  simp only [gate0_apply, ya_apply]

theorem added_w1 (k : Fin 512) (c : Fin 1024) :
    (x.added s).w1 (ix2 k c) = s.w1 (ix2 k c) + tileTN x.yb (tscaled x.g1 x.b1 x.dm) k c := by
  unfold Blocks.added k0_pay43 k0_pay26 k0_pay22 k0_pay15 tileTN tscaled
  pointwise
  simp only [gate1_apply]

theorem added_w2 (k : Fin 512) (c : Fin 1024) :
    (x.added s).w2 (ix2 k c) = s.w2 (ix2 k c) + tileTN x.yc (tscaled x.g2 x.b2 x.dm) k c := by
  unfold Blocks.added k0_pay44 k0_pay19 k0_pay17 k0_pay16 tileTN tscaled
  pointwise
  simp only [gate2_apply]

theorem added_b0 (c : Fin 1024) : (x.added s).b0 (ix2 (0 : Fin 1) c)
    = s.b0 (ix2 (0 : Fin 1) c) + ∑ r : Fin 256, tdGate (ya x) x.g0 x.b0 x.w0 x.dm r c := by
  simp only [← dg0_apply]
  unfold Blocks.added k0_pay45 k0_pay33 Blocks.dg0
  pointwise

theorem added_b1 (c : Fin 1024) : (x.added s).b1 (ix2 (0 : Fin 1) c)
    = s.b1 (ix2 (0 : Fin 1) c) + ∑ r : Fin 256, tdGate x.yb x.g1 x.b1 x.w1 x.dm r c := by
  simp only [← dg1_apply]
  unfold Blocks.added k0_pay1 k0_pay28 Blocks.dg1
  pointwise

theorem added_b2 (c : Fin 1024) : (x.added s).b2 (ix2 (0 : Fin 1) c)
    = s.b2 (ix2 (0 : Fin 1) c) + ∑ r : Fin 256, tdGate x.yc x.g2 x.b2 x.w2 x.dm r c := by
  simp only [← dg2_apply]
  unfold Blocks.added k0_pay2 k0_pay21 Blocks.dg2
  pointwise

/-- The sums start from nothing. -/
theorem zero_w (k : Fin 512) (c : Fin 1024) : (Sums.zero : Sums Ideal).w0 (ix2 k c) = 0 ∧ (Sums.zero : Sums Ideal).w1 (ix2 k c) = 0
    ∧ (Sums.zero : Sums Ideal).w2 (ix2 k c) = 0 := by
  unfold Sums.zero k0_pay36 k0_pay37 k0_pay38
  refine ⟨?_, ?_, ?_⟩ <;> pointwise

theorem zero_b (c : Fin 1024) : (Sums.zero : Sums Ideal).b0 (ix2 (0 : Fin 1) c) = 0 ∧ (Sums.zero : Sums Ideal).b1 (ix2 (0 : Fin 1) c) = 0
    ∧ (Sums.zero : Sums Ideal).b2 (ix2 (0 : Fin 1) c) = 0 := by
  unfold Sums.zero k0_pay39 k0_pay40 k0_pay41
  refine ⟨?_, ?_, ?_⟩ <;> pointwise

end Cert.Proof.MergeB

end
-- ==== Proof.MergeBFrame.lean ====
/- Hand-written: THE MERGE'S GRADIENT (`merge_bwd`) POINT BY POINT, for any arithmetic: what every window's buffer holds, the run of the whole
   call, and the frame claims of both of its programs. -/
module

public import proofs.«01_k».proof.Proof.MergeBRun
public import proofs.«01_k».proof.Proof.Gen.MergeB
public import proofs.«01_k».proof.Defs
public import Idealize.ShloMosaic.Lib.Claim

@[expose] public section

set_option maxRecDepth 65536

noncomputable section

namespace Cert.Proof.MergeB

open Cert.MergeBIdeal Cert.MergeBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (a : Loc nD τ sig) → a.ty.Contents (Elt F)) (ρ : Dev nD → PrngReg)

/-- What point `t` reads. -/
abbrev blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t,
    iblk m c 10 t, iblk m c 11 t, iblk m c 12 t, iblk m c 13 t⟩

/-- The sums after point `n`. -/
def sumsAt (c : Dev nD) : (n : ℕ) → n < cfg0.N → Sums F
  | 0, h => (blocks m c ⟨0, h⟩).added Sums.zero
  | n + 1, h => (blocks m c ⟨n + 1, h⟩).added (sumsAt c n (Nat.lt_of_succ_lt h))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (blocks m c t).dha
    | ⟨15, _⟩ => (blocks m c t).dga
    | ⟨16, _⟩ => (blocks m c t).dyb
    | ⟨17, _⟩ => (blocks m c t).dyc
    | ⟨18, _⟩ => (blocks m c t).dg0
    | ⟨19, _⟩ => (blocks m c t).dg1
    | ⟨20, _⟩ => (blocks m c t).dg2
    | ⟨21, _⟩ => (sumsAt m c t.val t.isLt).w0
    | ⟨22, _⟩ => (sumsAt m c t.val t.isLt).w1
    | ⟨23, _⟩ => (sumsAt m c t.val t.isLt).w2
    | ⟨24, _⟩ => (sumsAt m c t.val t.isLt).b0
    | ⟨25, _⟩ => (sumsAt m c t.val t.isLt).b1
    | ⟨26, _⟩ => (sumsAt m c t.val t.isLt).b2
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := rfl

/-- The sums' buffers at a point, as `sums` has them, -/
abbrev heldAt (c : Dev nD) (t : Fin cfg0.N) (d21 d22 d23 : Vec F S512x1024 .f32) (d24 d25 d26 : Vec F S1x1024 .f32) : Sums F :=
  ⟨(dats m 0 c).before 21 t d21, (dats m 0 c).before 22 t d22, (dats m 0 c).before 23 t d23, (dats m 0 c).before 24 t d24,
    (dats m 0 c).before 25 t d25, (dats m 0 c).before 26 t d26⟩

/-- and they hold what the point before left. -/
theorem held (c : Dev nD) (t : Fin cfg0.N) (h0 : ¬t.val % 32 = 0) (d21 d22 d23 d24 d25 d26) :
    heldAt m c t d21 d22 d23 d24 d25 d26 = sumsAt m c (t.val - 1) (Nat.lt_of_le_of_lt (Nat.sub_le _ _) t.isLt) := by
  have hN : t.val < 32 := lt_of_lt_of_eq t.isLt (show cfg0.N = 32 from N_0)
  unfold heldAt
  rw [Dat.before_out_kept _ 21 rfl t (by omega) (Bool.eq_false_iff.mpr fun h => by have := (flush0_21 _).mp h; dsimp only at this; omega) (fun _ => rfl)
    (fun _ _ => rfl)]
  rw [Dat.before_out_kept _ 22 rfl t (by omega) (Bool.eq_false_iff.mpr fun h => by have := (flush0_22 _).mp h; dsimp only at this; omega) (fun _ => rfl)
    (fun _ _ => rfl)]
  rw [Dat.before_out_kept _ 23 rfl t (by omega) (Bool.eq_false_iff.mpr fun h => by have := (flush0_23 _).mp h; dsimp only at this; omega) (fun _ => rfl)
    (fun _ _ => rfl)]
  rw [Dat.before_out_kept _ 24 rfl t (by omega) (Bool.eq_false_iff.mpr fun h => by have := (flush0_24 _).mp h; dsimp only at this; omega) (fun _ => rfl)
    (fun _ _ => rfl)]
  rw [Dat.before_out_kept _ 25 rfl t (by omega) (Bool.eq_false_iff.mpr fun h => by have := (flush0_25 _).mp h; dsimp only at this; omega) (fun _ => rfl)
    (fun _ _ => rfl)]
  rw [Dat.before_out_kept _ 26 rfl t (by omega) (Bool.eq_false_iff.mpr fun h => by have := (flush0_26 _).mp h; dsimp only at this; omega) (fun _ => rfl)
    (fun _ _ => rfl)]
  dsimp only [dats]

/-- What the point leaves in them. -/
theorem left (c : Dev nD) (t : Fin cfg0.N) (d21 d22 d23 d24 d25 d26) :
    (blocks m c t).added (start (grid0.coords t) (heldAt m c t d21 d22 d23 d24 d25 d26)) = sumsAt m c t.val t.isLt := by
  have hN : t.val < 32 := lt_of_lt_of_eq t.isLt (show cfg0.N = 32 from N_0)
  by_cases h0 : t.val % 32 = 0
  · rw [show start (grid0.coords t) (heldAt m c t d21 d22 d23 d24 d25 d26) = Sums.zero from if_pos ((hcond0_0 t).mpr h0)]
    obtain ⟨n, hn⟩ := t
    obtain rfl : n = 0 := by dsimp only at h0 hN; omega
    rfl
  · rw [show start (grid0.coords t) (heldAt m c t d21 d22 d23 d24 d25 d26) = heldAt m c t d21 d22 d23 d24 d25 d26 from
      if_neg fun h => h0 ((hcond0_0 t).mp h), held m c t h0]
    obtain ⟨n, hn⟩ := t
    obtain ⟨k, rfl⟩ : ∃ k, n = k + 1 := ⟨n - 1, by dsimp only at h0; omega⟩
    rfl

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (blocks m c t).dha
    ∗ owns (c : Thread nD τ) (ms0_15 t) fullShare (blocks m c t).dga
    ∗ owns (c : Thread nD τ) (ms0_16 t) fullShare (blocks m c t).dyb
    ∗ owns (c : Thread nD τ) (ms0_17 t) fullShare (blocks m c t).dyc
    ∗ owns (c : Thread nD τ) (ms0_18 t) fullShare (blocks m c t).dg0
    ∗ owns (c : Thread nD τ) (ms0_19 t) fullShare (blocks m c t).dg1
    ∗ owns (c : Thread nD τ) (ms0_20 t) fullShare (blocks m c t).dg2
    ∗ owns (c : Thread nD τ) (ms0_21 t) fullShare (sumsAt m c t.val t.isLt).w0
    ∗ owns (c : Thread nD τ) (ms0_22 t) fullShare (sumsAt m c t.val t.isLt).w1
    ∗ owns (c : Thread nD τ) (ms0_23 t) fullShare (sumsAt m c t.val t.isLt).w2
    ∗ owns (c : Thread nD τ) (ms0_24 t) fullShare (sumsAt m c t.val t.isLt).b0
    ∗ owns (c : Thread nD τ) (ms0_25 t) fullShare (sumsAt m c t.val t.isLt).b1
    ∗ owns (c : Thread nD τ) (ms0_26 t) fullShare (sumsAt m c t.val t.isLt).b2)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => by dsimp only [dats]) t,
    before0_1_of m (dats m 0 c) (A_eq m c 1) (fun _ => by dsimp only [dats]) t,
    before0_2_of m (dats m 0 c) (A_eq m c 2) (fun _ => by dsimp only [dats]) t,
    before0_3_of m (dats m 0 c) (A_eq m c 3) (fun _ => by dsimp only [dats]) t,
    before0_4_of m (dats m 0 c) (A_eq m c 4) (fun _ => by dsimp only [dats]) t,
    before0_5_of m (dats m 0 c) (A_eq m c 5) (fun _ => by dsimp only [dats]) t,
    before0_6_of m (dats m 0 c) (A_eq m c 6) (fun _ => by dsimp only [dats]) t,
    before0_7_of m (dats m 0 c) (A_eq m c 7) (fun _ => by dsimp only [dats]) t,
    before0_8_of m (dats m 0 c) (A_eq m c 8) (fun _ => by dsimp only [dats]) t,
    before0_9_of m (dats m 0 c) (A_eq m c 9) (fun _ => by dsimp only [dats]) t,
    before0_10_of m (dats m 0 c) (A_eq m c 10) (fun _ => by dsimp only [dats]) t,
    before0_11_of m (dats m 0 c) (A_eq m c 11) (fun _ => by dsimp only [dats]) t,
    before0_12_of m (dats m 0 c) (A_eq m c 12) (fun _ => by dsimp only [dats]) t,
    before0_13_of m (dats m 0 c) (A_eq m c 13) (fun _ => by dsimp only [dats]) t]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩,
    ⟨%d6, H6⟩, ⟨%d7, H7⟩, ⟨%d8, H8⟩, ⟨%d9, H9⟩, ⟨%d10, H10⟩, ⟨%d11, H11⟩, ⟨%d12, H12⟩, ⟨%d13, H13⟩,
    ⟨%d14, H14⟩, ⟨%d15, H15⟩, ⟨%d16, H16⟩, ⟨%d17, H17⟩, ⟨%d18, H18⟩, ⟨%d19, H19⟩, ⟨%d20, H20⟩, ⟨%d21, H21⟩,
    ⟨%d22, H22⟩, ⟨%d23, H23⟩, ⟨%d24, H24⟩, ⟨%d25, H25⟩, ⟨%d26, H26⟩⟩
  rw [← left m c t d21 d22 d23 d24 d25 d26]
  iapply (run c (grid0.coords t) _ _ _ _ _ _ _ _ _ _ _ _ _ _ _ _ _ _ _ _ _ _ _ _ _ _ _ _ _ _ _ _ _ _ _ _ _ _ _ _ _ _ _ _ _ _ _ _ _ _ _ _ _ _ (blocks m c t) (heldAt m c t d21 d22 d23 d24 d25 d26) Set.univ _)
  unfold ins free rows sums
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14 H15 H16 H17 H18 H19 H20]
  · isplitl [H14]; · (iexists _; iexact H14)
    isplitl [H15]; · (iexists _; iexact H15)
    isplitl [H16]; · (iexists _; iexact H16)
    isplitl [H17]; · (iexists _; iexact H17)
    isplitl [H18]; · (iexists _; iexact H18)
    isplitl [H19]; · (iexists _; iexact H19)
    (iexists _; iexact H20)
  isplitl [H21 H22 H23 H24 H25 H26]
  · isplitl [H21]; · iexact H21
    isplitl [H22]; · iexact H22
    isplitl [H23]; · iexact H23
    isplitl [H24]; · iexact H24
    isplitl [H25]; · iexact H25
    iexact H26
  iintro ⟨⟨H0, H1, H2, H3, H4, H5, H6, H7, H8, H9, H10, H11, H12, H13⟩, ⟨H14, H15, H16, H17, H18, H19, H20⟩,
    H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call ends with every array as the points left it, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

set_option maxHeartbeats 4000000 in
/-- The printed program's body is the ideal program's. -/
theorem defs₀_same : @Cert.MergeB.defs₀ Bits _ _ = @Cert.MergeBIdeal.defs₀ Bits _ _ := by
  refine congrArg (Defs.onTc (nD := Cert.MergeB.nD) (τ := Cert.MergeB.τ) (sig := Cert.MergeB.sig) (Val := Elt Bits) (Λ := Cert.MergeB.Λ₀)) ?_
  funext l a
  match l, a with
  | ⟨0, _⟩, (t, s) => rfl

set_option maxHeartbeats 4000000 in
theorem defs_same : @Cert.MergeB.defs Bits _ _ = @Cert.MergeBIdeal.defs Bits _ _ :=
  congrArg (Pipeline.defs (Cert.MergeB.pcfgs (F := Bits))) defs₀_same

set_option maxHeartbeats 4000000 in
/-- So what a run of the one ends with, a run of the other does. -/
theorem run_same (m : (a : Loc nD τ sig) → a.ty.Contents (Elt Bits)) (Q)
    (h : θ_run (Cert.MergeBIdeal.defs (F := Bits)) (onTc (τ := Cert.MergeBIdeal.τ) (Cert.MergeBIdeal.main (F := Bits))) ⟨m, fun _ => 0, ρ⟩ Q) :
    θ_run (Cert.MergeB.defs (F := Bits)) (onTc (τ := Cert.MergeB.τ) (Cert.MergeB.main (F := Bits))) ⟨m, fun _ => 0, ρ⟩ Q := by
  rw [defs_same]; exact h

/-- The frame claims: the arguments end unchanged and every counter at zero. -/
theorem ideal_frame : Cert.quiescent_MergeBIdeal := fun m ρ _ =>
  θ_run_and (frame_of m ρ (dats m) (A_eq m) (run_main m ρ)) ((θ_run defs _ _).mono (fun _ h => h.2) (run_main_quiescent m ρ))

theorem printed_frame : Cert.quiescent_MergeB := fun m ρ _ => run_same ρ m _
  (θ_run_and (frame_of m ρ (dats m) (A_eq m) (run_main m ρ)) ((θ_run defs _ _).mono (fun _ h => h.2) (run_main_quiescent m ρ)))

end Cert.Proof.MergeB

end
-- ==== Proof.MergeB.lean ====
/- Hand-written: THE MERGE'S GRADIENT (`merge_bwd`). Every grid point leaves 256 finished rows of seven cotangents, and adds to the
   matrices' and the biases' sums, which the last point leaves whole. -/
module

public import proofs.«01_k».proof.Proof.MergeBTile
public import proofs.«01_k».proof.Proof.MergeBFrame
public import proofs.«01_k».proof.Proof.MergeF

@[expose] public section

set_option maxRecDepth 16384

noncomputable section

namespace Cert.Proof.MergeB

open Cert.MergeBIdeal Cert.MergeBIdeal.Gen
open Idealize.ShloMosaic Idealize.ShloMosaic.TcCoe Idealize.SL.Sem
open Cert.Proof.Merge
open Cert.Proof.MergeF (args entry)
open scoped BigOperators

variable (m : (ℓ : Loc nD τ sig) → Buf (Elt Ideal) ℓ) (ρ : Dev nD → PrngReg) (c : Dev nD)

abbrev memArgs : Args := args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
abbrev memD : ℕ → ℕ → EReal := at2 (m ((c : Thread nD τ).loc main_arg10) : FVec Ideal ⟨2, ![8192, 1024]⟩ .f32)

/-! ## The blocks -/

theorem ix_in : ∀ t : Fin cfg0.N, (win0_0.index t (0 : Fin 2) = t.val ∧ win0_0.index t (1 : Fin 2) = 0)
    ∧ (win0_1.index t (0 : Fin 2) = t.val ∧ win0_1.index t (1 : Fin 2) = 7)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 1)
    ∧ (win0_6.index t (0 : Fin 2) = t.val ∧ win0_6.index t (1 : Fin 2) = 2)
    ∧ (win0_13.index t (0 : Fin 2) = t.val ∧ win0_13.index t (1 : Fin 2) = 0) :=
  (by decide +kernel : ∀ t : Fin grid0.N, _)

theorem ix_whole : ∀ t : Fin cfg0.N, (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem ix_rows : ∀ t : Fin cfg0.N, (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0)
    ∧ (win0_18.index t (0 : Fin 2) = t.val ∧ win0_18.index t (1 : Fin 2) = 0)
    ∧ (win0_19.index t (0 : Fin 2) = t.val ∧ win0_19.index t (1 : Fin 2) = 0)
    ∧ (win0_20.index t (0 : Fin 2) = t.val ∧ win0_20.index t (1 : Fin 2) = 0) :=
  (by decide +kernel : ∀ t : Fin grid0.N, _)

theorem ix_sums : ∀ t : Fin cfg0.N, (win0_21.index t (0 : Fin 2) = 0 ∧ win0_21.index t (1 : Fin 2) = 0)
    ∧ (win0_22.index t (0 : Fin 2) = 0 ∧ win0_22.index t (1 : Fin 2) = 0)
    ∧ (win0_23.index t (0 : Fin 2) = 0 ∧ win0_23.index t (1 : Fin 2) = 0)
    ∧ (win0_24.index t (0 : Fin 2) = 0 ∧ win0_24.index t (1 : Fin 2) = 0)
    ∧ (win0_25.index t (0 : Fin 2) = 0 ∧ win0_25.index t (1 : Fin 2) = 0)
    ∧ (win0_26.index t (0 : Fin 2) = 0 ∧ win0_26.index t (1 : Fin 2) = 0) :=
  (by decide +kernel : ∀ t : Fin grid0.N, _)

/-- An entry of a block of 256 rows, at columns `o` onward, -/
theorem colBlock {a b q : ℕ} [NeZero a] [NeZero b] (X : (⟨2, ![a, b]⟩ : Shape).Idx → EReal) (j : (⟨2, ![a, b]⟩ : Shape).Idx) {u v t n : ℕ}
    (o : ℕ) (r : Fin 256) (k : Fin q) (h0 : (j 0).val = u * 256 + 1 * r.val) (h1 : (j 1).val = v * q + 1 * k.val) (e : u = t ∧ v = n)
    (ho : n * q = o) : X j = at2 X (256 * t + r.val) (o + k.val) := by
  obtain ⟨rfl, rfl⟩ := e
  exact eq_at2 X j _ _ (h0.trans (by omega)) (h1.trans (by omega))

/-- at all its columns, -/
theorem rowBlock {a b q : ℕ} [NeZero a] [NeZero b] (X : (⟨2, ![a, b]⟩ : Shape).Idx → EReal) (j : (⟨2, ![a, b]⟩ : Shape).Idx) {u v t : ℕ}
    (r : Fin 256) (k : Fin q) (h0 : (j 0).val = u * 256 + 1 * r.val) (h1 : (j 1).val = v * q + 1 * k.val) (e : u = t ∧ v = 0) :
    X j = at2 X (256 * t + r.val) k.val := by
  rw [colBlock X j 0 r k h0 h1 e (Nat.zero_mul q), Nat.zero_add]

/-- and of a block that is the whole array. -/
theorem wholeBlock {a b p q : ℕ} [NeZero a] [NeZero b] (X : (⟨2, ![a, b]⟩ : Shape).Idx → EReal) (j : (⟨2, ![a, b]⟩ : Shape).Idx) {u v : ℕ}
    (r : Fin p) (k : Fin q) (h0 : (j 0).val = u * p + 1 * r.val) (h1 : (j 1).val = v * q + 1 * k.val) (e : u = 0 ∧ v = 0) :
    X j = at2 X r.val k.val := by
  obtain ⟨rfl, rfl⟩ := e
  exact eq_at2 X j _ _ (h0.trans (by omega)) (h1.trans (by omega))

section Reads

variable (t : Fin cfg0.N)

theorem local_eq (r : Fin 256) (k : Fin 512) : (blocks m c t).h (ix2 r k) = (memArgs m c).ha (256 * t.val + r.val) k.val :=
  rowBlock (m ((c : Thread nD τ).loc main_arg0)) (((cfg0.win 0).blk t).view.emb (ix2 r k)) r k rfl rfl (ix_in t).1

theorem arg_eq (r : Fin 256) (k : Fin 512) : (blocks m c t).g (ix2 r k) = (memArgs m c).ga (256 * t.val + r.val) k.val :=
  colBlock (m ((c : Thread nD τ).loc main_arg1)) (((cfg0.win 1).blk t).view.emb (ix2 r k)) 3584 r k rfl rfl (ix_in t).2.1 rfl

theorem d_eq (r : Fin 256) (k : Fin 1024) : (blocks m c t).dm (ix2 r k) = memD m c (256 * t.val + r.val) k.val :=
  rowBlock (m ((c : Thread nD τ).loc main_arg10)) (((cfg0.win 13).blk t).view.emb (ix2 r k)) r k rfl rfl (ix_in t).2.2.2.2.2.2.2

theorem reads0 : Reads (ya (blocks m c t)) (blocks m c t).g0 (blocks m c t).b0 (blocks m c t).w0 (blocks m c t).dm t.val
    (memArgs m c).ya (memArgs m c).g0 (memArgs m c).b0 (memArgs m c).w0 (memD m c) where
  y r k := congrArg₂ branch (local_eq m c t r k) (arg_eq m c t r k)
  g r k := rowBlock (m ((c : Thread nD τ).loc main_arg1)) (((cfg0.win 4).blk t).view.emb (ix2 r k)) r k rfl rfl (ix_in t).2.2.2.2.1
  b k := wholeBlock (m ((c : Thread nD τ).loc main_arg7)) (((cfg0.win 10).blk t).view.emb (ix2 (0 : Fin 1) k)) (0 : Fin 1) k rfl rfl
    (ix_whole t).2.2.2.1
  w k d := wholeBlock (m ((c : Thread nD τ).loc main_arg4)) (((cfg0.win 7).blk t).view.emb (ix2 k d)) k d rfl rfl (ix_whole t).1
  d := d_eq m c t

theorem reads1 : Reads (blocks m c t).yb (blocks m c t).g1 (blocks m c t).b1 (blocks m c t).w1 (blocks m c t).dm t.val
    (memArgs m c).yb (memArgs m c).g1 (memArgs m c).b1 (memArgs m c).w1 (memD m c) where
  y r k := rowBlock (m ((c : Thread nD τ).loc main_arg2)) (((cfg0.win 2).blk t).view.emb (ix2 r k)) r k rfl rfl (ix_in t).2.2.1
  g r k := colBlock (m ((c : Thread nD τ).loc main_arg1)) (((cfg0.win 5).blk t).view.emb (ix2 r k)) 1024 r k rfl rfl (ix_in t).2.2.2.2.2.1 rfl
  b k := wholeBlock (m ((c : Thread nD τ).loc main_arg8)) (((cfg0.win 11).blk t).view.emb (ix2 (0 : Fin 1) k)) (0 : Fin 1) k rfl rfl
    (ix_whole t).2.2.2.2.1
  w k d := wholeBlock (m ((c : Thread nD τ).loc main_arg5)) (((cfg0.win 8).blk t).view.emb (ix2 k d)) k d rfl rfl (ix_whole t).2.1
  d := d_eq m c t

theorem reads2 : Reads (blocks m c t).yc (blocks m c t).g2 (blocks m c t).b2 (blocks m c t).w2 (blocks m c t).dm t.val
    (memArgs m c).yc (memArgs m c).g2 (memArgs m c).b2 (memArgs m c).w2 (memD m c) where
  y r k := rowBlock (m ((c : Thread nD τ).loc main_arg3)) (((cfg0.win 3).blk t).view.emb (ix2 r k)) r k rfl rfl (ix_in t).2.2.2.1
  g r k := colBlock (m ((c : Thread nD τ).loc main_arg1)) (((cfg0.win 6).blk t).view.emb (ix2 r k)) 2048 r k rfl rfl (ix_in t).2.2.2.2.2.2.1 rfl
  b k := wholeBlock (m ((c : Thread nD τ).loc main_arg9)) (((cfg0.win 12).blk t).view.emb (ix2 (0 : Fin 1) k)) (0 : Fin 1) k rfl rfl
    (ix_whole t).2.2.2.2.2
  w k d := wholeBlock (m ((c : Thread nD τ).loc main_arg6)) (((cfg0.win 9).blk t).view.emb (ix2 k d)) k d rfl rfl (ix_whole t).2.2.1
  d := d_eq m c t

end Reads

/-! ## What the call leaves -/

section Values

variable (x : Args) (D : ℕ → ℕ → EReal)

def vha (r k : ℕ) : EReal := dLocal (x.ga r k) (dBranch x.g0 x.b0 x.w0 D r k)
def vga (r k : ℕ) : EReal := dArg (x.ha r k) (x.ga r k) (dBranch x.g0 x.b0 x.w0 D r k)

end Values

/-- Sums that begin at zero, a tile's terms added at each point: -/
theorem summed {a b : ℕ} (p : Sums Ideal → (⟨2, ![a, b]⟩ : Shape).Idx → EReal) (A B : ℕ → ℕ → EReal) (r : Fin a) (d : Fin b)
    (h0 : p Sums.zero (ix2 r d) = 0)
    (ha : ∀ (t : Fin cfg0.N) s, p ((blocks m c t).added s) (ix2 r d) = p s (ix2 r d) + dotTile A B 256 t.val r.val d.val) :
    ∀ (n : ℕ) (h : n < cfg0.N), p (sumsAt m c n h) (ix2 r d) = dot A B (256 * (n + 1)) r.val d.val
  | 0, h => by
    rw [← dot_succ]
    refine (ha ⟨0, h⟩ _).trans (congrArg (· + _) (h0.trans ?_))
    unfold dot
    rw [Nat.mul_zero, Finset.range_zero, Finset.sum_empty]
  | n + 1, h => by
    rw [← dot_succ]
    exact (ha ⟨n + 1, h⟩ _).trans (congrArg (· + _) (summed p A B r d h0 ha n _))

/-- the last point has all 8192 rows' terms. -/
theorem sums_last {a b : ℕ} (p : Sums Ideal → (⟨2, ![a, b]⟩ : Shape).Idx → EReal) (A B : ℕ → ℕ → EReal)
    (h0 : ∀ (r : Fin a) (d : Fin b), p Sums.zero (ix2 r d) = 0)
    (ha : ∀ (t : Fin cfg0.N) s (r : Fin a) (d : Fin b), p ((blocks m c t).added s) (ix2 r d) = p s (ix2 r d) + dotTile A B 256 t.val r.val d.val)
    (t : Fin cfg0.N) (h : t.val % 32 = 31) (r : Fin a) (d : Fin b) : p (sumsAt m c t.val t.isLt) (ix2 r d) = dot A B 8192 r.val d.val := by
  have hN : t.val < 32 := lt_of_lt_of_eq t.isLt (show cfg0.N = 32 from N_0)
  rw [summed m c p A B r d (h0 r d) (fun t s => ha t s r d), show 256 * (t.val + 1) = 8192 by omega]

/-- A row block of one row. -/
theorem one_row {P : Fin 1 → Fin 1024 → Prop} (h : ∀ d, P 0 d) (r : Fin 1) (d : Fin 1024) : P r d := by
  rw [Subsingleton.elim r 0]
  exact h d

section Finals

/-- A block of finished rows in the array it goes to, -/
theorem row_entry {q : ℕ} (f : ℕ → ℕ → EReal) (X : (⟨2, ![256, q]⟩ : Shape).Idx → EReal) {u v t : ℕ} (e : u = t ∧ v = 0)
    (hX : ∀ (r : Fin 256) (k : Fin q), X (ix2 r k) = f (256 * t + r.val) k.val) (j : (⟨2, ![256, q]⟩ : Shape).Idx) :
    X j = f (u * 256 + 1 * (j 0).val) (v * q + 1 * (j 1).val) := by
  obtain ⟨rfl, rfl⟩ := e
  rw [show u * 256 + 1 * (j 0).val = 256 * u + (j 0).val by omega, show 0 * q + 1 * (j 1).val = (j 1).val by omega, ← hX (j 0) (j 1)]
  exact congrArg X (eq_ix2 j)

/-- and the block that has row `i`. -/
theorem row_mem {q u v i k : ℕ} (e : u = i / 256 ∧ v = 0) (h1 : k < q) :
    (u * 256 ≤ i ∧ i < u * 256 + 256) ∧ (v * q ≤ k ∧ k < v * q + q) := by
  obtain ⟨rfl, rfl⟩ := e
  omega

/-- A block that is the whole array. -/
theorem whole_entry {p q : ℕ} (f : ℕ → ℕ → EReal) (X : (⟨2, ![p, q]⟩ : Shape).Idx → EReal) {u v : ℕ} (e : u = 0 ∧ v = 0)
    (hX : ∀ (r : Fin p) (k : Fin q), X (ix2 r k) = f r.val k.val) (j : (⟨2, ![p, q]⟩ : Shape).Idx) :
    X j = f (u * p + 1 * (j 0).val) (v * q + 1 * (j 1).val) := by
  obtain ⟨rfl, rfl⟩ := e
  rw [show 0 * p + 1 * (j 0).val = (j 0).val by omega, show 0 * q + 1 * (j 1).val = (j 1).val by omega, ← hX (j 0) (j 1)]
  exact congrArg X (eq_ix2 j)

theorem whole_mem {p q u v i k : ℕ} (e : u = 0 ∧ v = 0) (h0 : i < p) (h1 : k < q) :
    (u * p ≤ i ∧ i < u * p + p) ∧ (v * q ≤ k ∧ k < v * q + q) := by
  obtain ⟨rfl, rfl⟩ := e
  omega

/-- The point that finishes a row, and the last point. -/
def pointOf (i : ℕ) (h : i < 8192) : Fin cfg0.N := ⟨i / 256, by rw [show cfg0.N = 32 from N_0]; omega⟩
def lastPoint : Fin cfg0.N := ⟨31, by rw [show cfg0.N = 32 from N_0]; omega⟩

theorem final14 : (dats m 0 c).arrAt 14 cfg0.N = (arr2 (vha (memArgs m c) (memD m c)) : (⟨2, ![8192, 512]⟩ : Shape).Idx → EReal) := by
  refine (dats m 0 c).arrAt_eq_of_cover 14 _ (fun t _ => ?_) (fun i => ?_)
  · funext j
    exact row_entry (vha (memArgs m c) (memD m c)) (blocks m c t).dha (ix_rows t).1 (fun r k => (dha_apply _ r k).trans
      (congrArg₂ dLocal (arg_eq m c t r k) ((reads0 m c t).dBranch_eq r k))) j
  · obtain ⟨t, ht⟩ : ∃ t, t = pointOf (i 0).val (i 0).isLt := ⟨_, rfl⟩
    refine ⟨t, flush0_14 t, ?_⟩
    show i ∈ ((View.whole main_v0_0).slice (win0_14.rect t)).set
    rw [View.set_slice_whole, Rect.mem_set_unit, ht]
    exact Fin.forall_fin_two.2 (row_mem (ix_rows _).1 (i 1).isLt)

theorem final15 : (dats m 0 c).arrAt 15 cfg0.N = (arr2 (vga (memArgs m c) (memD m c)) : (⟨2, ![8192, 512]⟩ : Shape).Idx → EReal) := by
  refine (dats m 0 c).arrAt_eq_of_cover 15 _ (fun t _ => ?_) (fun i => ?_)
  · funext j
    exact row_entry (vga (memArgs m c) (memD m c)) (blocks m c t).dga (ix_rows t).2.1 (fun r k => (dga_apply _ r k).trans
      (by rw [local_eq, arg_eq, (reads0 m c t).dBranch_eq]; rfl)) j
  · obtain ⟨t, ht⟩ : ∃ t, t = pointOf (i 0).val (i 0).isLt := ⟨_, rfl⟩
    refine ⟨t, flush0_15 t, ?_⟩
    show i ∈ ((View.whole main_v0_1).slice (win0_15.rect t)).set
    rw [View.set_slice_whole, Rect.mem_set_unit, ht]
    exact Fin.forall_fin_two.2 (row_mem (ix_rows _).2.1 (i 1).isLt)

theorem final16 : (dats m 0 c).arrAt 16 cfg0.N = (arr2 (dBranch (memArgs m c).g1 (memArgs m c).b1 (memArgs m c).w1 (memD m c)) : (⟨2, ![8192, 512]⟩ : Shape).Idx → EReal) := by
  refine (dats m 0 c).arrAt_eq_of_cover 16 _ (fun t _ => ?_) (fun i => ?_)
  · funext j
    exact row_entry _ (blocks m c t).dyb (ix_rows t).2.2.1 (fun r k => (dyb_apply _ r k).trans ((reads1 m c t).dBranch_eq r k)) j
  · obtain ⟨t, ht⟩ : ∃ t, t = pointOf (i 0).val (i 0).isLt := ⟨_, rfl⟩
    refine ⟨t, flush0_16 t, ?_⟩
    show i ∈ ((View.whole main_v0_2).slice (win0_16.rect t)).set
    rw [View.set_slice_whole, Rect.mem_set_unit, ht]
    exact Fin.forall_fin_two.2 (row_mem (ix_rows _).2.2.1 (i 1).isLt)

theorem final17 : (dats m 0 c).arrAt 17 cfg0.N = (arr2 (dBranch (memArgs m c).g2 (memArgs m c).b2 (memArgs m c).w2 (memD m c)) : (⟨2, ![8192, 512]⟩ : Shape).Idx → EReal) := by
  refine (dats m 0 c).arrAt_eq_of_cover 17 _ (fun t _ => ?_) (fun i => ?_)
  · funext j
    exact row_entry _ (blocks m c t).dyc (ix_rows t).2.2.2.1 (fun r k => (dyc_apply _ r k).trans ((reads2 m c t).dBranch_eq r k)) j
  · obtain ⟨t, ht⟩ : ∃ t, t = pointOf (i 0).val (i 0).isLt := ⟨_, rfl⟩
    refine ⟨t, flush0_17 t, ?_⟩
    show i ∈ ((View.whole main_v0_3).slice (win0_17.rect t)).set
    rw [View.set_slice_whole, Rect.mem_set_unit, ht]
    exact Fin.forall_fin_two.2 (row_mem (ix_rows _).2.2.2.1 (i 1).isLt)

theorem final18 : (dats m 0 c).arrAt 18 cfg0.N = (arr2 (dGate (memArgs m c).ya (memArgs m c).g0 (memArgs m c).b0 (memArgs m c).w0 (memD m c)) : (⟨2, ![8192, 1024]⟩ : Shape).Idx → EReal) := by
  refine (dats m 0 c).arrAt_eq_of_cover 18 _ (fun t _ => ?_) (fun i => ?_)
  · funext j
    exact row_entry _ (blocks m c t).dg0 (ix_rows t).2.2.2.2.1 (fun r k => (dg0_apply _ r k).trans ((reads0 m c t).dGate_eq r k)) j
  · obtain ⟨t, ht⟩ : ∃ t, t = pointOf (i 0).val (i 0).isLt := ⟨_, rfl⟩
    refine ⟨t, flush0_18 t, ?_⟩
    show i ∈ ((View.whole main_v0_4).slice (win0_18.rect t)).set
    rw [View.set_slice_whole, Rect.mem_set_unit, ht]
    exact Fin.forall_fin_two.2 (row_mem (ix_rows _).2.2.2.2.1 (i 1).isLt)

theorem final19 : (dats m 0 c).arrAt 19 cfg0.N = (arr2 (dGate (memArgs m c).yb (memArgs m c).g1 (memArgs m c).b1 (memArgs m c).w1 (memD m c)) : (⟨2, ![8192, 1024]⟩ : Shape).Idx → EReal) := by
  refine (dats m 0 c).arrAt_eq_of_cover 19 _ (fun t _ => ?_) (fun i => ?_)
  · funext j
    exact row_entry _ (blocks m c t).dg1 (ix_rows t).2.2.2.2.2.1 (fun r k => (dg1_apply _ r k).trans ((reads1 m c t).dGate_eq r k)) j
  · obtain ⟨t, ht⟩ : ∃ t, t = pointOf (i 0).val (i 0).isLt := ⟨_, rfl⟩
    refine ⟨t, flush0_19 t, ?_⟩
    show i ∈ ((View.whole main_v0_5).slice (win0_19.rect t)).set
    rw [View.set_slice_whole, Rect.mem_set_unit, ht]
    exact Fin.forall_fin_two.2 (row_mem (ix_rows _).2.2.2.2.2.1 (i 1).isLt)

theorem final20 : (dats m 0 c).arrAt 20 cfg0.N = (arr2 (dGate (memArgs m c).yc (memArgs m c).g2 (memArgs m c).b2 (memArgs m c).w2 (memD m c)) : (⟨2, ![8192, 1024]⟩ : Shape).Idx → EReal) := by
  refine (dats m 0 c).arrAt_eq_of_cover 20 _ (fun t _ => ?_) (fun i => ?_)
  · funext j
    exact row_entry _ (blocks m c t).dg2 (ix_rows t).2.2.2.2.2.2 (fun r k => (dg2_apply _ r k).trans ((reads2 m c t).dGate_eq r k)) j
  · obtain ⟨t, ht⟩ : ∃ t, t = pointOf (i 0).val (i 0).isLt := ⟨_, rfl⟩
    refine ⟨t, flush0_20 t, ?_⟩
    show i ∈ ((View.whole main_v0_6).slice (win0_20.rect t)).set
    rw [View.set_slice_whole, Rect.mem_set_unit, ht]
    exact Fin.forall_fin_two.2 (row_mem (ix_rows _).2.2.2.2.2.2 (i 1).isLt)

theorem final21 : (dats m 0 c).arrAt 21 cfg0.N = (arr2 (dMatrix (memArgs m c).ya (memArgs m c).g0 (memArgs m c).b0 (memD m c)) : (⟨2, ![512, 1024]⟩ : Shape).Idx → EReal) := by
  refine (dats m 0 c).arrAt_eq_of_cover 21 _ (fun t h => ?_) (fun i => ?_)
  · funext j
    exact whole_entry _ (sumsAt m c t.val t.isLt).w0 (ix_sums t).1 (sums_last m c (fun s => s.w0) _ _ (fun r d => (zero_w r d).1)
      (fun t s r d => (added_w0 _ s r d).trans (congrArg (_ + ·) ((reads0 m c t).dMatrix_eq r d)))
      t ((flush0_21 t).mp h)) j
  · refine ⟨lastPoint, (flush0_21 _).mpr rfl, ?_⟩
    show i ∈ ((View.whole main_v0_7).slice (win0_21.rect lastPoint)).set
    rw [View.set_slice_whole, Rect.mem_set_unit]
    exact Fin.forall_fin_two.2 (whole_mem (ix_sums lastPoint).1 (i 0).isLt (i 1).isLt)

theorem final22 : (dats m 0 c).arrAt 22 cfg0.N = (arr2 (dMatrix (memArgs m c).yb (memArgs m c).g1 (memArgs m c).b1 (memD m c)) : (⟨2, ![512, 1024]⟩ : Shape).Idx → EReal) := by
  refine (dats m 0 c).arrAt_eq_of_cover 22 _ (fun t h => ?_) (fun i => ?_)
  · funext j
    exact whole_entry _ (sumsAt m c t.val t.isLt).w1 (ix_sums t).2.1 (sums_last m c (fun s => s.w1) _ _ (fun r d => (zero_w r d).2.1)
      (fun t s r d => (added_w1 _ s r d).trans (congrArg (_ + ·) ((reads1 m c t).dMatrix_eq r d)))
      t ((flush0_22 t).mp h)) j
  · refine ⟨lastPoint, (flush0_22 _).mpr rfl, ?_⟩
    show i ∈ ((View.whole main_v0_8).slice (win0_22.rect lastPoint)).set
    rw [View.set_slice_whole, Rect.mem_set_unit]
    exact Fin.forall_fin_two.2 (whole_mem (ix_sums lastPoint).2.1 (i 0).isLt (i 1).isLt)

theorem final23 : (dats m 0 c).arrAt 23 cfg0.N = (arr2 (dMatrix (memArgs m c).yc (memArgs m c).g2 (memArgs m c).b2 (memD m c)) : (⟨2, ![512, 1024]⟩ : Shape).Idx → EReal) := by
  refine (dats m 0 c).arrAt_eq_of_cover 23 _ (fun t h => ?_) (fun i => ?_)
  · funext j
    exact whole_entry _ (sumsAt m c t.val t.isLt).w2 (ix_sums t).2.2.1 (sums_last m c (fun s => s.w2) _ _ (fun r d => (zero_w r d).2.2)
      (fun t s r d => (added_w2 _ s r d).trans (congrArg (_ + ·) ((reads2 m c t).dMatrix_eq r d)))
      t ((flush0_23 t).mp h)) j
  · refine ⟨lastPoint, (flush0_23 _).mpr rfl, ?_⟩
    show i ∈ ((View.whole main_v0_9).slice (win0_23.rect lastPoint)).set
    rw [View.set_slice_whole, Rect.mem_set_unit]
    exact Fin.forall_fin_two.2 (whole_mem (ix_sums lastPoint).2.2.1 (i 0).isLt (i 1).isLt)

theorem final24 : (dats m 0 c).arrAt 24 cfg0.N = (arr2 (dBias (memArgs m c).ya (memArgs m c).g0 (memArgs m c).b0 (memArgs m c).w0 (memD m c)) : (⟨2, ![1, 1024]⟩ : Shape).Idx → EReal) := by
  refine (dats m 0 c).arrAt_eq_of_cover 24 _ (fun t h => ?_) (fun i => ?_)
  · funext j
    exact whole_entry _ (sumsAt m c t.val t.isLt).b0 (ix_sums t).2.2.2.1 (sums_last m c (fun s => s.b0) _ _ (one_row fun d => (zero_b d).1)
      (fun t s => one_row fun d => (added_b0 _ s d).trans (congrArg (_ + ·) ((reads0 m c t).dBias_eq d)))
      t ((flush0_24 t).mp h)) j
  · refine ⟨lastPoint, (flush0_24 _).mpr rfl, ?_⟩
    show i ∈ ((View.whole main_v0_10).slice (win0_24.rect lastPoint)).set
    rw [View.set_slice_whole, Rect.mem_set_unit]
    exact Fin.forall_fin_two.2 (whole_mem (ix_sums lastPoint).2.2.2.1 (i 0).isLt (i 1).isLt)

theorem final25 : (dats m 0 c).arrAt 25 cfg0.N = (arr2 (dBias (memArgs m c).yb (memArgs m c).g1 (memArgs m c).b1 (memArgs m c).w1 (memD m c)) : (⟨2, ![1, 1024]⟩ : Shape).Idx → EReal) := by
  refine (dats m 0 c).arrAt_eq_of_cover 25 _ (fun t h => ?_) (fun i => ?_)
  · funext j
    exact whole_entry _ (sumsAt m c t.val t.isLt).b1 (ix_sums t).2.2.2.2.1 (sums_last m c (fun s => s.b1) _ _ (one_row fun d => (zero_b d).2.1)
      (fun t s => one_row fun d => (added_b1 _ s d).trans (congrArg (_ + ·) ((reads1 m c t).dBias_eq d)))
      t ((flush0_25 t).mp h)) j
  · refine ⟨lastPoint, (flush0_25 _).mpr rfl, ?_⟩
    show i ∈ ((View.whole main_v0_11).slice (win0_25.rect lastPoint)).set
    rw [View.set_slice_whole, Rect.mem_set_unit]
    exact Fin.forall_fin_two.2 (whole_mem (ix_sums lastPoint).2.2.2.2.1 (i 0).isLt (i 1).isLt)

theorem final26 : (dats m 0 c).arrAt 26 cfg0.N = (arr2 (dBias (memArgs m c).yc (memArgs m c).g2 (memArgs m c).b2 (memArgs m c).w2 (memD m c)) : (⟨2, ![1, 1024]⟩ : Shape).Idx → EReal) := by
  refine (dats m 0 c).arrAt_eq_of_cover 26 _ (fun t h => ?_) (fun i => ?_)
  · funext j
    exact whole_entry _ (sumsAt m c t.val t.isLt).b2 (ix_sums t).2.2.2.2.2 (sums_last m c (fun s => s.b2) _ _ (one_row fun d => (zero_b d).2.2)
      (fun t s => one_row fun d => (added_b2 _ s d).trans (congrArg (_ + ·) ((reads2 m c t).dBias_eq d)))
      t ((flush0_26 t).mp h)) j
  · refine ⟨lastPoint, (flush0_26 _).mpr rfl, ?_⟩
    show i ∈ ((View.whole main_v0_12).slice (win0_26.rect lastPoint)).set
    rw [View.set_slice_whole, Rect.mem_set_unit]
    exact Fin.forall_fin_two.2 (whole_mem (ix_sums lastPoint).2.2.2.2.2 (i 0).isLt (i 1).isLt)

end Finals

/-! ## The reference -/

section Reference

variable (m' : (ℓ : Loc Cert.MergeBRefIdeal.nD Cert.MergeBRefIdeal.τ Cert.MergeBRefIdeal.sig) → Buf (Elt Ideal) ℓ) (ρ' : Dev Cert.MergeBRefIdeal.nD → PrngReg)

abbrev refArgs (c : Dev Cert.MergeBRefIdeal.nD) : Args := args (m' ((c.tc : Thread Cert.MergeBRefIdeal.nD Cert.MergeBRefIdeal.τ).loc Cert.MergeBRefIdeal.main_arg0)) (m' ((c.tc : Thread Cert.MergeBRefIdeal.nD Cert.MergeBRefIdeal.τ).loc Cert.MergeBRefIdeal.main_arg1)) (m' ((c.tc : Thread Cert.MergeBRefIdeal.nD Cert.MergeBRefIdeal.τ).loc Cert.MergeBRefIdeal.main_arg2)) (m' ((c.tc : Thread Cert.MergeBRefIdeal.nD Cert.MergeBRefIdeal.τ).loc Cert.MergeBRefIdeal.main_arg3)) (m' ((c.tc : Thread Cert.MergeBRefIdeal.nD Cert.MergeBRefIdeal.τ).loc Cert.MergeBRefIdeal.main_arg4)) (m' ((c.tc : Thread Cert.MergeBRefIdeal.nD Cert.MergeBRefIdeal.τ).loc Cert.MergeBRefIdeal.main_arg5)) (m' ((c.tc : Thread Cert.MergeBRefIdeal.nD Cert.MergeBRefIdeal.τ).loc Cert.MergeBRefIdeal.main_arg6)) (m' ((c.tc : Thread Cert.MergeBRefIdeal.nD Cert.MergeBRefIdeal.τ).loc Cert.MergeBRefIdeal.main_arg7)) (m' ((c.tc : Thread Cert.MergeBRefIdeal.nD Cert.MergeBRefIdeal.τ).loc Cert.MergeBRefIdeal.main_arg8)) (m' ((c.tc : Thread Cert.MergeBRefIdeal.nD Cert.MergeBRefIdeal.τ).loc Cert.MergeBRefIdeal.main_arg9))
abbrev refD (c : Dev Cert.MergeBRefIdeal.nD) : ℕ → ℕ → EReal := at2 (m' ((c.tc : Thread Cert.MergeBRefIdeal.nD Cert.MergeBRefIdeal.τ).loc Cert.MergeBRefIdeal.main_arg10) : FVec Ideal wide .f32)

theorem reference_run : θ_run (Cert.MergeBRefIdeal.defs (F := Ideal)) (onTc (τ := Cert.MergeBRefIdeal.τ) (Cert.MergeBRefIdeal.main (F := Ideal)))
    ⟨m', fun _ => 0, ρ'⟩ (fun r => ∀ c : Dev Cert.MergeBRefIdeal.nD,
      r.2.mem ((c.tc : Thread Cert.MergeBRefIdeal.nD Cert.MergeBRefIdeal.τ).loc Cert.MergeBRefIdeal.main_v91) = (arr2 (vha (refArgs m' c) (refD m' c)) : (⟨2, ![8192, 512]⟩ : Shape).Idx → EReal)
      ∧ r.2.mem ((c.tc : Thread Cert.MergeBRefIdeal.nD Cert.MergeBRefIdeal.τ).loc Cert.MergeBRefIdeal.main_v108) = (arr2 (vga (refArgs m' c) (refD m' c)) : (⟨2, ![8192, 512]⟩ : Shape).Idx → EReal)
      ∧ r.2.mem ((c.tc : Thread Cert.MergeBRefIdeal.nD Cert.MergeBRefIdeal.τ).loc Cert.MergeBRefIdeal.main_v78) = (arr2 (dBranch (refArgs m' c).g1 (refArgs m' c).b1 (refArgs m' c).w1 (refD m' c)) : (⟨2, ![8192, 512]⟩ : Shape).Idx → EReal)
      ∧ r.2.mem ((c.tc : Thread Cert.MergeBRefIdeal.nD Cert.MergeBRefIdeal.τ).loc Cert.MergeBRefIdeal.main_v70) = (arr2 (dBranch (refArgs m' c).g2 (refArgs m' c).b2 (refArgs m' c).w2 (refD m' c)) : (⟨2, ![8192, 512]⟩ : Shape).Idx → EReal)
      ∧ r.2.mem ((c.tc : Thread Cert.MergeBRefIdeal.nD Cert.MergeBRefIdeal.τ).loc Cert.MergeBRefIdeal.main_v87) = (arr2 (dGate (refArgs m' c).ya (refArgs m' c).g0 (refArgs m' c).b0 (refArgs m' c).w0 (refD m' c)) : (⟨2, ![8192, 1024]⟩ : Shape).Idx → EReal)
      ∧ r.2.mem ((c.tc : Thread Cert.MergeBRefIdeal.nD Cert.MergeBRefIdeal.τ).loc Cert.MergeBRefIdeal.main_v79) = (arr2 (dGate (refArgs m' c).yb (refArgs m' c).g1 (refArgs m' c).b1 (refArgs m' c).w1 (refD m' c)) : (⟨2, ![8192, 1024]⟩ : Shape).Idx → EReal)
      ∧ r.2.mem ((c.tc : Thread Cert.MergeBRefIdeal.nD Cert.MergeBRefIdeal.τ).loc Cert.MergeBRefIdeal.main_v71) = (arr2 (dGate (refArgs m' c).yc (refArgs m' c).g2 (refArgs m' c).b2 (refArgs m' c).w2 (refD m' c)) : (⟨2, ![8192, 1024]⟩ : Shape).Idx → EReal)
      ∧ r.2.mem ((c.tc : Thread Cert.MergeBRefIdeal.nD Cert.MergeBRefIdeal.τ).loc Cert.MergeBRefIdeal.main_v85) = (arr2 (dMatrix (refArgs m' c).ya (refArgs m' c).g0 (refArgs m' c).b0 (refD m' c)) : (⟨2, ![512, 1024]⟩ : Shape).Idx → EReal)
      ∧ r.2.mem ((c.tc : Thread Cert.MergeBRefIdeal.nD Cert.MergeBRefIdeal.τ).loc Cert.MergeBRefIdeal.main_v77) = (arr2 (dMatrix (refArgs m' c).yb (refArgs m' c).g1 (refArgs m' c).b1 (refD m' c)) : (⟨2, ![512, 1024]⟩ : Shape).Idx → EReal)
      ∧ r.2.mem ((c.tc : Thread Cert.MergeBRefIdeal.nD Cert.MergeBRefIdeal.τ).loc Cert.MergeBRefIdeal.main_v69) = (arr2 (dMatrix (refArgs m' c).yc (refArgs m' c).g2 (refArgs m' c).b2 (refD m' c)) : (⟨2, ![512, 1024]⟩ : Shape).Idx → EReal)
      ∧ r.2.mem ((c.tc : Thread Cert.MergeBRefIdeal.nD Cert.MergeBRefIdeal.τ).loc Cert.MergeBRefIdeal.main_v89) = (arr2 (dBias (refArgs m' c).ya (refArgs m' c).g0 (refArgs m' c).b0 (refArgs m' c).w0 (refD m' c)) : (⟨2, ![1, 1024]⟩ : Shape).Idx → EReal)
      ∧ r.2.mem ((c.tc : Thread Cert.MergeBRefIdeal.nD Cert.MergeBRefIdeal.τ).loc Cert.MergeBRefIdeal.main_v81) = (arr2 (dBias (refArgs m' c).yb (refArgs m' c).g1 (refArgs m' c).b1 (refArgs m' c).w1 (refD m' c)) : (⟨2, ![1, 1024]⟩ : Shape).Idx → EReal)
      ∧ r.2.mem ((c.tc : Thread Cert.MergeBRefIdeal.nD Cert.MergeBRefIdeal.τ).loc Cert.MergeBRefIdeal.main_v73) = (arr2 (dBias (refArgs m' c).yc (refArgs m' c).g2 (refArgs m' c).b2 (refArgs m' c).w2 (refD m' c)) : (⟨2, ![1, 1024]⟩ : Shape).Idx → EReal)
      ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3)
      ∧ r.2.mem ((c.tc : Thread Cert.MergeBRefIdeal.nD Cert.MergeBRefIdeal.τ).loc Cert.MergeBRefIdeal.main_arg4) = m' ((c.tc : Thread Cert.MergeBRefIdeal.nD Cert.MergeBRefIdeal.τ).loc Cert.MergeBRefIdeal.main_arg4)
      ∧ r.2.mem ((c.tc : Thread Cert.MergeBRefIdeal.nD Cert.MergeBRefIdeal.τ).loc Cert.MergeBRefIdeal.main_arg5) = m' ((c.tc : Thread Cert.MergeBRefIdeal.nD Cert.MergeBRefIdeal.τ).loc Cert.MergeBRefIdeal.main_arg5)
      ∧ r.2.mem ((c.tc : Thread Cert.MergeBRefIdeal.nD Cert.MergeBRefIdeal.τ).loc Cert.MergeBRefIdeal.main_arg6) = m' ((c.tc : Thread Cert.MergeBRefIdeal.nD Cert.MergeBRefIdeal.τ).loc Cert.MergeBRefIdeal.main_arg6)
      ∧ r.2.mem ((c.tc : Thread Cert.MergeBRefIdeal.nD Cert.MergeBRefIdeal.τ).loc Cert.MergeBRefIdeal.main_arg7) = m' ((c.tc : Thread Cert.MergeBRefIdeal.nD Cert.MergeBRefIdeal.τ).loc Cert.MergeBRefIdeal.main_arg7)
      ∧ r.2.mem ((c.tc : Thread Cert.MergeBRefIdeal.nD Cert.MergeBRefIdeal.τ).loc Cert.MergeBRefIdeal.main_arg8) = m' ((c.tc : Thread Cert.MergeBRefIdeal.nD Cert.MergeBRefIdeal.τ).loc Cert.MergeBRefIdeal.main_arg8)
      ∧ r.2.mem ((c.tc : Thread Cert.MergeBRefIdeal.nD Cert.MergeBRefIdeal.τ).loc Cert.MergeBRefIdeal.main_arg9) = m' ((c.tc : Thread Cert.MergeBRefIdeal.nD Cert.MergeBRefIdeal.τ).loc Cert.MergeBRefIdeal.main_arg9)
      ∧ r.2.mem ((c.tc : Thread Cert.MergeBRefIdeal.nD Cert.MergeBRefIdeal.τ).loc Cert.MergeBRefIdeal.main_arg10) = m' ((c.tc : Thread Cert.MergeBRefIdeal.nD Cert.MergeBRefIdeal.τ).loc Cert.MergeBRefIdeal.main_arg10)) := by
  refine (θ_run Cert.MergeBRefIdeal.defs _ _).mono (fun r h c => ?_) (Cert.MergeBRefIdeal.Value.run (F := Ideal) m' ρ')
  obtain ⟨e0, e1, e2, e3, e4, e5, e6, e7, e8, e9, e10, e11, e12, kept⟩ := h c
  let H : FVec Ideal narrow .f32 := m' ((c.tc : Thread Cert.MergeBRefIdeal.nD Cert.MergeBRefIdeal.τ).loc Cert.MergeBRefIdeal.main_arg0)
  let P : FVec Ideal ⟨2, ![8192, 7168]⟩ .f32 := m' ((c.tc : Thread Cert.MergeBRefIdeal.nD Cert.MergeBRefIdeal.τ).loc Cert.MergeBRefIdeal.main_arg1)
  let YB : FVec Ideal narrow .f32 := m' ((c.tc : Thread Cert.MergeBRefIdeal.nD Cert.MergeBRefIdeal.τ).loc Cert.MergeBRefIdeal.main_arg2)
  let YC : FVec Ideal narrow .f32 := m' ((c.tc : Thread Cert.MergeBRefIdeal.nD Cert.MergeBRefIdeal.τ).loc Cert.MergeBRefIdeal.main_arg3)
  let W0 : FVec Ideal ⟨2, ![512, 1024]⟩ .f32 := m' ((c.tc : Thread Cert.MergeBRefIdeal.nD Cert.MergeBRefIdeal.τ).loc Cert.MergeBRefIdeal.main_arg4)
  let W1 : FVec Ideal ⟨2, ![512, 1024]⟩ .f32 := m' ((c.tc : Thread Cert.MergeBRefIdeal.nD Cert.MergeBRefIdeal.τ).loc Cert.MergeBRefIdeal.main_arg5)
  let W2 : FVec Ideal ⟨2, ![512, 1024]⟩ .f32 := m' ((c.tc : Thread Cert.MergeBRefIdeal.nD Cert.MergeBRefIdeal.τ).loc Cert.MergeBRefIdeal.main_arg6)
  let B0 : FVec Ideal ⟨2, ![1, 1024]⟩ .f32 := m' ((c.tc : Thread Cert.MergeBRefIdeal.nD Cert.MergeBRefIdeal.τ).loc Cert.MergeBRefIdeal.main_arg7)
  let B1 : FVec Ideal ⟨2, ![1, 1024]⟩ .f32 := m' ((c.tc : Thread Cert.MergeBRefIdeal.nD Cert.MergeBRefIdeal.τ).loc Cert.MergeBRefIdeal.main_arg8)
  let B2 : FVec Ideal ⟨2, ![1, 1024]⟩ .f32 := m' ((c.tc : Thread Cert.MergeBRefIdeal.nD Cert.MergeBRefIdeal.τ).loc Cert.MergeBRefIdeal.main_arg9)
  let D : FVec Ideal wide .f32 := m' ((c.tc : Thread Cert.MergeBRefIdeal.nD Cert.MergeBRefIdeal.τ).loc Cert.MergeBRefIdeal.main_arg10)
  let x : Args := refArgs m' c
  have s0 : ∀ (r : Fin 8192) (d : Fin 1024), hostGate P B0 0 (by decide) (ix2 r d) = gate (x.g0 r.val d.val) (x.b0 0 d.val) := fun r d =>
    (hostGate_apply P B0 0 _ r d).trans (by rw [Nat.zero_add]; rfl)
  have s1 : ∀ (r : Fin 8192) (d : Fin 1024), hostGate P B1 1024 (by decide) (ix2 r d) = gate (x.g1 r.val d.val) (x.b1 0 d.val) :=
    hostGate_apply P B1 1024 _
  have s2 : ∀ (r : Fin 8192) (d : Fin 1024), hostGate P B2 2048 (by decide) (ix2 r d) = gate (x.g2 r.val d.val) (x.b2 0 d.val) :=
    hostGate_apply P B2 2048 _
  have y0 : ∀ (r : Fin 8192) (k : Fin 512), hostBranch H P (ix2 r k) = x.ya r.val k.val := hostBranch_apply H P
  have y1 : ∀ (r : Fin 8192) (k : Fin 512), YB (ix2 r k) = x.yb r.val k.val := fun r k => eq_at2 YB _ _ _ rfl rfl
  have y2 : ∀ (r : Fin 8192) (k : Fin 512), YC (ix2 r k) = x.yc r.val k.val := fun r k => eq_at2 YC _ _ _ rfl rfl
  have d0 := ref_dBranch _ W0 D s0 Cert.MergeBRefIdeal.Gen.shapeCasts_S8192x1024_S8192x1024
  have g0 := ref_dGate (hostBranch H P) _ W0 D y0 s0 Cert.MergeBRefIdeal.Gen.shapeCasts_S8192x1024_S8192x1024 (by decide)
  have g1 := ref_dGate YB _ W1 D y1 s1 Cert.MergeBRefIdeal.Gen.shapeCasts_S8192x1024_S8192x1024 (by decide)
  have g2 := ref_dGate YC _ W2 D y2 s2 Cert.MergeBRefIdeal.Gen.shapeCasts_S8192x1024_S8192x1024 (by decide)
  refine ⟨e0.trans (eq_arr2 _ (vha x (at2 D)) (ref_dLocal P _ d0)), e1.trans (eq_arr2 _ (vga x (at2 D)) (ref_dArg H P _ d0)),
    e2.trans (eq_arr2 _ _ (ref_dBranch _ W1 D s1 _)), e3.trans (eq_arr2 _ _ (ref_dBranch _ W2 D s2 _)),
    e4.trans (eq_arr2 _ _ g0), e5.trans (eq_arr2 _ _ g1), e6.trans (eq_arr2 _ _ g2),
    e7.trans (ref_dMatrix (hostBranch H P) _ D y0 s0 _ _), e8.trans (ref_dMatrix YB _ D y1 s1 _ _), e9.trans (ref_dMatrix YC _ D y2 s2 _ _),
    e10.trans (ref_dBias _ g0 _ _ _), e11.trans (ref_dBias _ g1 _ _ _), e12.trans (ref_dBias _ g2 _ _ _), kept⟩

end Reference

theorem algebraic : Cert.algebraic_MergeBIdeal_MergeBRefIdeal := by
  intro m ρ m' ρ' _ hagree
  refine ⟨fun c => (arr2 (vha (memArgs m c) (memD m c)) : (⟨2, ![8192, 512]⟩ : Shape).Idx → EReal), fun c => (arr2 (vga (memArgs m c) (memD m c)) : (⟨2, ![8192, 512]⟩ : Shape).Idx → EReal), fun c => (arr2 (dBranch (memArgs m c).g1 (memArgs m c).b1 (memArgs m c).w1 (memD m c)) : (⟨2, ![8192, 512]⟩ : Shape).Idx → EReal), fun c => (arr2 (dBranch (memArgs m c).g2 (memArgs m c).b2 (memArgs m c).w2 (memD m c)) : (⟨2, ![8192, 512]⟩ : Shape).Idx → EReal), fun c => (arr2 (dGate (memArgs m c).ya (memArgs m c).g0 (memArgs m c).b0 (memArgs m c).w0 (memD m c)) : (⟨2, ![8192, 1024]⟩ : Shape).Idx → EReal), fun c => (arr2 (dGate (memArgs m c).yb (memArgs m c).g1 (memArgs m c).b1 (memArgs m c).w1 (memD m c)) : (⟨2, ![8192, 1024]⟩ : Shape).Idx → EReal), fun c => (arr2 (dGate (memArgs m c).yc (memArgs m c).g2 (memArgs m c).b2 (memArgs m c).w2 (memD m c)) : (⟨2, ![8192, 1024]⟩ : Shape).Idx → EReal), fun c => (arr2 (dMatrix (memArgs m c).ya (memArgs m c).g0 (memArgs m c).b0 (memD m c)) : (⟨2, ![512, 1024]⟩ : Shape).Idx → EReal), fun c => (arr2 (dMatrix (memArgs m c).yb (memArgs m c).g1 (memArgs m c).b1 (memD m c)) : (⟨2, ![512, 1024]⟩ : Shape).Idx → EReal), fun c => (arr2 (dMatrix (memArgs m c).yc (memArgs m c).g2 (memArgs m c).b2 (memD m c)) : (⟨2, ![512, 1024]⟩ : Shape).Idx → EReal), fun c => (arr2 (dBias (memArgs m c).ya (memArgs m c).g0 (memArgs m c).b0 (memArgs m c).w0 (memD m c)) : (⟨2, ![1, 1024]⟩ : Shape).Idx → EReal), fun c => (arr2 (dBias (memArgs m c).yb (memArgs m c).g1 (memArgs m c).b1 (memArgs m c).w1 (memD m c)) : (⟨2, ![1, 1024]⟩ : Shape).Idx → EReal), fun c => (arr2 (dBias (memArgs m c).yc (memArgs m c).g2 (memArgs m c).b2 (memArgs m c).w2 (memD m c)) : (⟨2, ![1, 1024]⟩ : Shape).Idx → EReal), ?_, ?_⟩
  · refine (θ_run defs _ _).mono (fun r h c => ?_) (θ_run_and (run_main m ρ) (frame_of m ρ (dats m) (A_eq m) (run_main m ρ)))
    exact ⟨((h.1 c).1 14).trans (final14 m c), ((h.1 c).1 15).trans (final15 m c), ((h.1 c).1 16).trans (final16 m c), ((h.1 c).1 17).trans (final17 m c), ((h.1 c).1 18).trans (final18 m c), ((h.1 c).1 19).trans (final19 m c), ((h.1 c).1 20).trans (final20 m c), ((h.1 c).1 21).trans (final21 m c), ((h.1 c).1 22).trans (final22 m c), ((h.1 c).1 23).trans (final23 m c), ((h.1 c).1 24).trans (final24 m c), ((h.1 c).1 25).trans (final25 m c), ((h.1 c).1 26).trans (final26 m c), h.2 c⟩
  · refine (θ_run Cert.MergeBRefIdeal.defs _ _).mono (fun r h c => ?_) (reference_run m' ρ')
    obtain ⟨a0, a1, a2, a3, a4, a5, a6, a7, a8, a9, a10⟩ := hagree c
    have ex : refArgs m' c = memArgs m c := by
      unfold refArgs memArgs
      rw [a0, a1, a2, a3, a4, a5, a6, a7, a8, a9]
    have ed : refD m' c = memD m c := congrArg (fun X : FVec Ideal wide .f32 => at2 X) a10
    have e := h c
    rw [ex, ed] at e
    exact e

end Cert.Proof.MergeB

end
-- ==== Proof.AttnF.lean ====
/- Hand-written: THE ATTENTION INTO THE MEMORY TOKENS (`attn_fwd`). Grid point `t` is batch `t / 32`, head `t / 8 % 4`, query tile
   `t % 8`, and leaves that tile's 512 finished rows of the head's 256 columns. Scores and softmax weights are AttnRow.lean's
   and AttnSpec.lean's, as for the gradient. -/
module

public import proofs.«01_k».proof.Defs
public import proofs.«01_k».proof.Proof.AttnSpec
public import proofs.«01_k».proof.Proof.Product
public import proofs.«01_k».proof.Proof.Gen.AttnF.Frame
public import proofs.«01_k».proof.Proof.Gen.AttnFIdeal.Frame
public import proofs.«01_k».proof.Proof.Gen.AttnFIdeal.Value
public import proofs.«01_k».proof.Proof.Gen.AttnFRefIdeal.Run
public import proofs.«01_k».proof.Proof.Gen.AttnFRefIdeal.Read
public import Idealize.ShloMosaic.Lib.Quiescent

@[expose] public section

set_option maxRecDepth 16384

noncomputable section

namespace Cert.Proof.AttnF

open Idealize.ShloMosaic Idealize.ShloMosaic.TcCoe Idealize.SL.Sem
open Cert.Proof.Attn
open scoped BigOperators

/-- The attention at row `s` of batch `b`, column `d` of head `h`: the values' sum, weighted by the softmax of the row's scores. -/
def mixed (Q : (⟨2, ![8192, 1024]⟩ : Shape).Idx → EReal) (KV : (⟨2, ![512, 2048]⟩ : Shape).Idx → EReal) (b h s d : ℕ) : EReal :=
  ∑ j : Fin 256, prob (score Q KV b h s) j * at2 KV (256 * b + j) (1024 + 256 * h + d)

/-- The same as an array. -/
def result (Q : (⟨2, ![8192, 1024]⟩ : Shape).Idx → EReal) (KV : (⟨2, ![512, 2048]⟩ : Shape).Idx → EReal)
    (i : (⟨2, ![8192, 1024]⟩ : Shape).Idx) : EReal :=
  mixed Q KV ((i 0).val / 4096) ((i 1).val / 256) ((i 0).val % 4096) ((i 1).val % 256)

section Kernel

open Cert.AttnFIdeal Cert.AttnFIdeal.Gen Cert.AttnFIdeal.Value

/-! ## What a point leaves -/

section Tile

variable (q : Vec Ideal S512x256 .bf16) (k v : Vec Ideal S256x256 .f32)

/-- A tile's scores, their rows' maxima, and the exponentials of the scores less the maxima, as the body computes them. -/
def tileScores : FVec Ideal S512x256 .f32 :=
  mulf (matmul dot_S512x256_S256x256_S512x256_1_1_0_0_n_n none (truncf .bf16 (extf .f32 q bitsLt_bf16_f32) bitsLt_bf16_f32)
    (truncf .bf16 k bitsLt_bf16_f32) (constant S512x256 .f32 0x00000000#32)) (broadcast S512x256 (Scalar.ofBits .f32 0x3D800000#32))
def tileTop : FVec Ideal S512 .f32 :=
  multiReduction .maximumf [1] S512 (tileScores q k) 0xFF800000#32 reduces_S512x256_S512 (.inl rfl) rfl
def tileExp : FVec Ideal S512x256 .f32 :=
  exp (subf (tileScores q k) (broadcastTo S512x256 (shapeCast S512x1 (tileTop q k) shapeCasts_S512_S512x1) broadcasts_S512x1_S512x256))

/-- The scores of tile row `r`. -/
def rowScore (r : Fin 512) (j : Fin 256) : EReal :=
  (∑ d : Fin 256, q (ix2 r d) * k (ix2 j d)) * Ideal.ofBits .f32 0x3D800000#32

theorem tileScores_apply (r : Fin 512) (j : Fin 256) : tileScores q k (ix2 r j) = rowScore q k r j := by
  unfold tileScores rowScore
  pointwise

theorem tileTop_apply (r : Fin 512) : tileTop q k (ix1 r) = top (rowScore q k r) := by
  refine (Ideal.multiReduction_maximumf_single (tileScores q k) _ reduces_S512x256_S512 (.inl rfl) rfl (ix1 r)).trans ?_
  refine congrArg (Finset.univ.fold max _) (funext fun j => ?_)
  refine Eq.trans (congrArg (tileScores q k) (funext fun a => Fin.ext ?_)) (tileScores_apply q k r j)
  match a with
  | ⟨0, _⟩ => rfl
  | ⟨1, _⟩ => rfl

theorem tileExp_apply (r : Fin 512) (j : Fin 256) : tileExp q k (ix2 r j) = ex (rowScore q k r) j := by
  unfold tileExp
  pointwise
  rw [tileScores_apply, tileTop_apply]
  rfl

theorem pay_eq : k0_pay1 q k v = truncf .bf16 (matmul dot_S512x256_S256x256_S512x256_1_0_0_1_n_n none
    (truncf .bf16 (divf (tileExp q k) (broadcastTo S512x256 (shapeCast S512x1 (multiReduction .add [1] S512 (tileExp q k) 0x00000000#32
      reduces_S512x256_S512 (.inl rfl) rfl) shapeCasts_S512_S512x1) broadcasts_S512x1_S512x256)) bitsLt_bf16_f32)
    (truncf .bf16 v bitsLt_bf16_f32) (constant S512x256 .f32 0x00000000#32)) bitsLt_bf16_f32 := rfl

theorem out_apply (r : Fin 512) (d : Fin 256) :
    out0_3 (F := Ideal) q k v (ix2 r d) = ∑ j : Fin 256, prob (rowScore q k r) j * v (ix2 j d) := by
  unfold out0_3
  rw [View.canon_unit_zero zero_pair]
  simp only [View.ld_unit_zero (S := S512x256) zero_pair, View.ld_unit_zero (S := S256x256) zero_pair]
  rw [pay_eq]
  pointwise
  simp only [tileExp_apply]
  rfl

end Tile

variable (m : (ℓ : Loc nD τ sig) → Buf (Elt Ideal) ℓ) (ρ : Dev nD → PrngReg) (c : Dev nD)

abbrev argQ : (⟨2, ![8192, 1024]⟩ : Shape).Idx → EReal := m ((c : Thread nD τ).loc main_arg0)
abbrev argKV : (⟨2, ![512, 2048]⟩ : Shape).Idx → EReal := m ((c : Thread nD τ).loc main_arg1)

/-! ## The blocks -/

theorem ix0_0 : ∀ t : Fin cfg0.N, win0_0.index t (0 : Fin 2) = t.val / 32 * 8 + t.val % 8 ∧ win0_0.index t (1 : Fin 2) = t.val / 8 % 4 :=
  (by decide +kernel : ∀ t : Fin grid0.N, _)
theorem ix0_1 : ∀ t : Fin cfg0.N, win0_1.index t (0 : Fin 2) = t.val / 32 ∧ win0_1.index t (1 : Fin 2) = t.val / 8 % 4 :=
  (by decide +kernel : ∀ t : Fin grid0.N, _)
theorem ix0_2 : ∀ t : Fin cfg0.N, win0_2.index t (0 : Fin 2) = t.val / 32 ∧ win0_2.index t (1 : Fin 2) = 4 + t.val / 8 % 4 :=
  (by decide +kernel : ∀ t : Fin grid0.N, _)
theorem ix0_3 : ∀ t : Fin cfg0.N, win0_3.index t (0 : Fin 2) = t.val / 32 * 8 + t.val % 8 ∧ win0_3.index t (1 : Fin 2) = t.val / 8 % 4 :=
  (by decide +kernel : ∀ t : Fin grid0.N, _)

theorem blk0 (t : Fin cfg0.N) (r : Fin 512) (d : Fin 256) : (iblk m c 0 t : Vec Ideal S512x256 .bf16) (ix2 r d)
    = at2 (argQ m c) (4096 * (t.val / 32) + (512 * (t.val % 8) + r.val)) (256 * (t.val / 8 % 4) + d.val) := by
  obtain ⟨e0, e1⟩ := ix0_0 t
  refine eq_at2 (argQ m c) (((cfg0.win 0).blk t).view.emb (ix2 r d)) _ _ ?_ ?_
  · show win0_0.index t (0 : Fin 2) * 512 + 1 * r.val = _; omega
  · show win0_0.index t (1 : Fin 2) * 256 + 1 * d.val = _; omega

theorem blk1 (t : Fin cfg0.N) (r : Fin 256) (d : Fin 256) : (iblk m c 1 t : Vec Ideal S256x256 .f32) (ix2 r d)
    = at2 (argKV m c) (256 * (t.val / 32) + r.val) (256 * (t.val / 8 % 4) + d.val) := by
  obtain ⟨e0, e1⟩ := ix0_1 t
  refine eq_at2 (argKV m c) (((cfg0.win 1).blk t).view.emb (ix2 r d)) _ _ ?_ ?_
  · show win0_1.index t (0 : Fin 2) * 256 + 1 * r.val = _; omega
  · show win0_1.index t (1 : Fin 2) * 256 + 1 * d.val = _; omega

theorem blk2 (t : Fin cfg0.N) (r : Fin 256) (d : Fin 256) : (iblk m c 2 t : Vec Ideal S256x256 .f32) (ix2 r d)
    = at2 (argKV m c) (256 * (t.val / 32) + r.val) (1024 + 256 * (t.val / 8 % 4) + d.val) := by
  obtain ⟨e0, e1⟩ := ix0_2 t
  refine eq_at2 (argKV m c) (((cfg0.win 2).blk t).view.emb (ix2 r d)) _ _ ?_ ?_
  · show win0_2.index t (0 : Fin 2) * 256 + 1 * r.val = _; omega
  · show win0_2.index t (1 : Fin 2) * 256 + 1 * d.val = _; omega

theorem rowScore_eq (t : Fin cfg0.N) (r : Fin 512) : rowScore (iblk m c 0 t) (iblk m c 1 t) r
    = score (argQ m c) (argKV m c) (t.val / 32) (t.val / 8 % 4) (512 * (t.val % 8) + r.val) := by
  funext j
  unfold rowScore score
  simp only [blk0, blk1]

/-- A point leaves the attention's entries. -/
theorem outs_eq (t : Fin cfg0.N) (r : Fin 512) (d : Fin 256) : out0_3 (iblk m c 0 t) (iblk m c 1 t) (iblk m c 2 t) (ix2 r d)
    = mixed (argQ m c) (argKV m c) (t.val / 32) (t.val / 8 % 4) (512 * (t.val % 8) + r.val) d.val := by
  rw [out_apply, rowScore_eq]
  unfold mixed
  simp only [blk2]

theorem final : (dats m 0 c).arrAt 3 cfg0.N = result (argQ m c) (argKV m c) := by
  refine (dats m 0 c).arrAt_eq_of_cover 3 _ (fun t _ => ?_) (fun i => ?_)
  · rw [flushed3 m c t]
    funext j
    obtain ⟨e0, e1⟩ := ix0_3 t
    have hj0 : (j 0).val < 512 := (j 0).isLt
    have hj1 : (j 1).val < 256 := (j 1).isLt
    have hN : t.val < 64 := t.isLt
    show out0_3 (iblk m c 0 t) (iblk m c 1 t) (iblk m c 2 t) j = result (argQ m c) (argKV m c) (((cfg0.win 3).blk t).view.emb j)
    have a0 : (((cfg0.win 3).blk t).view.emb j 0).val = 4096 * (t.val / 32) + (512 * (t.val % 8) + (j 0).val) := by
      show win0_3.index t (0 : Fin 2) * 512 + 1 * (j 0).val = _; omega
    have a1 : (((cfg0.win 3).blk t).view.emb j 1).val = 256 * (t.val / 8 % 4) + (j 1).val := by
      show win0_3.index t (1 : Fin 2) * 256 + 1 * (j 1).val = _; omega
    refine (congrArg (out0_3 (iblk m c 0 t) (iblk m c 1 t) (iblk m c 2 t)) (eq_ix2 (n0 := 512) (n1 := 256) j)).trans
      ((outs_eq m c t (j 0) (j 1)).trans ?_)
    unfold result
    rw [a0, a1]
    congr 1 <;> omega
  · have hi0 : (i 0).val < 8192 := (i 0).isLt
    have hi1 : (i 1).val < 1024 := (i 1).isLt
    let t : Fin cfg0.N := ⟨(i 0).val / 4096 * 32 + (i 1).val / 256 * 8 + (i 0).val % 4096 / 512, by
      rw [show cfg0.N = 64 from N_0]; omega⟩
    refine ⟨t, flush0_3 t, ?_⟩
    obtain ⟨e0, e1⟩ := ix0_3 t
    have ht : t.val = (i 0).val / 4096 * 32 + (i 1).val / 256 * 8 + (i 0).val % 4096 / 512 := rfl
    show i ∈ ((View.whole main_v0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; omega
    | ⟨1, _⟩ => show win0_3.index t (1 : Fin 2) * 256 ≤ (i 1).val ∧ (i 1).val < win0_3.index t (1 : Fin 2) * 256 + 256; omega

end Kernel

/-! ## The reference -/

section Reference

open Cert.AttnFRefIdeal Cert.AttnFRefIdeal.Gen Cert.AttnFRefIdeal.Read

variable (Q : (⟨2, ![8192, 1024]⟩ : Shape).Idx → EReal) (KV : (⟨2, ![512, 2048]⟩ : Shape).Idx → EReal)

theorem queries (b : Fin 2) (s : Fin 4096) (h : Fin 4) (d : Fin 256) :
    val_main_v1 (F := Ideal) Q (ix4 b s h d) = at2 Q (4096 * b + s) (256 * h + d) := by
  have hb := b.isLt; have hs := s.isLt; have hh := h.isLt; have hd := d.isLt
  rw [val_main_v1_apply, val_main_v0_apply]
  exact eq_at2 Q _ _ _
    (show (((b.val * 4096 + s.val) * 4 + h.val) * 256 + d.val) / 1024 = 4096 * b.val + s.val by omega)
    (show (((b.val * 4096 + s.val) * 4 + h.val) * 256 + d.val) % 1024 = 256 * h.val + d.val by omega)

theorem keys (b : Fin 2) (j : Fin 256) (h : Fin 4) (d : Fin 256) :
    val_main_v3 (F := Ideal) KV (ix4 b j h d) = at2 KV (256 * b + j) (256 * h + d) := by
  have hb := b.isLt; have hj := j.isLt; have hh := h.isLt; have hd := d.isLt
  rw [val_main_v3_apply, val_main_v2_apply]
  exact eq_at2 KV _ _ _
    (show (((b.val * 256 + j.val) * 4 + h.val) * 256 + d.val) / 1024 = 256 * b.val + j.val by omega)
    (show (((b.val * 256 + j.val) * 4 + h.val) * 256 + d.val) % 1024 = 256 * h.val + d.val by omega)

theorem values (b : Fin 2) (j : Fin 256) (h : Fin 4) (d : Fin 256) :
    val_main_v5 (F := Ideal) KV (ix4 b j h d) = at2 KV (256 * b + j) (1024 + 256 * h + d) := by
  have hb := b.isLt; have hj := j.isLt; have hh := h.isLt; have hd := d.isLt
  rw [val_main_v5_apply, val_main_v4_apply]
  exact eq_at2 KV _ _ _
    (show (((b.val * 256 + j.val) * 4 + h.val) * 256 + d.val) / 1024 = 256 * b.val + j.val by omega)
    (show 1024 + (((b.val * 256 + j.val) * 4 + h.val) * 256 + d.val) % 1024 = 1024 + 256 * h.val + d.val by omega)

variable (b : Fin 2) (h : Fin 4) (s : Fin 4096) (j : Fin 256)

theorem ref_score : val_main_v8 (F := Ideal) Q KV (ix4 b h s j) = score Q KV b h s j := by
  unfold val_main_v8 val_main_v6 val_main_v7 val_main_cst
  pointwise
  simp only [queries, keys]
  rfl

theorem ref_top : val_main_v9 (F := Ideal) Q KV (ix3 b h s) = top (score Q KV b h s) := by
  unfold val_main_v9
  refine (Host.reduce_eq_fold_single (a := 3) (FloatOps.maximumf (F := Ideal)) _ _ reducesTo_S2x4x4096x256_S2x4x4096_d3 (by decide) h_S_ (ix3 b h s)).trans ?_
  refine congrArg (Finset.univ.fold max _) (funext fun j => ?_)
  refine Eq.trans (congrArg (val_main_v8 (F := Ideal) Q KV) (funext fun a => Fin.ext ?_)) (ref_score Q KV b h s j)
  match a with
  | ⟨0, _⟩ => rfl
  | ⟨1, _⟩ => rfl
  | ⟨2, _⟩ => rfl
  | ⟨3, _⟩ => rfl

theorem ref_exp : val_main_v13 (F := Ideal) Q KV (ix4 b h s j) = ex (score Q KV b h s) j := by
  unfold val_main_v13 val_main_v12 val_main_v11 val_main_v10
  pointwise
  rw [ref_score, ref_top]
  rfl

theorem ref_prob : val_main_v17 (F := Ideal) Q KV (ix4 b h s j) = prob (score Q KV b h s) j := by
  unfold val_main_v17 val_main_v16 val_main_v15 val_main_v14 val_main_cst_1
  pointwise
  simp only [ref_exp]
  rfl

theorem ref_mixed (d : Fin 256) : val_main_v19 (F := Ideal) Q KV (ix4 b s h d) = mixed Q KV b h s d := by
  unfold val_main_v19 val_main_v18
  pointwise
  simp only [values, ref_prob]
  exact Finset.sum_congr rfl fun _ _ => mul_comm _ _

theorem reference_eq : val_main_v21 (F := Ideal) Q KV = result Q KV := by
  funext i
  have h0 : (i 0).val < 8192 := (i 0).isLt
  have h1 : (i 1).val < 1024 := (i 1).isLt
  refine (val_main_v20_apply (F := Ideal) Q KV i).trans ?_
  have e : idx_main_v20 i = ix4 (⟨(i 0).val / 4096, by omega⟩ : Fin 2) (⟨(i 0).val % 4096, by omega⟩ : Fin 4096)
      (⟨(i 1).val / 256, by omega⟩ : Fin 4) (⟨(i 1).val % 256, by omega⟩ : Fin 256) := by
    funext a
    refine Fin.ext ?_
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) / 256 % 4 = (i 1).val / 256; omega
    | ⟨3, _⟩ => show ((i 0).val * 1024 + (i 1).val) % 256 = (i 1).val % 256; omega
  rw [e, ref_mixed]
  rfl

end Reference

theorem reference_frame : Cert.quiescent_AttnFRefIdeal := fun m ρ _ =>
  (θ_run Cert.AttnFRefIdeal.defs _ _).mono (fun r h => ⟨fun c => (h c).2, sem_eq_zero_of_no_sems (by decide) r.2⟩)
    (Cert.AttnFRefIdeal.Value.run (F := Ideal) m ρ)

theorem algebraic : Cert.algebraic_AttnFIdeal_AttnFRefIdeal := by
  intro m ρ m' ρ' _ hagree
  refine ⟨fun c => result (argQ m c) (argKV m c), ?_, ?_⟩
  · exact (θ_run Cert.AttnFIdeal.defs _ _).mono (fun r h c => ⟨(h c).1.trans (final m c), (h c).2⟩)
      (Cert.AttnFIdeal.Value.run_blocks (F := Ideal) m ρ)
  · refine (θ_run Cert.AttnFRefIdeal.defs _ _).mono (fun r h c => ?_) (Cert.AttnFRefIdeal.Value.run (F := Ideal) m' ρ')
    obtain ⟨a0, a1⟩ := hagree c
    have e := (h c).1.trans ((Cert.AttnFRefIdeal.Read.val_main_v21_eq _ _).trans (reference_eq _ _))
    rw [a0, a1] at e
    exact ⟨e, (h c).2⟩

end Cert.Proof.AttnF

end
-- ==== Proof.GroupDot.lean ====
/- Hand-written: THE STATE-SPACE MIXER'S GROUPED PRODUCT. Its 32 groups of 16 lanes each meet a group's own 16 × 64 matrix, once
   for the real and once for the imaginary part (`groupDot`). The kernels lay the 32 matrices along the diagonal of one
   matrix, zero elsewhere (`spread`), and multiply by 128 of its lanes, which hold the column's group (`groupDot_eq`). -/
module

public import proofs.«01_k».proof.Proof.Product
public import Idealize.ShloMosaic.Lib.Pipeline.Value

@[expose] public section

noncomputable section

namespace Cert.Proof

open Idealize.ShloMosaic
open scoped BigOperators

/-- A matrix for each of the 32 groups. -/
abbrev Groups : Type := (⟨3, ![32, 16, 64]⟩ : Shape).Idx → EReal

/-- The group and the state lane of result column `n`, and which of the two families it is of. -/
def group (n : ℕ) : Fin 32 := ⟨n % 2048 / 64, by omega⟩
def lane (n : ℕ) : Fin 64 := ⟨n % 64, by omega⟩
def half (wr wi : Groups) (n : ℕ) : Groups := if n < 2048 then wr else wi

/-- Column `n` of row `r`: the 16 lanes of the column's group against the group's matrix. -/
def groupDot (x : ℕ → ℕ → EReal) (wr wi : Groups) (r n : ℕ) : EReal :=
  ∑ c : Fin 16, x r (16 * (n % 2048 / 64) + c) * half wr wi n (ix3 (group n) c (lane n))

/-- The whole result. -/
def groupDots (x : ℕ → ℕ → EReal) (wr wi : Groups) (i : (⟨2, ![8192, 4096]⟩ : Shape).Idx) : EReal :=
  groupDot x wr wi (i 0).val (i 1).val

/-- The matrices along the diagonal: lane `k`, column `n`. -/
def spread (wr wi : Groups) (k n : ℕ) : EReal :=
  if k / 16 = n % 2048 / 64 then half wr wi n (ix3 (group n) ⟨k % 16, by omega⟩ (lane n)) else 0

/-- 128 lanes that hold the column's group give the group's sum: the other lanes' terms are zero. -/
theorem groupDot_eq (x : ℕ → ℕ → EReal) (wr wi : Groups) {q n : ℕ} (r : ℕ) (h : n % 2048 / 512 = q) :
    ∑ k : Fin 128, x r (128 * q + k) * spread wr wi (128 * q + k) n = groupDot x wr wi r n := by
  unfold spread groupDot
  simp only [mul_ite, mul_zero]
  rw [← Finset.sum_filter]
  refine Finset.sum_bij' (fun k _ => ⟨k.val % 16, by omega⟩)
    (fun c _ => ⟨16 * (n % 2048 / 64) + c.val - 128 * q, by have := c.isLt; omega⟩) ?_ ?_ ?_ ?_ ?_
  · intro k _
    exact Finset.mem_univ _
  · intro c _
    have := c.isLt
    rw [Finset.mem_filter]
    refine ⟨Finset.mem_univ _, ?_⟩
    show (128 * q + (16 * (n % 2048 / 64) + c.val - 128 * q)) / 16 = _
    omega
  · intro k hk
    have := (Finset.mem_filter.1 hk).2
    refine Fin.ext ?_
    show 16 * (n % 2048 / 64) + k.val % 16 - 128 * q = k.val
    omega
  · intro c _
    have := c.isLt
    refine Fin.ext ?_
    show (16 * (n % 2048 / 64) + c.val - 128 * q) % 16 = c.val
    omega
  · intro k hk
    have := (Finset.mem_filter.1 hk).2
    have e : 128 * q + k.val = 16 * (n % 2048 / 64) + k.val % 16 := by omega
    have e' : (128 * q + k.val) % 16 = k.val % 16 := by omega
    simp only [e']
    exact congrArg (fun l => x r l * _) e

/-- One family's half of the result, column `a`. -/
def halfDot (x : ℕ → ℕ → EReal) (w : Groups) (r : ℕ) (a : Fin 2048) : EReal :=
  ∑ c : Fin 16, x r (16 * (a.val / 64) + c) * w (ix3 (⟨a.val / 64, by omega⟩ : Fin 32) c (⟨a.val % 64, by omega⟩ : Fin 64))

theorem halfDot_eq (x : ℕ → ℕ → EReal) (w : Groups) (r n : ℕ) (a : Fin 2048) (h : a.val = n % 2048) :
    halfDot x w r a = ∑ c : Fin 16, x r (16 * (n % 2048 / 64) + c) * w (ix3 (group n) c (lane n)) := by
  unfold halfDot
  have e : (⟨a.val / 64, by omega⟩ : Fin 32) = group n := Fin.ext (show a.val / 64 = n % 2048 / 64 by omega)
  have e' : (⟨a.val % 64, by omega⟩ : Fin 64) = lane n := Fin.ext (show a.val % 64 = n % 64 by omega)
  rw [e, e', h]

/-- The two halves side by side are the whole. -/
theorem halves_eq (x : ℕ → ℕ → EReal) (wr wi : Groups) {A B : (⟨2, ![8192, 2048]⟩ : Shape).Idx → EReal}
    (hcat : Shape.Concatenates [⟨2, ![8192, 2048]⟩, ⟨2, ![8192, 2048]⟩] ⟨2, ![8192, 4096]⟩ 1)
    (hA : ∀ (r : Fin 8192) (a : Fin 2048), A (ix2 r a) = halfDot x wr r a)
    (hB : ∀ (r : Fin 8192) (a : Fin 2048), B (ix2 r a) = halfDot x wi r a) :
    concatenate ⟨2, ![8192, 4096]⟩ 1 [⟨⟨2, ![8192, 2048]⟩, A⟩, ⟨⟨2, ![8192, 2048]⟩, B⟩] hcat = groupDots x wr wi := by
  funext i
  obtain ⟨r, n, rfl⟩ : ∃ (r : Fin 8192) (n : Fin 4096), i = ix2 r n := ⟨i 0, i 1, eq_ix2 (n0 := 8192) (n1 := 4096) i⟩
  have hn := n.isLt
  show _ = groupDot x wr wi r.val n.val
  unfold groupDot half
  by_cases h : n.val < 2048
  · refine (concatenate_pair_apply_left (t := ⟨2, ![8192, 4096]⟩) 1 A B hcat (ix2 r n) rfl (ix2 r (⟨n.val, h⟩ : Fin 2048)) (fun b => ?_)).trans ?_
    · match b with
      | ⟨0, _⟩ => rfl
      | ⟨1, _⟩ => rfl
    · rw [hA, if_pos h]
      exact halfDot_eq x wr r n _ (show n.val = n.val % 2048 by omega)
  · refine (concatenate_pair_apply_right (t := ⟨2, ![8192, 4096]⟩) 1 A B hcat (ix2 r n) rfl rfl (ix2 r (⟨n.val - 2048, by omega⟩ : Fin 2048)) (fun b hb => ?_) ?_).trans ?_
    · match b with
      | ⟨0, _⟩ => rfl
      | ⟨1, _⟩ => exact absurd rfl hb
    · show n.val - 2048 + 2048 = n.val
      omega
    · rw [hB, if_neg h]
      exact halfDot_eq x wi r n _ (show n.val - 2048 = n.val % 2048 by omega)

/-- The matrix that is one on the diagonal, as the programs make it. -/
def eye (h : (⟨0, ![]⟩ : Shape).BroadcastsInDim ⟨2, ![32, 32]⟩ ![]) : FVec Ideal ⟨2, ![32, 32]⟩ .f32 :=
  uitofp .f32 (cmpi .eq (addi (iotaInDim ⟨2, ![32, 32]⟩ 32 0) (broadcastInDim ⟨2, ![32, 32]⟩ ![] h (constantI ⟨0, ![]⟩ 32 0#32)))
    (iotaInDim ⟨2, ![32, 32]⟩ 32 1))

theorem eye_bit : ∀ a b : Fin 32, IntOp.cmpi .eq (IntOp.addi (BitVec.ofNat 32 a.val) 0#32) (BitVec.ofNat 32 b.val)
    = if a = b then 1#1 else 0#1 := by decide +kernel

theorem eye_apply (h : (⟨0, ![]⟩ : Shape).BroadcastsInDim ⟨2, ![32, 32]⟩ ![]) (a b : Fin 32) :
    eye h (ix2 a b) = if a = b then 1 else 0 := by
  show (FloatOps.uitofp (F := Ideal) .f32 (IntOp.cmpi .eq (IntOp.addi (BitVec.ofNat 32 a.val) 0#32) (BitVec.ofNat 32 b.val)) : EReal) = _
  rw [eye_bit]
  split
  · show (((1#1 : BitVec 1).toNat : ℝ) : EReal) = 1
    norm_num
  · show (((0#1 : BitVec 1).toNat : ℝ) : EReal) = 0
    norm_num

end Cert.Proof

end
-- ==== Proof.SyX.lean ====
/- Hand-written: THE GRADIENT OF THE MIXER'S STATES (`d_s5_y_x`). The program lays the two output families of matrices, the second
   negated, along the diagonals of one 4096 × 512 matrix, and grid point `t` multiplies 1024 rows of the gradient's 128 lanes
   `t % 8 % 4` by its rows `512 (t % 8)` and on. That and the reference's two sums over a group are GroupDot.lean's. -/
module

public import proofs.«01_k».proof.Defs
public import proofs.«01_k».proof.Proof.GroupDot
public import proofs.«01_k».proof.Proof.Gen.SyX.Frame
public import proofs.«01_k».proof.Proof.Gen.SyXIdeal.Frame
public import proofs.«01_k».proof.Proof.Gen.SyXIdeal.Value
public import proofs.«01_k».proof.Proof.Gen.SyXRefIdeal.Run
public import proofs.«01_k».proof.Proof.Gen.SyXRefIdeal.Read
public import Idealize.ShloMosaic.Lib.Quiescent

@[expose] public section

set_option maxRecDepth 16384

noncomputable section

namespace Cert.Proof.SyX

open Idealize.ShloMosaic Idealize.ShloMosaic.TcCoe Idealize.SL.Sem
open scoped BigOperators

/-- The second family as the gradient has it. -/
abbrev minus (w : Groups) : Groups := fun i => -w i

section Kernel

open Cert.SyXIdeal Cert.SyXIdeal.Gen Cert.SyXIdeal.Value

/-! ## The matrix the program makes -/

/-- A family's matrices, transposed, along the diagonal. -/
def diagonal (t : FVec Ideal S32x64x16 .f32) : FVec Ideal S2048x512 .f32 :=
  shapeCast _ (mulf (broadcastInDim S32x64x32x16 ![0, 1, 2, 3] bcast_S32x64x1x16_S32x64x32x16_0_1_2_3
      (broadcastInDim S32x64x1x16 ![0, 1, 3] bcast_S32x64x16_S32x64x1x16_0_1_3 t))
    (broadcastInDim S32x64x32x16 ![0, 1, 2, 3] bcast_S32x1x32x1_S32x64x32x16_0_1_2_3
      (broadcastInDim S32x1x32x1 ![0, 2] bcast_S32x32_S32x1x32x1_0_2 (eye bcast_S_S32x32)))) shapeCasts_S32x64x32x16_S2048x512

theorem diagonal_apply (t : FVec Ideal S32x64x16 .f32) (a : Fin 2048) (k : Fin 512) : diagonal t (ix2 a k)
    = if k.val / 16 = a.val / 64 then t (ix3 (⟨a.val / 64, by omega⟩ : Fin 32) (⟨a.val % 64, by omega⟩ : Fin 64) (⟨k.val % 16, by omega⟩ : Fin 16)) else 0 := by
  have ha := a.isLt
  have hk := k.isLt
  unfold diagonal
  refine (shapeCast_apply _ shapeCasts_S32x64x32x16_S2048x512 (ix2 a k)
    (ix4 (⟨a.val / 64, by omega⟩ : Fin 32) (⟨a.val % 64, by omega⟩ : Fin 64) (⟨k.val / 16, by omega⟩ : Fin 32) (⟨k.val % 16, by omega⟩ : Fin 16))
    (by
      rewrite [Shape.rowMajor_val_four, Shape.rowMajor_val_two]
      show ((a.val / 64 * 64 + a.val % 64) * 32 + k.val / 16) * 16 + k.val % 16 = a.val * 512 + k.val
      omega)).trans ?_
  pointwise
  rw [eye_apply]
  by_cases h : k.val / 16 = a.val / 64
  · rw [if_pos h, if_pos (Fin.ext h.symm), mul_one]
  · rw [if_neg h, if_neg (fun e => h (congrArg Fin.val e).symm), mul_zero]

variable (m : (ℓ : Loc nD τ sig) → Buf (Elt Ideal) ℓ) (ρ : Dev nD → PrngReg) (c : Dev nD)

abbrev argDy : (⟨2, ![8192, 512]⟩ : Shape).Idx → EReal := m ((c : Thread nD τ).loc main_arg0)
abbrev argRe : Groups := m ((c : Thread nD τ).loc main_arg1)
abbrev argIm : Groups := m ((c : Thread nD τ).loc main_arg2)

/-- What the region finds as its second operand. -/
theorem matrix_eq : (V m c main_v27 : (⟨2, ![4096, 512]⟩ : Shape).Idx → EReal) = concatenate S4096x512 0
    [⟨S2048x512, diagonal (transpose S32x64x16 [0, 2, 1] (argRe m c) transposes_S32x16x64_S32x64x16_0_2_1)⟩,
      ⟨S2048x512, diagonal (Host.negf (transpose S32x64x16 [0, 2, 1] (argIm m c) transposes_S32x16x64_S32x64x16_0_2_1))⟩]
    concatenates_S2048x512_S2048x512_S4096x512_d0 := by
  show StableHlo.after hostOps0 (fun b => m (c, b)) main_v27 = _
  after_results <;> rfl

theorem matrix_apply (n : Fin 4096) (k : Fin 512) : (V m c main_v27 : (⟨2, ![4096, 512]⟩ : Shape).Idx → EReal) (ix2 n k)
    = spread (argRe m c) (minus (argIm m c)) k n := by
  have hn := n.isLt
  have hk := k.isLt
  rw [matrix_eq]
  unfold spread half
  by_cases h : n.val < 2048
  · refine (concatenate_pair_apply_left (s₁ := S2048x512) (s₂ := S2048x512) (t := S4096x512) 0 _ _ _ (ix2 n k) rfl (ix2 (⟨n.val, h⟩ : Fin 2048) k) (fun b => ?_)).trans ?_
    · match b with
      | ⟨0, _⟩ => rfl
      | ⟨1, _⟩ => rfl
    · rw [diagonal_apply, if_pos h]
      simp only [show n.val % 2048 = n.val by omega]
      refine if_congr Iff.rfl ?_ rfl
      pointwise
      congr 1
      funext b
      refine Fin.ext ?_
      match b with
      | ⟨0, _⟩ => show n.val / 64 = n.val % 2048 / 64; omega
      | ⟨1, _⟩ => rfl
      | ⟨2, _⟩ => rfl
  · refine (concatenate_pair_apply_right (s₁ := S2048x512) (s₂ := S2048x512) (t := S4096x512) 0 _ _ _ (ix2 n k) rfl rfl (ix2 (⟨n.val - 2048, by omega⟩ : Fin 2048) k) (fun b hb => ?_) ?_).trans ?_
    · match b with
      | ⟨0, _⟩ => exact absurd rfl hb
      | ⟨1, _⟩ => rfl
    · show n.val - 2048 + 2048 = n.val
      omega
    · rw [diagonal_apply, if_neg h]
      simp only [show n.val % 2048 = n.val - 2048 by omega]
      refine if_congr Iff.rfl ?_ rfl
      pointwise
      refine congrArg (fun i => -(argIm m c) i) ?_
      funext b
      refine Fin.ext ?_
      match b with
      | ⟨0, _⟩ => show (n.val - 2048) / 64 = n.val % 2048 / 64; omega
      | ⟨1, _⟩ => rfl
      | ⟨2, _⟩ => show (n.val - 2048) % 64 = n.val % 64; omega

/-! ## What a point leaves -/

theorem out_apply (x0 : Vec Ideal S1024x128 .f32) (x1 : Vec Ideal S512x128 .f32) (r : Fin 1024) (n : Fin 512) :
    out0_2 (F := Ideal) x0 x1 (ix2 r n) = ∑ k : Fin 128, x0 (ix2 r k) * x1 (ix2 n k) := by
  unfold out0_2
  rw [View.canon_unit_zero zero_pair]
  simp only [View.ld_unit_zero (S := S1024x128) zero_pair, View.ld_unit_zero (S := S512x128) zero_pair]
  unfold k0_pay1
  rw [shapeCast_self]
  pointwise

theorem ix0_0 : ∀ t : Fin cfg0.N, win0_0.index t (0 : Fin 2) = t.val / 8 ∧ win0_0.index t (1 : Fin 2) = t.val % 8 % 4 :=
  (by decide +kernel : ∀ t : Fin grid0.N, _)
theorem ix0_1 : ∀ t : Fin cfg0.N, win0_1.index t (0 : Fin 2) = t.val % 8 ∧ win0_1.index t (1 : Fin 2) = t.val % 8 % 4 :=
  (by decide +kernel : ∀ t : Fin grid0.N, _)
theorem ix0_2 : ∀ t : Fin cfg0.N, win0_2.index t (0 : Fin 2) = t.val / 8 ∧ win0_2.index t (1 : Fin 2) = t.val % 8 :=
  (by decide +kernel : ∀ t : Fin grid0.N, _)

theorem blk0 (t : Fin cfg0.N) (r : Fin 1024) (k : Fin 128) : (iblk m c 0 t : Vec Ideal S1024x128 .f32) (ix2 r k)
    = at2 (argDy m c) (1024 * (t.val / 8) + r.val) (128 * (t.val % 8 % 4) + k.val) := by
  obtain ⟨e0, e1⟩ := ix0_0 t
  show (V m c main_arg0 : (⟨2, ![8192, 512]⟩ : Shape).Idx → EReal) (((cfg0.win 0).blk t).view.emb (ix2 r k)) = _
  rw [V_main_arg0]
  refine eq_at2 (argDy m c) (((cfg0.win 0).blk t).view.emb (ix2 r k)) _ _ ?_ ?_
  · show win0_0.index t (0 : Fin 2) * 1024 + 1 * r.val = _; omega
  · show win0_0.index t (1 : Fin 2) * 128 + 1 * k.val = _; omega

theorem blk1 (t : Fin cfg0.N) (n : Fin 512) (k : Fin 128) : (iblk m c 1 t : Vec Ideal S512x128 .f32) (ix2 n k)
    = spread (argRe m c) (minus (argIm m c)) (128 * (t.val % 8 % 4) + k.val) (512 * (t.val % 8) + n.val) := by
  obtain ⟨e0, e1⟩ := ix0_1 t
  have hn := n.isLt
  have hk := k.isLt
  refine Eq.trans (congrArg (V m c main_v27 : (⟨2, ![4096, 512]⟩ : Shape).Idx → EReal) (funext fun a => Fin.ext ?_))
    (matrix_apply m c (⟨512 * (t.val % 8) + n.val, by omega⟩ : Fin 4096) (⟨128 * (t.val % 8 % 4) + k.val, by omega⟩ : Fin 512))
  match a with
  | ⟨0, _⟩ => show win0_1.index t (0 : Fin 2) * 512 + 1 * n.val = 512 * (t.val % 8) + n.val; omega
  | ⟨1, _⟩ => show win0_1.index t (1 : Fin 2) * 128 + 1 * k.val = 128 * (t.val % 8 % 4) + k.val; omega

/-- A point leaves the grouped product's entries. -/
theorem outs_eq (t : Fin cfg0.N) (r : Fin 1024) (n : Fin 512) : out0_2 (iblk m c 0 t) (iblk m c 1 t) (ix2 r n)
    = groupDot (at2 (argDy m c)) (argRe m c) (minus (argIm m c)) (1024 * (t.val / 8) + r.val) (512 * (t.val % 8) + n.val) := by
  have hn := n.isLt
  rw [out_apply]
  simp only [blk0, blk1]
  exact groupDot_eq _ _ _ _ (by omega)

theorem final : (dats m 0 c).arrAt 2 cfg0.N = groupDots (at2 (argDy m c)) (argRe m c) (minus (argIm m c)) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j
      = groupDots (at2 (argDy m c)) (argRe m c) (minus (argIm m c)) (((cfg0.win 2).blk t).view.emb j)
    have a0 : (((cfg0.win 2).blk t).view.emb j 0).val = 1024 * (t.val / 8) + (j 0).val := by
      show win0_2.index t (0 : Fin 2) * 1024 + 1 * (j 0).val = _; omega
    have a1 : (((cfg0.win 2).blk t).view.emb j 1).val = 512 * (t.val % 8) + (j 1).val := by
      show win0_2.index t (1 : Fin 2) * 512 + 1 * (j 1).val = _; omega
    refine (congrArg (out0_2 (iblk m c 0 t) (iblk m c 1 t)) (eq_ix2 (n0 := 1024) (n1 := 512) j)).trans
      ((outs_eq m c t (j 0) (j 1)).trans ?_)
    unfold groupDots
    rw [a0, a1]
  · have hi0 : (i 0).val < 8192 := (i 0).isLt
    have hi1 : (i 1).val < 4096 := (i 1).isLt
    let t : Fin cfg0.N := ⟨(i 0).val / 1024 * 8 + (i 1).val / 512, by
      rw [show cfg0.N = 64 from N_0]; omega⟩
    refine ⟨t, flush0_2 t, ?_⟩
    obtain ⟨e0, e1⟩ := ix0_2 t
    have ht : t.val = (i 0).val / 1024 * 8 + (i 1).val / 512 := rfl
    show i ∈ ((View.whole main_v28).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 512 ≤ (i 1).val ∧ (i 1).val < win0_2.index t (1 : Fin 2) * 512 + 512; omega

end Kernel

/-! ## The reference -/

section Reference

open Cert.SyXRefIdeal Cert.SyXRefIdeal.Gen Cert.SyXRefIdeal.Read

variable (X : (⟨2, ![8192, 512]⟩ : Shape).Idx → EReal) (wr wi : Groups)

theorem lanes (r : Fin 8192) (g : Fin 32) (c : Fin 16) : val_main_v6 (F := Ideal) X (ix3 r g c) = at2 X r (16 * g + c) := by
  have hg := g.isLt; have hc := c.isLt
  rw [val_main_v6_apply]
  exact eq_at2 X _ _ _
    (show ((r.val * 32 + g.val) * 16 + c.val) / 512 = r.val by omega)
    (show ((r.val * 32 + g.val) * 16 + c.val) % 512 = 16 * g.val + c.val by omega)

theorem ref_re (r : Fin 8192) (g : Fin 32) (p : Fin 64) :
    val_main_v13 (F := Ideal) X wr (ix3 r g p) = ∑ c : Fin 16, at2 X r (16 * g + c) * wr (ix3 g c p) := by
  unfold val_main_v13 val_main_v12 val_main_v11
  pointwise
  simp only [lanes]

theorem ref_im (r : Fin 8192) (g : Fin 32) (p : Fin 64) :
    val_main_v10 (F := Ideal) X wi (ix3 r g p) = ∑ c : Fin 16, at2 X r (16 * g + c) * -wi (ix3 g c p) := by
  unfold val_main_v10 val_main_v9 val_main_v8 val_main_v7
  pointwise
  simp only [lanes]
  exact Finset.sum_congr rfl fun c _ => (neg_mul _ _).trans (mul_neg _ _).symm

/-- A half's column `a` at the group and lane it is of. -/
theorem idx_half (r : Fin 8192) (a : Fin 2048) :
    idx_main_v14 (ix2 r a) = ix3 r (⟨a.val / 64, by omega⟩ : Fin 32) (⟨a.val % 64, by omega⟩ : Fin 64) := by
  have ha := a.isLt
  have hr := r.isLt
  funext b
  refine Fin.ext ?_
  match b with
  | ⟨0, _⟩ => show (r.val * 2048 + a.val) / 2048 = r.val; omega
  | ⟨1, _⟩ => show (r.val * 2048 + a.val) / 64 % 32 = a.val / 64; omega
  | ⟨2, _⟩ => show (r.val * 2048 + a.val) % 64 = a.val % 64; omega

theorem reference_eq : val_main_v16 (F := Ideal) X wr wi = groupDots (at2 X) wr (minus wi) :=
  halves_eq (at2 X) wr (minus wi) _
    (fun r a => (val_main_v14_apply (F := Ideal) X wr _).trans
      ((congrArg (val_main_v13 (F := Ideal) X wr) (idx_half r a)).trans (ref_re X wr r _ _)))
    (fun r a => (val_main_v15_apply (F := Ideal) X wi _).trans
      ((congrArg (val_main_v10 (F := Ideal) X wi) (idx_half r a)).trans (ref_im X wi r _ _)))

end Reference

theorem reference_frame : Cert.quiescent_SyXRefIdeal := fun m ρ _ =>
  (θ_run Cert.SyXRefIdeal.defs _ _).mono (fun r h => ⟨fun c => (h c).2, sem_eq_zero_of_no_sems (by decide) r.2⟩)
    (Cert.SyXRefIdeal.Value.run (F := Ideal) m ρ)

theorem algebraic : Cert.algebraic_SyXIdeal_SyXRefIdeal := by
  intro m ρ m' ρ' _ hagree
  refine ⟨fun c => groupDots (at2 (argDy m c)) (argRe m c) (minus (argIm m c)), ?_, ?_⟩
  · exact (θ_run Cert.SyXIdeal.defs _ _).mono (fun r h c => ⟨(h c).1.trans (final m c), (h c).2⟩)
      (Cert.SyXIdeal.Value.run_blocks (F := Ideal) m ρ)
  · refine (θ_run Cert.SyXRefIdeal.defs _ _).mono (fun r h c => ?_) (Cert.SyXRefIdeal.Value.run (F := Ideal) m' ρ')
    obtain ⟨a0, a1, a2⟩ := hagree c
    have e := (h c).1.trans ((Cert.SyXRefIdeal.Read.val_main_v16_eq _ _ _).trans (reference_eq _ _ _))
    rw [a0, a1, a2] at e
    exact ⟨e, (h c).2⟩

end Cert.Proof.SyX

end
-- ==== Proof.SBu.lean ====
/- Hand-written: THE MIXER'S INPUT TO ITS STATES (`s5_bu`). The program lays the two input families of matrices along the diagonals
   of one 512 × 4096 matrix, and grid point `t` multiplies 1024 rows of 128 lanes of the projection, from lane
   `6144 + 128 (t % 8 % 4)`, by its columns `512 (t % 8)` and on. That and the reference's two sums over a group are
   GroupDot.lean's. -/
module

public import proofs.«01_k».proof.Defs
public import proofs.«01_k».proof.Proof.GroupDot
public import proofs.«01_k».proof.Proof.Gen.SBu.Frame
public import proofs.«01_k».proof.Proof.Gen.SBuIdeal.Frame
public import proofs.«01_k».proof.Proof.Gen.SBuIdeal.Value
public import proofs.«01_k».proof.Proof.Gen.SBuRefIdeal.Run
public import proofs.«01_k».proof.Proof.Gen.SBuRefIdeal.Read
public import Idealize.ShloMosaic.Lib.Quiescent

@[expose] public section

set_option maxRecDepth 16384

noncomputable section

namespace Cert.Proof.SBu

open Idealize.ShloMosaic Idealize.ShloMosaic.TcCoe Idealize.SL.Sem
open scoped BigOperators

/-- The lanes of the projection the mixer reads. -/
abbrev lanesOf (P : (⟨2, ![8192, 7168]⟩ : Shape).Idx → EReal) : ℕ → ℕ → EReal := fun r k => at2 P r (6144 + k)

section Kernel

open Cert.SBuIdeal Cert.SBuIdeal.Gen Cert.SBuIdeal.Value

/-! ## The matrix the program makes -/

/-- A family's matrices along the diagonal. -/
def diagonal (t : FVec Ideal S32x16x64 .f32) : FVec Ideal S512x2048 .f32 :=
  shapeCast _ (mulf (broadcastInDim S32x16x32x64 ![0, 1, 2, 3] bcast_S32x16x1x64_S32x16x32x64_0_1_2_3
      (broadcastInDim S32x16x1x64 ![0, 1, 3] bcast_S32x16x64_S32x16x1x64_0_1_3 t))
    (broadcastInDim S32x16x32x64 ![0, 1, 2, 3] bcast_S32x1x32x1_S32x16x32x64_0_1_2_3
      (broadcastInDim S32x1x32x1 ![0, 2] bcast_S32x32_S32x1x32x1_0_2 (eye bcast_S_S32x32)))) shapeCasts_S32x16x32x64_S512x2048

theorem diagonal_apply (t : FVec Ideal S32x16x64 .f32) (k : Fin 512) (a : Fin 2048) : diagonal t (ix2 k a)
    = if k.val / 16 = a.val / 64 then t (ix3 (⟨a.val / 64, by omega⟩ : Fin 32) (⟨k.val % 16, by omega⟩ : Fin 16) (⟨a.val % 64, by omega⟩ : Fin 64)) else 0 := by
  have ha := a.isLt
  have hk := k.isLt
  unfold diagonal
  refine (shapeCast_apply _ shapeCasts_S32x16x32x64_S512x2048 (ix2 k a)
    (ix4 (⟨k.val / 16, by omega⟩ : Fin 32) (⟨k.val % 16, by omega⟩ : Fin 16) (⟨a.val / 64, by omega⟩ : Fin 32) (⟨a.val % 64, by omega⟩ : Fin 64))
    (by
      rewrite [Shape.rowMajor_val_four, Shape.rowMajor_val_two]
      show ((k.val / 16 * 16 + k.val % 16) * 32 + a.val / 64) * 64 + a.val % 64 = k.val * 2048 + a.val
      omega)).trans ?_
  pointwise
  rw [eye_apply]
  by_cases h : k.val / 16 = a.val / 64
  · have e : (⟨k.val / 16, by omega⟩ : Fin 32) = ⟨a.val / 64, by omega⟩ := Fin.ext h
    rw [if_pos h, if_pos e, mul_one, e]
  · rw [if_neg h, if_neg (fun e => h (congrArg Fin.val e)), mul_zero]

/-- The two families side by side. -/
theorem both_apply (re im : Groups) (k : Fin 512) (n : Fin 4096) : (concatenate S512x4096 1
    [⟨S512x2048, diagonal re⟩, ⟨S512x2048, diagonal im⟩] concatenates_S512x2048_S512x2048_S512x4096_d1
      : (⟨2, ![512, 4096]⟩ : Shape).Idx → EReal) (ix2 k n) = spread re im k n := by
  have hn := n.isLt
  have hk := k.isLt
  unfold spread half
  by_cases h : n.val < 2048
  · refine (concatenate_pair_apply_left (s₁ := S512x2048) (s₂ := S512x2048) (t := S512x4096) 1 _ _ _ (ix2 k n) rfl (ix2 k (⟨n.val, h⟩ : Fin 2048)) (fun b => ?_)).trans ?_
    · match b with
      | ⟨0, _⟩ => rfl
      | ⟨1, _⟩ => rfl
    · rw [diagonal_apply, if_pos h]
      simp only [show n.val % 2048 = n.val by omega]
      refine if_congr Iff.rfl (congrArg re (funext fun b => Fin.ext ?_)) rfl
      match b with
      | ⟨0, _⟩ => show n.val / 64 = n.val % 2048 / 64; omega
      | ⟨1, _⟩ => rfl
      | ⟨2, _⟩ => rfl
  · refine (concatenate_pair_apply_right (s₁ := S512x2048) (s₂ := S512x2048) (t := S512x4096) 1 _ _ _ (ix2 k n) rfl rfl (ix2 k (⟨n.val - 2048, by omega⟩ : Fin 2048)) (fun b hb => ?_) ?_).trans ?_
    · match b with
      | ⟨0, _⟩ => rfl
      | ⟨1, _⟩ => exact absurd rfl hb
    · show n.val - 2048 + 2048 = n.val
      omega
    · rw [diagonal_apply, if_neg h]
      simp only [show n.val % 2048 = n.val - 2048 by omega]
      refine if_congr Iff.rfl (congrArg im (funext fun b => Fin.ext ?_)) rfl
      match b with
      | ⟨0, _⟩ => show (n.val - 2048) / 64 = n.val % 2048 / 64; omega
      | ⟨1, _⟩ => rfl
      | ⟨2, _⟩ => show (n.val - 2048) % 64 = n.val % 64; omega

variable (m : (ℓ : Loc nD τ sig) → Buf (Elt Ideal) ℓ) (ρ : Dev nD → PrngReg) (c : Dev nD)

abbrev argP : (⟨2, ![8192, 7168]⟩ : Shape).Idx → EReal := m ((c : Thread nD τ).loc main_arg0)
abbrev argRe : Groups := m ((c : Thread nD τ).loc main_arg1)
abbrev argIm : Groups := m ((c : Thread nD τ).loc main_arg2)

/-- What the region finds as its second operand. -/
theorem matrix_eq : (V m c main_v24 : (⟨2, ![512, 4096]⟩ : Shape).Idx → EReal) = concatenate S512x4096 1
    [⟨S512x2048, diagonal (argRe m c)⟩, ⟨S512x2048, diagonal (argIm m c)⟩] concatenates_S512x2048_S512x2048_S512x4096_d1 := by
  show StableHlo.after hostOps0 (fun b => m (c, b)) main_v24 = _
  after_results <;> rfl

theorem matrix_apply (k : Fin 512) (n : Fin 4096) : (V m c main_v24 : (⟨2, ![512, 4096]⟩ : Shape).Idx → EReal) (ix2 k n)
    = spread (argRe m c) (argIm m c) k n :=
  (congrFun (matrix_eq m c) _).trans (both_apply _ _ k n)

/-! ## What a point leaves -/

theorem out_apply (x0 : Vec Ideal S1024x128 .f32) (x1 : Vec Ideal S128x512 .f32) (r : Fin 1024) (n : Fin 512) :
    out0_2 (F := Ideal) x0 x1 (ix2 r n) = ∑ k : Fin 128, x0 (ix2 r k) * x1 (ix2 k n) := by
  unfold out0_2
  rw [View.canon_unit_zero zero_pair]
  simp only [View.ld_unit_zero (S := S1024x128) zero_pair, View.ld_unit_zero (S := S128x512) zero_pair]
  unfold k0_pay1
  rw [shapeCast_self]
  pointwise

theorem ix0_0 : ∀ t : Fin cfg0.N, win0_0.index t (0 : Fin 2) = t.val / 8 ∧ win0_0.index t (1 : Fin 2) = 48 + t.val % 8 % 4 :=
  (by decide +kernel : ∀ t : Fin grid0.N, _)
theorem ix0_1 : ∀ t : Fin cfg0.N, win0_1.index t (0 : Fin 2) = t.val % 8 % 4 ∧ win0_1.index t (1 : Fin 2) = t.val % 8 :=
  (by decide +kernel : ∀ t : Fin grid0.N, _)
theorem ix0_2 : ∀ t : Fin cfg0.N, win0_2.index t (0 : Fin 2) = t.val / 8 ∧ win0_2.index t (1 : Fin 2) = t.val % 8 :=
  (by decide +kernel : ∀ t : Fin grid0.N, _)

theorem blk0 (t : Fin cfg0.N) (r : Fin 1024) (k : Fin 128) : (iblk m c 0 t : Vec Ideal S1024x128 .f32) (ix2 r k)
    = lanesOf (argP m c) (1024 * (t.val / 8) + r.val) (128 * (t.val % 8 % 4) + k.val) := by
  obtain ⟨e0, e1⟩ := ix0_0 t
  show (V m c main_arg0 : (⟨2, ![8192, 7168]⟩ : Shape).Idx → EReal) (((cfg0.win 0).blk t).view.emb (ix2 r k)) = _
  rw [V_main_arg0]
  refine eq_at2 (argP m c) (((cfg0.win 0).blk t).view.emb (ix2 r k)) _ _ ?_ ?_
  · show win0_0.index t (0 : Fin 2) * 1024 + 1 * r.val = _; omega
  · show win0_0.index t (1 : Fin 2) * 128 + 1 * k.val = _; omega

theorem blk1 (t : Fin cfg0.N) (k : Fin 128) (n : Fin 512) : (iblk m c 1 t : Vec Ideal S128x512 .f32) (ix2 k n)
    = spread (argRe m c) (argIm m c) (128 * (t.val % 8 % 4) + k.val) (512 * (t.val % 8) + n.val) := by
  obtain ⟨e0, e1⟩ := ix0_1 t
  have hn := n.isLt
  have hk := k.isLt
  refine Eq.trans (congrArg (V m c main_v24 : (⟨2, ![512, 4096]⟩ : Shape).Idx → EReal) (funext fun a => Fin.ext ?_))
    (matrix_apply m c (⟨128 * (t.val % 8 % 4) + k.val, by omega⟩ : Fin 512) (⟨512 * (t.val % 8) + n.val, by omega⟩ : Fin 4096))
  match a with
  | ⟨0, _⟩ => show win0_1.index t (0 : Fin 2) * 128 + 1 * k.val = 128 * (t.val % 8 % 4) + k.val; omega
  | ⟨1, _⟩ => show win0_1.index t (1 : Fin 2) * 512 + 1 * n.val = 512 * (t.val % 8) + n.val; omega

/-- A point leaves the grouped product's entries. -/
theorem outs_eq (t : Fin cfg0.N) (r : Fin 1024) (n : Fin 512) : out0_2 (iblk m c 0 t) (iblk m c 1 t) (ix2 r n)
    = groupDot (lanesOf (argP m c)) (argRe m c) (argIm m c) (1024 * (t.val / 8) + r.val) (512 * (t.val % 8) + n.val) := by
  have hn := n.isLt
  rw [out_apply]
  simp only [blk0, blk1]
  exact groupDot_eq _ _ _ _ (by omega)

theorem final : (dats m 0 c).arrAt 2 cfg0.N = groupDots (lanesOf (argP m c)) (argRe m c) (argIm m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j
      = groupDots (lanesOf (argP m c)) (argRe m c) (argIm m c) (((cfg0.win 2).blk t).view.emb j)
    have a0 : (((cfg0.win 2).blk t).view.emb j 0).val = 1024 * (t.val / 8) + (j 0).val := by
      show win0_2.index t (0 : Fin 2) * 1024 + 1 * (j 0).val = _; omega
    have a1 : (((cfg0.win 2).blk t).view.emb j 1).val = 512 * (t.val % 8) + (j 1).val := by
      show win0_2.index t (1 : Fin 2) * 512 + 1 * (j 1).val = _; omega
    refine (congrArg (out0_2 (iblk m c 0 t) (iblk m c 1 t)) (eq_ix2 (n0 := 1024) (n1 := 512) j)).trans
      ((outs_eq m c t (j 0) (j 1)).trans ?_)
    unfold groupDots
    rw [a0, a1]
  · have hi0 : (i 0).val < 8192 := (i 0).isLt
    have hi1 : (i 1).val < 4096 := (i 1).isLt
    let t : Fin cfg0.N := ⟨(i 0).val / 1024 * 8 + (i 1).val / 512, by
      rw [show cfg0.N = 64 from N_0]; omega⟩
    refine ⟨t, flush0_2 t, ?_⟩
    obtain ⟨e0, e1⟩ := ix0_2 t
    have ht : t.val = (i 0).val / 1024 * 8 + (i 1).val / 512 := rfl
    show i ∈ ((View.whole main_v25).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 512 ≤ (i 1).val ∧ (i 1).val < win0_2.index t (1 : Fin 2) * 512 + 512; omega

end Kernel

/-! ## The reference -/

section Reference

open Cert.SBuRefIdeal Cert.SBuRefIdeal.Gen Cert.SBuRefIdeal.Read

variable (P : (⟨2, ![8192, 7168]⟩ : Shape).Idx → EReal) (w wr wi : Groups)

theorem lanes (r : Fin 8192) (g : Fin 32) (c : Fin 16) : val_main_v1 (F := Ideal) P (ix3 r g c) = lanesOf P r (16 * g + c) := by
  have hr := r.isLt; have hg := g.isLt; have hc := c.isLt
  rw [val_main_v1_apply, val_main_v0_apply]
  exact eq_at2 P _ _ _
    (show ((r.val * 32 + g.val) * 16 + c.val) / 512 = r.val by omega)
    (show 6144 + ((r.val * 32 + g.val) * 16 + c.val) % 512 = 6144 + (16 * g.val + c.val) by omega)

/-- Either half: the two are one function of the family. -/
theorem ref_half (r : Fin 8192) (g : Fin 32) (p : Fin 64) :
    val_main_v3 (F := Ideal) P w (ix3 r g p) = ∑ c : Fin 16, lanesOf P r (16 * g + c) * w (ix3 g c p) := by
  unfold val_main_v3 val_main_v2
  pointwise
  simp only [lanes]
  exact Finset.sum_congr rfl fun _ _ => mul_comm _ _

/-- A half's column `a` at the group and lane it is of. -/
theorem idx_half (r : Fin 8192) (a : Fin 2048) :
    idx_main_v4 (ix2 r a) = ix3 r (⟨a.val / 64, by omega⟩ : Fin 32) (⟨a.val % 64, by omega⟩ : Fin 64) := by
  have ha := a.isLt
  have hr := r.isLt
  funext b
  refine Fin.ext ?_
  match b with
  | ⟨0, _⟩ => show (r.val * 2048 + a.val) / 2048 = r.val; omega
  | ⟨1, _⟩ => show (r.val * 2048 + a.val) / 64 % 32 = a.val / 64; omega
  | ⟨2, _⟩ => show (r.val * 2048 + a.val) % 64 = a.val % 64; omega

theorem reference_eq : val_main_v8 (F := Ideal) P wr wi = groupDots (lanesOf P) wr wi :=
  halves_eq (lanesOf P) wr wi _
    (fun r a => (val_main_v4_apply (F := Ideal) P wr _).trans
      ((congrArg (val_main_v3 (F := Ideal) P wr) (idx_half r a)).trans (ref_half P wr r _ _)))
    (fun r a => (val_main_v7_apply (F := Ideal) P wi _).trans
      ((congrArg (val_main_v6 (F := Ideal) P wi) (idx_half r a)).trans (ref_half P wi r _ _)))

end Reference

theorem reference_frame : Cert.quiescent_SBuRefIdeal := fun m ρ _ =>
  (θ_run Cert.SBuRefIdeal.defs _ _).mono (fun r h => ⟨fun c => (h c).2, sem_eq_zero_of_no_sems (by decide) r.2⟩)
    (Cert.SBuRefIdeal.Value.run (F := Ideal) m ρ)

theorem algebraic : Cert.algebraic_SBuIdeal_SBuRefIdeal := by
  intro m ρ m' ρ' _ hagree
  refine ⟨fun c => groupDots (lanesOf (argP m c)) (argRe m c) (argIm m c), ?_, ?_⟩
  · exact (θ_run Cert.SBuIdeal.defs _ _).mono (fun r h c => ⟨(h c).1.trans (final m c), (h c).2⟩)
      (Cert.SBuIdeal.Value.run_blocks (F := Ideal) m ρ)
  · refine (θ_run Cert.SBuRefIdeal.defs _ _).mono (fun r h c => ?_) (Cert.SBuRefIdeal.Value.run (F := Ideal) m' ρ')
    obtain ⟨a0, a1, a2⟩ := hagree c
    have e := (h c).1.trans ((Cert.SBuRefIdeal.Read.val_main_v8_eq _ _ _).trans (reference_eq _ _ _))
    rw [a0, a1, a2] at e
    exact ⟨e, (h c).2⟩

end Cert.Proof.SBu

end
-- ==== Proof.StateDot.lean ====
/- Hand-written: THE GROUPED PRODUCT WITH THE STATES. Each of 512 lanes is of one of 32 groups and meets the group's 64 states
   through its own line of the group's 16 × 64 matrix (`stateDot`). The kernels lay the matrices along a diagonal, zero
   elsewhere (`stateSpread`), and multiply by 512 of the 2048 states, which hold the lane's group (`stateDot_eq`). -/
module

public import proofs.«01_k».proof.Proof.GroupDot

@[expose] public section

noncomputable section

namespace Cert.Proof

open Idealize.ShloMosaic
open scoped BigOperators

/-- The group of lane `n`, and its place in the group. -/
def laneGroup (n : ℕ) : Fin 32 := ⟨n % 512 / 16, by omega⟩
def lanePlace (n : ℕ) : Fin 16 := ⟨n % 16, by omega⟩

/-- Lane `n` of row `r`: the 64 states of the lane's group against the lane's line of the group's matrix. -/
def stateDot (x : ℕ → ℕ → EReal) (w : Groups) (r n : ℕ) : EReal :=
  ∑ p : Fin 64, x r (64 * (n % 512 / 16) + p) * w (ix3 (laneGroup n) (lanePlace n) p)

/-- The whole product, added to an array. -/
def stateDots (x : ℕ → ℕ → EReal) (w : Groups) (a : (⟨2, ![8192, 512]⟩ : Shape).Idx → EReal)
    (i : (⟨2, ![8192, 512]⟩ : Shape).Idx) : EReal := a i + stateDot x w (i 0).val (i 1).val

/-- The matrices along the diagonal: lane `n`, state `k`. -/
def stateSpread (w : Groups) (n k : ℕ) : EReal :=
  if n % 512 / 16 = k / 64 then w (ix3 (laneGroup n) (lanePlace n) ⟨k % 64, by omega⟩) else 0

/-- 512 states that hold the lane's group give the group's sum: the other states' terms are zero. -/
theorem stateDot_eq (x : ℕ → ℕ → EReal) (w : Groups) {q n : ℕ} (r : ℕ) (h : n % 512 / 128 = q) :
    ∑ k : Fin 512, x r (512 * q + k) * stateSpread w n (512 * q + k) = stateDot x w r n := by
  unfold stateSpread stateDot
  simp only [mul_ite, mul_zero]
  rw [← Finset.sum_filter]
  refine Finset.sum_bij' (fun k _ => ⟨k.val % 64, by omega⟩)
    (fun p _ => ⟨64 * (n % 512 / 16) + p.val - 512 * q, by have := p.isLt; omega⟩) ?_ ?_ ?_ ?_ ?_
  · intro k _
    exact Finset.mem_univ _
  · intro p _
    have := p.isLt
    rw [Finset.mem_filter]
    refine ⟨Finset.mem_univ _, ?_⟩
    show _ = (512 * q + (64 * (n % 512 / 16) + p.val - 512 * q)) / 64
    omega
  · intro k hk
    have := (Finset.mem_filter.1 hk).2
    refine Fin.ext ?_
    show 64 * (n % 512 / 16) + k.val % 64 - 512 * q = k.val
    omega
  · intro p _
    have := p.isLt
    refine Fin.ext ?_
    show (64 * (n % 512 / 16) + p.val - 512 * q) % 64 = p.val
    omega
  · intro k hk
    have := (Finset.mem_filter.1 hk).2
    have e : 512 * q + k.val = 64 * (n % 512 / 16) + k.val % 64 := by omega
    have e' : (512 * q + k.val) % 64 = k.val % 64 := by omega
    simp only [e']
    exact congrArg (fun l => x r l * _) e

/-- Either half of the wide matrix is its family's. -/
theorem spread_left (wr wi : Groups) {k n : ℕ} (hk : k < 512) (hn : n < 2048) : spread wr wi k n = stateSpread wr k n := by
  unfold spread stateSpread half
  rw [if_pos hn]
  by_cases h : k / 16 = n % 2048 / 64
  · rw [if_pos h, if_pos (show k % 512 / 16 = n / 64 by omega)]
    have e : group n = laneGroup k := Fin.ext (show n % 2048 / 64 = k % 512 / 16 by omega)
    rw [e]
    rfl
  · rw [if_neg h, if_neg (show ¬ k % 512 / 16 = n / 64 by omega)]

theorem spread_right (wr wi : Groups) {k n : ℕ} (hk : k < 512) (hn : n < 2048) :
    spread wr wi k (2048 + n) = stateSpread wi k n := by
  unfold spread stateSpread half
  rw [if_neg (show ¬ 2048 + n < 2048 by omega)]
  by_cases h : k / 16 = (2048 + n) % 2048 / 64
  · rw [if_pos h, if_pos (show k % 512 / 16 = n / 64 by omega)]
    have e : group (2048 + n) = laneGroup k := Fin.ext (show (2048 + n) % 2048 / 64 = k % 512 / 16 by omega)
    have e' : lane (2048 + n) = ⟨n % 64, by omega⟩ := Fin.ext (show (2048 + n) % 64 = n % 64 by omega)
    rw [e, e']
    rfl
  · rw [if_neg h, if_neg (show ¬ k % 512 / 16 = n / 64 by omega)]

end Cert.Proof

end
-- ==== Proof.SyRe.lean ====
/- Hand-written: THE MIXER'S OUTPUT FROM THE REAL PARTS OF ITS STATES (`s5_y_re`). The program lays the output matrices along the diagonal of one
   2048 × 512 matrix, and grid point `t` multiplies 1024 rows of 512 states by 128 of its columns. That and the
   reference's sums over a group are StateDot.lean's. -/
module

public import proofs.«01_k».proof.Defs
public import proofs.«01_k».proof.Proof.StateDot
public import proofs.«01_k».proof.Proof.SyX
public import proofs.«01_k».proof.Proof.Gen.SyRe.Frame
public import proofs.«01_k».proof.Proof.Gen.SyReIdeal.Frame
public import proofs.«01_k».proof.Proof.Gen.SyReIdeal.Value
public import proofs.«01_k».proof.Proof.Gen.SyReRefIdeal.Run
public import proofs.«01_k».proof.Proof.Gen.SyReRefIdeal.Read
public import Idealize.ShloMosaic.Lib.Quiescent

@[expose] public section

set_option maxRecDepth 16384

noncomputable section

namespace Cert.Proof.SyRe

open Idealize.ShloMosaic Idealize.ShloMosaic.TcCoe Idealize.SL.Sem
open scoped BigOperators

/-- The whole product. -/
def product (x : ℕ → ℕ → EReal) (w : Groups) (i : (⟨2, ![8192, 512]⟩ : Shape).Idx) : EReal := stateDot x w (i 0).val (i 1).val

section Kernel

open Cert.SyReIdeal Cert.SyReIdeal.Gen Cert.SyReIdeal.Value

/-- A family's matrices, transposed, along the diagonal. -/
theorem diagonal_state (w : Groups) (t : FVec Ideal S32x64x16 .f32) (h : ∀ (g : Fin 32) (p : Fin 64) (c : Fin 16), t (ix3 g p c) = w (ix3 g c p))
    (a : Fin 2048) (k : Fin 512) : SyX.diagonal t (ix2 a k) = stateSpread w k a := by
  have ha := a.isLt
  have hk := k.isLt
  rw [SyX.diagonal_apply, h]
  unfold stateSpread
  by_cases e : k.val / 16 = a.val / 64
  · rw [if_pos e, if_pos (show k.val % 512 / 16 = a.val / 64 by omega)]
    have e' : (⟨a.val / 64, by omega⟩ : Fin 32) = laneGroup k := Fin.ext (show a.val / 64 = k.val % 512 / 16 by omega)
    rw [e']
    rfl
  · rw [if_neg e, if_neg (show ¬ k.val % 512 / 16 = a.val / 64 by omega)]

variable (m : (ℓ : Loc nD τ sig) → Buf (Elt Ideal) ℓ) (ρ : Dev nD → PrngReg) (c : Dev nD)

abbrev argH : (⟨2, ![8192, 2048]⟩ : Shape).Idx → EReal := m ((c : Thread nD τ).loc main_arg0)
abbrev argC : Groups := m ((c : Thread nD τ).loc main_arg1)

/-- What the region finds as its second operand. -/
theorem matrix_eq : (V m c main_v12 : (⟨2, ![2048, 512]⟩ : Shape).Idx → EReal) = SyX.diagonal (transpose S32x64x16 [0, 2, 1] (argC m c) transposes_S32x16x64_S32x64x16_0_2_1) := by
  show StableHlo.after hostOps0 (fun b => m (c, b)) main_v12 = _
  after_results <;> rfl

theorem matrix_apply (k : Fin 2048) (n : Fin 512) : (V m c main_v12 : (⟨2, ![2048, 512]⟩ : Shape).Idx → EReal) (ix2 k n)
    = stateSpread (argC m c) n k :=
  (congrFun (matrix_eq m c) _).trans (diagonal_state _ _ (fun g p c' => by pointwise) k n)

/-! ## What a point leaves -/

theorem out_apply (x0 : Vec Ideal S1024x512 .f32) (x1 : Vec Ideal S512x128 .f32) (r : Fin 1024) (n : Fin 128) :
    out0_2 (F := Ideal) x0 x1 (ix2 r n) = ∑ k : Fin 512, x0 (ix2 r k) * x1 (ix2 k n) := by
  unfold out0_2
  rw [View.canon_unit_zero zero_pair]
  simp only [View.ld_unit_zero (S := S1024x512) zero_pair, View.ld_unit_zero (S := S512x128) zero_pair]
  unfold k0_pay1
  rw [shapeCast_self]
  pointwise

theorem ix0_0 : ∀ t : Fin cfg0.N, win0_0.index t (0 : Fin 2) = t.val / 4 ∧ win0_0.index t (1 : Fin 2) = t.val % 4 :=
  (by decide +kernel : ∀ t : Fin grid0.N, _)
theorem ix0_1 : ∀ t : Fin cfg0.N, win0_1.index t (0 : Fin 2) = t.val % 4 ∧ win0_1.index t (1 : Fin 2) = t.val % 4 :=
  (by decide +kernel : ∀ t : Fin grid0.N, _)
theorem ix0_2 : ∀ t : Fin cfg0.N, win0_2.index t (0 : Fin 2) = t.val / 4 ∧ win0_2.index t (1 : Fin 2) = t.val % 4 :=
  (by decide +kernel : ∀ t : Fin grid0.N, _)

theorem blk0 (t : Fin cfg0.N) (r : Fin 1024) (k : Fin 512) : (iblk m c 0 t : Vec Ideal S1024x512 .f32) (ix2 r k)
    = at2 (argH m c) (1024 * (t.val / 4) + r.val) (512 * (t.val % 4) + k.val) := by
  obtain ⟨e0, e1⟩ := ix0_0 t
  show (V m c main_arg0 : (⟨2, ![8192, 2048]⟩ : Shape).Idx → EReal) (((cfg0.win 0).blk t).view.emb (ix2 r k)) = _
  rw [V_main_arg0]
  refine eq_at2 (argH m c) (((cfg0.win 0).blk t).view.emb (ix2 r k)) _ _ ?_ ?_
  · show win0_0.index t (0 : Fin 2) * 1024 + 1 * r.val = _; omega
  · show win0_0.index t (1 : Fin 2) * 512 + 1 * k.val = _; omega

theorem blk1 (t : Fin cfg0.N) (k : Fin 512) (n : Fin 128) : (iblk m c 1 t : Vec Ideal S512x128 .f32) (ix2 k n)
    = stateSpread (argC m c) (128 * (t.val % 4) + n.val) (512 * (t.val % 4) + k.val) := by
  obtain ⟨e0, e1⟩ := ix0_1 t
  have hn := n.isLt
  have hk := k.isLt
  refine Eq.trans (congrArg (V m c main_v12 : (⟨2, ![2048, 512]⟩ : Shape).Idx → EReal) (funext fun a => Fin.ext ?_))
    (matrix_apply m c (⟨512 * (t.val % 4) + k.val, by omega⟩ : Fin 2048) (⟨128 * (t.val % 4) + n.val, by omega⟩ : Fin 512))
  match a with
  | ⟨0, _⟩ => show win0_1.index t (0 : Fin 2) * 512 + 1 * k.val = 512 * (t.val % 4) + k.val; omega
  | ⟨1, _⟩ => show win0_1.index t (1 : Fin 2) * 128 + 1 * n.val = 128 * (t.val % 4) + n.val; omega

/-- A point leaves the grouped product's entries. -/
theorem outs_eq (t : Fin cfg0.N) (r : Fin 1024) (n : Fin 128) : out0_2 (iblk m c 0 t) (iblk m c 1 t) (ix2 r n)
    = stateDot (at2 (argH m c)) (argC m c) (1024 * (t.val / 4) + r.val) (128 * (t.val % 4) + n.val) := by
  have hn := n.isLt
  rw [out_apply]
  simp only [blk0, blk1]
  exact stateDot_eq _ _ _ (by omega)

theorem final : (dats m 0 c).arrAt 2 cfg0.N = product (at2 (argH m c)) (argC m c) := by
  refine (dats m 0 c).arrAt_eq_of_cover 2 _ (fun t _ => ?_) (fun i => ?_)
  · rw [flushed2 m c t]
    funext j
    obtain ⟨e0, e1⟩ := ix0_2 t
    show out0_2 (iblk m c 0 t) (iblk m c 1 t) j = product (at2 (argH m c)) (argC m c) (((cfg0.win 2).blk t).view.emb j)
    have a0 : (((cfg0.win 2).blk t).view.emb j 0).val = 1024 * (t.val / 4) + (j 0).val := by
      show win0_2.index t (0 : Fin 2) * 1024 + 1 * (j 0).val = _; omega
    have a1 : (((cfg0.win 2).blk t).view.emb j 1).val = 128 * (t.val % 4) + (j 1).val := by
      show win0_2.index t (1 : Fin 2) * 128 + 1 * (j 1).val = _; omega
    refine (congrArg (out0_2 (iblk m c 0 t) (iblk m c 1 t)) (eq_ix2 (n0 := 1024) (n1 := 128) j)).trans
      ((outs_eq m c t (j 0) (j 1)).trans ?_)
    unfold product
    rw [a0, a1]
  · have hi0 : (i 0).val < 8192 := (i 0).isLt
    have hi1 : (i 1).val < 512 := (i 1).isLt
    let t : Fin cfg0.N := ⟨(i 0).val / 1024 * 4 + (i 1).val / 128, by
      rw [show cfg0.N = 32 from N_0]; omega⟩
    refine ⟨t, flush0_2 t, ?_⟩
    obtain ⟨e0, e1⟩ := ix0_2 t
    have ht : t.val = (i 0).val / 1024 * 4 + (i 1).val / 128 := rfl
    show i ∈ ((View.whole main_v13).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; omega
    | ⟨1, _⟩ => show win0_2.index t (1 : Fin 2) * 128 ≤ (i 1).val ∧ (i 1).val < win0_2.index t (1 : Fin 2) * 128 + 128; omega

end Kernel

/-! ## The reference -/

section Reference

open Cert.SyReRefIdeal Cert.SyReRefIdeal.Gen Cert.SyReRefIdeal.Read

variable (X : (⟨2, ![8192, 2048]⟩ : Shape).Idx → EReal) (w : Groups)

theorem states (r : Fin 8192) (g : Fin 32) (p : Fin 64) : val_main_v0 (F := Ideal) X (ix3 r g p) = at2 X r (64 * g + p) := by
  have hg := g.isLt; have hp := p.isLt
  rw [val_main_v0_apply]
  exact eq_at2 X _ _ _
    (show ((r.val * 32 + g.val) * 64 + p.val) / 2048 = r.val by omega)
    (show ((r.val * 32 + g.val) * 64 + p.val) % 2048 = 64 * g.val + p.val by omega)

theorem ref_group (r : Fin 8192) (g : Fin 32) (c : Fin 16) :
    val_main_v2 (F := Ideal) X w (ix3 r g c) = ∑ p : Fin 64, at2 X r (64 * g + p) * w (ix3 g c p) := by
  unfold val_main_v2 val_main_v1
  pointwise
  simp only [states]
  exact Finset.sum_congr rfl fun _ _ => mul_comm _ _

/-- Lane `n` at the group and place it is of. -/
theorem idx_lane (r : Fin 8192) (n : Fin 512) : idx_main_v3 (ix2 r n) = ix3 r (laneGroup n) (lanePlace n) := by
  have hn := n.isLt
  have hr := r.isLt
  funext b
  refine Fin.ext ?_
  match b with
  | ⟨0, _⟩ => show (r.val * 512 + n.val) / 512 = r.val; omega
  | ⟨1, _⟩ => show (r.val * 512 + n.val) / 16 % 32 = n.val % 512 / 16; omega
  | ⟨2, _⟩ => show (r.val * 512 + n.val) % 16 = n.val % 16; omega

theorem reference_eq : val_main_v3 (F := Ideal) X w = product (at2 X) w := by
  funext i
  obtain ⟨r, n, rfl⟩ : ∃ (r : Fin 8192) (n : Fin 512), i = ix2 r n := ⟨i 0, i 1, eq_ix2 (n0 := 8192) (n1 := 512) i⟩
  exact (val_main_v3_apply (F := Ideal) X w _).trans ((congrArg (val_main_v2 (F := Ideal) X w) (idx_lane r n)).trans (ref_group X w r _ _))

end Reference

theorem reference_frame : Cert.quiescent_SyReRefIdeal := fun m ρ _ =>
  (θ_run Cert.SyReRefIdeal.defs _ _).mono (fun r h => ⟨fun c => (h c).2, sem_eq_zero_of_no_sems (by decide) r.2⟩)
    (Cert.SyReRefIdeal.Value.run (F := Ideal) m ρ)

theorem algebraic : Cert.algebraic_SyReIdeal_SyReRefIdeal := by
  intro m ρ m' ρ' _ hagree
  refine ⟨fun c => product (at2 (argH m c)) (argC m c), ?_, ?_⟩
  · exact (θ_run Cert.SyReIdeal.defs _ _).mono (fun r h c => ⟨(h c).1.trans (final m c), (h c).2⟩)
      (Cert.SyReIdeal.Value.run_blocks (F := Ideal) m ρ)
  · refine (θ_run Cert.SyReRefIdeal.defs _ _).mono (fun r h c => ?_) (Cert.SyReRefIdeal.Value.run (F := Ideal) m' ρ')
    obtain ⟨a0, a1⟩ := hagree c
    have e := (h c).1.trans ((Cert.SyReRefIdeal.Read.val_main_v3_eq _ _).trans (reference_eq _ _))
    rw [a0, a1] at e
    exact ⟨e, (h c).2⟩

end Cert.Proof.SyRe

end
-- ==== Proof.SyIm.lean ====
/- Hand-written: THE MIXER'S OUTPUT FROM THE IMAGINARY PARTS OF ITS STATES (`s5_y_im`), added to an array: as SyRe.lean, the matrices
   negated before they are laid along the diagonal. -/
module

public import proofs.«01_k».proof.Defs
public import proofs.«01_k».proof.Proof.SyRe
public import proofs.«01_k».proof.Proof.Gen.SyIm.Frame
public import proofs.«01_k».proof.Proof.Gen.SyImIdeal.Frame
public import proofs.«01_k».proof.Proof.Gen.SyImIdeal.Value
public import proofs.«01_k».proof.Proof.Gen.SyImRefIdeal.Run
public import proofs.«01_k».proof.Proof.Gen.SyImRefIdeal.Read
public import Idealize.ShloMosaic.Lib.Quiescent

@[expose] public section

set_option maxRecDepth 16384

noncomputable section

namespace Cert.Proof.SyIm

open Idealize.ShloMosaic Idealize.ShloMosaic.TcCoe Idealize.SL.Sem
open scoped BigOperators

section Kernel

open Cert.SyImIdeal Cert.SyImIdeal.Gen Cert.SyImIdeal.Value

variable (m : (ℓ : Loc nD τ sig) → Buf (Elt Ideal) ℓ) (ρ : Dev nD → PrngReg) (c : Dev nD)

abbrev argH : (⟨2, ![8192, 2048]⟩ : Shape).Idx → EReal := m ((c : Thread nD τ).loc main_arg0)
abbrev argC : Groups := m ((c : Thread nD τ).loc main_arg1)
abbrev argRes : (⟨2, ![8192, 512]⟩ : Shape).Idx → EReal := m ((c : Thread nD τ).loc main_arg2)

/-- What the region finds as its second operand. -/
theorem matrix_eq : (V m c main_v13 : (⟨2, ![2048, 512]⟩ : Shape).Idx → EReal) = SyX.diagonal (Host.negf (transpose S32x64x16 [0, 2, 1] (argC m c) transposes_S32x16x64_S32x64x16_0_2_1)) := by
  show StableHlo.after hostOps0 (fun b => m (c, b)) main_v13 = _
  after_results <;> rfl

theorem matrix_apply (k : Fin 2048) (n : Fin 512) : (V m c main_v13 : (⟨2, ![2048, 512]⟩ : Shape).Idx → EReal) (ix2 k n)
    = stateSpread (SyX.minus (argC m c)) n k :=
  (congrFun (matrix_eq m c) _).trans (SyRe.diagonal_state _ _ (fun g p c' => by pointwise) k n)

/-! ## What a point leaves -/

theorem out_apply (x0 : Vec Ideal S1024x512 .f32) (x1 : Vec Ideal S512x128 .f32) (x2 : Vec Ideal S1024x128 .f32) (r : Fin 1024) (n : Fin 128) :
    out0_3 (F := Ideal) x0 x1 x2 (ix2 r n) = x2 (ix2 r n) + ∑ k : Fin 512, x0 (ix2 r k) * x1 (ix2 k n) := by
  unfold out0_3
  rw [View.canon_unit_zero zero_pair]
  simp only [View.ld_unit_zero (S := S1024x512) zero_pair, View.ld_unit_zero (S := S512x128) zero_pair, View.ld_unit_zero (S := S1024x128) zero_pair]
  unfold k0_pay1
  rw [shapeCast_self]
  pointwise
  exact add_comm _ _

theorem ix0_0 : ∀ t : Fin cfg0.N, win0_0.index t (0 : Fin 2) = t.val / 4 ∧ win0_0.index t (1 : Fin 2) = t.val % 4 :=
  (by decide +kernel : ∀ t : Fin grid0.N, _)
theorem ix0_1 : ∀ t : Fin cfg0.N, win0_1.index t (0 : Fin 2) = t.val % 4 ∧ win0_1.index t (1 : Fin 2) = t.val % 4 :=
  (by decide +kernel : ∀ t : Fin grid0.N, _)
theorem ix0_2 : ∀ t : Fin cfg0.N, win0_2.index t (0 : Fin 2) = t.val / 4 ∧ win0_2.index t (1 : Fin 2) = t.val % 4 :=
  (by decide +kernel : ∀ t : Fin grid0.N, _)
theorem ix0_3 : ∀ t : Fin cfg0.N, win0_3.index t (0 : Fin 2) = t.val / 4 ∧ win0_3.index t (1 : Fin 2) = t.val % 4 :=
  (by decide +kernel : ∀ t : Fin grid0.N, _)

theorem blk0 (t : Fin cfg0.N) (r : Fin 1024) (k : Fin 512) : (iblk m c 0 t : Vec Ideal S1024x512 .f32) (ix2 r k)
    = at2 (argH m c) (1024 * (t.val / 4) + r.val) (512 * (t.val % 4) + k.val) := by
  obtain ⟨e0, e1⟩ := ix0_0 t
  show (V m c main_arg0 : (⟨2, ![8192, 2048]⟩ : Shape).Idx → EReal) (((cfg0.win 0).blk t).view.emb (ix2 r k)) = _
  rw [V_main_arg0]
  refine eq_at2 (argH m c) (((cfg0.win 0).blk t).view.emb (ix2 r k)) _ _ ?_ ?_
  · show win0_0.index t (0 : Fin 2) * 1024 + 1 * r.val = _; omega
  · show win0_0.index t (1 : Fin 2) * 512 + 1 * k.val = _; omega

theorem blk1 (t : Fin cfg0.N) (k : Fin 512) (n : Fin 128) : (iblk m c 1 t : Vec Ideal S512x128 .f32) (ix2 k n)
    = stateSpread (SyX.minus (argC m c)) (128 * (t.val % 4) + n.val) (512 * (t.val % 4) + k.val) := by
  obtain ⟨e0, e1⟩ := ix0_1 t
  have hn := n.isLt
  have hk := k.isLt
  refine Eq.trans (congrArg (V m c main_v13 : (⟨2, ![2048, 512]⟩ : Shape).Idx → EReal) (funext fun a => Fin.ext ?_))
    (matrix_apply m c (⟨512 * (t.val % 4) + k.val, by omega⟩ : Fin 2048) (⟨128 * (t.val % 4) + n.val, by omega⟩ : Fin 512))
  match a with
  | ⟨0, _⟩ => show win0_1.index t (0 : Fin 2) * 512 + 1 * k.val = 512 * (t.val % 4) + k.val; omega
  | ⟨1, _⟩ => show win0_1.index t (1 : Fin 2) * 128 + 1 * n.val = 128 * (t.val % 4) + n.val; omega

theorem blk2 (t : Fin cfg0.N) (r : Fin 1024) (n : Fin 128) : (iblk m c 2 t : Vec Ideal S1024x128 .f32) (ix2 r n)
    = at2 (argRes m c) (1024 * (t.val / 4) + r.val) (128 * (t.val % 4) + n.val) := by
  obtain ⟨e0, e1⟩ := ix0_2 t
  show (V m c main_arg2 : (⟨2, ![8192, 512]⟩ : Shape).Idx → EReal) (((cfg0.win 2).blk t).view.emb (ix2 r n)) = _
  rw [V_main_arg2]
  refine eq_at2 (argRes m c) (((cfg0.win 2).blk t).view.emb (ix2 r n)) _ _ ?_ ?_
  · show win0_2.index t (0 : Fin 2) * 1024 + 1 * r.val = _; omega
  · show win0_2.index t (1 : Fin 2) * 128 + 1 * n.val = _; omega

/-- A point leaves the grouped product's entries. -/
theorem outs_eq (t : Fin cfg0.N) (r : Fin 1024) (n : Fin 128) : out0_3 (iblk m c 0 t) (iblk m c 1 t) (iblk m c 2 t) (ix2 r n)
    = at2 (argRes m c) (1024 * (t.val / 4) + r.val) (128 * (t.val % 4) + n.val) + stateDot (at2 (argH m c)) (SyX.minus (argC m c)) (1024 * (t.val / 4) + r.val) (128 * (t.val % 4) + n.val) := by
  have hn := n.isLt
  rw [out_apply]
  simp only [blk0, blk1, blk2]
  exact congrArg (_ + ·) (stateDot_eq _ _ _ (by omega))

theorem final : (dats m 0 c).arrAt 3 cfg0.N = stateDots (at2 (argH m c)) (SyX.minus (argC m c)) (argRes m c) := by
  refine (dats m 0 c).arrAt_eq_of_cover 3 _ (fun t _ => ?_) (fun i => ?_)
  · rw [flushed3 m c t]
    funext j
    obtain ⟨e0, e1⟩ := ix0_3 t
    show out0_3 (iblk m c 0 t) (iblk m c 1 t) (iblk m c 2 t) j = stateDots (at2 (argH m c)) (SyX.minus (argC m c)) (argRes m c) (((cfg0.win 3).blk t).view.emb j)
    have a0 : (((cfg0.win 3).blk t).view.emb j 0).val = 1024 * (t.val / 4) + (j 0).val := by
      show win0_3.index t (0 : Fin 2) * 1024 + 1 * (j 0).val = _; omega
    have a1 : (((cfg0.win 3).blk t).view.emb j 1).val = 128 * (t.val % 4) + (j 1).val := by
      show win0_3.index t (1 : Fin 2) * 128 + 1 * (j 1).val = _; omega
    refine (congrArg (out0_3 (iblk m c 0 t) (iblk m c 1 t) (iblk m c 2 t)) (eq_ix2 (n0 := 1024) (n1 := 128) j)).trans
      ((outs_eq m c t (j 0) (j 1)).trans ?_)
    unfold stateDots
    rw [a0, a1]
    refine congrArg (· + _) ?_
    exact (eq_at2 (argRes m c) (((cfg0.win 3).blk t).view.emb j) _ _ a0 a1).symm
  · have hi0 : (i 0).val < 8192 := (i 0).isLt
    have hi1 : (i 1).val < 512 := (i 1).isLt
    let t : Fin cfg0.N := ⟨(i 0).val / 1024 * 4 + (i 1).val / 128, by
      rw [show cfg0.N = 32 from N_0]; omega⟩
    refine ⟨t, flush0_3 t, ?_⟩
    obtain ⟨e0, e1⟩ := ix0_3 t
    have ht : t.val = (i 0).val / 1024 * 4 + (i 1).val / 128 := rfl
    show i ∈ ((View.whole main_v14).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 128 ≤ (i 1).val ∧ (i 1).val < win0_3.index t (1 : Fin 2) * 128 + 128; omega

end Kernel

/-! ## The reference -/

section Reference

open Cert.SyImRefIdeal Cert.SyImRefIdeal.Gen Cert.SyImRefIdeal.Read

variable (X : (⟨2, ![8192, 2048]⟩ : Shape).Idx → EReal) (w : Groups)

/-- The reference's product is that of the real parts over the negated matrices. -/
theorem reference_eq (a : (⟨2, ![8192, 512]⟩ : Shape).Idx → EReal) : val_main_v5 (F := Ideal) X w a = stateDots (at2 X) (SyX.minus w) a := by
  funext i
  exact (val_main_v5_apply (F := Ideal) X w a i).trans (congrArg (a i + ·) (congrFun (SyRe.reference_eq X (SyX.minus w)) i))

end Reference

theorem reference_frame : Cert.quiescent_SyImRefIdeal := fun m ρ _ =>
  (θ_run Cert.SyImRefIdeal.defs _ _).mono (fun r h => ⟨fun c => (h c).2, sem_eq_zero_of_no_sems (by decide) r.2⟩)
    (Cert.SyImRefIdeal.Value.run (F := Ideal) m ρ)

theorem algebraic : Cert.algebraic_SyImIdeal_SyImRefIdeal := by
  intro m ρ m' ρ' _ hagree
  refine ⟨fun c => stateDots (at2 (argH m c)) (SyX.minus (argC m c)) (argRes m c), ?_, ?_⟩
  · exact (θ_run Cert.SyImIdeal.defs _ _).mono (fun r h c => ⟨(h c).1.trans (final m c), (h c).2⟩)
      (Cert.SyImIdeal.Value.run_blocks (F := Ideal) m ρ)
  · refine (θ_run Cert.SyImRefIdeal.defs _ _).mono (fun r h c => ?_) (Cert.SyImRefIdeal.Value.run (F := Ideal) m' ρ')
    obtain ⟨a0, a1, a2⟩ := hagree c
    have e := (h c).1.trans ((Cert.SyImRefIdeal.Read.val_main_v5_eq _ _ _).trans (reference_eq _ _ _))
    rw [a0, a1, a2] at e
    exact ⟨e, (h c).2⟩

end Cert.Proof.SyIm

end
-- ==== Proof.SBuX0.lean ====
/- Hand-written: THE FIRST HALF OF THE GRADIENT OF THE MIXER'S INPUT (`d_s5_bu_x0`), from the real parts of the states' gradient. The program makes
   the wide matrix of SBu.lean, and grid point `t` multiplies 1024 rows of 512 states by 128 of its rows, among its first
   2048 columns, and adds the last argument. That and the reference's sums over a group are StateDot.lean's. -/
module

public import proofs.«01_k».proof.Defs
public import proofs.«01_k».proof.Proof.StateDot
public import proofs.«01_k».proof.Proof.SBu
public import proofs.«01_k».proof.Proof.Gen.SBuX0.Frame
public import proofs.«01_k».proof.Proof.Gen.SBuX0Ideal.Frame
public import proofs.«01_k».proof.Proof.Gen.SBuX0Ideal.Value
public import proofs.«01_k».proof.Proof.Gen.SBuX0RefIdeal.Run
public import proofs.«01_k».proof.Proof.Gen.SBuX0RefIdeal.Read
public import Idealize.ShloMosaic.Lib.Quiescent

@[expose] public section

set_option maxRecDepth 16384

noncomputable section

namespace Cert.Proof.SBuX0

open Idealize.ShloMosaic Idealize.ShloMosaic.TcCoe Idealize.SL.Sem
open scoped BigOperators

section Kernel

open Cert.SBuX0Ideal Cert.SBuX0Ideal.Gen Cert.SBuX0Ideal.Value

variable (m : (ℓ : Loc nD τ sig) → Buf (Elt Ideal) ℓ) (ρ : Dev nD → PrngReg) (c : Dev nD)

abbrev argH : (⟨2, ![8192, 2048]⟩ : Shape).Idx → EReal := m ((c : Thread nD τ).loc main_arg0)
abbrev argRe : Groups := m ((c : Thread nD τ).loc main_arg1)
abbrev argIm : Groups := m ((c : Thread nD τ).loc main_arg2)
abbrev argRes : (⟨2, ![8192, 512]⟩ : Shape).Idx → EReal := m ((c : Thread nD τ).loc main_arg3)

/-- What the region finds as its second operand. -/
theorem matrix_eq : (V m c main_v24 : (⟨2, ![512, 4096]⟩ : Shape).Idx → EReal) = concatenate S512x4096 1
    [⟨S512x2048, SBu.diagonal (argRe m c)⟩, ⟨S512x2048, SBu.diagonal (argIm m c)⟩] concatenates_S512x2048_S512x2048_S512x4096_d1 := by
  show StableHlo.after hostOps0 (fun b => m (c, b)) main_v24 = _
  after_results <;> rfl

/-! ## What a point leaves -/

theorem out_apply (x0 : Vec Ideal S1024x512 .f32) (x1 : Vec Ideal S128x512 .f32) (x2 : Vec Ideal S1024x128 .f32) (r : Fin 1024) (n : Fin 128) :
    out0_3 (F := Ideal) x0 x1 x2 (ix2 r n) = x2 (ix2 r n) + ∑ k : Fin 512, x0 (ix2 r k) * x1 (ix2 n k) := by
  unfold out0_3
  rw [View.canon_unit_zero zero_pair]
  simp only [View.ld_unit_zero (S := S1024x512) zero_pair, View.ld_unit_zero (S := S128x512) zero_pair, View.ld_unit_zero (S := S1024x128) zero_pair]
  unfold k0_pay1
  rw [shapeCast_self]
  pointwise
  exact add_comm _ _

theorem ix0_0 : ∀ t : Fin cfg0.N, win0_0.index t (0 : Fin 2) = t.val / 4 ∧ win0_0.index t (1 : Fin 2) = t.val % 4 :=
  (by decide +kernel : ∀ t : Fin grid0.N, _)
theorem ix0_1 : ∀ t : Fin cfg0.N, win0_1.index t (0 : Fin 2) = t.val % 4 ∧ win0_1.index t (1 : Fin 2) = t.val % 4 :=
  (by decide +kernel : ∀ t : Fin grid0.N, _)
theorem ix0_2 : ∀ t : Fin cfg0.N, win0_2.index t (0 : Fin 2) = t.val / 4 ∧ win0_2.index t (1 : Fin 2) = t.val % 4 :=
  (by decide +kernel : ∀ t : Fin grid0.N, _)
theorem ix0_3 : ∀ t : Fin cfg0.N, win0_3.index t (0 : Fin 2) = t.val / 4 ∧ win0_3.index t (1 : Fin 2) = t.val % 4 :=
  (by decide +kernel : ∀ t : Fin grid0.N, _)

theorem blk0 (t : Fin cfg0.N) (r : Fin 1024) (k : Fin 512) : (iblk m c 0 t : Vec Ideal S1024x512 .f32) (ix2 r k)
    = at2 (argH m c) (1024 * (t.val / 4) + r.val) (512 * (t.val % 4) + k.val) := by
  obtain ⟨e0, e1⟩ := ix0_0 t
  show (V m c main_arg0 : (⟨2, ![8192, 2048]⟩ : Shape).Idx → EReal) (((cfg0.win 0).blk t).view.emb (ix2 r k)) = _
  rw [V_main_arg0]
  refine eq_at2 (argH m c) (((cfg0.win 0).blk t).view.emb (ix2 r k)) _ _ ?_ ?_
  · show win0_0.index t (0 : Fin 2) * 1024 + 1 * r.val = _; omega
  · show win0_0.index t (1 : Fin 2) * 512 + 1 * k.val = _; omega

theorem blk1 (t : Fin cfg0.N) (n : Fin 128) (k : Fin 512) : (iblk m c 1 t : Vec Ideal S128x512 .f32) (ix2 n k)
    = stateSpread (argRe m c) (128 * (t.val % 4) + n.val) (512 * (t.val % 4) + k.val) := by
  obtain ⟨e0, e1⟩ := ix0_1 t
  have hn := n.isLt
  have hk := k.isLt
  refine Eq.trans (congrArg (V m c main_v24 : (⟨2, ![512, 4096]⟩ : Shape).Idx → EReal) (funext fun a => Fin.ext ?_))
    ((congrFun (matrix_eq m c) _).trans ((SBu.both_apply _ _ (⟨128 * (t.val % 4) + n.val, by omega⟩ : Fin 512)
      (⟨512 * (t.val % 4) + k.val, by omega⟩ : Fin 4096)).trans (spread_left _ _ (show 128 * (t.val % 4) + n.val < 512 by omega)
        (show 512 * (t.val % 4) + k.val < 2048 by omega))))
  match a with
  | ⟨0, _⟩ => show win0_1.index t (0 : Fin 2) * 128 + 1 * n.val = 128 * (t.val % 4) + n.val; omega
  | ⟨1, _⟩ => show win0_1.index t (1 : Fin 2) * 512 + 1 * k.val = 512 * (t.val % 4) + k.val; omega

theorem blk2 (t : Fin cfg0.N) (r : Fin 1024) (n : Fin 128) : (iblk m c 2 t : Vec Ideal S1024x128 .f32) (ix2 r n)
    = at2 (argRes m c) (1024 * (t.val / 4) + r.val) (128 * (t.val % 4) + n.val) := by
  obtain ⟨e0, e1⟩ := ix0_2 t
  show (V m c main_arg3 : (⟨2, ![8192, 512]⟩ : Shape).Idx → EReal) (((cfg0.win 2).blk t).view.emb (ix2 r n)) = _
  rw [V_main_arg3]
  refine eq_at2 (argRes m c) (((cfg0.win 2).blk t).view.emb (ix2 r n)) _ _ ?_ ?_
  · show win0_2.index t (0 : Fin 2) * 1024 + 1 * r.val = _; omega
  · show win0_2.index t (1 : Fin 2) * 128 + 1 * n.val = _; omega

/-- A point leaves the grouped product's entries, added to the last argument's. -/
theorem outs_eq (t : Fin cfg0.N) (r : Fin 1024) (n : Fin 128) : out0_3 (iblk m c 0 t) (iblk m c 1 t) (iblk m c 2 t) (ix2 r n)
    = at2 (argRes m c) (1024 * (t.val / 4) + r.val) (128 * (t.val % 4) + n.val)
      + stateDot (at2 (argH m c)) (argRe m c) (1024 * (t.val / 4) + r.val) (128 * (t.val % 4) + n.val) := by
  have hn := n.isLt
  refine (out_apply _ _ _ r n).trans ?_
  simp only [blk0, blk1, blk2]
  exact congrArg (_ + ·) (stateDot_eq _ _ _ (by omega))

theorem final : (dats m 0 c).arrAt 3 cfg0.N = stateDots (at2 (argH m c)) (argRe m c) (argRes m c) := by
  refine (dats m 0 c).arrAt_eq_of_cover 3 _ (fun t _ => ?_) (fun i => ?_)
  · rw [flushed3 m c t]
    funext j
    obtain ⟨e0, e1⟩ := ix0_3 t
    show out0_3 (iblk m c 0 t) (iblk m c 1 t) (iblk m c 2 t) j = stateDots (at2 (argH m c)) (argRe m c) (argRes m c) (((cfg0.win 3).blk t).view.emb j)
    have a0 : (((cfg0.win 3).blk t).view.emb j 0).val = 1024 * (t.val / 4) + (j 0).val := by
      show win0_3.index t (0 : Fin 2) * 1024 + 1 * (j 0).val = _; omega
    have a1 : (((cfg0.win 3).blk t).view.emb j 1).val = 128 * (t.val % 4) + (j 1).val := by
      show win0_3.index t (1 : Fin 2) * 128 + 1 * (j 1).val = _; omega
    refine (congrArg (out0_3 (iblk m c 0 t) (iblk m c 1 t) (iblk m c 2 t)) (eq_ix2 (n0 := 1024) (n1 := 128) j)).trans
      ((outs_eq m c t (j 0) (j 1)).trans ?_)
    unfold stateDots
    rw [a0, a1]
    refine congrArg (· + _) ?_
    exact (eq_at2 (argRes m c) (((cfg0.win 3).blk t).view.emb j) _ _ a0 a1).symm
  · have hi0 : (i 0).val < 8192 := (i 0).isLt
    have hi1 : (i 1).val < 512 := (i 1).isLt
    let t : Fin cfg0.N := ⟨(i 0).val / 1024 * 4 + (i 1).val / 128, by
      rw [show cfg0.N = 32 from N_0]; omega⟩
    refine ⟨t, flush0_3 t, ?_⟩
    obtain ⟨e0, e1⟩ := ix0_3 t
    have ht : t.val = (i 0).val / 1024 * 4 + (i 1).val / 128 := rfl
    show i ∈ ((View.whole main_v25).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 128 ≤ (i 1).val ∧ (i 1).val < win0_3.index t (1 : Fin 2) * 128 + 128; omega

end Kernel

/-! ## The reference -/

section Reference

open Cert.SBuX0RefIdeal Cert.SBuX0RefIdeal.Gen Cert.SBuX0RefIdeal.Read

variable (X : (⟨2, ![8192, 2048]⟩ : Shape).Idx → EReal) (w : Groups) (a : (⟨2, ![8192, 512]⟩ : Shape).Idx → EReal)

theorem states (r : Fin 8192) (g : Fin 32) (p : Fin 64) : val_main_v3 (F := Ideal) X (ix3 r g p) = at2 X r (64 * g + p) := by
  have hg := g.isLt; have hp := p.isLt
  rw [val_main_v3_apply]
  exact eq_at2 X _ _ _
    (show ((r.val * 32 + g.val) * 64 + p.val) / 2048 = r.val by omega)
    (show ((r.val * 32 + g.val) * 64 + p.val) % 2048 = 64 * g.val + p.val by omega)

theorem ref_group (r : Fin 8192) (g : Fin 32) (c : Fin 16) :
    val_main_v6 (F := Ideal) X w (ix3 r g c) = ∑ p : Fin 64, at2 X r (64 * g + p) * w (ix3 g c p) := by
  unfold val_main_v6 val_main_v5 val_main_v4
  pointwise
  simp only [states]

/-- Lane `n` at the group and place it is of. -/
theorem idx_lane (r : Fin 8192) (n : Fin 512) : idx_main_v7 (ix2 r n) = ix3 r (laneGroup n) (lanePlace n) := by
  have hn := n.isLt
  have hr := r.isLt
  funext b
  refine Fin.ext ?_
  match b with
  | ⟨0, _⟩ => show (r.val * 512 + n.val) / 512 = r.val; omega
  | ⟨1, _⟩ => show (r.val * 512 + n.val) / 16 % 32 = n.val % 512 / 16; omega
  | ⟨2, _⟩ => show (r.val * 512 + n.val) % 16 = n.val % 16; omega

theorem reference_eq : val_main_v8 (F := Ideal) X w a = stateDots (at2 X) w a := by
  funext i
  obtain ⟨r, n, rfl⟩ : ∃ (r : Fin 8192) (n : Fin 512), i = ix2 r n := ⟨i 0, i 1, eq_ix2 (n0 := 8192) (n1 := 512) i⟩
  exact (val_main_v8_apply (F := Ideal) X w a _).trans (congrArg (a (ix2 r n) + ·) ((val_main_v7_apply (F := Ideal) X w _).trans
    ((congrArg (val_main_v6 (F := Ideal) X w) (idx_lane r n)).trans (ref_group X w r _ _))))

end Reference

theorem reference_frame : Cert.quiescent_SBuX0RefIdeal := fun m ρ _ =>
  (θ_run Cert.SBuX0RefIdeal.defs _ _).mono (fun r h => ⟨fun c => (h c).2, sem_eq_zero_of_no_sems (by decide) r.2⟩)
    (Cert.SBuX0RefIdeal.Value.run (F := Ideal) m ρ)

theorem algebraic : Cert.algebraic_SBuX0Ideal_SBuX0RefIdeal := by
  intro m ρ m' ρ' _ hagree
  refine ⟨fun c => stateDots (at2 (argH m c)) (argRe m c) (argRes m c), ?_, ?_⟩
  · exact (θ_run Cert.SBuX0Ideal.defs _ _).mono (fun r h c => ⟨(h c).1.trans (final m c), (h c).2⟩)
      (Cert.SBuX0Ideal.Value.run_blocks (F := Ideal) m ρ)
  · refine (θ_run Cert.SBuX0RefIdeal.defs _ _).mono (fun r h c => ?_) (Cert.SBuX0RefIdeal.Value.run (F := Ideal) m' ρ')
    obtain ⟨a0, a1, a2, a3⟩ := hagree c
    have e := (h c).1.trans ((Cert.SBuX0RefIdeal.Read.val_main_v8_eq _ _ _).trans (reference_eq _ _ _))
    rw [a0, a1, a3] at e
    exact ⟨e, (h c).2⟩

end Cert.Proof.SBuX0

end
-- ==== Proof.SBuX1.lean ====
/- Hand-written: THE SECOND HALF OF THE GRADIENT OF THE MIXER'S INPUT (`d_s5_bu_x1`), from the imaginary parts of the states' gradient: as
   SBuX0.lean, from the second 2048 columns of the wide matrix. -/
module

public import proofs.«01_k».proof.Defs
public import proofs.«01_k».proof.Proof.SBuX0
public import proofs.«01_k».proof.Proof.Gen.SBuX1.Frame
public import proofs.«01_k».proof.Proof.Gen.SBuX1Ideal.Frame
public import proofs.«01_k».proof.Proof.Gen.SBuX1Ideal.Value
public import proofs.«01_k».proof.Proof.Gen.SBuX1RefIdeal.Run
public import proofs.«01_k».proof.Proof.Gen.SBuX1RefIdeal.Read
public import Idealize.ShloMosaic.Lib.Quiescent

@[expose] public section

set_option maxRecDepth 16384

noncomputable section

namespace Cert.Proof.SBuX1

open Idealize.ShloMosaic Idealize.ShloMosaic.TcCoe Idealize.SL.Sem
open scoped BigOperators

section Kernel

open Cert.SBuX1Ideal Cert.SBuX1Ideal.Gen Cert.SBuX1Ideal.Value

variable (m : (ℓ : Loc nD τ sig) → Buf (Elt Ideal) ℓ) (ρ : Dev nD → PrngReg) (c : Dev nD)

abbrev argH : (⟨2, ![8192, 2048]⟩ : Shape).Idx → EReal := m ((c : Thread nD τ).loc main_arg0)
abbrev argRe : Groups := m ((c : Thread nD τ).loc main_arg1)
abbrev argIm : Groups := m ((c : Thread nD τ).loc main_arg2)
abbrev argRes : (⟨2, ![8192, 512]⟩ : Shape).Idx → EReal := m ((c : Thread nD τ).loc main_arg3)

/-- What the region finds as its second operand. -/
theorem matrix_eq : (V m c main_v24 : (⟨2, ![512, 4096]⟩ : Shape).Idx → EReal) = concatenate S512x4096 1
    [⟨S512x2048, SBu.diagonal (argRe m c)⟩, ⟨S512x2048, SBu.diagonal (argIm m c)⟩] concatenates_S512x2048_S512x2048_S512x4096_d1 := by
  show StableHlo.after hostOps0 (fun b => m (c, b)) main_v24 = _
  after_results <;> rfl

/-! ## What a point leaves -/

theorem ix0_0 : ∀ t : Fin cfg0.N, win0_0.index t (0 : Fin 2) = t.val / 4 ∧ win0_0.index t (1 : Fin 2) = t.val % 4 :=
  (by decide +kernel : ∀ t : Fin grid0.N, _)
theorem ix0_1 : ∀ t : Fin cfg0.N, win0_1.index t (0 : Fin 2) = t.val % 4 ∧ win0_1.index t (1 : Fin 2) = 4 + t.val % 4 :=
  (by decide +kernel : ∀ t : Fin grid0.N, _)
theorem ix0_2 : ∀ t : Fin cfg0.N, win0_2.index t (0 : Fin 2) = t.val / 4 ∧ win0_2.index t (1 : Fin 2) = t.val % 4 :=
  (by decide +kernel : ∀ t : Fin grid0.N, _)
theorem ix0_3 : ∀ t : Fin cfg0.N, win0_3.index t (0 : Fin 2) = t.val / 4 ∧ win0_3.index t (1 : Fin 2) = t.val % 4 :=
  (by decide +kernel : ∀ t : Fin grid0.N, _)

theorem blk0 (t : Fin cfg0.N) (r : Fin 1024) (k : Fin 512) : (iblk m c 0 t : Vec Ideal S1024x512 .f32) (ix2 r k)
    = at2 (argH m c) (1024 * (t.val / 4) + r.val) (512 * (t.val % 4) + k.val) := by
  obtain ⟨e0, e1⟩ := ix0_0 t
  show (V m c main_arg0 : (⟨2, ![8192, 2048]⟩ : Shape).Idx → EReal) (((cfg0.win 0).blk t).view.emb (ix2 r k)) = _
  rw [V_main_arg0]
  refine eq_at2 (argH m c) (((cfg0.win 0).blk t).view.emb (ix2 r k)) _ _ ?_ ?_
  · show win0_0.index t (0 : Fin 2) * 1024 + 1 * r.val = _; omega
  · show win0_0.index t (1 : Fin 2) * 512 + 1 * k.val = _; omega

theorem blk1 (t : Fin cfg0.N) (n : Fin 128) (k : Fin 512) : (iblk m c 1 t : Vec Ideal S128x512 .f32) (ix2 n k)
    = stateSpread (argIm m c) (128 * (t.val % 4) + n.val) (512 * (t.val % 4) + k.val) := by
  obtain ⟨e0, e1⟩ := ix0_1 t
  have hn := n.isLt
  have hk := k.isLt
  refine Eq.trans (congrArg (V m c main_v24 : (⟨2, ![512, 4096]⟩ : Shape).Idx → EReal) (funext fun a => Fin.ext ?_))
    ((congrFun (matrix_eq m c) _).trans ((SBu.both_apply _ _ (⟨128 * (t.val % 4) + n.val, by omega⟩ : Fin 512)
      (⟨2048 + (512 * (t.val % 4) + k.val), by omega⟩ : Fin 4096)).trans (spread_right _ _ (show 128 * (t.val % 4) + n.val < 512 by omega)
        (show 512 * (t.val % 4) + k.val < 2048 by omega))))
  match a with
  | ⟨0, _⟩ => show win0_1.index t (0 : Fin 2) * 128 + 1 * n.val = 128 * (t.val % 4) + n.val; omega
  | ⟨1, _⟩ => show win0_1.index t (1 : Fin 2) * 512 + 1 * k.val = 2048 + (512 * (t.val % 4) + k.val); omega

theorem blk2 (t : Fin cfg0.N) (r : Fin 1024) (n : Fin 128) : (iblk m c 2 t : Vec Ideal S1024x128 .f32) (ix2 r n)
    = at2 (argRes m c) (1024 * (t.val / 4) + r.val) (128 * (t.val % 4) + n.val) := by
  obtain ⟨e0, e1⟩ := ix0_2 t
  show (V m c main_arg3 : (⟨2, ![8192, 512]⟩ : Shape).Idx → EReal) (((cfg0.win 2).blk t).view.emb (ix2 r n)) = _
  rw [V_main_arg3]
  refine eq_at2 (argRes m c) (((cfg0.win 2).blk t).view.emb (ix2 r n)) _ _ ?_ ?_
  · show win0_2.index t (0 : Fin 2) * 1024 + 1 * r.val = _; omega
  · show win0_2.index t (1 : Fin 2) * 128 + 1 * n.val = _; omega

/-- A point leaves the grouped product's entries, added to the last argument's. -/
theorem outs_eq (t : Fin cfg0.N) (r : Fin 1024) (n : Fin 128) : out0_3 (iblk m c 0 t) (iblk m c 1 t) (iblk m c 2 t) (ix2 r n)
    = at2 (argRes m c) (1024 * (t.val / 4) + r.val) (128 * (t.val % 4) + n.val)
      + stateDot (at2 (argH m c)) (argIm m c) (1024 * (t.val / 4) + r.val) (128 * (t.val % 4) + n.val) := by
  have hn := n.isLt
  refine (SBuX0.out_apply _ _ _ r n).trans ?_
  simp only [blk0, blk1, blk2]
  exact congrArg (_ + ·) (stateDot_eq _ _ _ (by omega))

theorem final : (dats m 0 c).arrAt 3 cfg0.N = stateDots (at2 (argH m c)) (argIm m c) (argRes m c) := by
  refine (dats m 0 c).arrAt_eq_of_cover 3 _ (fun t _ => ?_) (fun i => ?_)
  · rw [flushed3 m c t]
    funext j
    obtain ⟨e0, e1⟩ := ix0_3 t
    show out0_3 (iblk m c 0 t) (iblk m c 1 t) (iblk m c 2 t) j = stateDots (at2 (argH m c)) (argIm m c) (argRes m c) (((cfg0.win 3).blk t).view.emb j)
    have a0 : (((cfg0.win 3).blk t).view.emb j 0).val = 1024 * (t.val / 4) + (j 0).val := by
      show win0_3.index t (0 : Fin 2) * 1024 + 1 * (j 0).val = _; omega
    have a1 : (((cfg0.win 3).blk t).view.emb j 1).val = 128 * (t.val % 4) + (j 1).val := by
      show win0_3.index t (1 : Fin 2) * 128 + 1 * (j 1).val = _; omega
    refine (congrArg (out0_3 (iblk m c 0 t) (iblk m c 1 t) (iblk m c 2 t)) (eq_ix2 (n0 := 1024) (n1 := 128) j)).trans
      ((outs_eq m c t (j 0) (j 1)).trans ?_)
    unfold stateDots
    rw [a0, a1]
    refine congrArg (· + _) ?_
    exact (eq_at2 (argRes m c) (((cfg0.win 3).blk t).view.emb j) _ _ a0 a1).symm
  · have hi0 : (i 0).val < 8192 := (i 0).isLt
    have hi1 : (i 1).val < 512 := (i 1).isLt
    let t : Fin cfg0.N := ⟨(i 0).val / 1024 * 4 + (i 1).val / 128, by
      rw [show cfg0.N = 32 from N_0]; omega⟩
    refine ⟨t, flush0_3 t, ?_⟩
    obtain ⟨e0, e1⟩ := ix0_3 t
    have ht : t.val = (i 0).val / 1024 * 4 + (i 1).val / 128 := rfl
    show i ∈ ((View.whole main_v25).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; omega
    | ⟨1, _⟩ => show win0_3.index t (1 : Fin 2) * 128 ≤ (i 1).val ∧ (i 1).val < win0_3.index t (1 : Fin 2) * 128 + 128; omega

end Kernel

/-! ## The reference -/

section Reference

open Cert.SBuX1RefIdeal Cert.SBuX1RefIdeal.Gen Cert.SBuX1RefIdeal.Read

variable (X : (⟨2, ![8192, 2048]⟩ : Shape).Idx → EReal) (w : Groups) (a : (⟨2, ![8192, 512]⟩ : Shape).Idx → EReal)

/-- The same function as the first half's, of the other family. -/
theorem reference_eq : val_main_v8 (F := Ideal) X w a = stateDots (at2 X) w a := SBuX0.reference_eq X w a

end Reference

theorem reference_frame : Cert.quiescent_SBuX1RefIdeal := fun m ρ _ =>
  (θ_run Cert.SBuX1RefIdeal.defs _ _).mono (fun r h => ⟨fun c => (h c).2, sem_eq_zero_of_no_sems (by decide) r.2⟩)
    (Cert.SBuX1RefIdeal.Value.run (F := Ideal) m ρ)

theorem algebraic : Cert.algebraic_SBuX1Ideal_SBuX1RefIdeal := by
  intro m ρ m' ρ' _ hagree
  refine ⟨fun c => stateDots (at2 (argH m c)) (argIm m c) (argRes m c), ?_, ?_⟩
  · exact (θ_run Cert.SBuX1Ideal.defs _ _).mono (fun r h c => ⟨(h c).1.trans (final m c), (h c).2⟩)
      (Cert.SBuX1Ideal.Value.run_blocks (F := Ideal) m ρ)
  · refine (θ_run Cert.SBuX1RefIdeal.defs _ _).mono (fun r h c => ?_) (Cert.SBuX1RefIdeal.Value.run (F := Ideal) m' ρ')
    obtain ⟨a0, a1, a2, a3⟩ := hagree c
    have e := (h c).1.trans ((Cert.SBuX1RefIdeal.Read.val_main_v8_eq _ _ _).trans (reference_eq _ _ _))
    rw [a0, a2, a3] at e
    exact ⟨e, (h c).2⟩

end Cert.Proof.SBuX1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InX
public import proofs.«01_k».proof.Proof.Gen.InX.Frame
public import proofs.«01_k».proof.Proof.Gen.InXIdeal
public import proofs.«01_k».proof.Proof.Gen.InXIdeal.Frame
public import proofs.«01_k».proof.Proof.Gen.InXIdeal.Value
public import proofs.«01_k».proof.Proof.Gen.InXRefIdeal
public import proofs.«01_k».proof.Proof.Gen.InXRefIdeal.Run
public import proofs.«01_k».proof.Proof.Gen.InW
public import proofs.«01_k».proof.Proof.Gen.InW.Frame
public import proofs.«01_k».proof.Proof.Gen.InWIdeal
public import proofs.«01_k».proof.Proof.Gen.InWIdeal.Frame
public import proofs.«01_k».proof.Proof.Gen.InWIdeal.Value
public import proofs.«01_k».proof.Proof.Gen.InWRefIdeal
public import proofs.«01_k».proof.Proof.Gen.InWRefIdeal.Run
public import proofs.«01_k».proof.Proof.Gen.UpX0
public import proofs.«01_k».proof.Proof.Gen.UpX0.Frame
public import proofs.«01_k».proof.Proof.Gen.UpX0Ideal
public import proofs.«01_k».proof.Proof.Gen.UpX0Ideal.Frame
public import proofs.«01_k».proof.Proof.Gen.UpX0Ideal.Value
public import proofs.«01_k».proof.Proof.Gen.UpX0RefIdeal
public import proofs.«01_k».proof.Proof.Gen.UpX0RefIdeal.Run
public import proofs.«01_k».proof.Proof.Gen.UpX1
public import proofs.«01_k».proof.Proof.Gen.UpX1.Frame
public import proofs.«01_k».proof.Proof.Gen.UpX1Ideal
public import proofs.«01_k».proof.Proof.Gen.UpX1Ideal.Frame
public import proofs.«01_k».proof.Proof.Gen.UpX1Ideal.Value
public import proofs.«01_k».proof.Proof.Gen.UpX1RefIdeal
public import proofs.«01_k».proof.Proof.Gen.UpX1RefIdeal.Run
public import proofs.«01_k».proof.Proof.Gen.UpW
public import proofs.«01_k».proof.Proof.Gen.UpW.Frame
public import proofs.«01_k».proof.Proof.Gen.UpWIdeal
public import proofs.«01_k».proof.Proof.Gen.UpWIdeal.Frame
public import proofs.«01_k».proof.Proof.Gen.UpWIdeal.Value
public import proofs.«01_k».proof.Proof.Gen.UpWRefIdeal
public import proofs.«01_k».proof.Proof.Gen.UpWRefIdeal.Run
public import proofs.«01_k».proof.Proof.Gen.DownX
public import proofs.«01_k».proof.Proof.Gen.DownX.Frame
public import proofs.«01_k».proof.Proof.Gen.DownXIdeal
public import proofs.«01_k».proof.Proof.Gen.DownXIdeal.Frame
public import proofs.«01_k».proof.Proof.Gen.DownXIdeal.Value
public import proofs.«01_k».proof.Proof.Gen.DownXRefIdeal
public import proofs.«01_k».proof.Proof.Gen.DownXRefIdeal.Run
public import proofs.«01_k».proof.Proof.Gen.DownW
public import proofs.«01_k».proof.Proof.Gen.DownW.Frame
public import proofs.«01_k».proof.Proof.Gen.DownWIdeal
public import proofs.«01_k».proof.Proof.Gen.DownWIdeal.Frame
public import proofs.«01_k».proof.Proof.Gen.DownWIdeal.Value
public import proofs.«01_k».proof.Proof.Gen.DownWRefIdeal
public import proofs.«01_k».proof.Proof.Gen.DownWRefIdeal.Run
public import proofs.«01_k».proof.Proof.Gen.OutX
public import proofs.«01_k».proof.Proof.Gen.OutX.Frame
public import proofs.«01_k».proof.Proof.Gen.OutXIdeal
public import proofs.«01_k».proof.Proof.Gen.OutXIdeal.Frame
public import proofs.«01_k».proof.Proof.Gen.OutXIdeal.Value
public import proofs.«01_k».proof.Proof.Gen.OutXRefIdeal
public import proofs.«01_k».proof.Proof.Gen.OutXRefIdeal.Run
public import proofs.«01_k».proof.Proof.Gen.OutW
public import proofs.«01_k».proof.Proof.Gen.OutW.Frame
public import proofs.«01_k».proof.Proof.Gen.OutWIdeal
public import proofs.«01_k».proof.Proof.Gen.OutWIdeal.Frame
public import proofs.«01_k».proof.Proof.Gen.OutWIdeal.Value
public import proofs.«01_k».proof.Proof.Gen.OutWRefIdeal
public import proofs.«01_k».proof.Proof.Gen.OutWRefIdeal.Run
public import proofs.«01_k».proof.Proof.Gen.KvX
public import proofs.«01_k».proof.Proof.Gen.KvX.Frame
public import proofs.«01_k».proof.Proof.Gen.KvXIdeal
public import proofs.«01_k».proof.Proof.Gen.KvXIdeal.Frame
public import proofs.«01_k».proof.Proof.Gen.KvXIdeal.Value
public import proofs.«01_k».proof.Proof.Gen.KvXRefIdeal
public import proofs.«01_k».proof.Proof.Gen.KvXRefIdeal.Run
public import proofs.«01_k».proof.Proof.Gen.KvW
public import proofs.«01_k».proof.Proof.Gen.KvW.Frame
public import proofs.«01_k».proof.Proof.Gen.KvWIdeal
public import proofs.«01_k».proof.Proof.Gen.KvWIdeal.Frame
public import proofs.«01_k».proof.Proof.Gen.KvWIdeal.Value
public import proofs.«01_k».proof.Proof.Gen.KvWRefIdeal
public import proofs.«01_k».proof.Proof.Gen.KvWRefIdeal.Run
public import proofs.«01_k».proof.Proof.Gen.InF
public import proofs.«01_k».proof.Proof.Gen.InF.Frame
public import proofs.«01_k».proof.Proof.Gen.InFIdeal
public import proofs.«01_k».proof.Proof.Gen.InFIdeal.Frame
public import proofs.«01_k».proof.Proof.Gen.InFIdeal.Value
public import proofs.«01_k».proof.Proof.Gen.InFRefIdeal
public import proofs.«01_k».proof.Proof.Gen.InFRefIdeal.Run
public import proofs.«01_k».proof.Proof.Gen.UpF
public import proofs.«01_k».proof.Proof.Gen.UpF.Frame
public import proofs.«01_k».proof.Proof.Gen.UpFIdeal
public import proofs.«01_k».proof.Proof.Gen.UpFIdeal.Frame
public import proofs.«01_k».proof.Proof.Gen.UpFIdeal.Value
public import proofs.«01_k».proof.Proof.Gen.UpFRefIdeal
public import proofs.«01_k».proof.Proof.Gen.UpFRefIdeal.Run
public import proofs.«01_k».proof.Proof.Gen.DownF
public import proofs.«01_k».proof.Proof.Gen.DownF.Frame
public import proofs.«01_k».proof.Proof.Gen.DownFIdeal
public import proofs.«01_k».proof.Proof.Gen.DownFIdeal.Frame
public import proofs.«01_k».proof.Proof.Gen.DownFIdeal.Value
public import proofs.«01_k».proof.Proof.Gen.DownFRefIdeal
public import proofs.«01_k».proof.Proof.Gen.DownFRefIdeal.Run
public import proofs.«01_k».proof.Proof.Gen.OutF
public import proofs.«01_k».proof.Proof.Gen.OutF.Frame
public import proofs.«01_k».proof.Proof.Gen.OutFIdeal
public import proofs.«01_k».proof.Proof.Gen.OutFIdeal.Frame
public import proofs.«01_k».proof.Proof.Gen.OutFIdeal.Value
public import proofs.«01_k».proof.Proof.Gen.OutFRefIdeal
public import proofs.«01_k».proof.Proof.Gen.OutFRefIdeal.Run
public import proofs.«01_k».proof.Proof.Gen.QF
public import proofs.«01_k».proof.Proof.Gen.QF.Frame
public import proofs.«01_k».proof.Proof.Gen.QFIdeal
public import proofs.«01_k».proof.Proof.Gen.QFIdeal.Frame
public import proofs.«01_k».proof.Proof.Gen.QFIdeal.Value
public import proofs.«01_k».proof.Proof.Gen.QFRefIdeal
public import proofs.«01_k».proof.Proof.Gen.QFRefIdeal.Run
public import proofs.«01_k».proof.Proof.Gen.KvF
public import proofs.«01_k».proof.Proof.Gen.KvF.Frame
public import proofs.«01_k».proof.Proof.Gen.KvFIdeal
public import proofs.«01_k».proof.Proof.Gen.KvFIdeal.Frame
public import proofs.«01_k».proof.Proof.Gen.KvFIdeal.Value
public import proofs.«01_k».proof.Proof.Gen.KvFRefIdeal
public import proofs.«01_k».proof.Proof.Gen.KvFRefIdeal.Run
public import proofs.«01_k».proof.Proof.Gen.MergeF
public import proofs.«01_k».proof.Proof.Gen.MergeF.Frame
public import proofs.«01_k».proof.Proof.Gen.MergeFIdeal
public import proofs.«01_k».proof.Proof.Gen.MergeFIdeal.Frame
public import proofs.«01_k».proof.Proof.Gen.MergeFIdeal.Value
public import proofs.«01_k».proof.Proof.Gen.MergeFRefIdeal
public import proofs.«01_k».proof.Proof.Gen.MergeFRefIdeal.Run
public import proofs.«01_k».proof.Proof.Gen.MergeB
public import proofs.«01_k».proof.Proof.Gen.MergeBIdeal
public import proofs.«01_k».proof.Proof.Gen.MergeBRefIdeal
public import proofs.«01_k».proof.Proof.AttnClaims
public import proofs.«01_k».proof.Proof.InX
public import proofs.«01_k».proof.Proof.InW
public import proofs.«01_k».proof.Proof.UpX0
public import proofs.«01_k».proof.Proof.UpX1
public import proofs.«01_k».proof.Proof.UpW
public import proofs.«01_k».proof.Proof.DownX
public import proofs.«01_k».proof.Proof.DownW
public import proofs.«01_k».proof.Proof.OutX
public import proofs.«01_k».proof.Proof.OutW
public import proofs.«01_k».proof.Proof.KvX
public import proofs.«01_k».proof.Proof.KvW
public import proofs.«01_k».proof.Proof.InF
public import proofs.«01_k».proof.Proof.UpF
public import proofs.«01_k».proof.Proof.DownF
public import proofs.«01_k».proof.Proof.OutF
public import proofs.«01_k».proof.Proof.QF
public import proofs.«01_k».proof.Proof.KvF
public import proofs.«01_k».proof.Proof.MergeF
public import proofs.«01_k».proof.Proof.MergeB
public import Idealize.ShloMosaic.Adequacy
public import Idealize.ShloMosaic.Init
public import proofs.«01_k».proof.Proof.Gen.AttnF
public import proofs.«01_k».proof.Proof.Gen.AttnFIdeal
public import proofs.«01_k».proof.Proof.Gen.AttnFRefIdeal
public import proofs.«01_k».proof.Proof.AttnF
public import proofs.«01_k».proof.Proof.Gen.SyX
public import proofs.«01_k».proof.Proof.Gen.SyXIdeal
public import proofs.«01_k».proof.Proof.Gen.SyXRefIdeal
public import proofs.«01_k».proof.Proof.SyX
public import proofs.«01_k».proof.Proof.Gen.SBu
public import proofs.«01_k».proof.Proof.Gen.SBuIdeal
public import proofs.«01_k».proof.Proof.Gen.SBuRefIdeal
public import proofs.«01_k».proof.Proof.SBu
public import proofs.«01_k».proof.Proof.SyRe
public import proofs.«01_k».proof.Proof.SyIm
public import proofs.«01_k».proof.Proof.SBuX0
public import proofs.«01_k».proof.Proof.SBuX1

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.InX.Gen.facts,
  Cert.InXIdeal.Gen.facts, Cert.InXRefIdeal.Gen.facts, Cert.InW.Gen.facts, Cert.InWIdeal.Gen.facts,
  Cert.InWRefIdeal.Gen.facts, Cert.UpX0.Gen.facts, Cert.UpX0Ideal.Gen.facts, Cert.UpX0RefIdeal.Gen.facts,
  Cert.UpX1.Gen.facts, Cert.UpX1Ideal.Gen.facts, Cert.UpX1RefIdeal.Gen.facts, Cert.UpW.Gen.facts,
  Cert.UpWIdeal.Gen.facts, Cert.UpWRefIdeal.Gen.facts, Cert.DownX.Gen.facts, Cert.DownXIdeal.Gen.facts,
  Cert.DownXRefIdeal.Gen.facts, Cert.DownW.Gen.facts, Cert.DownWIdeal.Gen.facts, Cert.DownWRefIdeal.Gen.facts,
  Cert.OutX.Gen.facts, Cert.OutXIdeal.Gen.facts, Cert.OutXRefIdeal.Gen.facts, Cert.OutW.Gen.facts,
  Cert.OutWIdeal.Gen.facts, Cert.OutWRefIdeal.Gen.facts, Cert.KvX.Gen.facts, Cert.KvXIdeal.Gen.facts,
  Cert.KvXRefIdeal.Gen.facts, Cert.KvW.Gen.facts, Cert.KvWIdeal.Gen.facts, Cert.KvWRefIdeal.Gen.facts,
  Cert.InF.Gen.facts, Cert.InFIdeal.Gen.facts, Cert.InFRefIdeal.Gen.facts, Cert.UpF.Gen.facts,
  Cert.UpFIdeal.Gen.facts, Cert.UpFRefIdeal.Gen.facts, Cert.DownF.Gen.facts, Cert.DownFIdeal.Gen.facts,
  Cert.DownFRefIdeal.Gen.facts, Cert.OutF.Gen.facts, Cert.OutFIdeal.Gen.facts, Cert.OutFRefIdeal.Gen.facts,
  Cert.QF.Gen.facts, Cert.QFIdeal.Gen.facts, Cert.QFRefIdeal.Gen.facts, Cert.KvF.Gen.facts,
  Cert.KvFIdeal.Gen.facts, Cert.KvFRefIdeal.Gen.facts, Cert.MergeF.Gen.facts, Cert.MergeFIdeal.Gen.facts,
  Cert.MergeFRefIdeal.Gen.facts, Cert.MergeB.Gen.facts, Cert.MergeBIdeal.Gen.facts, Cert.MergeBRefIdeal.Gen.facts,
  Cert.AttnF.Gen.facts, Cert.AttnFIdeal.Gen.facts, Cert.AttnFRefIdeal.Gen.facts,
  Cert.SyX.Gen.facts, Cert.SyXIdeal.Gen.facts, Cert.SyXRefIdeal.Gen.facts,
  Cert.SBu.Gen.facts, Cert.SBuIdeal.Gen.facts, Cert.SBuRefIdeal.Gen.facts,
  Cert.SyRe.Gen.facts, Cert.SyReIdeal.Gen.facts, Cert.SyReRefIdeal.Gen.facts,
  Cert.SyIm.Gen.facts, Cert.SyImIdeal.Gen.facts, Cert.SyImRefIdeal.Gen.facts,
  Cert.SBuX0.Gen.facts, Cert.SBuX0Ideal.Gen.facts, Cert.SBuX0RefIdeal.Gen.facts,
  Cert.SBuX1.Gen.facts, Cert.SBuX1Ideal.Gen.facts, Cert.SBuX1RefIdeal.Gen.facts, by
  exact ⟨
    fun m ρ _ => Cert.Kernel.Gen.frame m ρ, fun m ρ _ => Cert.KernelIdeal.Gen.frame m ρ, Attn.reference_frame,
    fun m ρ _ => Cert.InX.Gen.frame m ρ, fun m ρ _ => Cert.InXIdeal.Gen.frame m ρ, InX.reference_frame,
    fun m ρ _ => Cert.InW.Gen.frame m ρ, fun m ρ _ => Cert.InWIdeal.Gen.frame m ρ, InW.reference_frame,
    fun m ρ _ => Cert.UpX0.Gen.frame m ρ, fun m ρ _ => Cert.UpX0Ideal.Gen.frame m ρ, UpX0.reference_frame,
    fun m ρ _ => Cert.UpX1.Gen.frame m ρ, fun m ρ _ => Cert.UpX1Ideal.Gen.frame m ρ, UpX1.reference_frame,
    fun m ρ _ => Cert.UpW.Gen.frame m ρ, fun m ρ _ => Cert.UpWIdeal.Gen.frame m ρ, UpW.reference_frame,
    fun m ρ _ => Cert.DownX.Gen.frame m ρ, fun m ρ _ => Cert.DownXIdeal.Gen.frame m ρ, DownX.reference_frame,
    fun m ρ _ => Cert.DownW.Gen.frame m ρ, fun m ρ _ => Cert.DownWIdeal.Gen.frame m ρ, DownW.reference_frame,
    fun m ρ _ => Cert.OutX.Gen.frame m ρ, fun m ρ _ => Cert.OutXIdeal.Gen.frame m ρ, OutX.reference_frame,
    fun m ρ _ => Cert.OutW.Gen.frame m ρ, fun m ρ _ => Cert.OutWIdeal.Gen.frame m ρ, OutW.reference_frame,
    fun m ρ _ => Cert.KvX.Gen.frame m ρ, fun m ρ _ => Cert.KvXIdeal.Gen.frame m ρ, KvX.reference_frame,
    fun m ρ _ => Cert.KvW.Gen.frame m ρ, fun m ρ _ => Cert.KvWIdeal.Gen.frame m ρ, KvW.reference_frame,
    fun m ρ _ => Cert.InF.Gen.frame m ρ, fun m ρ _ => Cert.InFIdeal.Gen.frame m ρ, InF.reference_frame,
    fun m ρ _ => Cert.UpF.Gen.frame m ρ, fun m ρ _ => Cert.UpFIdeal.Gen.frame m ρ, UpF.reference_frame,
    fun m ρ _ => Cert.DownF.Gen.frame m ρ, fun m ρ _ => Cert.DownFIdeal.Gen.frame m ρ, DownF.reference_frame,
    fun m ρ _ => Cert.OutF.Gen.frame m ρ, fun m ρ _ => Cert.OutFIdeal.Gen.frame m ρ, OutF.reference_frame,
    fun m ρ _ => Cert.QF.Gen.frame m ρ, fun m ρ _ => Cert.QFIdeal.Gen.frame m ρ, QF.reference_frame,
    fun m ρ _ => Cert.KvF.Gen.frame m ρ, fun m ρ _ => Cert.KvFIdeal.Gen.frame m ρ, KvF.reference_frame,
    fun m ρ _ => Cert.MergeF.Gen.frame m ρ, fun m ρ _ => Cert.MergeFIdeal.Gen.frame m ρ, MergeF.reference_frame,
    MergeB.printed_frame, MergeB.ideal_frame, Merge.reference_frame,
    fun m ρ _ => Cert.AttnF.Gen.frame m ρ, fun m ρ _ => Cert.AttnFIdeal.Gen.frame m ρ, AttnF.reference_frame,
    fun m ρ _ => Cert.SyX.Gen.frame m ρ, fun m ρ _ => Cert.SyXIdeal.Gen.frame m ρ, SyX.reference_frame,
    fun m ρ _ => Cert.SBu.Gen.frame m ρ, fun m ρ _ => Cert.SBuIdeal.Gen.frame m ρ, SBu.reference_frame,
    fun m ρ _ => Cert.SyRe.Gen.frame m ρ, fun m ρ _ => Cert.SyReIdeal.Gen.frame m ρ, SyRe.reference_frame,
    fun m ρ _ => Cert.SyIm.Gen.frame m ρ, fun m ρ _ => Cert.SyImIdeal.Gen.frame m ρ, SyIm.reference_frame,
    fun m ρ _ => Cert.SBuX0.Gen.frame m ρ, fun m ρ _ => Cert.SBuX0Ideal.Gen.frame m ρ, SBuX0.reference_frame,
    fun m ρ _ => Cert.SBuX1.Gen.frame m ρ, fun m ρ _ => Cert.SBuX1Ideal.Gen.frame m ρ, SBuX1.reference_frame,
    trivial, Attn.algebraic,
    trivial, InX.algebraic,
    trivial, InW.algebraic,
    trivial, UpX0.algebraic,
    trivial, UpX1.algebraic,
    trivial, UpW.algebraic,
    trivial, DownX.algebraic,
    trivial, DownW.algebraic,
    trivial, OutX.algebraic,
    trivial, OutW.algebraic,
    trivial, KvX.algebraic,
    trivial, KvW.algebraic,
    trivial, InF.algebraic,
    trivial, UpF.algebraic,
    trivial, DownF.algebraic,
    trivial, OutF.algebraic,
    trivial, QF.algebraic,
    trivial, KvF.algebraic,
    trivial, MergeF.algebraic,
    trivial, MergeB.algebraic,
    trivial, AttnF.algebraic,
    trivial, SyX.algebraic,
    trivial, SBu.algebraic,
    trivial, SyRe.algebraic,
    trivial, SyIm.algebraic,
    trivial, SBuX0.algebraic,
    trivial, SBuX1.algebraic⟩⟩

end Cert.Proof

end
